-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fox_pre [hPre_fox_pre : Cert.Pre_fox_pre.Facts] (m : (ℓ : Loc Cert.KernelIdeal.nD Cert.KernelIdeal.τ Cert.KernelIdeal.sig) → Buf (Elt Ideal) ℓ) : Prop :=
  ∀ c : Dev Cert.KernelIdeal.nD,
    (Cert.Pre_fox_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fox_pre [hPre_fox_pre : Cert.Pre_fox_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fox_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MemkvKernel (m : (ℓ : Loc Cert.MemkvKernel.nD Cert.MemkvKernel.τ Cert.MemkvKernel.sig) → Buf (Elt Bits) ℓ) : Prop :=
  True

def Pre_MemkvKernelIdeal (m : (ℓ : Loc Cert.MemkvKernelIdeal.nD Cert.MemkvKernelIdeal.τ Cert.MemkvKernelIdeal.sig) → Buf (Elt Ideal) ℓ) : Prop :=
  True

def Pre_MemkvReferenceIdeal (m : (ℓ : Loc Cert.MemkvReferenceIdeal.nD Cert.MemkvReferenceIdeal.τ Cert.MemkvReferenceIdeal.sig) → Buf (Elt Ideal) ℓ) : Prop :=
  True

def Pre_EvenCrossKernel (m : (ℓ : Loc Cert.EvenCrossKernel.nD Cert.EvenCrossKernel.τ Cert.EvenCrossKernel.sig) → Buf (Elt Bits) ℓ) : Prop :=
  True

def Pre_EvenCrossKernelIdeal (m : (ℓ : Loc Cert.EvenCrossKernelIdeal.nD Cert.EvenCrossKernelIdeal.τ Cert.EvenCrossKernelIdeal.sig) → Buf (Elt Ideal) ℓ) : Prop :=
  True

def Pre_EvenCrossKernelIdeal_even_pre [hPre_even_pre : Cert.Pre_even_pre.Facts] (m : (ℓ : Loc Cert.EvenCrossKernelIdeal.nD Cert.EvenCrossKernelIdeal.τ Cert.EvenCrossKernelIdeal.sig) → Buf (Elt Ideal) ℓ) : Prop :=
  ∀ c : Dev Cert.EvenCrossKernelIdeal.nD,
    (Cert.Pre_even_pre.fn (F := Ideal) (m ((c.tc : Thread Cert.EvenCrossKernelIdeal.nD Cert.EvenCrossKernelIdeal.τ).loc Cert.EvenCrossKernelIdeal.main_arg0)) (m ((c.tc : Thread Cert.EvenCrossKernelIdeal.nD Cert.EvenCrossKernelIdeal.τ).loc Cert.EvenCrossKernelIdeal.main_arg1)) (m ((c.tc : Thread Cert.EvenCrossKernelIdeal.nD Cert.EvenCrossKernelIdeal.τ).loc Cert.EvenCrossKernelIdeal.main_arg2)) (m ((c.tc : Thread Cert.EvenCrossKernelIdeal.nD Cert.EvenCrossKernelIdeal.τ).loc Cert.EvenCrossKernelIdeal.main_arg3)) (m ((c.tc : Thread Cert.EvenCrossKernelIdeal.nD Cert.EvenCrossKernelIdeal.τ).loc Cert.EvenCrossKernelIdeal.main_arg4)) (m ((c.tc : Thread Cert.EvenCrossKernelIdeal.nD Cert.EvenCrossKernelIdeal.τ).loc Cert.EvenCrossKernelIdeal.main_arg5)) (m ((c.tc : Thread Cert.EvenCrossKernelIdeal.nD Cert.EvenCrossKernelIdeal.τ).loc Cert.EvenCrossKernelIdeal.main_arg6)) (m ((c.tc : Thread Cert.EvenCrossKernelIdeal.nD Cert.EvenCrossKernelIdeal.τ).loc Cert.EvenCrossKernelIdeal.main_arg7)) (m ((c.tc : Thread Cert.EvenCrossKernelIdeal.nD Cert.EvenCrossKernelIdeal.τ).loc Cert.EvenCrossKernelIdeal.main_arg8)) (m ((c.tc : Thread Cert.EvenCrossKernelIdeal.nD Cert.EvenCrossKernelIdeal.τ).loc Cert.EvenCrossKernelIdeal.main_arg9)) (m ((c.tc : Thread Cert.EvenCrossKernelIdeal.nD Cert.EvenCrossKernelIdeal.τ).loc Cert.EvenCrossKernelIdeal.main_arg10))) = (fun _ => 1#1)

def Pre_EvenCrossReferenceIdeal (m : (ℓ : Loc Cert.EvenCrossReferenceIdeal.nD Cert.EvenCrossReferenceIdeal.τ Cert.EvenCrossReferenceIdeal.sig) → Buf (Elt Ideal) ℓ) : Prop :=
  True

def Pre_EvenCrossReferenceIdeal_even_pre [hPre_even_pre : Cert.Pre_even_pre.Facts] (m : (ℓ : Loc Cert.EvenCrossReferenceIdeal.nD Cert.EvenCrossReferenceIdeal.τ Cert.EvenCrossReferenceIdeal.sig) → Buf (Elt Ideal) ℓ) : Prop :=
  ∀ c : Dev Cert.EvenCrossReferenceIdeal.nD,
    (Cert.Pre_even_pre.fn (F := Ideal) (m ((c.tc : Thread Cert.EvenCrossReferenceIdeal.nD Cert.EvenCrossReferenceIdeal.τ).loc Cert.EvenCrossReferenceIdeal.main_arg0)) (m ((c.tc : Thread Cert.EvenCrossReferenceIdeal.nD Cert.EvenCrossReferenceIdeal.τ).loc Cert.EvenCrossReferenceIdeal.main_arg1)) (m ((c.tc : Thread Cert.EvenCrossReferenceIdeal.nD Cert.EvenCrossReferenceIdeal.τ).loc Cert.EvenCrossReferenceIdeal.main_arg2)) (m ((c.tc : Thread Cert.EvenCrossReferenceIdeal.nD Cert.EvenCrossReferenceIdeal.τ).loc Cert.EvenCrossReferenceIdeal.main_arg3)) (m ((c.tc : Thread Cert.EvenCrossReferenceIdeal.nD Cert.EvenCrossReferenceIdeal.τ).loc Cert.EvenCrossReferenceIdeal.main_arg4)) (m ((c.tc : Thread Cert.EvenCrossReferenceIdeal.nD Cert.EvenCrossReferenceIdeal.τ).loc Cert.EvenCrossReferenceIdeal.main_arg5)) (m ((c.tc : Thread Cert.EvenCrossReferenceIdeal.nD Cert.EvenCrossReferenceIdeal.τ).loc Cert.EvenCrossReferenceIdeal.main_arg6)) (m ((c.tc : Thread Cert.EvenCrossReferenceIdeal.nD Cert.EvenCrossReferenceIdeal.τ).loc Cert.EvenCrossReferenceIdeal.main_arg7)) (m ((c.tc : Thread Cert.EvenCrossReferenceIdeal.nD Cert.EvenCrossReferenceIdeal.τ).loc Cert.EvenCrossReferenceIdeal.main_arg8)) (m ((c.tc : Thread Cert.EvenCrossReferenceIdeal.nD Cert.EvenCrossReferenceIdeal.τ).loc Cert.EvenCrossReferenceIdeal.main_arg9)) (m ((c.tc : Thread Cert.EvenCrossReferenceIdeal.nD Cert.EvenCrossReferenceIdeal.τ).loc Cert.EvenCrossReferenceIdeal.main_arg10))) = (fun _ => 1#1)

def Pre_OddCrossKernel (m : (ℓ : Loc Cert.OddCrossKernel.nD Cert.OddCrossKernel.τ Cert.OddCrossKernel.sig) → Buf (Elt Bits) ℓ) : Prop :=
  True

def Pre_OddCrossKernelIdeal (m : (ℓ : Loc Cert.OddCrossKernelIdeal.nD Cert.OddCrossKernelIdeal.τ Cert.OddCrossKernelIdeal.sig) → Buf (Elt Ideal) ℓ) : Prop :=
  True

def Pre_OddCrossKernelIdeal_odd_pre [hPre_odd_pre : Cert.Pre_odd_pre.Facts] (m : (ℓ : Loc Cert.OddCrossKernelIdeal.nD Cert.OddCrossKernelIdeal.τ Cert.OddCrossKernelIdeal.sig) → Buf (Elt Ideal) ℓ) : Prop :=
  ∀ c : Dev Cert.OddCrossKernelIdeal.nD,
    (Cert.Pre_odd_pre.fn (F := Ideal) (m ((c.tc : Thread Cert.OddCrossKernelIdeal.nD Cert.OddCrossKernelIdeal.τ).loc Cert.OddCrossKernelIdeal.main_arg0)) (m ((c.tc : Thread Cert.OddCrossKernelIdeal.nD Cert.OddCrossKernelIdeal.τ).loc Cert.OddCrossKernelIdeal.main_arg1)) (m ((c.tc : Thread Cert.OddCrossKernelIdeal.nD Cert.OddCrossKernelIdeal.τ).loc Cert.OddCrossKernelIdeal.main_arg2)) (m ((c.tc : Thread Cert.OddCrossKernelIdeal.nD Cert.OddCrossKernelIdeal.τ).loc Cert.OddCrossKernelIdeal.main_arg3)) (m ((c.tc : Thread Cert.OddCrossKernelIdeal.nD Cert.OddCrossKernelIdeal.τ).loc Cert.OddCrossKernelIdeal.main_arg4)) (m ((c.tc : Thread Cert.OddCrossKernelIdeal.nD Cert.OddCrossKernelIdeal.τ).loc Cert.OddCrossKernelIdeal.main_arg5)) (m ((c.tc : Thread Cert.OddCrossKernelIdeal.nD Cert.OddCrossKernelIdeal.τ).loc Cert.OddCrossKernelIdeal.main_arg6)) (m ((c.tc : Thread Cert.OddCrossKernelIdeal.nD Cert.OddCrossKernelIdeal.τ).loc Cert.OddCrossKernelIdeal.main_arg7)) (m ((c.tc : Thread Cert.OddCrossKernelIdeal.nD Cert.OddCrossKernelIdeal.τ).loc Cert.OddCrossKernelIdeal.main_arg8)) (m ((c.tc : Thread Cert.OddCrossKernelIdeal.nD Cert.OddCrossKernelIdeal.τ).loc Cert.OddCrossKernelIdeal.main_arg9))) = (fun _ => 1#1)

def Pre_OddCrossReferenceIdeal (m : (ℓ : Loc Cert.OddCrossReferenceIdeal.nD Cert.OddCrossReferenceIdeal.τ Cert.OddCrossReferenceIdeal.sig) → Buf (Elt Ideal) ℓ) : Prop :=
  True

def Pre_OddCrossReferenceIdeal_odd_pre [hPre_odd_pre : Cert.Pre_odd_pre.Facts] (m : (ℓ : Loc Cert.OddCrossReferenceIdeal.nD Cert.OddCrossReferenceIdeal.τ Cert.OddCrossReferenceIdeal.sig) → Buf (Elt Ideal) ℓ) : Prop :=
  ∀ c : Dev Cert.OddCrossReferenceIdeal.nD,
    (Cert.Pre_odd_pre.fn (F := Ideal) (m ((c.tc : Thread Cert.OddCrossReferenceIdeal.nD Cert.OddCrossReferenceIdeal.τ).loc Cert.OddCrossReferenceIdeal.main_arg0)) (m ((c.tc : Thread Cert.OddCrossReferenceIdeal.nD Cert.OddCrossReferenceIdeal.τ).loc Cert.OddCrossReferenceIdeal.main_arg1)) (m ((c.tc : Thread Cert.OddCrossReferenceIdeal.nD Cert.OddCrossReferenceIdeal.τ).loc Cert.OddCrossReferenceIdeal.main_arg2)) (m ((c.tc : Thread Cert.OddCrossReferenceIdeal.nD Cert.OddCrossReferenceIdeal.τ).loc Cert.OddCrossReferenceIdeal.main_arg3)) (m ((c.tc : Thread Cert.OddCrossReferenceIdeal.nD Cert.OddCrossReferenceIdeal.τ).loc Cert.OddCrossReferenceIdeal.main_arg4)) (m ((c.tc : Thread Cert.OddCrossReferenceIdeal.nD Cert.OddCrossReferenceIdeal.τ).loc Cert.OddCrossReferenceIdeal.main_arg5)) (m ((c.tc : Thread Cert.OddCrossReferenceIdeal.nD Cert.OddCrossReferenceIdeal.τ).loc Cert.OddCrossReferenceIdeal.main_arg6)) (m ((c.tc : Thread Cert.OddCrossReferenceIdeal.nD Cert.OddCrossReferenceIdeal.τ).loc Cert.OddCrossReferenceIdeal.main_arg7)) (m ((c.tc : Thread Cert.OddCrossReferenceIdeal.nD Cert.OddCrossReferenceIdeal.τ).loc Cert.OddCrossReferenceIdeal.main_arg8)) (m ((c.tc : Thread Cert.OddCrossReferenceIdeal.nD Cert.OddCrossReferenceIdeal.τ).loc Cert.OddCrossReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_fox_pre [hKernelIdeal : Cert.KernelIdeal.Facts] [hPre_fox_pre : Cert.Pre_fox_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fox_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_fox_pre [hReferenceIdeal : Cert.ReferenceIdeal.Facts] [hPre_fox_pre : Cert.Pre_fox_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fox_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_MemkvKernel [hMemkvKernel : Cert.MemkvKernel.Facts] : Prop :=
  ∀ (m : (ℓ : Loc Cert.MemkvKernel.nD Cert.MemkvKernel.τ Cert.MemkvKernel.sig) → Buf (Elt Bits) ℓ) (g : Dev Cert.MemkvKernel.nD → PrngReg), Pre_MemkvKernel m →
    θ_run (Cert.MemkvKernel.defs (F := Bits)) (onTc (τ := Cert.MemkvKernel.τ) (Cert.MemkvKernel.main (F := Bits))) ⟨m, fun _ => 0, g⟩ (fun r => (∀ c : Dev Cert.MemkvKernel.nD,
      r.2.mem ((c.tc : Thread Cert.MemkvKernel.nD Cert.MemkvKernel.τ).loc Cert.MemkvKernel.main_arg0) = m ((c.tc : Thread Cert.MemkvKernel.nD Cert.MemkvKernel.τ).loc Cert.MemkvKernel.main_arg0)
      ∧ r.2.mem ((c.tc : Thread Cert.MemkvKernel.nD Cert.MemkvKernel.τ).loc Cert.MemkvKernel.main_arg1) = m ((c.tc : Thread Cert.MemkvKernel.nD Cert.MemkvKernel.τ).loc Cert.MemkvKernel.main_arg1)
      ∧ r.2.mem ((c.tc : Thread Cert.MemkvKernel.nD Cert.MemkvKernel.τ).loc Cert.MemkvKernel.main_arg2) = m ((c.tc : Thread Cert.MemkvKernel.nD Cert.MemkvKernel.τ).loc Cert.MemkvKernel.main_arg2))
      ∧ r.2.sem = fun _ => 0)

def quiescent_MemkvKernelIdeal [hMemkvKernelIdeal : Cert.MemkvKernelIdeal.Facts] : Prop :=
  ∀ (m : (ℓ : Loc Cert.MemkvKernelIdeal.nD Cert.MemkvKernelIdeal.τ Cert.MemkvKernelIdeal.sig) → Buf (Elt Ideal) ℓ) (g : Dev Cert.MemkvKernelIdeal.nD → PrngReg), Pre_MemkvKernelIdeal m →
    θ_run (Cert.MemkvKernelIdeal.defs (F := Ideal)) (onTc (τ := Cert.MemkvKernelIdeal.τ) (Cert.MemkvKernelIdeal.main (F := Ideal))) ⟨m, fun _ => 0, g⟩ (fun r => (∀ c : Dev Cert.MemkvKernelIdeal.nD,
      r.2.mem ((c.tc : Thread Cert.MemkvKernelIdeal.nD Cert.MemkvKernelIdeal.τ).loc Cert.MemkvKernelIdeal.main_arg0) = m ((c.tc : Thread Cert.MemkvKernelIdeal.nD Cert.MemkvKernelIdeal.τ).loc Cert.MemkvKernelIdeal.main_arg0)
      ∧ r.2.mem ((c.tc : Thread Cert.MemkvKernelIdeal.nD Cert.MemkvKernelIdeal.τ).loc Cert.MemkvKernelIdeal.main_arg1) = m ((c.tc : Thread Cert.MemkvKernelIdeal.nD Cert.MemkvKernelIdeal.τ).loc Cert.MemkvKernelIdeal.main_arg1)
      ∧ r.2.mem ((c.tc : Thread Cert.MemkvKernelIdeal.nD Cert.MemkvKernelIdeal.τ).loc Cert.MemkvKernelIdeal.main_arg2) = m ((c.tc : Thread Cert.MemkvKernelIdeal.nD Cert.MemkvKernelIdeal.τ).loc Cert.MemkvKernelIdeal.main_arg2))
      ∧ r.2.sem = fun _ => 0)

def quiescent_MemkvReferenceIdeal [hMemkvReferenceIdeal : Cert.MemkvReferenceIdeal.Facts] : Prop :=
  ∀ (m : (ℓ : Loc Cert.MemkvReferenceIdeal.nD Cert.MemkvReferenceIdeal.τ Cert.MemkvReferenceIdeal.sig) → Buf (Elt Ideal) ℓ) (g : Dev Cert.MemkvReferenceIdeal.nD → PrngReg), Pre_MemkvReferenceIdeal m →
    θ_run (Cert.MemkvReferenceIdeal.defs (F := Ideal)) (onTc (τ := Cert.MemkvReferenceIdeal.τ) (Cert.MemkvReferenceIdeal.main (F := Ideal))) ⟨m, fun _ => 0, g⟩ (fun r => (∀ c : Dev Cert.MemkvReferenceIdeal.nD,
      r.2.mem ((c.tc : Thread Cert.MemkvReferenceIdeal.nD Cert.MemkvReferenceIdeal.τ).loc Cert.MemkvReferenceIdeal.main_arg0) = m ((c.tc : Thread Cert.MemkvReferenceIdeal.nD Cert.MemkvReferenceIdeal.τ).loc Cert.MemkvReferenceIdeal.main_arg0)
      ∧ r.2.mem ((c.tc : Thread Cert.MemkvReferenceIdeal.nD Cert.MemkvReferenceIdeal.τ).loc Cert.MemkvReferenceIdeal.main_arg1) = m ((c.tc : Thread Cert.MemkvReferenceIdeal.nD Cert.MemkvReferenceIdeal.τ).loc Cert.MemkvReferenceIdeal.main_arg1)
      ∧ r.2.mem ((c.tc : Thread Cert.MemkvReferenceIdeal.nD Cert.MemkvReferenceIdeal.τ).loc Cert.MemkvReferenceIdeal.main_arg2) = m ((c.tc : Thread Cert.MemkvReferenceIdeal.nD Cert.MemkvReferenceIdeal.τ).loc Cert.MemkvReferenceIdeal.main_arg2))
      ∧ r.2.sem = fun _ => 0)

def quiescent_EvenCrossKernel [hEvenCrossKernel : Cert.EvenCrossKernel.Facts] : Prop :=
  ∀ (m : (ℓ : Loc Cert.EvenCrossKernel.nD Cert.EvenCrossKernel.τ Cert.EvenCrossKernel.sig) → Buf (Elt Bits) ℓ) (g : Dev Cert.EvenCrossKernel.nD → PrngReg), Pre_EvenCrossKernel m →
    θ_run (Cert.EvenCrossKernel.defs (F := Bits)) (onTc (τ := Cert.EvenCrossKernel.τ) (Cert.EvenCrossKernel.main (F := Bits))) ⟨m, fun _ => 0, g⟩ (fun r => (∀ c : Dev Cert.EvenCrossKernel.nD,
      r.2.mem ((c.tc : Thread Cert.EvenCrossKernel.nD Cert.EvenCrossKernel.τ).loc Cert.EvenCrossKernel.main_arg0) = m ((c.tc : Thread Cert.EvenCrossKernel.nD Cert.EvenCrossKernel.τ).loc Cert.EvenCrossKernel.main_arg0)
      ∧ r.2.mem ((c.tc : Thread Cert.EvenCrossKernel.nD Cert.EvenCrossKernel.τ).loc Cert.EvenCrossKernel.main_arg1) = m ((c.tc : Thread Cert.EvenCrossKernel.nD Cert.EvenCrossKernel.τ).loc Cert.EvenCrossKernel.main_arg1)
      ∧ r.2.mem ((c.tc : Thread Cert.EvenCrossKernel.nD Cert.EvenCrossKernel.τ).loc Cert.EvenCrossKernel.main_arg2) = m ((c.tc : Thread Cert.EvenCrossKernel.nD Cert.EvenCrossKernel.τ).loc Cert.EvenCrossKernel.main_arg2)
      ∧ r.2.mem ((c.tc : Thread Cert.EvenCrossKernel.nD Cert.EvenCrossKernel.τ).loc Cert.EvenCrossKernel.main_arg3) = m ((c.tc : Thread Cert.EvenCrossKernel.nD Cert.EvenCrossKernel.τ).loc Cert.EvenCrossKernel.main_arg3)
      ∧ r.2.mem ((c.tc : Thread Cert.EvenCrossKernel.nD Cert.EvenCrossKernel.τ).loc Cert.EvenCrossKernel.main_arg4) = m ((c.tc : Thread Cert.EvenCrossKernel.nD Cert.EvenCrossKernel.τ).loc Cert.EvenCrossKernel.main_arg4)
      ∧ r.2.mem ((c.tc : Thread Cert.EvenCrossKernel.nD Cert.EvenCrossKernel.τ).loc Cert.EvenCrossKernel.main_arg5) = m ((c.tc : Thread Cert.EvenCrossKernel.nD Cert.EvenCrossKernel.τ).loc Cert.EvenCrossKernel.main_arg5)
      ∧ r.2.mem ((c.tc : Thread Cert.EvenCrossKernel.nD Cert.EvenCrossKernel.τ).loc Cert.EvenCrossKernel.main_arg6) = m ((c.tc : Thread Cert.EvenCrossKernel.nD Cert.EvenCrossKernel.τ).loc Cert.EvenCrossKernel.main_arg6)
      ∧ r.2.mem ((c.tc : Thread Cert.EvenCrossKernel.nD Cert.EvenCrossKernel.τ).loc Cert.EvenCrossKernel.main_arg7) = m ((c.tc : Thread Cert.EvenCrossKernel.nD Cert.EvenCrossKernel.τ).loc Cert.EvenCrossKernel.main_arg7)
      ∧ r.2.mem ((c.tc : Thread Cert.EvenCrossKernel.nD Cert.EvenCrossKernel.τ).loc Cert.EvenCrossKernel.main_arg8) = m ((c.tc : Thread Cert.EvenCrossKernel.nD Cert.EvenCrossKernel.τ).loc Cert.EvenCrossKernel.main_arg8)
      ∧ r.2.mem ((c.tc : Thread Cert.EvenCrossKernel.nD Cert.EvenCrossKernel.τ).loc Cert.EvenCrossKernel.main_arg9) = m ((c.tc : Thread Cert.EvenCrossKernel.nD Cert.EvenCrossKernel.τ).loc Cert.EvenCrossKernel.main_arg9)
      ∧ r.2.mem ((c.tc : Thread Cert.EvenCrossKernel.nD Cert.EvenCrossKernel.τ).loc Cert.EvenCrossKernel.main_arg10) = m ((c.tc : Thread Cert.EvenCrossKernel.nD Cert.EvenCrossKernel.τ).loc Cert.EvenCrossKernel.main_arg10))
      ∧ r.2.sem = fun _ => 0)

def quiescent_EvenCrossKernelIdeal [hEvenCrossKernelIdeal : Cert.EvenCrossKernelIdeal.Facts] : Prop :=
  ∀ (m : (ℓ : Loc Cert.EvenCrossKernelIdeal.nD Cert.EvenCrossKernelIdeal.τ Cert.EvenCrossKernelIdeal.sig) → Buf (Elt Ideal) ℓ) (g : Dev Cert.EvenCrossKernelIdeal.nD → PrngReg), Pre_EvenCrossKernelIdeal m →
    θ_run (Cert.EvenCrossKernelIdeal.defs (F := Ideal)) (onTc (τ := Cert.EvenCrossKernelIdeal.τ) (Cert.EvenCrossKernelIdeal.main (F := Ideal))) ⟨m, fun _ => 0, g⟩ (fun r => (∀ c : Dev Cert.EvenCrossKernelIdeal.nD,
      r.2.mem ((c.tc : Thread Cert.EvenCrossKernelIdeal.nD Cert.EvenCrossKernelIdeal.τ).loc Cert.EvenCrossKernelIdeal.main_arg0) = m ((c.tc : Thread Cert.EvenCrossKernelIdeal.nD Cert.EvenCrossKernelIdeal.τ).loc Cert.EvenCrossKernelIdeal.main_arg0)
      ∧ r.2.mem ((c.tc : Thread Cert.EvenCrossKernelIdeal.nD Cert.EvenCrossKernelIdeal.τ).loc Cert.EvenCrossKernelIdeal.main_arg1) = m ((c.tc : Thread Cert.EvenCrossKernelIdeal.nD Cert.EvenCrossKernelIdeal.τ).loc Cert.EvenCrossKernelIdeal.main_arg1)
      ∧ r.2.mem ((c.tc : Thread Cert.EvenCrossKernelIdeal.nD Cert.EvenCrossKernelIdeal.τ).loc Cert.EvenCrossKernelIdeal.main_arg2) = m ((c.tc : Thread Cert.EvenCrossKernelIdeal.nD Cert.EvenCrossKernelIdeal.τ).loc Cert.EvenCrossKernelIdeal.main_arg2)
      ∧ r.2.mem ((c.tc : Thread Cert.EvenCrossKernelIdeal.nD Cert.EvenCrossKernelIdeal.τ).loc Cert.EvenCrossKernelIdeal.main_arg3) = m ((c.tc : Thread Cert.EvenCrossKernelIdeal.nD Cert.EvenCrossKernelIdeal.τ).loc Cert.EvenCrossKernelIdeal.main_arg3)
      ∧ r.2.mem ((c.tc : Thread Cert.EvenCrossKernelIdeal.nD Cert.EvenCrossKernelIdeal.τ).loc Cert.EvenCrossKernelIdeal.main_arg4) = m ((c.tc : Thread Cert.EvenCrossKernelIdeal.nD Cert.EvenCrossKernelIdeal.τ).loc Cert.EvenCrossKernelIdeal.main_arg4)
      ∧ r.2.mem ((c.tc : Thread Cert.EvenCrossKernelIdeal.nD Cert.EvenCrossKernelIdeal.τ).loc Cert.EvenCrossKernelIdeal.main_arg5) = m ((c.tc : Thread Cert.EvenCrossKernelIdeal.nD Cert.EvenCrossKernelIdeal.τ).loc Cert.EvenCrossKernelIdeal.main_arg5)
      ∧ r.2.mem ((c.tc : Thread Cert.EvenCrossKernelIdeal.nD Cert.EvenCrossKernelIdeal.τ).loc Cert.EvenCrossKernelIdeal.main_arg6) = m ((c.tc : Thread Cert.EvenCrossKernelIdeal.nD Cert.EvenCrossKernelIdeal.τ).loc Cert.EvenCrossKernelIdeal.main_arg6)
      ∧ r.2.mem ((c.tc : Thread Cert.EvenCrossKernelIdeal.nD Cert.EvenCrossKernelIdeal.τ).loc Cert.EvenCrossKernelIdeal.main_arg7) = m ((c.tc : Thread Cert.EvenCrossKernelIdeal.nD Cert.EvenCrossKernelIdeal.τ).loc Cert.EvenCrossKernelIdeal.main_arg7)
      ∧ r.2.mem ((c.tc : Thread Cert.EvenCrossKernelIdeal.nD Cert.EvenCrossKernelIdeal.τ).loc Cert.EvenCrossKernelIdeal.main_arg8) = m ((c.tc : Thread Cert.EvenCrossKernelIdeal.nD Cert.EvenCrossKernelIdeal.τ).loc Cert.EvenCrossKernelIdeal.main_arg8)
      ∧ r.2.mem ((c.tc : Thread Cert.EvenCrossKernelIdeal.nD Cert.EvenCrossKernelIdeal.τ).loc Cert.EvenCrossKernelIdeal.main_arg9) = m ((c.tc : Thread Cert.EvenCrossKernelIdeal.nD Cert.EvenCrossKernelIdeal.τ).loc Cert.EvenCrossKernelIdeal.main_arg9)
      ∧ r.2.mem ((c.tc : Thread Cert.EvenCrossKernelIdeal.nD Cert.EvenCrossKernelIdeal.τ).loc Cert.EvenCrossKernelIdeal.main_arg10) = m ((c.tc : Thread Cert.EvenCrossKernelIdeal.nD Cert.EvenCrossKernelIdeal.τ).loc Cert.EvenCrossKernelIdeal.main_arg10))
      ∧ r.2.sem = fun _ => 0)

def quiescent_EvenCrossKernelIdeal_pre_even_pre [hEvenCrossKernelIdeal : Cert.EvenCrossKernelIdeal.Facts] [hPre_even_pre : Cert.Pre_even_pre.Facts] : Prop :=
  ∀ (m : (ℓ : Loc Cert.EvenCrossKernelIdeal.nD Cert.EvenCrossKernelIdeal.τ Cert.EvenCrossKernelIdeal.sig) → Buf (Elt Ideal) ℓ) (g : Dev Cert.EvenCrossKernelIdeal.nD → PrngReg), Pre_EvenCrossKernelIdeal_even_pre m →
    θ_run (Cert.EvenCrossKernelIdeal.defs (F := Ideal)) (onTc (τ := Cert.EvenCrossKernelIdeal.τ) (Cert.EvenCrossKernelIdeal.main (F := Ideal))) ⟨m, fun _ => 0, g⟩ (fun r => (∀ c : Dev Cert.EvenCrossKernelIdeal.nD,
      r.2.mem ((c.tc : Thread Cert.EvenCrossKernelIdeal.nD Cert.EvenCrossKernelIdeal.τ).loc Cert.EvenCrossKernelIdeal.main_arg0) = m ((c.tc : Thread Cert.EvenCrossKernelIdeal.nD Cert.EvenCrossKernelIdeal.τ).loc Cert.EvenCrossKernelIdeal.main_arg0)
      ∧ r.2.mem ((c.tc : Thread Cert.EvenCrossKernelIdeal.nD Cert.EvenCrossKernelIdeal.τ).loc Cert.EvenCrossKernelIdeal.main_arg1) = m ((c.tc : Thread Cert.EvenCrossKernelIdeal.nD Cert.EvenCrossKernelIdeal.τ).loc Cert.EvenCrossKernelIdeal.main_arg1)
      ∧ r.2.mem ((c.tc : Thread Cert.EvenCrossKernelIdeal.nD Cert.EvenCrossKernelIdeal.τ).loc Cert.EvenCrossKernelIdeal.main_arg2) = m ((c.tc : Thread Cert.EvenCrossKernelIdeal.nD Cert.EvenCrossKernelIdeal.τ).loc Cert.EvenCrossKernelIdeal.main_arg2)
      ∧ r.2.mem ((c.tc : Thread Cert.EvenCrossKernelIdeal.nD Cert.EvenCrossKernelIdeal.τ).loc Cert.EvenCrossKernelIdeal.main_arg3) = m ((c.tc : Thread Cert.EvenCrossKernelIdeal.nD Cert.EvenCrossKernelIdeal.τ).loc Cert.EvenCrossKernelIdeal.main_arg3)
      ∧ r.2.mem ((c.tc : Thread Cert.EvenCrossKernelIdeal.nD Cert.EvenCrossKernelIdeal.τ).loc Cert.EvenCrossKernelIdeal.main_arg4) = m ((c.tc : Thread Cert.EvenCrossKernelIdeal.nD Cert.EvenCrossKernelIdeal.τ).loc Cert.EvenCrossKernelIdeal.main_arg4)
      ∧ r.2.mem ((c.tc : Thread Cert.EvenCrossKernelIdeal.nD Cert.EvenCrossKernelIdeal.τ).loc Cert.EvenCrossKernelIdeal.main_arg5) = m ((c.tc : Thread Cert.EvenCrossKernelIdeal.nD Cert.EvenCrossKernelIdeal.τ).loc Cert.EvenCrossKernelIdeal.main_arg5)
      ∧ r.2.mem ((c.tc : Thread Cert.EvenCrossKernelIdeal.nD Cert.EvenCrossKernelIdeal.τ).loc Cert.EvenCrossKernelIdeal.main_arg6) = m ((c.tc : Thread Cert.EvenCrossKernelIdeal.nD Cert.EvenCrossKernelIdeal.τ).loc Cert.EvenCrossKernelIdeal.main_arg6)
      ∧ r.2.mem ((c.tc : Thread Cert.EvenCrossKernelIdeal.nD Cert.EvenCrossKernelIdeal.τ).loc Cert.EvenCrossKernelIdeal.main_arg7) = m ((c.tc : Thread Cert.EvenCrossKernelIdeal.nD Cert.EvenCrossKernelIdeal.τ).loc Cert.EvenCrossKernelIdeal.main_arg7)
      ∧ r.2.mem ((c.tc : Thread Cert.EvenCrossKernelIdeal.nD Cert.EvenCrossKernelIdeal.τ).loc Cert.EvenCrossKernelIdeal.main_arg8) = m ((c.tc : Thread Cert.EvenCrossKernelIdeal.nD Cert.EvenCrossKernelIdeal.τ).loc Cert.EvenCrossKernelIdeal.main_arg8)
      ∧ r.2.mem ((c.tc : Thread Cert.EvenCrossKernelIdeal.nD Cert.EvenCrossKernelIdeal.τ).loc Cert.EvenCrossKernelIdeal.main_arg9) = m ((c.tc : Thread Cert.EvenCrossKernelIdeal.nD Cert.EvenCrossKernelIdeal.τ).loc Cert.EvenCrossKernelIdeal.main_arg9)
      ∧ r.2.mem ((c.tc : Thread Cert.EvenCrossKernelIdeal.nD Cert.EvenCrossKernelIdeal.τ).loc Cert.EvenCrossKernelIdeal.main_arg10) = m ((c.tc : Thread Cert.EvenCrossKernelIdeal.nD Cert.EvenCrossKernelIdeal.τ).loc Cert.EvenCrossKernelIdeal.main_arg10))
      ∧ r.2.sem = fun _ => 0)

def quiescent_EvenCrossReferenceIdeal [hEvenCrossReferenceIdeal : Cert.EvenCrossReferenceIdeal.Facts] : Prop :=
  ∀ (m : (ℓ : Loc Cert.EvenCrossReferenceIdeal.nD Cert.EvenCrossReferenceIdeal.τ Cert.EvenCrossReferenceIdeal.sig) → Buf (Elt Ideal) ℓ) (g : Dev Cert.EvenCrossReferenceIdeal.nD → PrngReg), Pre_EvenCrossReferenceIdeal m →
    θ_run (Cert.EvenCrossReferenceIdeal.defs (F := Ideal)) (onTc (τ := Cert.EvenCrossReferenceIdeal.τ) (Cert.EvenCrossReferenceIdeal.main (F := Ideal))) ⟨m, fun _ => 0, g⟩ (fun r => (∀ c : Dev Cert.EvenCrossReferenceIdeal.nD,
      r.2.mem ((c.tc : Thread Cert.EvenCrossReferenceIdeal.nD Cert.EvenCrossReferenceIdeal.τ).loc Cert.EvenCrossReferenceIdeal.main_arg0) = m ((c.tc : Thread Cert.EvenCrossReferenceIdeal.nD Cert.EvenCrossReferenceIdeal.τ).loc Cert.EvenCrossReferenceIdeal.main_arg0)
      ∧ r.2.mem ((c.tc : Thread Cert.EvenCrossReferenceIdeal.nD Cert.EvenCrossReferenceIdeal.τ).loc Cert.EvenCrossReferenceIdeal.main_arg1) = m ((c.tc : Thread Cert.EvenCrossReferenceIdeal.nD Cert.EvenCrossReferenceIdeal.τ).loc Cert.EvenCrossReferenceIdeal.main_arg1)
      ∧ r.2.mem ((c.tc : Thread Cert.EvenCrossReferenceIdeal.nD Cert.EvenCrossReferenceIdeal.τ).loc Cert.EvenCrossReferenceIdeal.main_arg2) = m ((c.tc : Thread Cert.EvenCrossReferenceIdeal.nD Cert.EvenCrossReferenceIdeal.τ).loc Cert.EvenCrossReferenceIdeal.main_arg2)
      ∧ r.2.mem ((c.tc : Thread Cert.EvenCrossReferenceIdeal.nD Cert.EvenCrossReferenceIdeal.τ).loc Cert.EvenCrossReferenceIdeal.main_arg3) = m ((c.tc : Thread Cert.EvenCrossReferenceIdeal.nD Cert.EvenCrossReferenceIdeal.τ).loc Cert.EvenCrossReferenceIdeal.main_arg3)
      ∧ r.2.mem ((c.tc : Thread Cert.EvenCrossReferenceIdeal.nD Cert.EvenCrossReferenceIdeal.τ).loc Cert.EvenCrossReferenceIdeal.main_arg4) = m ((c.tc : Thread Cert.EvenCrossReferenceIdeal.nD Cert.EvenCrossReferenceIdeal.τ).loc Cert.EvenCrossReferenceIdeal.main_arg4)
      ∧ r.2.mem ((c.tc : Thread Cert.EvenCrossReferenceIdeal.nD Cert.EvenCrossReferenceIdeal.τ).loc Cert.EvenCrossReferenceIdeal.main_arg5) = m ((c.tc : Thread Cert.EvenCrossReferenceIdeal.nD Cert.EvenCrossReferenceIdeal.τ).loc Cert.EvenCrossReferenceIdeal.main_arg5)
      ∧ r.2.mem ((c.tc : Thread Cert.EvenCrossReferenceIdeal.nD Cert.EvenCrossReferenceIdeal.τ).loc Cert.EvenCrossReferenceIdeal.main_arg6) = m ((c.tc : Thread Cert.EvenCrossReferenceIdeal.nD Cert.EvenCrossReferenceIdeal.τ).loc Cert.EvenCrossReferenceIdeal.main_arg6)
      ∧ r.2.mem ((c.tc : Thread Cert.EvenCrossReferenceIdeal.nD Cert.EvenCrossReferenceIdeal.τ).loc Cert.EvenCrossReferenceIdeal.main_arg7) = m ((c.tc : Thread Cert.EvenCrossReferenceIdeal.nD Cert.EvenCrossReferenceIdeal.τ).loc Cert.EvenCrossReferenceIdeal.main_arg7)
      ∧ r.2.mem ((c.tc : Thread Cert.EvenCrossReferenceIdeal.nD Cert.EvenCrossReferenceIdeal.τ).loc Cert.EvenCrossReferenceIdeal.main_arg8) = m ((c.tc : Thread Cert.EvenCrossReferenceIdeal.nD Cert.EvenCrossReferenceIdeal.τ).loc Cert.EvenCrossReferenceIdeal.main_arg8)
      ∧ r.2.mem ((c.tc : Thread Cert.EvenCrossReferenceIdeal.nD Cert.EvenCrossReferenceIdeal.τ).loc Cert.EvenCrossReferenceIdeal.main_arg9) = m ((c.tc : Thread Cert.EvenCrossReferenceIdeal.nD Cert.EvenCrossReferenceIdeal.τ).loc Cert.EvenCrossReferenceIdeal.main_arg9)
      ∧ r.2.mem ((c.tc : Thread Cert.EvenCrossReferenceIdeal.nD Cert.EvenCrossReferenceIdeal.τ).loc Cert.EvenCrossReferenceIdeal.main_arg10) = m ((c.tc : Thread Cert.EvenCrossReferenceIdeal.nD Cert.EvenCrossReferenceIdeal.τ).loc Cert.EvenCrossReferenceIdeal.main_arg10))
      ∧ r.2.sem = fun _ => 0)

def quiescent_EvenCrossReferenceIdeal_pre_even_pre [hEvenCrossReferenceIdeal : Cert.EvenCrossReferenceIdeal.Facts] [hPre_even_pre : Cert.Pre_even_pre.Facts] : Prop :=
  ∀ (m : (ℓ : Loc Cert.EvenCrossReferenceIdeal.nD Cert.EvenCrossReferenceIdeal.τ Cert.EvenCrossReferenceIdeal.sig) → Buf (Elt Ideal) ℓ) (g : Dev Cert.EvenCrossReferenceIdeal.nD → PrngReg), Pre_EvenCrossReferenceIdeal_even_pre m →
    θ_run (Cert.EvenCrossReferenceIdeal.defs (F := Ideal)) (onTc (τ := Cert.EvenCrossReferenceIdeal.τ) (Cert.EvenCrossReferenceIdeal.main (F := Ideal))) ⟨m, fun _ => 0, g⟩ (fun r => (∀ c : Dev Cert.EvenCrossReferenceIdeal.nD,
      r.2.mem ((c.tc : Thread Cert.EvenCrossReferenceIdeal.nD Cert.EvenCrossReferenceIdeal.τ).loc Cert.EvenCrossReferenceIdeal.main_arg0) = m ((c.tc : Thread Cert.EvenCrossReferenceIdeal.nD Cert.EvenCrossReferenceIdeal.τ).loc Cert.EvenCrossReferenceIdeal.main_arg0)
      ∧ r.2.mem ((c.tc : Thread Cert.EvenCrossReferenceIdeal.nD Cert.EvenCrossReferenceIdeal.τ).loc Cert.EvenCrossReferenceIdeal.main_arg1) = m ((c.tc : Thread Cert.EvenCrossReferenceIdeal.nD Cert.EvenCrossReferenceIdeal.τ).loc Cert.EvenCrossReferenceIdeal.main_arg1)
      ∧ r.2.mem ((c.tc : Thread Cert.EvenCrossReferenceIdeal.nD Cert.EvenCrossReferenceIdeal.τ).loc Cert.EvenCrossReferenceIdeal.main_arg2) = m ((c.tc : Thread Cert.EvenCrossReferenceIdeal.nD Cert.EvenCrossReferenceIdeal.τ).loc Cert.EvenCrossReferenceIdeal.main_arg2)
      ∧ r.2.mem ((c.tc : Thread Cert.EvenCrossReferenceIdeal.nD Cert.EvenCrossReferenceIdeal.τ).loc Cert.EvenCrossReferenceIdeal.main_arg3) = m ((c.tc : Thread Cert.EvenCrossReferenceIdeal.nD Cert.EvenCrossReferenceIdeal.τ).loc Cert.EvenCrossReferenceIdeal.main_arg3)
      ∧ r.2.mem ((c.tc : Thread Cert.EvenCrossReferenceIdeal.nD Cert.EvenCrossReferenceIdeal.τ).loc Cert.EvenCrossReferenceIdeal.main_arg4) = m ((c.tc : Thread Cert.EvenCrossReferenceIdeal.nD Cert.EvenCrossReferenceIdeal.τ).loc Cert.EvenCrossReferenceIdeal.main_arg4)
      ∧ r.2.mem ((c.tc : Thread Cert.EvenCrossReferenceIdeal.nD Cert.EvenCrossReferenceIdeal.τ).loc Cert.EvenCrossReferenceIdeal.main_arg5) = m ((c.tc : Thread Cert.EvenCrossReferenceIdeal.nD Cert.EvenCrossReferenceIdeal.τ).loc Cert.EvenCrossReferenceIdeal.main_arg5)
      ∧ r.2.mem ((c.tc : Thread Cert.EvenCrossReferenceIdeal.nD Cert.EvenCrossReferenceIdeal.τ).loc Cert.EvenCrossReferenceIdeal.main_arg6) = m ((c.tc : Thread Cert.EvenCrossReferenceIdeal.nD Cert.EvenCrossReferenceIdeal.τ).loc Cert.EvenCrossReferenceIdeal.main_arg6)
      ∧ r.2.mem ((c.tc : Thread Cert.EvenCrossReferenceIdeal.nD Cert.EvenCrossReferenceIdeal.τ).loc Cert.EvenCrossReferenceIdeal.main_arg7) = m ((c.tc : Thread Cert.EvenCrossReferenceIdeal.nD Cert.EvenCrossReferenceIdeal.τ).loc Cert.EvenCrossReferenceIdeal.main_arg7)
      ∧ r.2.mem ((c.tc : Thread Cert.EvenCrossReferenceIdeal.nD Cert.EvenCrossReferenceIdeal.τ).loc Cert.EvenCrossReferenceIdeal.main_arg8) = m ((c.tc : Thread Cert.EvenCrossReferenceIdeal.nD Cert.EvenCrossReferenceIdeal.τ).loc Cert.EvenCrossReferenceIdeal.main_arg8)
      ∧ r.2.mem ((c.tc : Thread Cert.EvenCrossReferenceIdeal.nD Cert.EvenCrossReferenceIdeal.τ).loc Cert.EvenCrossReferenceIdeal.main_arg9) = m ((c.tc : Thread Cert.EvenCrossReferenceIdeal.nD Cert.EvenCrossReferenceIdeal.τ).loc Cert.EvenCrossReferenceIdeal.main_arg9)
      ∧ r.2.mem ((c.tc : Thread Cert.EvenCrossReferenceIdeal.nD Cert.EvenCrossReferenceIdeal.τ).loc Cert.EvenCrossReferenceIdeal.main_arg10) = m ((c.tc : Thread Cert.EvenCrossReferenceIdeal.nD Cert.EvenCrossReferenceIdeal.τ).loc Cert.EvenCrossReferenceIdeal.main_arg10))
      ∧ r.2.sem = fun _ => 0)

def quiescent_OddCrossKernel [hOddCrossKernel : Cert.OddCrossKernel.Facts] : Prop :=
  ∀ (m : (ℓ : Loc Cert.OddCrossKernel.nD Cert.OddCrossKernel.τ Cert.OddCrossKernel.sig) → Buf (Elt Bits) ℓ) (g : Dev Cert.OddCrossKernel.nD → PrngReg), Pre_OddCrossKernel m →
    θ_run (Cert.OddCrossKernel.defs (F := Bits)) (onTc (τ := Cert.OddCrossKernel.τ) (Cert.OddCrossKernel.main (F := Bits))) ⟨m, fun _ => 0, g⟩ (fun r => (∀ c : Dev Cert.OddCrossKernel.nD,
      r.2.mem ((c.tc : Thread Cert.OddCrossKernel.nD Cert.OddCrossKernel.τ).loc Cert.OddCrossKernel.main_arg0) = m ((c.tc : Thread Cert.OddCrossKernel.nD Cert.OddCrossKernel.τ).loc Cert.OddCrossKernel.main_arg0)
      ∧ r.2.mem ((c.tc : Thread Cert.OddCrossKernel.nD Cert.OddCrossKernel.τ).loc Cert.OddCrossKernel.main_arg1) = m ((c.tc : Thread Cert.OddCrossKernel.nD Cert.OddCrossKernel.τ).loc Cert.OddCrossKernel.main_arg1)
      ∧ r.2.mem ((c.tc : Thread Cert.OddCrossKernel.nD Cert.OddCrossKernel.τ).loc Cert.OddCrossKernel.main_arg2) = m ((c.tc : Thread Cert.OddCrossKernel.nD Cert.OddCrossKernel.τ).loc Cert.OddCrossKernel.main_arg2)
      ∧ r.2.mem ((c.tc : Thread Cert.OddCrossKernel.nD Cert.OddCrossKernel.τ).loc Cert.OddCrossKernel.main_arg3) = m ((c.tc : Thread Cert.OddCrossKernel.nD Cert.OddCrossKernel.τ).loc Cert.OddCrossKernel.main_arg3)
      ∧ r.2.mem ((c.tc : Thread Cert.OddCrossKernel.nD Cert.OddCrossKernel.τ).loc Cert.OddCrossKernel.main_arg4) = m ((c.tc : Thread Cert.OddCrossKernel.nD Cert.OddCrossKernel.τ).loc Cert.OddCrossKernel.main_arg4)
      ∧ r.2.mem ((c.tc : Thread Cert.OddCrossKernel.nD Cert.OddCrossKernel.τ).loc Cert.OddCrossKernel.main_arg5) = m ((c.tc : Thread Cert.OddCrossKernel.nD Cert.OddCrossKernel.τ).loc Cert.OddCrossKernel.main_arg5)
      ∧ r.2.mem ((c.tc : Thread Cert.OddCrossKernel.nD Cert.OddCrossKernel.τ).loc Cert.OddCrossKernel.main_arg6) = m ((c.tc : Thread Cert.OddCrossKernel.nD Cert.OddCrossKernel.τ).loc Cert.OddCrossKernel.main_arg6)
      ∧ r.2.mem ((c.tc : Thread Cert.OddCrossKernel.nD Cert.OddCrossKernel.τ).loc Cert.OddCrossKernel.main_arg7) = m ((c.tc : Thread Cert.OddCrossKernel.nD Cert.OddCrossKernel.τ).loc Cert.OddCrossKernel.main_arg7)
      ∧ r.2.mem ((c.tc : Thread Cert.OddCrossKernel.nD Cert.OddCrossKernel.τ).loc Cert.OddCrossKernel.main_arg8) = m ((c.tc : Thread Cert.OddCrossKernel.nD Cert.OddCrossKernel.τ).loc Cert.OddCrossKernel.main_arg8)
      ∧ r.2.mem ((c.tc : Thread Cert.OddCrossKernel.nD Cert.OddCrossKernel.τ).loc Cert.OddCrossKernel.main_arg9) = m ((c.tc : Thread Cert.OddCrossKernel.nD Cert.OddCrossKernel.τ).loc Cert.OddCrossKernel.main_arg9))
      ∧ r.2.sem = fun _ => 0)

def quiescent_OddCrossKernelIdeal [hOddCrossKernelIdeal : Cert.OddCrossKernelIdeal.Facts] : Prop :=
  ∀ (m : (ℓ : Loc Cert.OddCrossKernelIdeal.nD Cert.OddCrossKernelIdeal.τ Cert.OddCrossKernelIdeal.sig) → Buf (Elt Ideal) ℓ) (g : Dev Cert.OddCrossKernelIdeal.nD → PrngReg), Pre_OddCrossKernelIdeal m →
    θ_run (Cert.OddCrossKernelIdeal.defs (F := Ideal)) (onTc (τ := Cert.OddCrossKernelIdeal.τ) (Cert.OddCrossKernelIdeal.main (F := Ideal))) ⟨m, fun _ => 0, g⟩ (fun r => (∀ c : Dev Cert.OddCrossKernelIdeal.nD,
      r.2.mem ((c.tc : Thread Cert.OddCrossKernelIdeal.nD Cert.OddCrossKernelIdeal.τ).loc Cert.OddCrossKernelIdeal.main_arg0) = m ((c.tc : Thread Cert.OddCrossKernelIdeal.nD Cert.OddCrossKernelIdeal.τ).loc Cert.OddCrossKernelIdeal.main_arg0)
      ∧ r.2.mem ((c.tc : Thread Cert.OddCrossKernelIdeal.nD Cert.OddCrossKernelIdeal.τ).loc Cert.OddCrossKernelIdeal.main_arg1) = m ((c.tc : Thread Cert.OddCrossKernelIdeal.nD Cert.OddCrossKernelIdeal.τ).loc Cert.OddCrossKernelIdeal.main_arg1)
      ∧ r.2.mem ((c.tc : Thread Cert.OddCrossKernelIdeal.nD Cert.OddCrossKernelIdeal.τ).loc Cert.OddCrossKernelIdeal.main_arg2) = m ((c.tc : Thread Cert.OddCrossKernelIdeal.nD Cert.OddCrossKernelIdeal.τ).loc Cert.OddCrossKernelIdeal.main_arg2)
      ∧ r.2.mem ((c.tc : Thread Cert.OddCrossKernelIdeal.nD Cert.OddCrossKernelIdeal.τ).loc Cert.OddCrossKernelIdeal.main_arg3) = m ((c.tc : Thread Cert.OddCrossKernelIdeal.nD Cert.OddCrossKernelIdeal.τ).loc Cert.OddCrossKernelIdeal.main_arg3)
      ∧ r.2.mem ((c.tc : Thread Cert.OddCrossKernelIdeal.nD Cert.OddCrossKernelIdeal.τ).loc Cert.OddCrossKernelIdeal.main_arg4) = m ((c.tc : Thread Cert.OddCrossKernelIdeal.nD Cert.OddCrossKernelIdeal.τ).loc Cert.OddCrossKernelIdeal.main_arg4)
      ∧ r.2.mem ((c.tc : Thread Cert.OddCrossKernelIdeal.nD Cert.OddCrossKernelIdeal.τ).loc Cert.OddCrossKernelIdeal.main_arg5) = m ((c.tc : Thread Cert.OddCrossKernelIdeal.nD Cert.OddCrossKernelIdeal.τ).loc Cert.OddCrossKernelIdeal.main_arg5)
      ∧ r.2.mem ((c.tc : Thread Cert.OddCrossKernelIdeal.nD Cert.OddCrossKernelIdeal.τ).loc Cert.OddCrossKernelIdeal.main_arg6) = m ((c.tc : Thread Cert.OddCrossKernelIdeal.nD Cert.OddCrossKernelIdeal.τ).loc Cert.OddCrossKernelIdeal.main_arg6)
      ∧ r.2.mem ((c.tc : Thread Cert.OddCrossKernelIdeal.nD Cert.OddCrossKernelIdeal.τ).loc Cert.OddCrossKernelIdeal.main_arg7) = m ((c.tc : Thread Cert.OddCrossKernelIdeal.nD Cert.OddCrossKernelIdeal.τ).loc Cert.OddCrossKernelIdeal.main_arg7)
      ∧ r.2.mem ((c.tc : Thread Cert.OddCrossKernelIdeal.nD Cert.OddCrossKernelIdeal.τ).loc Cert.OddCrossKernelIdeal.main_arg8) = m ((c.tc : Thread Cert.OddCrossKernelIdeal.nD Cert.OddCrossKernelIdeal.τ).loc Cert.OddCrossKernelIdeal.main_arg8)
      ∧ r.2.mem ((c.tc : Thread Cert.OddCrossKernelIdeal.nD Cert.OddCrossKernelIdeal.τ).loc Cert.OddCrossKernelIdeal.main_arg9) = m ((c.tc : Thread Cert.OddCrossKernelIdeal.nD Cert.OddCrossKernelIdeal.τ).loc Cert.OddCrossKernelIdeal.main_arg9))
      ∧ r.2.sem = fun _ => 0)

def quiescent_OddCrossKernelIdeal_pre_odd_pre [hOddCrossKernelIdeal : Cert.OddCrossKernelIdeal.Facts] [hPre_odd_pre : Cert.Pre_odd_pre.Facts] : Prop :=
  ∀ (m : (ℓ : Loc Cert.OddCrossKernelIdeal.nD Cert.OddCrossKernelIdeal.τ Cert.OddCrossKernelIdeal.sig) → Buf (Elt Ideal) ℓ) (g : Dev Cert.OddCrossKernelIdeal.nD → PrngReg), Pre_OddCrossKernelIdeal_odd_pre m →
    θ_run (Cert.OddCrossKernelIdeal.defs (F := Ideal)) (onTc (τ := Cert.OddCrossKernelIdeal.τ) (Cert.OddCrossKernelIdeal.main (F := Ideal))) ⟨m, fun _ => 0, g⟩ (fun r => (∀ c : Dev Cert.OddCrossKernelIdeal.nD,
      r.2.mem ((c.tc : Thread Cert.OddCrossKernelIdeal.nD Cert.OddCrossKernelIdeal.τ).loc Cert.OddCrossKernelIdeal.main_arg0) = m ((c.tc : Thread Cert.OddCrossKernelIdeal.nD Cert.OddCrossKernelIdeal.τ).loc Cert.OddCrossKernelIdeal.main_arg0)
      ∧ r.2.mem ((c.tc : Thread Cert.OddCrossKernelIdeal.nD Cert.OddCrossKernelIdeal.τ).loc Cert.OddCrossKernelIdeal.main_arg1) = m ((c.tc : Thread Cert.OddCrossKernelIdeal.nD Cert.OddCrossKernelIdeal.τ).loc Cert.OddCrossKernelIdeal.main_arg1)
      ∧ r.2.mem ((c.tc : Thread Cert.OddCrossKernelIdeal.nD Cert.OddCrossKernelIdeal.τ).loc Cert.OddCrossKernelIdeal.main_arg2) = m ((c.tc : Thread Cert.OddCrossKernelIdeal.nD Cert.OddCrossKernelIdeal.τ).loc Cert.OddCrossKernelIdeal.main_arg2)
      ∧ r.2.mem ((c.tc : Thread Cert.OddCrossKernelIdeal.nD Cert.OddCrossKernelIdeal.τ).loc Cert.OddCrossKernelIdeal.main_arg3) = m ((c.tc : Thread Cert.OddCrossKernelIdeal.nD Cert.OddCrossKernelIdeal.τ).loc Cert.OddCrossKernelIdeal.main_arg3)
      ∧ r.2.mem ((c.tc : Thread Cert.OddCrossKernelIdeal.nD Cert.OddCrossKernelIdeal.τ).loc Cert.OddCrossKernelIdeal.main_arg4) = m ((c.tc : Thread Cert.OddCrossKernelIdeal.nD Cert.OddCrossKernelIdeal.τ).loc Cert.OddCrossKernelIdeal.main_arg4)
      ∧ r.2.mem ((c.tc : Thread Cert.OddCrossKernelIdeal.nD Cert.OddCrossKernelIdeal.τ).loc Cert.OddCrossKernelIdeal.main_arg5) = m ((c.tc : Thread Cert.OddCrossKernelIdeal.nD Cert.OddCrossKernelIdeal.τ).loc Cert.OddCrossKernelIdeal.main_arg5)
      ∧ r.2.mem ((c.tc : Thread Cert.OddCrossKernelIdeal.nD Cert.OddCrossKernelIdeal.τ).loc Cert.OddCrossKernelIdeal.main_arg6) = m ((c.tc : Thread Cert.OddCrossKernelIdeal.nD Cert.OddCrossKernelIdeal.τ).loc Cert.OddCrossKernelIdeal.main_arg6)
      ∧ r.2.mem ((c.tc : Thread Cert.OddCrossKernelIdeal.nD Cert.OddCrossKernelIdeal.τ).loc Cert.OddCrossKernelIdeal.main_arg7) = m ((c.tc : Thread Cert.OddCrossKernelIdeal.nD Cert.OddCrossKernelIdeal.τ).loc Cert.OddCrossKernelIdeal.main_arg7)
      ∧ r.2.mem ((c.tc : Thread Cert.OddCrossKernelIdeal.nD Cert.OddCrossKernelIdeal.τ).loc Cert.OddCrossKernelIdeal.main_arg8) = m ((c.tc : Thread Cert.OddCrossKernelIdeal.nD Cert.OddCrossKernelIdeal.τ).loc Cert.OddCrossKernelIdeal.main_arg8)
      ∧ r.2.mem ((c.tc : Thread Cert.OddCrossKernelIdeal.nD Cert.OddCrossKernelIdeal.τ).loc Cert.OddCrossKernelIdeal.main_arg9) = m ((c.tc : Thread Cert.OddCrossKernelIdeal.nD Cert.OddCrossKernelIdeal.τ).loc Cert.OddCrossKernelIdeal.main_arg9))
      ∧ r.2.sem = fun _ => 0)

def quiescent_OddCrossReferenceIdeal [hOddCrossReferenceIdeal : Cert.OddCrossReferenceIdeal.Facts] : Prop :=
  ∀ (m : (ℓ : Loc Cert.OddCrossReferenceIdeal.nD Cert.OddCrossReferenceIdeal.τ Cert.OddCrossReferenceIdeal.sig) → Buf (Elt Ideal) ℓ) (g : Dev Cert.OddCrossReferenceIdeal.nD → PrngReg), Pre_OddCrossReferenceIdeal m →
    θ_run (Cert.OddCrossReferenceIdeal.defs (F := Ideal)) (onTc (τ := Cert.OddCrossReferenceIdeal.τ) (Cert.OddCrossReferenceIdeal.main (F := Ideal))) ⟨m, fun _ => 0, g⟩ (fun r => (∀ c : Dev Cert.OddCrossReferenceIdeal.nD,
      r.2.mem ((c.tc : Thread Cert.OddCrossReferenceIdeal.nD Cert.OddCrossReferenceIdeal.τ).loc Cert.OddCrossReferenceIdeal.main_arg0) = m ((c.tc : Thread Cert.OddCrossReferenceIdeal.nD Cert.OddCrossReferenceIdeal.τ).loc Cert.OddCrossReferenceIdeal.main_arg0)
      ∧ r.2.mem ((c.tc : Thread Cert.OddCrossReferenceIdeal.nD Cert.OddCrossReferenceIdeal.τ).loc Cert.OddCrossReferenceIdeal.main_arg1) = m ((c.tc : Thread Cert.OddCrossReferenceIdeal.nD Cert.OddCrossReferenceIdeal.τ).loc Cert.OddCrossReferenceIdeal.main_arg1)
      ∧ r.2.mem ((c.tc : Thread Cert.OddCrossReferenceIdeal.nD Cert.OddCrossReferenceIdeal.τ).loc Cert.OddCrossReferenceIdeal.main_arg2) = m ((c.tc : Thread Cert.OddCrossReferenceIdeal.nD Cert.OddCrossReferenceIdeal.τ).loc Cert.OddCrossReferenceIdeal.main_arg2)
      ∧ r.2.mem ((c.tc : Thread Cert.OddCrossReferenceIdeal.nD Cert.OddCrossReferenceIdeal.τ).loc Cert.OddCrossReferenceIdeal.main_arg3) = m ((c.tc : Thread Cert.OddCrossReferenceIdeal.nD Cert.OddCrossReferenceIdeal.τ).loc Cert.OddCrossReferenceIdeal.main_arg3)
      ∧ r.2.mem ((c.tc : Thread Cert.OddCrossReferenceIdeal.nD Cert.OddCrossReferenceIdeal.τ).loc Cert.OddCrossReferenceIdeal.main_arg4) = m ((c.tc : Thread Cert.OddCrossReferenceIdeal.nD Cert.OddCrossReferenceIdeal.τ).loc Cert.OddCrossReferenceIdeal.main_arg4)
      ∧ r.2.mem ((c.tc : Thread Cert.OddCrossReferenceIdeal.nD Cert.OddCrossReferenceIdeal.τ).loc Cert.OddCrossReferenceIdeal.main_arg5) = m ((c.tc : Thread Cert.OddCrossReferenceIdeal.nD Cert.OddCrossReferenceIdeal.τ).loc Cert.OddCrossReferenceIdeal.main_arg5)
      ∧ r.2.mem ((c.tc : Thread Cert.OddCrossReferenceIdeal.nD Cert.OddCrossReferenceIdeal.τ).loc Cert.OddCrossReferenceIdeal.main_arg6) = m ((c.tc : Thread Cert.OddCrossReferenceIdeal.nD Cert.OddCrossReferenceIdeal.τ).loc Cert.OddCrossReferenceIdeal.main_arg6)
      ∧ r.2.mem ((c.tc : Thread Cert.OddCrossReferenceIdeal.nD Cert.OddCrossReferenceIdeal.τ).loc Cert.OddCrossReferenceIdeal.main_arg7) = m ((c.tc : Thread Cert.OddCrossReferenceIdeal.nD Cert.OddCrossReferenceIdeal.τ).loc Cert.OddCrossReferenceIdeal.main_arg7)
      ∧ r.2.mem ((c.tc : Thread Cert.OddCrossReferenceIdeal.nD Cert.OddCrossReferenceIdeal.τ).loc Cert.OddCrossReferenceIdeal.main_arg8) = m ((c.tc : Thread Cert.OddCrossReferenceIdeal.nD Cert.OddCrossReferenceIdeal.τ).loc Cert.OddCrossReferenceIdeal.main_arg8)
      ∧ r.2.mem ((c.tc : Thread Cert.OddCrossReferenceIdeal.nD Cert.OddCrossReferenceIdeal.τ).loc Cert.OddCrossReferenceIdeal.main_arg9) = m ((c.tc : Thread Cert.OddCrossReferenceIdeal.nD Cert.OddCrossReferenceIdeal.τ).loc Cert.OddCrossReferenceIdeal.main_arg9))
      ∧ r.2.sem = fun _ => 0)

def quiescent_OddCrossReferenceIdeal_pre_odd_pre [hOddCrossReferenceIdeal : Cert.OddCrossReferenceIdeal.Facts] [hPre_odd_pre : Cert.Pre_odd_pre.Facts] : Prop :=
  ∀ (m : (ℓ : Loc Cert.OddCrossReferenceIdeal.nD Cert.OddCrossReferenceIdeal.τ Cert.OddCrossReferenceIdeal.sig) → Buf (Elt Ideal) ℓ) (g : Dev Cert.OddCrossReferenceIdeal.nD → PrngReg), Pre_OddCrossReferenceIdeal_odd_pre m →
    θ_run (Cert.OddCrossReferenceIdeal.defs (F := Ideal)) (onTc (τ := Cert.OddCrossReferenceIdeal.τ) (Cert.OddCrossReferenceIdeal.main (F := Ideal))) ⟨m, fun _ => 0, g⟩ (fun r => (∀ c : Dev Cert.OddCrossReferenceIdeal.nD,
      r.2.mem ((c.tc : Thread Cert.OddCrossReferenceIdeal.nD Cert.OddCrossReferenceIdeal.τ).loc Cert.OddCrossReferenceIdeal.main_arg0) = m ((c.tc : Thread Cert.OddCrossReferenceIdeal.nD Cert.OddCrossReferenceIdeal.τ).loc Cert.OddCrossReferenceIdeal.main_arg0)
      ∧ r.2.mem ((c.tc : Thread Cert.OddCrossReferenceIdeal.nD Cert.OddCrossReferenceIdeal.τ).loc Cert.OddCrossReferenceIdeal.main_arg1) = m ((c.tc : Thread Cert.OddCrossReferenceIdeal.nD Cert.OddCrossReferenceIdeal.τ).loc Cert.OddCrossReferenceIdeal.main_arg1)
      ∧ r.2.mem ((c.tc : Thread Cert.OddCrossReferenceIdeal.nD Cert.OddCrossReferenceIdeal.τ).loc Cert.OddCrossReferenceIdeal.main_arg2) = m ((c.tc : Thread Cert.OddCrossReferenceIdeal.nD Cert.OddCrossReferenceIdeal.τ).loc Cert.OddCrossReferenceIdeal.main_arg2)
      ∧ r.2.mem ((c.tc : Thread Cert.OddCrossReferenceIdeal.nD Cert.OddCrossReferenceIdeal.τ).loc Cert.OddCrossReferenceIdeal.main_arg3) = m ((c.tc : Thread Cert.OddCrossReferenceIdeal.nD Cert.OddCrossReferenceIdeal.τ).loc Cert.OddCrossReferenceIdeal.main_arg3)
      ∧ r.2.mem ((c.tc : Thread Cert.OddCrossReferenceIdeal.nD Cert.OddCrossReferenceIdeal.τ).loc Cert.OddCrossReferenceIdeal.main_arg4) = m ((c.tc : Thread Cert.OddCrossReferenceIdeal.nD Cert.OddCrossReferenceIdeal.τ).loc Cert.OddCrossReferenceIdeal.main_arg4)
      ∧ r.2.mem ((c.tc : Thread Cert.OddCrossReferenceIdeal.nD Cert.OddCrossReferenceIdeal.τ).loc Cert.OddCrossReferenceIdeal.main_arg5) = m ((c.tc : Thread Cert.OddCrossReferenceIdeal.nD Cert.OddCrossReferenceIdeal.τ).loc Cert.OddCrossReferenceIdeal.main_arg5)
      ∧ r.2.mem ((c.tc : Thread Cert.OddCrossReferenceIdeal.nD Cert.OddCrossReferenceIdeal.τ).loc Cert.OddCrossReferenceIdeal.main_arg6) = m ((c.tc : Thread Cert.OddCrossReferenceIdeal.nD Cert.OddCrossReferenceIdeal.τ).loc Cert.OddCrossReferenceIdeal.main_arg6)
      ∧ r.2.mem ((c.tc : Thread Cert.OddCrossReferenceIdeal.nD Cert.OddCrossReferenceIdeal.τ).loc Cert.OddCrossReferenceIdeal.main_arg7) = m ((c.tc : Thread Cert.OddCrossReferenceIdeal.nD Cert.OddCrossReferenceIdeal.τ).loc Cert.OddCrossReferenceIdeal.main_arg7)
      ∧ r.2.mem ((c.tc : Thread Cert.OddCrossReferenceIdeal.nD Cert.OddCrossReferenceIdeal.τ).loc Cert.OddCrossReferenceIdeal.main_arg8) = m ((c.tc : Thread Cert.OddCrossReferenceIdeal.nD Cert.OddCrossReferenceIdeal.τ).loc Cert.OddCrossReferenceIdeal.main_arg8)
      ∧ r.2.mem ((c.tc : Thread Cert.OddCrossReferenceIdeal.nD Cert.OddCrossReferenceIdeal.τ).loc Cert.OddCrossReferenceIdeal.main_arg9) = m ((c.tc : Thread Cert.OddCrossReferenceIdeal.nD Cert.OddCrossReferenceIdeal.τ).loc Cert.OddCrossReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_fox_pre [hKernelIdeal : Cert.KernelIdeal.Facts] [hReferenceIdeal : Cert.ReferenceIdeal.Facts] [hPre_fox_pre : Cert.Pre_fox_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fox_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v0)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v0) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v38) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_MemkvKernel_MemkvKernelIdeal : Prop :=
  True

def algebraic_MemkvKernelIdeal_MemkvReferenceIdeal [hMemkvKernelIdeal : Cert.MemkvKernelIdeal.Facts] [hMemkvReferenceIdeal : Cert.MemkvReferenceIdeal.Facts] : Prop :=
  ∀ (m : (ℓ : Loc Cert.MemkvKernelIdeal.nD Cert.MemkvKernelIdeal.τ Cert.MemkvKernelIdeal.sig) → Buf (Elt Ideal) ℓ) (g : Dev Cert.MemkvKernelIdeal.nD → PrngReg)
    (m' : (ℓ : Loc Cert.MemkvReferenceIdeal.nD Cert.MemkvReferenceIdeal.τ Cert.MemkvReferenceIdeal.sig) → Buf (Elt Ideal) ℓ) (g' : Dev Cert.MemkvReferenceIdeal.nD → PrngReg), Pre_MemkvKernelIdeal m →
    (∀ c : Dev Cert.MemkvKernelIdeal.nD,
      m' ((c.tc : Thread Cert.MemkvReferenceIdeal.nD Cert.MemkvReferenceIdeal.τ).loc Cert.MemkvReferenceIdeal.main_arg0) = m ((c.tc : Thread Cert.MemkvKernelIdeal.nD Cert.MemkvKernelIdeal.τ).loc Cert.MemkvKernelIdeal.main_arg0)
      ∧ m' ((c.tc : Thread Cert.MemkvReferenceIdeal.nD Cert.MemkvReferenceIdeal.τ).loc Cert.MemkvReferenceIdeal.main_arg1) = m ((c.tc : Thread Cert.MemkvKernelIdeal.nD Cert.MemkvKernelIdeal.τ).loc Cert.MemkvKernelIdeal.main_arg1)
      ∧ m' ((c.tc : Thread Cert.MemkvReferenceIdeal.nD Cert.MemkvReferenceIdeal.τ).loc Cert.MemkvReferenceIdeal.main_arg2) = m ((c.tc : Thread Cert.MemkvKernelIdeal.nD Cert.MemkvKernelIdeal.τ).loc Cert.MemkvKernelIdeal.main_arg2)) →
    ∃ (v0 : (c : Dev Cert.MemkvKernelIdeal.nD) → Buf (Elt Ideal) ((c.tc : Thread Cert.MemkvKernelIdeal.nD Cert.MemkvKernelIdeal.τ).loc Cert.MemkvKernelIdeal.main_v0_0)) (v1 : (c : Dev Cert.MemkvKernelIdeal.nD) → Buf (Elt Ideal) ((c.tc : Thread Cert.MemkvKernelIdeal.nD Cert.MemkvKernelIdeal.τ).loc Cert.MemkvKernelIdeal.main_v0_1)),
      θ_run (Cert.MemkvKernelIdeal.defs (F := Ideal)) (onTc (τ := Cert.MemkvKernelIdeal.τ) (Cert.MemkvKernelIdeal.main (F := Ideal))) ⟨m, fun _ => 0, g⟩ (fun r => ∀ c : Dev Cert.MemkvKernelIdeal.nD,
          r.2.mem ((c.tc : Thread Cert.MemkvKernelIdeal.nD Cert.MemkvKernelIdeal.τ).loc Cert.MemkvKernelIdeal.main_v0_0) = v0 c
          ∧ r.2.mem ((c.tc : Thread Cert.MemkvKernelIdeal.nD Cert.MemkvKernelIdeal.τ).loc Cert.MemkvKernelIdeal.main_v0_1) = v1 c
          ∧ r.2.mem ((c.tc : Thread Cert.MemkvKernelIdeal.nD Cert.MemkvKernelIdeal.τ).loc Cert.MemkvKernelIdeal.main_arg0) = m ((c.tc : Thread Cert.MemkvKernelIdeal.nD Cert.MemkvKernelIdeal.τ).loc Cert.MemkvKernelIdeal.main_arg0)
          ∧ r.2.mem ((c.tc : Thread Cert.MemkvKernelIdeal.nD Cert.MemkvKernelIdeal.τ).loc Cert.MemkvKernelIdeal.main_arg1) = m ((c.tc : Thread Cert.MemkvKernelIdeal.nD Cert.MemkvKernelIdeal.τ).loc Cert.MemkvKernelIdeal.main_arg1)
          ∧ r.2.mem ((c.tc : Thread Cert.MemkvKernelIdeal.nD Cert.MemkvKernelIdeal.τ).loc Cert.MemkvKernelIdeal.main_arg2) = m ((c.tc : Thread Cert.MemkvKernelIdeal.nD Cert.MemkvKernelIdeal.τ).loc Cert.MemkvKernelIdeal.main_arg2))
      ∧ θ_run (Cert.MemkvReferenceIdeal.defs (F := Ideal)) (onTc (τ := Cert.MemkvReferenceIdeal.τ) (Cert.MemkvReferenceIdeal.main (F := Ideal))) ⟨m', fun _ => 0, g'⟩ (fun r => ∀ c : Dev Cert.MemkvReferenceIdeal.nD,
          r.2.mem ((c.tc : Thread Cert.MemkvReferenceIdeal.nD Cert.MemkvReferenceIdeal.τ).loc Cert.MemkvReferenceIdeal.main_v21) = v0 c
          ∧ r.2.mem ((c.tc : Thread Cert.MemkvReferenceIdeal.nD Cert.MemkvReferenceIdeal.τ).loc Cert.MemkvReferenceIdeal.main_v22) = v1 c
          ∧ r.2.mem ((c.tc : Thread Cert.MemkvReferenceIdeal.nD Cert.MemkvReferenceIdeal.τ).loc Cert.MemkvReferenceIdeal.main_arg0) = m' ((c.tc : Thread Cert.MemkvReferenceIdeal.nD Cert.MemkvReferenceIdeal.τ).loc Cert.MemkvReferenceIdeal.main_arg0)
          ∧ r.2.mem ((c.tc : Thread Cert.MemkvReferenceIdeal.nD Cert.MemkvReferenceIdeal.τ).loc Cert.MemkvReferenceIdeal.main_arg1) = m' ((c.tc : Thread Cert.MemkvReferenceIdeal.nD Cert.MemkvReferenceIdeal.τ).loc Cert.MemkvReferenceIdeal.main_arg1)
          ∧ r.2.mem ((c.tc : Thread Cert.MemkvReferenceIdeal.nD Cert.MemkvReferenceIdeal.τ).loc Cert.MemkvReferenceIdeal.main_arg2) = m' ((c.tc : Thread Cert.MemkvReferenceIdeal.nD Cert.MemkvReferenceIdeal.τ).loc Cert.MemkvReferenceIdeal.main_arg2))

def preserves_EvenCrossKernel_EvenCrossKernelIdeal : Prop :=
  True

def algebraic_EvenCrossKernelIdeal_EvenCrossReferenceIdeal_pre_even_pre [hEvenCrossKernelIdeal : Cert.EvenCrossKernelIdeal.Facts] [hEvenCrossReferenceIdeal : Cert.EvenCrossReferenceIdeal.Facts] [hPre_even_pre : Cert.Pre_even_pre.Facts] : Prop :=
  ∀ (m : (ℓ : Loc Cert.EvenCrossKernelIdeal.nD Cert.EvenCrossKernelIdeal.τ Cert.EvenCrossKernelIdeal.sig) → Buf (Elt Ideal) ℓ) (g : Dev Cert.EvenCrossKernelIdeal.nD → PrngReg)
    (m' : (ℓ : Loc Cert.EvenCrossReferenceIdeal.nD Cert.EvenCrossReferenceIdeal.τ Cert.EvenCrossReferenceIdeal.sig) → Buf (Elt Ideal) ℓ) (g' : Dev Cert.EvenCrossReferenceIdeal.nD → PrngReg), Pre_EvenCrossKernelIdeal_even_pre m →
    (∀ c : Dev Cert.EvenCrossKernelIdeal.nD,
      m' ((c.tc : Thread Cert.EvenCrossReferenceIdeal.nD Cert.EvenCrossReferenceIdeal.τ).loc Cert.EvenCrossReferenceIdeal.main_arg0) = m ((c.tc : Thread Cert.EvenCrossKernelIdeal.nD Cert.EvenCrossKernelIdeal.τ).loc Cert.EvenCrossKernelIdeal.main_arg0)
      ∧ m' ((c.tc : Thread Cert.EvenCrossReferenceIdeal.nD Cert.EvenCrossReferenceIdeal.τ).loc Cert.EvenCrossReferenceIdeal.main_arg1) = m ((c.tc : Thread Cert.EvenCrossKernelIdeal.nD Cert.EvenCrossKernelIdeal.τ).loc Cert.EvenCrossKernelIdeal.main_arg1)
      ∧ m' ((c.tc : Thread Cert.EvenCrossReferenceIdeal.nD Cert.EvenCrossReferenceIdeal.τ).loc Cert.EvenCrossReferenceIdeal.main_arg2) = m ((c.tc : Thread Cert.EvenCrossKernelIdeal.nD Cert.EvenCrossKernelIdeal.τ).loc Cert.EvenCrossKernelIdeal.main_arg2)
      ∧ m' ((c.tc : Thread Cert.EvenCrossReferenceIdeal.nD Cert.EvenCrossReferenceIdeal.τ).loc Cert.EvenCrossReferenceIdeal.main_arg3) = m ((c.tc : Thread Cert.EvenCrossKernelIdeal.nD Cert.EvenCrossKernelIdeal.τ).loc Cert.EvenCrossKernelIdeal.main_arg3)
      ∧ m' ((c.tc : Thread Cert.EvenCrossReferenceIdeal.nD Cert.EvenCrossReferenceIdeal.τ).loc Cert.EvenCrossReferenceIdeal.main_arg4) = m ((c.tc : Thread Cert.EvenCrossKernelIdeal.nD Cert.EvenCrossKernelIdeal.τ).loc Cert.EvenCrossKernelIdeal.main_arg4)
      ∧ m' ((c.tc : Thread Cert.EvenCrossReferenceIdeal.nD Cert.EvenCrossReferenceIdeal.τ).loc Cert.EvenCrossReferenceIdeal.main_arg5) = m ((c.tc : Thread Cert.EvenCrossKernelIdeal.nD Cert.EvenCrossKernelIdeal.τ).loc Cert.EvenCrossKernelIdeal.main_arg5)
      ∧ m' ((c.tc : Thread Cert.EvenCrossReferenceIdeal.nD Cert.EvenCrossReferenceIdeal.τ).loc Cert.EvenCrossReferenceIdeal.main_arg6) = m ((c.tc : Thread Cert.EvenCrossKernelIdeal.nD Cert.EvenCrossKernelIdeal.τ).loc Cert.EvenCrossKernelIdeal.main_arg6)
      ∧ m' ((c.tc : Thread Cert.EvenCrossReferenceIdeal.nD Cert.EvenCrossReferenceIdeal.τ).loc Cert.EvenCrossReferenceIdeal.main_arg7) = m ((c.tc : Thread Cert.EvenCrossKernelIdeal.nD Cert.EvenCrossKernelIdeal.τ).loc Cert.EvenCrossKernelIdeal.main_arg7)
      ∧ m' ((c.tc : Thread Cert.EvenCrossReferenceIdeal.nD Cert.EvenCrossReferenceIdeal.τ).loc Cert.EvenCrossReferenceIdeal.main_arg8) = m ((c.tc : Thread Cert.EvenCrossKernelIdeal.nD Cert.EvenCrossKernelIdeal.τ).loc Cert.EvenCrossKernelIdeal.main_arg8)
      ∧ m' ((c.tc : Thread Cert.EvenCrossReferenceIdeal.nD Cert.EvenCrossReferenceIdeal.τ).loc Cert.EvenCrossReferenceIdeal.main_arg9) = m ((c.tc : Thread Cert.EvenCrossKernelIdeal.nD Cert.EvenCrossKernelIdeal.τ).loc Cert.EvenCrossKernelIdeal.main_arg9)
      ∧ m' ((c.tc : Thread Cert.EvenCrossReferenceIdeal.nD Cert.EvenCrossReferenceIdeal.τ).loc Cert.EvenCrossReferenceIdeal.main_arg10) = m ((c.tc : Thread Cert.EvenCrossKernelIdeal.nD Cert.EvenCrossKernelIdeal.τ).loc Cert.EvenCrossKernelIdeal.main_arg10)) →
    ∃ (v0 : (c : Dev Cert.EvenCrossKernelIdeal.nD) → Buf (Elt Ideal) ((c.tc : Thread Cert.EvenCrossKernelIdeal.nD Cert.EvenCrossKernelIdeal.τ).loc Cert.EvenCrossKernelIdeal.main_v0_0)) (v1 : (c : Dev Cert.EvenCrossKernelIdeal.nD) → Buf (Elt Ideal) ((c.tc : Thread Cert.EvenCrossKernelIdeal.nD Cert.EvenCrossKernelIdeal.τ).loc Cert.EvenCrossKernelIdeal.main_v0_1)) (v2 : (c : Dev Cert.EvenCrossKernelIdeal.nD) → Buf (Elt Ideal) ((c.tc : Thread Cert.EvenCrossKernelIdeal.nD Cert.EvenCrossKernelIdeal.τ).loc Cert.EvenCrossKernelIdeal.main_v0_2)),
      θ_run (Cert.EvenCrossKernelIdeal.defs (F := Ideal)) (onTc (τ := Cert.EvenCrossKernelIdeal.τ) (Cert.EvenCrossKernelIdeal.main (F := Ideal))) ⟨m, fun _ => 0, g⟩ (fun r => ∀ c : Dev Cert.EvenCrossKernelIdeal.nD,
          r.2.mem ((c.tc : Thread Cert.EvenCrossKernelIdeal.nD Cert.EvenCrossKernelIdeal.τ).loc Cert.EvenCrossKernelIdeal.main_v0_0) = v0 c
          ∧ r.2.mem ((c.tc : Thread Cert.EvenCrossKernelIdeal.nD Cert.EvenCrossKernelIdeal.τ).loc Cert.EvenCrossKernelIdeal.main_v0_1) = v1 c
          ∧ r.2.mem ((c.tc : Thread Cert.EvenCrossKernelIdeal.nD Cert.EvenCrossKernelIdeal.τ).loc Cert.EvenCrossKernelIdeal.main_v0_2) = v2 c
          ∧ r.2.mem ((c.tc : Thread Cert.EvenCrossKernelIdeal.nD Cert.EvenCrossKernelIdeal.τ).loc Cert.EvenCrossKernelIdeal.main_arg0) = m ((c.tc : Thread Cert.EvenCrossKernelIdeal.nD Cert.EvenCrossKernelIdeal.τ).loc Cert.EvenCrossKernelIdeal.main_arg0)
          ∧ r.2.mem ((c.tc : Thread Cert.EvenCrossKernelIdeal.nD Cert.EvenCrossKernelIdeal.τ).loc Cert.EvenCrossKernelIdeal.main_arg1) = m ((c.tc : Thread Cert.EvenCrossKernelIdeal.nD Cert.EvenCrossKernelIdeal.τ).loc Cert.EvenCrossKernelIdeal.main_arg1)
          ∧ r.2.mem ((c.tc : Thread Cert.EvenCrossKernelIdeal.nD Cert.EvenCrossKernelIdeal.τ).loc Cert.EvenCrossKernelIdeal.main_arg2) = m ((c.tc : Thread Cert.EvenCrossKernelIdeal.nD Cert.EvenCrossKernelIdeal.τ).loc Cert.EvenCrossKernelIdeal.main_arg2)
          ∧ r.2.mem ((c.tc : Thread Cert.EvenCrossKernelIdeal.nD Cert.EvenCrossKernelIdeal.τ).loc Cert.EvenCrossKernelIdeal.main_arg3) = m ((c.tc : Thread Cert.EvenCrossKernelIdeal.nD Cert.EvenCrossKernelIdeal.τ).loc Cert.EvenCrossKernelIdeal.main_arg3)
          ∧ r.2.mem ((c.tc : Thread Cert.EvenCrossKernelIdeal.nD Cert.EvenCrossKernelIdeal.τ).loc Cert.EvenCrossKernelIdeal.main_arg4) = m ((c.tc : Thread Cert.EvenCrossKernelIdeal.nD Cert.EvenCrossKernelIdeal.τ).loc Cert.EvenCrossKernelIdeal.main_arg4)
          ∧ r.2.mem ((c.tc : Thread Cert.EvenCrossKernelIdeal.nD Cert.EvenCrossKernelIdeal.τ).loc Cert.EvenCrossKernelIdeal.main_arg5) = m ((c.tc : Thread Cert.EvenCrossKernelIdeal.nD Cert.EvenCrossKernelIdeal.τ).loc Cert.EvenCrossKernelIdeal.main_arg5)
          ∧ r.2.mem ((c.tc : Thread Cert.EvenCrossKernelIdeal.nD Cert.EvenCrossKernelIdeal.τ).loc Cert.EvenCrossKernelIdeal.main_arg6) = m ((c.tc : Thread Cert.EvenCrossKernelIdeal.nD Cert.EvenCrossKernelIdeal.τ).loc Cert.EvenCrossKernelIdeal.main_arg6)
          ∧ r.2.mem ((c.tc : Thread Cert.EvenCrossKernelIdeal.nD Cert.EvenCrossKernelIdeal.τ).loc Cert.EvenCrossKernelIdeal.main_arg7) = m ((c.tc : Thread Cert.EvenCrossKernelIdeal.nD Cert.EvenCrossKernelIdeal.τ).loc Cert.EvenCrossKernelIdeal.main_arg7)
          ∧ r.2.mem ((c.tc : Thread Cert.EvenCrossKernelIdeal.nD Cert.EvenCrossKernelIdeal.τ).loc Cert.EvenCrossKernelIdeal.main_arg8) = m ((c.tc : Thread Cert.EvenCrossKernelIdeal.nD Cert.EvenCrossKernelIdeal.τ).loc Cert.EvenCrossKernelIdeal.main_arg8)
          ∧ r.2.mem ((c.tc : Thread Cert.EvenCrossKernelIdeal.nD Cert.EvenCrossKernelIdeal.τ).loc Cert.EvenCrossKernelIdeal.main_arg9) = m ((c.tc : Thread Cert.EvenCrossKernelIdeal.nD Cert.EvenCrossKernelIdeal.τ).loc Cert.EvenCrossKernelIdeal.main_arg9)
          ∧ r.2.mem ((c.tc : Thread Cert.EvenCrossKernelIdeal.nD Cert.EvenCrossKernelIdeal.τ).loc Cert.EvenCrossKernelIdeal.main_arg10) = m ((c.tc : Thread Cert.EvenCrossKernelIdeal.nD Cert.EvenCrossKernelIdeal.τ).loc Cert.EvenCrossKernelIdeal.main_arg10))
      ∧ θ_run (Cert.EvenCrossReferenceIdeal.defs (F := Ideal)) (onTc (τ := Cert.EvenCrossReferenceIdeal.τ) (Cert.EvenCrossReferenceIdeal.main (F := Ideal))) ⟨m', fun _ => 0, g'⟩ (fun r => ∀ c : Dev Cert.EvenCrossReferenceIdeal.nD,
          r.2.mem ((c.tc : Thread Cert.EvenCrossReferenceIdeal.nD Cert.EvenCrossReferenceIdeal.τ).loc Cert.EvenCrossReferenceIdeal.main_v88) = v0 c
          ∧ r.2.mem ((c.tc : Thread Cert.EvenCrossReferenceIdeal.nD Cert.EvenCrossReferenceIdeal.τ).loc Cert.EvenCrossReferenceIdeal.main_v91) = v1 c
          ∧ r.2.mem ((c.tc : Thread Cert.EvenCrossReferenceIdeal.nD Cert.EvenCrossReferenceIdeal.τ).loc Cert.EvenCrossReferenceIdeal.main_v94) = v2 c
          ∧ r.2.mem ((c.tc : Thread Cert.EvenCrossReferenceIdeal.nD Cert.EvenCrossReferenceIdeal.τ).loc Cert.EvenCrossReferenceIdeal.main_arg0) = m' ((c.tc : Thread Cert.EvenCrossReferenceIdeal.nD Cert.EvenCrossReferenceIdeal.τ).loc Cert.EvenCrossReferenceIdeal.main_arg0)
          ∧ r.2.mem ((c.tc : Thread Cert.EvenCrossReferenceIdeal.nD Cert.EvenCrossReferenceIdeal.τ).loc Cert.EvenCrossReferenceIdeal.main_arg1) = m' ((c.tc : Thread Cert.EvenCrossReferenceIdeal.nD Cert.EvenCrossReferenceIdeal.τ).loc Cert.EvenCrossReferenceIdeal.main_arg1)
          ∧ r.2.mem ((c.tc : Thread Cert.EvenCrossReferenceIdeal.nD Cert.EvenCrossReferenceIdeal.τ).loc Cert.EvenCrossReferenceIdeal.main_arg2) = m' ((c.tc : Thread Cert.EvenCrossReferenceIdeal.nD Cert.EvenCrossReferenceIdeal.τ).loc Cert.EvenCrossReferenceIdeal.main_arg2)
          ∧ r.2.mem ((c.tc : Thread Cert.EvenCrossReferenceIdeal.nD Cert.EvenCrossReferenceIdeal.τ).loc Cert.EvenCrossReferenceIdeal.main_arg3) = m' ((c.tc : Thread Cert.EvenCrossReferenceIdeal.nD Cert.EvenCrossReferenceIdeal.τ).loc Cert.EvenCrossReferenceIdeal.main_arg3)
          ∧ r.2.mem ((c.tc : Thread Cert.EvenCrossReferenceIdeal.nD Cert.EvenCrossReferenceIdeal.τ).loc Cert.EvenCrossReferenceIdeal.main_arg4) = m' ((c.tc : Thread Cert.EvenCrossReferenceIdeal.nD Cert.EvenCrossReferenceIdeal.τ).loc Cert.EvenCrossReferenceIdeal.main_arg4)
          ∧ r.2.mem ((c.tc : Thread Cert.EvenCrossReferenceIdeal.nD Cert.EvenCrossReferenceIdeal.τ).loc Cert.EvenCrossReferenceIdeal.main_arg5) = m' ((c.tc : Thread Cert.EvenCrossReferenceIdeal.nD Cert.EvenCrossReferenceIdeal.τ).loc Cert.EvenCrossReferenceIdeal.main_arg5)
          ∧ r.2.mem ((c.tc : Thread Cert.EvenCrossReferenceIdeal.nD Cert.EvenCrossReferenceIdeal.τ).loc Cert.EvenCrossReferenceIdeal.main_arg6) = m' ((c.tc : Thread Cert.EvenCrossReferenceIdeal.nD Cert.EvenCrossReferenceIdeal.τ).loc Cert.EvenCrossReferenceIdeal.main_arg6)
          ∧ r.2.mem ((c.tc : Thread Cert.EvenCrossReferenceIdeal.nD Cert.EvenCrossReferenceIdeal.τ).loc Cert.EvenCrossReferenceIdeal.main_arg7) = m' ((c.tc : Thread Cert.EvenCrossReferenceIdeal.nD Cert.EvenCrossReferenceIdeal.τ).loc Cert.EvenCrossReferenceIdeal.main_arg7)
          ∧ r.2.mem ((c.tc : Thread Cert.EvenCrossReferenceIdeal.nD Cert.EvenCrossReferenceIdeal.τ).loc Cert.EvenCrossReferenceIdeal.main_arg8) = m' ((c.tc : Thread Cert.EvenCrossReferenceIdeal.nD Cert.EvenCrossReferenceIdeal.τ).loc Cert.EvenCrossReferenceIdeal.main_arg8)
          ∧ r.2.mem ((c.tc : Thread Cert.EvenCrossReferenceIdeal.nD Cert.EvenCrossReferenceIdeal.τ).loc Cert.EvenCrossReferenceIdeal.main_arg9) = m' ((c.tc : Thread Cert.EvenCrossReferenceIdeal.nD Cert.EvenCrossReferenceIdeal.τ).loc Cert.EvenCrossReferenceIdeal.main_arg9)
          ∧ r.2.mem ((c.tc : Thread Cert.EvenCrossReferenceIdeal.nD Cert.EvenCrossReferenceIdeal.τ).loc Cert.EvenCrossReferenceIdeal.main_arg10) = m' ((c.tc : Thread Cert.EvenCrossReferenceIdeal.nD Cert.EvenCrossReferenceIdeal.τ).loc Cert.EvenCrossReferenceIdeal.main_arg10))

def preserves_OddCrossKernel_OddCrossKernelIdeal : Prop :=
  True

def algebraic_OddCrossKernelIdeal_OddCrossReferenceIdeal_pre_odd_pre [hOddCrossKernelIdeal : Cert.OddCrossKernelIdeal.Facts] [hOddCrossReferenceIdeal : Cert.OddCrossReferenceIdeal.Facts] [hPre_odd_pre : Cert.Pre_odd_pre.Facts] : Prop :=
  ∀ (m : (ℓ : Loc Cert.OddCrossKernelIdeal.nD Cert.OddCrossKernelIdeal.τ Cert.OddCrossKernelIdeal.sig) → Buf (Elt Ideal) ℓ) (g : Dev Cert.OddCrossKernelIdeal.nD → PrngReg)
    (m' : (ℓ : Loc Cert.OddCrossReferenceIdeal.nD Cert.OddCrossReferenceIdeal.τ Cert.OddCrossReferenceIdeal.sig) → Buf (Elt Ideal) ℓ) (g' : Dev Cert.OddCrossReferenceIdeal.nD → PrngReg), Pre_OddCrossKernelIdeal_odd_pre m →
    (∀ c : Dev Cert.OddCrossKernelIdeal.nD,
      m' ((c.tc : Thread Cert.OddCrossReferenceIdeal.nD Cert.OddCrossReferenceIdeal.τ).loc Cert.OddCrossReferenceIdeal.main_arg0) = m ((c.tc : Thread Cert.OddCrossKernelIdeal.nD Cert.OddCrossKernelIdeal.τ).loc Cert.OddCrossKernelIdeal.main_arg0)
      ∧ m' ((c.tc : Thread Cert.OddCrossReferenceIdeal.nD Cert.OddCrossReferenceIdeal.τ).loc Cert.OddCrossReferenceIdeal.main_arg1) = m ((c.tc : Thread Cert.OddCrossKernelIdeal.nD Cert.OddCrossKernelIdeal.τ).loc Cert.OddCrossKernelIdeal.main_arg1)
      ∧ m' ((c.tc : Thread Cert.OddCrossReferenceIdeal.nD Cert.OddCrossReferenceIdeal.τ).loc Cert.OddCrossReferenceIdeal.main_arg2) = m ((c.tc : Thread Cert.OddCrossKernelIdeal.nD Cert.OddCrossKernelIdeal.τ).loc Cert.OddCrossKernelIdeal.main_arg2)
      ∧ m' ((c.tc : Thread Cert.OddCrossReferenceIdeal.nD Cert.OddCrossReferenceIdeal.τ).loc Cert.OddCrossReferenceIdeal.main_arg3) = m ((c.tc : Thread Cert.OddCrossKernelIdeal.nD Cert.OddCrossKernelIdeal.τ).loc Cert.OddCrossKernelIdeal.main_arg3)
      ∧ m' ((c.tc : Thread Cert.OddCrossReferenceIdeal.nD Cert.OddCrossReferenceIdeal.τ).loc Cert.OddCrossReferenceIdeal.main_arg4) = m ((c.tc : Thread Cert.OddCrossKernelIdeal.nD Cert.OddCrossKernelIdeal.τ).loc Cert.OddCrossKernelIdeal.main_arg4)
      ∧ m' ((c.tc : Thread Cert.OddCrossReferenceIdeal.nD Cert.OddCrossReferenceIdeal.τ).loc Cert.OddCrossReferenceIdeal.main_arg5) = m ((c.tc : Thread Cert.OddCrossKernelIdeal.nD Cert.OddCrossKernelIdeal.τ).loc Cert.OddCrossKernelIdeal.main_arg5)
      ∧ m' ((c.tc : Thread Cert.OddCrossReferenceIdeal.nD Cert.OddCrossReferenceIdeal.τ).loc Cert.OddCrossReferenceIdeal.main_arg6) = m ((c.tc : Thread Cert.OddCrossKernelIdeal.nD Cert.OddCrossKernelIdeal.τ).loc Cert.OddCrossKernelIdeal.main_arg6)
      ∧ m' ((c.tc : Thread Cert.OddCrossReferenceIdeal.nD Cert.OddCrossReferenceIdeal.τ).loc Cert.OddCrossReferenceIdeal.main_arg7) = m ((c.tc : Thread Cert.OddCrossKernelIdeal.nD Cert.OddCrossKernelIdeal.τ).loc Cert.OddCrossKernelIdeal.main_arg7)
      ∧ m' ((c.tc : Thread Cert.OddCrossReferenceIdeal.nD Cert.OddCrossReferenceIdeal.τ).loc Cert.OddCrossReferenceIdeal.main_arg8) = m ((c.tc : Thread Cert.OddCrossKernelIdeal.nD Cert.OddCrossKernelIdeal.τ).loc Cert.OddCrossKernelIdeal.main_arg8)
      ∧ m' ((c.tc : Thread Cert.OddCrossReferenceIdeal.nD Cert.OddCrossReferenceIdeal.τ).loc Cert.OddCrossReferenceIdeal.main_arg9) = m ((c.tc : Thread Cert.OddCrossKernelIdeal.nD Cert.OddCrossKernelIdeal.τ).loc Cert.OddCrossKernelIdeal.main_arg9)) →
    ∃ (v0 : (c : Dev Cert.OddCrossKernelIdeal.nD) → Buf (Elt Ideal) ((c.tc : Thread Cert.OddCrossKernelIdeal.nD Cert.OddCrossKernelIdeal.τ).loc Cert.OddCrossKernelIdeal.main_v0_0)) (v1 : (c : Dev Cert.OddCrossKernelIdeal.nD) → Buf (Elt Ideal) ((c.tc : Thread Cert.OddCrossKernelIdeal.nD Cert.OddCrossKernelIdeal.τ).loc Cert.OddCrossKernelIdeal.main_v0_1)) (v2 : (c : Dev Cert.OddCrossKernelIdeal.nD) → Buf (Elt Ideal) ((c.tc : Thread Cert.OddCrossKernelIdeal.nD Cert.OddCrossKernelIdeal.τ).loc Cert.OddCrossKernelIdeal.main_v0_2)),
      θ_run (Cert.OddCrossKernelIdeal.defs (F := Ideal)) (onTc (τ := Cert.OddCrossKernelIdeal.τ) (Cert.OddCrossKernelIdeal.main (F := Ideal))) ⟨m, fun _ => 0, g⟩ (fun r => ∀ c : Dev Cert.OddCrossKernelIdeal.nD,
          r.2.mem ((c.tc : Thread Cert.OddCrossKernelIdeal.nD Cert.OddCrossKernelIdeal.τ).loc Cert.OddCrossKernelIdeal.main_v0_0) = v0 c
          ∧ r.2.mem ((c.tc : Thread Cert.OddCrossKernelIdeal.nD Cert.OddCrossKernelIdeal.τ).loc Cert.OddCrossKernelIdeal.main_v0_1) = v1 c
          ∧ r.2.mem ((c.tc : Thread Cert.OddCrossKernelIdeal.nD Cert.OddCrossKernelIdeal.τ).loc Cert.OddCrossKernelIdeal.main_v0_2) = v2 c
          ∧ r.2.mem ((c.tc : Thread Cert.OddCrossKernelIdeal.nD Cert.OddCrossKernelIdeal.τ).loc Cert.OddCrossKernelIdeal.main_arg0) = m ((c.tc : Thread Cert.OddCrossKernelIdeal.nD Cert.OddCrossKernelIdeal.τ).loc Cert.OddCrossKernelIdeal.main_arg0)
          ∧ r.2.mem ((c.tc : Thread Cert.OddCrossKernelIdeal.nD Cert.OddCrossKernelIdeal.τ).loc Cert.OddCrossKernelIdeal.main_arg1) = m ((c.tc : Thread Cert.OddCrossKernelIdeal.nD Cert.OddCrossKernelIdeal.τ).loc Cert.OddCrossKernelIdeal.main_arg1)
          ∧ r.2.mem ((c.tc : Thread Cert.OddCrossKernelIdeal.nD Cert.OddCrossKernelIdeal.τ).loc Cert.OddCrossKernelIdeal.main_arg2) = m ((c.tc : Thread Cert.OddCrossKernelIdeal.nD Cert.OddCrossKernelIdeal.τ).loc Cert.OddCrossKernelIdeal.main_arg2)
          ∧ r.2.mem ((c.tc : Thread Cert.OddCrossKernelIdeal.nD Cert.OddCrossKernelIdeal.τ).loc Cert.OddCrossKernelIdeal.main_arg3) = m ((c.tc : Thread Cert.OddCrossKernelIdeal.nD Cert.OddCrossKernelIdeal.τ).loc Cert.OddCrossKernelIdeal.main_arg3)
          ∧ r.2.mem ((c.tc : Thread Cert.OddCrossKernelIdeal.nD Cert.OddCrossKernelIdeal.τ).loc Cert.OddCrossKernelIdeal.main_arg4) = m ((c.tc : Thread Cert.OddCrossKernelIdeal.nD Cert.OddCrossKernelIdeal.τ).loc Cert.OddCrossKernelIdeal.main_arg4)
          ∧ r.2.mem ((c.tc : Thread Cert.OddCrossKernelIdeal.nD Cert.OddCrossKernelIdeal.τ).loc Cert.OddCrossKernelIdeal.main_arg5) = m ((c.tc : Thread Cert.OddCrossKernelIdeal.nD Cert.OddCrossKernelIdeal.τ).loc Cert.OddCrossKernelIdeal.main_arg5)
          ∧ r.2.mem ((c.tc : Thread Cert.OddCrossKernelIdeal.nD Cert.OddCrossKernelIdeal.τ).loc Cert.OddCrossKernelIdeal.main_arg6) = m ((c.tc : Thread Cert.OddCrossKernelIdeal.nD Cert.OddCrossKernelIdeal.τ).loc Cert.OddCrossKernelIdeal.main_arg6)
          ∧ r.2.mem ((c.tc : Thread Cert.OddCrossKernelIdeal.nD Cert.OddCrossKernelIdeal.τ).loc Cert.OddCrossKernelIdeal.main_arg7) = m ((c.tc : Thread Cert.OddCrossKernelIdeal.nD Cert.OddCrossKernelIdeal.τ).loc Cert.OddCrossKernelIdeal.main_arg7)
          ∧ r.2.mem ((c.tc : Thread Cert.OddCrossKernelIdeal.nD Cert.OddCrossKernelIdeal.τ).loc Cert.OddCrossKernelIdeal.main_arg8) = m ((c.tc : Thread Cert.OddCrossKernelIdeal.nD Cert.OddCrossKernelIdeal.τ).loc Cert.OddCrossKernelIdeal.main_arg8)
          ∧ r.2.mem ((c.tc : Thread Cert.OddCrossKernelIdeal.nD Cert.OddCrossKernelIdeal.τ).loc Cert.OddCrossKernelIdeal.main_arg9) = m ((c.tc : Thread Cert.OddCrossKernelIdeal.nD Cert.OddCrossKernelIdeal.τ).loc Cert.OddCrossKernelIdeal.main_arg9))
      ∧ θ_run (Cert.OddCrossReferenceIdeal.defs (F := Ideal)) (onTc (τ := Cert.OddCrossReferenceIdeal.τ) (Cert.OddCrossReferenceIdeal.main (F := Ideal))) ⟨m', fun _ => 0, g'⟩ (fun r => ∀ c : Dev Cert.OddCrossReferenceIdeal.nD,
          r.2.mem ((c.tc : Thread Cert.OddCrossReferenceIdeal.nD Cert.OddCrossReferenceIdeal.τ).loc Cert.OddCrossReferenceIdeal.main_v87) = v0 c
          ∧ r.2.mem ((c.tc : Thread Cert.OddCrossReferenceIdeal.nD Cert.OddCrossReferenceIdeal.τ).loc Cert.OddCrossReferenceIdeal.main_v90) = v1 c
          ∧ r.2.mem ((c.tc : Thread Cert.OddCrossReferenceIdeal.nD Cert.OddCrossReferenceIdeal.τ).loc Cert.OddCrossReferenceIdeal.main_v93) = v2 c
          ∧ r.2.mem ((c.tc : Thread Cert.OddCrossReferenceIdeal.nD Cert.OddCrossReferenceIdeal.τ).loc Cert.OddCrossReferenceIdeal.main_arg0) = m' ((c.tc : Thread Cert.OddCrossReferenceIdeal.nD Cert.OddCrossReferenceIdeal.τ).loc Cert.OddCrossReferenceIdeal.main_arg0)
          ∧ r.2.mem ((c.tc : Thread Cert.OddCrossReferenceIdeal.nD Cert.OddCrossReferenceIdeal.τ).loc Cert.OddCrossReferenceIdeal.main_arg1) = m' ((c.tc : Thread Cert.OddCrossReferenceIdeal.nD Cert.OddCrossReferenceIdeal.τ).loc Cert.OddCrossReferenceIdeal.main_arg1)
          ∧ r.2.mem ((c.tc : Thread Cert.OddCrossReferenceIdeal.nD Cert.OddCrossReferenceIdeal.τ).loc Cert.OddCrossReferenceIdeal.main_arg2) = m' ((c.tc : Thread Cert.OddCrossReferenceIdeal.nD Cert.OddCrossReferenceIdeal.τ).loc Cert.OddCrossReferenceIdeal.main_arg2)
          ∧ r.2.mem ((c.tc : Thread Cert.OddCrossReferenceIdeal.nD Cert.OddCrossReferenceIdeal.τ).loc Cert.OddCrossReferenceIdeal.main_arg3) = m' ((c.tc : Thread Cert.OddCrossReferenceIdeal.nD Cert.OddCrossReferenceIdeal.τ).loc Cert.OddCrossReferenceIdeal.main_arg3)
          ∧ r.2.mem ((c.tc : Thread Cert.OddCrossReferenceIdeal.nD Cert.OddCrossReferenceIdeal.τ).loc Cert.OddCrossReferenceIdeal.main_arg4) = m' ((c.tc : Thread Cert.OddCrossReferenceIdeal.nD Cert.OddCrossReferenceIdeal.τ).loc Cert.OddCrossReferenceIdeal.main_arg4)
          ∧ r.2.mem ((c.tc : Thread Cert.OddCrossReferenceIdeal.nD Cert.OddCrossReferenceIdeal.τ).loc Cert.OddCrossReferenceIdeal.main_arg5) = m' ((c.tc : Thread Cert.OddCrossReferenceIdeal.nD Cert.OddCrossReferenceIdeal.τ).loc Cert.OddCrossReferenceIdeal.main_arg5)
          ∧ r.2.mem ((c.tc : Thread Cert.OddCrossReferenceIdeal.nD Cert.OddCrossReferenceIdeal.τ).loc Cert.OddCrossReferenceIdeal.main_arg6) = m' ((c.tc : Thread Cert.OddCrossReferenceIdeal.nD Cert.OddCrossReferenceIdeal.τ).loc Cert.OddCrossReferenceIdeal.main_arg6)
          ∧ r.2.mem ((c.tc : Thread Cert.OddCrossReferenceIdeal.nD Cert.OddCrossReferenceIdeal.τ).loc Cert.OddCrossReferenceIdeal.main_arg7) = m' ((c.tc : Thread Cert.OddCrossReferenceIdeal.nD Cert.OddCrossReferenceIdeal.τ).loc Cert.OddCrossReferenceIdeal.main_arg7)
          ∧ r.2.mem ((c.tc : Thread Cert.OddCrossReferenceIdeal.nD Cert.OddCrossReferenceIdeal.τ).loc Cert.OddCrossReferenceIdeal.main_arg8) = m' ((c.tc : Thread Cert.OddCrossReferenceIdeal.nD Cert.OddCrossReferenceIdeal.τ).loc Cert.OddCrossReferenceIdeal.main_arg8)
          ∧ r.2.mem ((c.tc : Thread Cert.OddCrossReferenceIdeal.nD Cert.OddCrossReferenceIdeal.τ).loc Cert.OddCrossReferenceIdeal.main_arg9) = m' ((c.tc : Thread Cert.OddCrossReferenceIdeal.nD Cert.OddCrossReferenceIdeal.τ).loc Cert.OddCrossReferenceIdeal.main_arg9))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hMemkvKernel : Cert.MemkvKernel.Facts) (hMemkvKernelIdeal : Cert.MemkvKernelIdeal.Facts) (hMemkvReferenceIdeal : Cert.MemkvReferenceIdeal.Facts) (hEvenCrossKernel : Cert.EvenCrossKernel.Facts) (hEvenCrossKernelIdeal : Cert.EvenCrossKernelIdeal.Facts) (hEvenCrossReferenceIdeal : Cert.EvenCrossReferenceIdeal.Facts) (hOddCrossKernel : Cert.OddCrossKernel.Facts) (hOddCrossKernelIdeal : Cert.OddCrossKernelIdeal.Facts) (hOddCrossReferenceIdeal : Cert.OddCrossReferenceIdeal.Facts) (hPre_fox_pre : Cert.Pre_fox_pre.Facts) (hPre_even_pre : Cert.Pre_even_pre.Facts) (hPre_odd_pre : Cert.Pre_odd_pre.Facts),
    quiescent_Kernel (hKernel := hKernel)
    ∧ quiescent_KernelIdeal (hKernelIdeal := hKernelIdeal)
    ∧ quiescent_KernelIdeal_pre_fox_pre (hKernelIdeal := hKernelIdeal) (hPre_fox_pre := hPre_fox_pre)
    ∧ quiescent_ReferenceIdeal (hReferenceIdeal := hReferenceIdeal)
    ∧ quiescent_ReferenceIdeal_pre_fox_pre (hReferenceIdeal := hReferenceIdeal) (hPre_fox_pre := hPre_fox_pre)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MemkvKernel (hMemkvKernel := hMemkvKernel)
    ∧ quiescent_MemkvKernelIdeal (hMemkvKernelIdeal := hMemkvKernelIdeal)
    ∧ quiescent_MemkvReferenceIdeal (hMemkvReferenceIdeal := hMemkvReferenceIdeal)
    ∧ quiescent_EvenCrossKernel (hEvenCrossKernel := hEvenCrossKernel)
    ∧ quiescent_EvenCrossKernelIdeal (hEvenCrossKernelIdeal := hEvenCrossKernelIdeal)
    ∧ quiescent_EvenCrossKernelIdeal_pre_even_pre (hEvenCrossKernelIdeal := hEvenCrossKernelIdeal) (hPre_even_pre := hPre_even_pre)
    ∧ quiescent_EvenCrossReferenceIdeal (hEvenCrossReferenceIdeal := hEvenCrossReferenceIdeal)
    ∧ quiescent_EvenCrossReferenceIdeal_pre_even_pre (hEvenCrossReferenceIdeal := hEvenCrossReferenceIdeal) (hPre_even_pre := hPre_even_pre)
    ∧ quiescent_OddCrossKernel (hOddCrossKernel := hOddCrossKernel)
    ∧ quiescent_OddCrossKernelIdeal (hOddCrossKernelIdeal := hOddCrossKernelIdeal)
    ∧ quiescent_OddCrossKernelIdeal_pre_odd_pre (hOddCrossKernelIdeal := hOddCrossKernelIdeal) (hPre_odd_pre := hPre_odd_pre)
    ∧ quiescent_OddCrossReferenceIdeal (hOddCrossReferenceIdeal := hOddCrossReferenceIdeal)
    ∧ quiescent_OddCrossReferenceIdeal_pre_odd_pre (hOddCrossReferenceIdeal := hOddCrossReferenceIdeal) (hPre_odd_pre := hPre_odd_pre)
    ∧ preserves_Kernel_KernelIdeal
    ∧ algebraic_KernelIdeal_ReferenceIdeal_pre_fox_pre (hKernelIdeal := hKernelIdeal) (hReferenceIdeal := hReferenceIdeal) (hPre_fox_pre := hPre_fox_pre)
    ∧ preserves_FfnKernel_FfnKernelIdeal
    ∧ algebraic_FfnKernelIdeal_FfnReferenceIdeal (hFfnKernelIdeal := hFfnKernelIdeal) (hFfnReferenceIdeal := hFfnReferenceIdeal)
    ∧ preserves_MemkvKernel_MemkvKernelIdeal
    ∧ algebraic_MemkvKernelIdeal_MemkvReferenceIdeal (hMemkvKernelIdeal := hMemkvKernelIdeal) (hMemkvReferenceIdeal := hMemkvReferenceIdeal)
    ∧ preserves_EvenCrossKernel_EvenCrossKernelIdeal
    ∧ algebraic_EvenCrossKernelIdeal_EvenCrossReferenceIdeal_pre_even_pre (hEvenCrossKernelIdeal := hEvenCrossKernelIdeal) (hEvenCrossReferenceIdeal := hEvenCrossReferenceIdeal) (hPre_even_pre := hPre_even_pre)
    ∧ preserves_OddCrossKernel_OddCrossKernelIdeal
    ∧ algebraic_OddCrossKernelIdeal_OddCrossReferenceIdeal_pre_odd_pre (hOddCrossKernelIdeal := hOddCrossKernelIdeal) (hOddCrossReferenceIdeal := hOddCrossReferenceIdeal) (hPre_odd_pre := hPre_odd_pre)
-- ==== Pre_even_pre.lean ====
abbrev S16384x512 : Shape := ⟨2, ![16384, 512]⟩
abbrev S2x1024x1024 : Shape := ⟨3, ![2, 1024, 1024]⟩
abbrev S16384x1024 : Shape := ⟨2, ![16384, 1024]⟩
abbrev S36x1x1024 : Shape := ⟨3, ![36, 1, 1024]⟩
abbrev S4x1024x1024 : Shape := ⟨3, ![4, 1024, 1024]⟩
abbrev S4x8x1024x256 : Shape := ⟨4, ![4, 8, 1024, 256]⟩
abbrev S4x8x256x1024 : Shape := ⟨4, ![4, 8, 256, 1024]⟩
abbrev S4x1024x5632 : Shape := ⟨3, ![4, 1024, 5632]⟩
abbrev S4x2816x1024 : Shape := ⟨3, ![4, 2816, 1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S16384x1024 : S_.BroadcastsInDim S16384x1024 (![] : Fin 0 → Fin S16384x1024.rank)
  reducesTo_S16384x1024_S_d0_1 : S16384x1024.ReducesTo [0, 1] S_
  bcast_S_S36x1x1024 : S_.BroadcastsInDim S36x1x1024 (![] : Fin 0 → Fin S36x1x1024.rank)
  reducesTo_S36x1x1024_S_d0_1_2 : S36x1x1024.ReducesTo [0, 1, 2] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x8x1024x256 : S_.BroadcastsInDim S4x8x1024x256 (![] : Fin 0 → Fin S4x8x1024x256.rank)
  reducesTo_S4x8x1024x256_S_d0_1_2_3 : S4x8x1024x256.ReducesTo [0, 1, 2, 3] S_

variable [Facts]

def fn_part2 {F : FTy → Type} [FloatOps F] (main_v32 : IVec S_ 1) (main_v34 : FVec F S4x8x1024x256 .f32) (main_cst_10 : FVec F S_ .f32) : IVec S_ 1 :=
  let main_v35 : FVec F S4x8x1024x256 .f32 := broadcastInDim S4x8x1024x256 ![] bcast_S_S4x8x1024x256 main_cst_10
  let main_v36 : IVec S4x8x1024x256 1 := cmpf .olt main_v34 main_v35
  let main_c_11 : IVec S_ 1 := constantI S_ 1 1#1
  let main_v37 : IVec S_ 1 := (fun x v => Host.reduce IntOp.andi x v reducesTo_S4x8x1024x256_S_d0_1_2_3 h_S_) main_v36 main_c_11
  let main_v38 : IVec S_ 1 := andi main_v32 main_v37
  main_v38

def fn_part1 {F : FTy → Type} [FloatOps F] (main_arg4 : FVec F S36x1x1024 .f32) (main_arg5 : FVec F S4x1024x1024 .bf16) (main_arg6 : FVec F S4x8x1024x256 .bf16) (main_v16 : IVec S_ 1) (main_v17 : FVec F S16384x1024 .f32) : IVec S_ 1 :=
  let main_cst_4 : FVec F S_ .f32 := constant S_ .f32 0x7F800000#32
  let main_v18 : FVec F S16384x1024 .f32 := broadcastInDim S16384x1024 ![] bcast_S_S16384x1024 main_cst_4
  let main_v19 : IVec S16384x1024 1 := cmpf .olt main_v17 main_v18
  let main_c_5 : IVec S_ 1 := constantI S_ 1 1#1
  let main_v20 : IVec S_ 1 := (fun x v => Host.reduce IntOp.andi x v reducesTo_S16384x1024_S_d0_1 h_S_) main_v19 main_c_5
  let main_v21 : IVec S_ 1 := andi main_v16 main_v20
  let main_v22 : FVec F S36x1x1024 .f32 := Host.absf main_arg4
  let main_cst_6 : FVec F S_ .f32 := constant S_ .f32 0x7F800000#32
  let main_v23 : FVec F S36x1x1024 .f32 := broadcastInDim S36x1x1024 ![] bcast_S_S36x1x1024 main_cst_6
  let main_v24 : IVec S36x1x1024 1 := cmpf .olt main_v22 main_v23
  let main_c_7 : IVec S_ 1 := constantI S_ 1 1#1
  let main_v25 : IVec S_ 1 := (fun x v => Host.reduce IntOp.andi x v reducesTo_S36x1x1024_S_d0_1_2 h_S_) main_v24 main_c_7
  let main_v26 : IVec S_ 1 := andi main_v21 main_v25
  let main_v27 : FVec F S4x1024x1024 .f32 := (extf .f32 · bitsLt_bf16_f32) main_arg5
  let main_v28 : FVec F S4x1024x1024 .f32 := Host.absf main_v27
  let main_cst_8 : FVec F S_ .f32 := constant S_ .f32 0x7F800000#32
  let main_v29 : FVec F S4x1024x1024 .f32 := broadcastInDim S4x1024x1024 ![] bcast_S_S4x1024x1024 main_cst_8
  let main_v30 : IVec S4x1024x1024 1 := cmpf .olt main_v28 main_v29
  let main_c_9 : IVec S_ 1 := constantI S_ 1 1#1
  let main_v31 : IVec S_ 1 := (fun x v => Host.reduce IntOp.andi x v reducesTo_S4x1024x1024_S_d0_1_2 h_S_) main_v30 main_c_9
  let main_v32 : IVec S_ 1 := andi main_v26 main_v31
  let main_v33 : FVec F S4x8x1024x256 .f32 := (extf .f32 · bitsLt_bf16_f32) main_arg6
  let main_v34 : FVec F S4x8x1024x256 .f32 := Host.absf main_v33
  let main_cst_10 : FVec F S_ .f32 := constant S_ .f32 0x7F800000#32
  fn_part2 (F := F) main_v32 main_v34 main_cst_10

def fn {F : FTy → Type} [FloatOps F] (main_arg0 : FVec F S16384x512 .bf16) (main_arg1 : FVec F S16384x512 .bf16) (main_arg2 : FVec F S2x1024x1024 .bf16) (main_arg3 : FVec F S16384x1024 .f32) (main_arg4 : FVec F S36x1x1024 .f32) (main_arg5 : FVec F S4x1024x1024 .bf16) (main_arg6 : FVec F S4x8x1024x256 .bf16) (main_arg7 : FVec F S4x8x256x1024 .bf16) (main_arg8 : FVec F S4x1024x1024 .bf16) (main_arg9 : FVec F S4x1024x5632 .f32) (main_arg10 : FVec F S4x2816x1024 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S2x1024x1024 .f32 := (extf .f32 · bitsLt_bf16_f32) main_arg2
  let main_v12 : FVec F S2x1024x1024 .f32 := Host.absf main_v11
  let main_cst_2 : FVec F S_ .f32 := constant S_ .f32 0x7F800000#32
  let main_v13 : FVec F S2x1024x1024 .f32 := broadcastInDim S2x1024x1024 ![] bcast_S_S2x1024x1024 main_cst_2
  let main_v14 : IVec S2x1024x1024 1 := cmpf .olt main_v12 main_v13
  let main_c_3 : IVec S_ 1 := constantI S_ 1 1#1
  let main_v15 : IVec S_ 1 := (fun x v => Host.reduce IntOp.andi x v reducesTo_S2x1024x1024_S_d0_1_2 h_S_) main_v14 main_c_3
  let main_v16 : IVec S_ 1 := andi main_v10 main_v15
  let main_v17 : FVec F S16384x1024 .f32 := Host.absf main_arg3
  fn_part1 (F := F) main_arg4 main_arg5 main_arg6 main_v16 main_v17
-- ==== Pre_fox_pre.lean ====
abbrev S8x8x1024x256 : Shape := ⟨4, ![8, 8, 1024, 256]⟩
abbrev S16384x1024 : Shape := ⟨2, ![16384, 1024]⟩
abbrev S8x8x640x256 : Shape := ⟨4, ![8, 8, 640, 256]⟩
abbrev S8x8x8x80x256 : Shape := ⟨5, ![8, 8, 8, 80, 256]⟩
abbrev S8x8x8x1x256 : Shape := ⟨5, ![8, 8, 8, 1, 256]⟩
abbrev S8x8x8x256 : Shape := ⟨4, ![8, 8, 8, 256]⟩
abbrev S_ : Shape := ⟨0, ![]⟩

class Facts : Prop where
  bitsLt_bf16_f32 : FTy.bits .bf16 < FTy.bits .f32
  shapeCasts_S8x8x640x256_S8x8x8x80x256 : S8x8x640x256.ShapeCasts S8x8x8x80x256
  slices_S8x8x8x80x256_S8x8x8x1x256_0_0_0_64_0 : S8x8x8x80x256.Slices ![0, 0, 0, 64, 0] S8x8x8x1x256
  shapeCasts_S8x8x8x1x256_S8x8x8x256 : S8x8x8x1x256.ShapeCasts S8x8x8x256
  bcast_S_S8x8x8x256 : S_.BroadcastsInDim S8x8x8x256 (![] : Fin 0 → Fin S8x8x8x256.rank)
  bcast_S_S8x8x1024x256 : S_.BroadcastsInDim S8x8x1024x256 (![] : Fin 0 → Fin S8x8x1024x256.rank)
  reducesTo_S8x8x1024x256_S_d0_1_2_3 : S8x8x1024x256.ReducesTo [0, 1, 2, 3] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  reducesTo_S8x8x8x256_S_d0_1_2_3 : S8x8x8x256.ReducesTo [0, 1, 2, 3] S_

variable [Facts]

def fn_part1 {F : FTy → Type} [FloatOps F] (main_v16 : IVec S_ 1) (main_v17 : IVec S_ 1) : IVec S_ 1 :=
  let main_v18 : IVec S_ 1 := andi main_v16 main_v17
  main_v18

def fn {F : FTy → Type} [FloatOps F] (main_arg0 : FVec F S8x8x1024x256 .bf16) (main_arg1 : FVec F S16384x1024 .bf16) (main_arg2 : FVec F S8x8x640x256 .bf16) : IVec S_ 1 :=
  let main_v0 : FVec F S8x8x640x256 .f32 := (extf .f32 · bitsLt_bf16_f32) main_arg2
  let main_v1 : FVec F S8x8x8x80x256 .f32 := shapeCast S8x8x8x80x256 main_v0 shapeCasts_S8x8x640x256_S8x8x8x80x256
  let main_v2 : FVec F S8x8x8x1x256 .f32 := (extractStridedSlice S8x8x8x1x256 ![0, 0, 0, 64, 0] · slices_S8x8x8x80x256_S8x8x8x1x256_0_0_0_64_0) main_v1
  let main_v3 : FVec F S8x8x8x256 .f32 := shapeCast S8x8x8x256 main_v2 shapeCasts_S8x8x8x1x256_S8x8x8x256
  let main_cst : FVec F S_ .f32 := constant S_ .f32 0x3F800000#32
  let main_v4 : FVec F S8x8x8x256 .f32 := broadcastInDim S8x8x8x256 ![] bcast_S_S8x8x8x256 main_cst
  let main_v5 : IVec S8x8x8x256 1 := cmpf .oeq main_v3 main_v4
  let main_v6 : FVec F S8x8x1024x256 .f32 := (extf .f32 · bitsLt_bf16_f32) main_arg0
  let main_v7 : FVec F S8x8x1024x256 .f32 := Host.absf main_v6
  let main_cst_0 : FVec F S_ .f32 := constant S_ .f32 0x7F800000#32
  let main_v8 : FVec F S8x8x1024x256 .f32 := broadcastInDim S8x8x1024x256 ![] bcast_S_S8x8x1024x256 main_cst_0
  let main_v9 : IVec S8x8x1024x256 1 := cmpf .olt main_v7 main_v8
  let main_c : IVec S_ 1 := constantI S_ 1 1#1
  let main_v10 : IVec S_ 1 := (fun x v => Host.reduce IntOp.andi x v reducesTo_S8x8x1024x256_S_d0_1_2_3 h_S_) main_v9 main_c
  let main_v11 : FVec F S16384x1024 .f32 := (extf .f32 · bitsLt_bf16_f32) main_arg1
  let main_v12 : FVec F S16384x1024 .f32 := Host.absf main_v11
  let main_cst_1 : FVec F S_ .f32 := constant S_ .f32 0x7F800000#32
  let main_v13 : FVec F S16384x1024 .f32 := broadcastInDim S16384x1024 ![] bcast_S_S16384x1024 main_cst_1
  let main_v14 : IVec S16384x1024 1 := cmpf .olt main_v12 main_v13
  let main_c_2 : IVec S_ 1 := constantI S_ 1 1#1
  let main_v15 : IVec S_ 1 := (fun x v => Host.reduce IntOp.andi x v reducesTo_S16384x1024_S_d0_1 h_S_) main_v14 main_c_2
  let main_v16 : IVec S_ 1 := andi main_v10 main_v15
  let main_c_3 : IVec S_ 1 := constantI S_ 1 1#1
  let main_v17 : IVec S_ 1 := (fun x v => Host.reduce IntOp.andi x v reducesTo_S8x8x8x256_S_d0_1_2_3 h_S_) main_v5 main_c_3
  fn_part1 (F := F) main_v16 main_v17
-- ==== Pre_odd_pre.lean ====
abbrev S16384x1024 : Shape := ⟨2, ![16384, 1024]⟩
abbrev S2x1024x1024 : Shape := ⟨3, ![2, 1024, 1024]⟩
abbrev S36x1x1024 : Shape := ⟨3, ![36, 1, 1024]⟩
abbrev S4x1024x1024 : Shape := ⟨3, ![4, 1024, 1024]⟩
abbrev S4x8x1024x256 : Shape := ⟨4, ![4, 8, 1024, 256]⟩
abbrev S4x8x256x1024 : Shape := ⟨4, ![4, 8, 256, 1024]⟩
abbrev S4x1024x5632 : Shape := ⟨3, ![4, 1024, 5632]⟩
abbrev S4x2816x1024 : Shape := ⟨3, ![4, 2816, 1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S36x1x1024 : S_.BroadcastsInDim S36x1x1024 (![] : Fin 0 → Fin S36x1x1024.rank)
  reducesTo_S36x1x1024_S_d0_1_2 : S36x1x1024.ReducesTo [0, 1, 2] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x8x1024x256 : S_.BroadcastsInDim S4x8x1024x256 (![] : Fin 0 → Fin S4x8x1024x256.rank)
  reducesTo_S4x8x1024x256_S_d0_1_2_3 : S4x8x1024x256.ReducesTo [0, 1, 2, 3] S_

variable [Facts]

def fn_part1 {F : FTy → Type} [FloatOps F] (main_arg4 : FVec F S4x1024x1024 .bf16) (main_arg5 : FVec F S4x8x1024x256 .bf16) (main_v15 : IVec S_ 1) (main_v16 : FVec F S36x1x1024 .f32) (main_cst_4 : FVec F S_ .f32) : IVec S_ 1 :=
  let main_v17 : FVec F S36x1x1024 .f32 := broadcastInDim S36x1x1024 ![] bcast_S_S36x1x1024 main_cst_4
  let main_v18 : IVec S36x1x1024 1 := cmpf .olt main_v16 main_v17
  let main_c_5 : IVec S_ 1 := constantI S_ 1 1#1
  let main_v19 : IVec S_ 1 := (fun x v => Host.reduce IntOp.andi x v reducesTo_S36x1x1024_S_d0_1_2 h_S_) main_v18 main_c_5
  let main_v20 : IVec S_ 1 := andi main_v15 main_v19
  let main_v21 : FVec F S4x1024x1024 .f32 := (extf .f32 · bitsLt_bf16_f32) main_arg4
  let main_v22 : FVec F S4x1024x1024 .f32 := Host.absf main_v21
  let main_cst_6 : FVec F S_ .f32 := constant S_ .f32 0x7F800000#32
  let main_v23 : FVec F S4x1024x1024 .f32 := broadcastInDim S4x1024x1024 ![] bcast_S_S4x1024x1024 main_cst_6
  let main_v24 : IVec S4x1024x1024 1 := cmpf .olt main_v22 main_v23
  let main_c_7 : IVec S_ 1 := constantI S_ 1 1#1
  let main_v25 : IVec S_ 1 := (fun x v => Host.reduce IntOp.andi x v reducesTo_S4x1024x1024_S_d0_1_2 h_S_) main_v24 main_c_7
  let main_v26 : IVec S_ 1 := andi main_v20 main_v25
  let main_v27 : FVec F S4x8x1024x256 .f32 := (extf .f32 · bitsLt_bf16_f32) main_arg5
  let main_v28 : FVec F S4x8x1024x256 .f32 := Host.absf main_v27
  let main_cst_8 : FVec F S_ .f32 := constant S_ .f32 0x7F800000#32
  let main_v29 : FVec F S4x8x1024x256 .f32 := broadcastInDim S4x8x1024x256 ![] bcast_S_S4x8x1024x256 main_cst_8
  let main_v30 : IVec S4x8x1024x256 1 := cmpf .olt main_v28 main_v29
  let main_c_9 : IVec S_ 1 := constantI S_ 1 1#1
  let main_v31 : IVec S_ 1 := (fun x v => Host.reduce IntOp.andi x v reducesTo_S4x8x1024x256_S_d0_1_2_3 h_S_) main_v30 main_c_9
  let main_v32 : IVec S_ 1 := andi main_v26 main_v31
  main_v32

def fn {F : FTy → Type} [FloatOps F] (main_arg0 : FVec F S16384x1024 .bf16) (main_arg1 : FVec F S2x1024x1024 .bf16) (main_arg2 : FVec F S16384x1024 .f32) (main_arg3 : FVec F S36x1x1024 .f32) (main_arg4 : FVec F S4x1024x1024 .bf16) (main_arg5 : FVec F S4x8x1024x256 .bf16) (main_arg6 : FVec F S4x8x256x1024 .bf16) (main_arg7 : FVec F S4x1024x1024 .bf16) (main_arg8 : FVec F S4x1024x5632 .f32) (main_arg9 : FVec F S4x2816x1024 .f32) : IVec S_ 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  let main_v5 : FVec F S2x1024x1024 .f32 := (extf .f32 · bitsLt_bf16_f32) main_arg1
  let main_v6 : FVec F S2x1024x1024 .f32 := Host.absf main_v5
  let main_cst_0 : FVec F S_ .f32 := constant S_ .f32 0x7F800000#32
  let main_v7 : FVec F S2x1024x1024 .f32 := broadcastInDim S2x1024x1024 ![] bcast_S_S2x1024x1024 main_cst_0
  let main_v8 : IVec S2x1024x1024 1 := cmpf .olt main_v6 main_v7
  let main_c_1 : IVec S_ 1 := constantI S_ 1 1#1
  let main_v9 : IVec S_ 1 := (fun x v => Host.reduce IntOp.andi x v reducesTo_S2x1024x1024_S_d0_1_2 h_S_) main_v8 main_c_1
  let main_v10 : IVec S_ 1 := andi main_v4 main_v9
  let main_v11 : FVec F S16384x1024 .f32 := Host.absf main_arg2
  let main_cst_2 : FVec F S_ .f32 := constant S_ .f32 0x7F800000#32
  let main_v12 : FVec F S16384x1024 .f32 := broadcastInDim S16384x1024 ![] bcast_S_S16384x1024 main_cst_2
  let main_v13 : IVec S16384x1024 1 := cmpf .olt main_v11 main_v12
  let main_c_3 : IVec S_ 1 := constantI S_ 1 1#1
  let main_v14 : IVec S_ 1 := (fun x v => Host.reduce IntOp.andi x v reducesTo_S16384x1024_S_d0_1 h_S_) main_v13 main_c_3
  let main_v15 : IVec S_ 1 := andi main_v10 main_v14
  let main_v16 : FVec F S36x1x1024 .f32 := Host.absf main_arg3
  let main_cst_4 : FVec F S_ .f32 := constant S_ .f32 0x7F800000#32
  fn_part1 (F := F) main_arg4 main_arg5 main_v15 main_v16 main_cst_4
-- ==== Kernel.lean ====
abbrev S8x8x1024x256 : Shape := ⟨4, ![8, 8, 1024, 256]⟩
abbrev S16384x1024 : Shape := ⟨2, ![16384, 1024]⟩
abbrev S8x8x640x256 : Shape := ⟨4, ![8, 8, 640, 256]⟩
abbrev S16384x512 : Shape := ⟨2, ![16384, 512]⟩
abbrev S1x1x1024x256 : Shape := ⟨4, ![1, 1, 1024, 256]⟩
abbrev S2048x1024 : Shape := ⟨2, ![2048, 1024]⟩
abbrev S1x8x640x256 : Shape := ⟨4, ![1, 8, 640, 256]⟩
abbrev S256x512 : Shape := ⟨2, ![256, 512]⟩
abbrev S8x80x256 : Shape := ⟨3, ![8, 80, 256]⟩
abbrev S256x256 : Shape := ⟨2, ![256, 256]⟩
abbrev S1x256 : Shape := ⟨2, ![1, 256]⟩
abbrev S256x128 : Shape := ⟨2, ![256, 128]⟩
abbrev S1x1x128x256 : Shape := ⟨4, ![1, 1, 128, 256]⟩
abbrev S128x256 : Shape := ⟨2, ![128, 256]⟩
abbrev S256 : Shape := ⟨1, ![256]⟩
abbrev S1x1x80x256 : Shape := ⟨4, ![1, 1, 80, 256]⟩
abbrev S80x256 : Shape := ⟨2, ![80, 256]⟩
abbrev S1x80x256 : Shape := ⟨3, ![1, 80, 256]⟩
abbrev S1x64x256 : Shape := ⟨3, ![1, 64, 256]⟩
abbrev S64x256 : Shape := ⟨2, ![64, 256]⟩
abbrev S1x1x256 : Shape := ⟨3, ![1, 1, 256]⟩
abbrev S512x256 : Shape := ⟨2, ![512, 256]⟩

abbrev nBuf : Space → Nat
  | .hbm => 4
  | .vmem => 9
  | .smem => 0
  | _ => 0

abbrev bufTy : (tb : Table) → Fin (tcTables nBuf tb) → BufTy
  | .hbm, ⟨0, _⟩ => ⟨S8x8x1024x256, .bf16⟩
  | .hbm, ⟨1, _⟩ => ⟨S16384x1024, .bf16⟩
  | .hbm, ⟨2, _⟩ => ⟨S8x8x640x256, .bf16⟩
  | .hbm, ⟨3, _⟩ => ⟨S16384x512, .bf16⟩
  | .local _ .vmem, ⟨0, _⟩ => ⟨S1x1x1024x256, .bf16⟩
  | .local _ .vmem, ⟨1, _⟩ => ⟨S1x1x1024x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x8x640x256, .bf16⟩
  | .local _ .vmem, ⟨5, _⟩ => ⟨S1x8x640x256, .bf16⟩
  | .local _ .vmem, ⟨6, _⟩ => ⟨S256x512, .bf16⟩
  | .local _ .vmem, ⟨7, _⟩ => ⟨S256x512, .bf16⟩
  | .local _ .vmem, ⟨8, _⟩ => ⟨S8x80x256, .f32⟩
  | _, _ => ⟨S8x8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 8], ![false, false, false]⟩

@[reducible] def k0_t1_loop (i : grid0.Coords) : Scf.Loop 32 :=
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_16 : BitVec 32 := 1#32
  ⟨c0_i32_14, v35, c1_i32_16⟩
def k0_mult1 (i : grid0.Coords) (k0_t1 : Fin (k0_t1_loop i).trips) : BitVec 32 :=
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let c256_i32 : BitVec 32 := 256#32
  let v119 : BitVec 32 := Scalar.muli v116 c256_i32
  v119
def k0_off1 (i : grid0.Coords) (k0_t1 : Fin (k0_t1_loop i).trips) : Fin 2 → Nat :=
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let c256_i32 : BitVec 32 := 256#32
  let v119 : BitVec 32 := Scalar.muli v116 c256_i32
  let v120 : BitVec 32 := v119
  let v121 : Index := Scalar.indexCast v120
  let c0_79 : Index := 0#32
  ![v121.toNat, 0]
def k0_off2 (i : grid0.Coords) (k0_t1 : Fin (k0_t1_loop i).trips) : Fin 2 → Nat :=
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let c256_i32 : BitVec 32 := 256#32
  let v119 : BitVec 32 := Scalar.muli v116 c256_i32
  let v120 : BitVec 32 := v119
  let v126 : Index := Scalar.indexCast v120
  let c128 : Index := 128#32
  ![v126.toNat, 128]
def k0_off3 (i : grid0.Coords) (k0_t1 : Fin (k0_t1_loop i).trips) : Fin 2 → Nat :=
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let c256_i32 : BitVec 32 := 256#32
  let v119 : BitVec 32 := Scalar.muli v116 c256_i32
  let v120 : BitVec 32 := v119
  let v131 : Index := Scalar.indexCast v120
  let c256 : Index := 256#32
  ![v131.toNat, 256]
def k0_off4 (i : grid0.Coords) (k0_t1 : Fin (k0_t1_loop i).trips) : Fin 2 → Nat :=
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let c256_i32 : BitVec 32 := 256#32
  let v119 : BitVec 32 := Scalar.muli v116 c256_i32
  let v120 : BitVec 32 := v119
  let v136 : Index := Scalar.indexCast v120
  let c384 : Index := 384#32
  ![v136.toNat, 384]
def k0_off5 (i : grid0.Coords) (k0_t1 : Fin (k0_t1_loop i).trips) : Fin 2 → Nat :=
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let c256_i32 : BitVec 32 := 256#32
  let v119 : BitVec 32 := Scalar.muli v116 c256_i32
  let v120 : BitVec 32 := v119
  let v141 : Index := Scalar.indexCast v120
  let c512 : Index := 512#32
  ![v141.toNat, 512]
def k0_off6 (i : grid0.Coords) (k0_t1 : Fin (k0_t1_loop i).trips) : Fin 2 → Nat :=
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let c256_i32 : BitVec 32 := 256#32
  let v119 : BitVec 32 := Scalar.muli v116 c256_i32
  let v120 : BitVec 32 := v119
  let v146 : Index := Scalar.indexCast v120
  let c640 : Index := 640#32
  ![v146.toNat, 640]
def k0_off7 (i : grid0.Coords) (k0_t1 : Fin (k0_t1_loop i).trips) : Fin 2 → Nat :=
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let c256_i32 : BitVec 32 := 256#32
  let v119 : BitVec 32 := Scalar.muli v116 c256_i32
  let v120 : BitVec 32 := v119
  let v151 : Index := Scalar.indexCast v120
  let c768 : Index := 768#32
  ![v151.toNat, 768]
def k0_off8 (i : grid0.Coords) (k0_t1 : Fin (k0_t1_loop i).trips) : Fin 2 → Nat :=
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let c256_i32 : BitVec 32 := 256#32
  let v119 : BitVec 32 := Scalar.muli v116 c256_i32
  let v120 : BitVec 32 := v119
  let v156 : Index := Scalar.indexCast v120
  let c896 : Index := 896#32
  ![v156.toNat, 896]
def k0_mult2 (i : grid0.Coords) (k0_t1 : Fin (k0_t1_loop i).trips) : BitVec 32 :=
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  v161
def k0_off9 (i : grid0.Coords) (k0_t1 : Fin (k0_t1_loop i).trips) : Fin 2 → Nat :=
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v163 : Index := Scalar.indexCast v162
  let c0_121 : Index := 0#32
  ![v163.toNat, 0]
def k0_off10 (i : grid0.Coords) (k0_t1 : Fin (k0_t1_loop i).trips) : Fin 2 → Nat :=
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v168 : Index := Scalar.indexCast v162
  let c128_127 : Index := 128#32
  ![v168.toNat, 128]
def k0_off11 (i : grid0.Coords) (k0_t1 : Fin (k0_t1_loop i).trips) : Fin 2 → Nat :=
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v173 : Index := Scalar.indexCast v162
  let c256_133 : Index := 256#32
  ![v173.toNat, 256]
def k0_off12 (i : grid0.Coords) (k0_t1 : Fin (k0_t1_loop i).trips) : Fin 2 → Nat :=
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v178 : Index := Scalar.indexCast v162
  let c384_139 : Index := 384#32
  ![v178.toNat, 384]
def k0_off13 (i : grid0.Coords) (k0_t1 : Fin (k0_t1_loop i).trips) : Fin 2 → Nat :=
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v183 : Index := Scalar.indexCast v162
  let c512_145 : Index := 512#32
  ![v183.toNat, 512]
def k0_off14 (i : grid0.Coords) (k0_t1 : Fin (k0_t1_loop i).trips) : Fin 2 → Nat :=
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v188 : Index := Scalar.indexCast v162
  let c640_151 : Index := 640#32
  ![v188.toNat, 640]
def k0_off15 (i : grid0.Coords) (k0_t1 : Fin (k0_t1_loop i).trips) : Fin 2 → Nat :=
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v193 : Index := Scalar.indexCast v162
  let c768_157 : Index := 768#32
  ![v193.toNat, 768]
def k0_off16 (i : grid0.Coords) (k0_t1 : Fin (k0_t1_loop i).trips) : Fin 2 → Nat :=
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v198 : Index := Scalar.indexCast v162
  let c896_163 : Index := 896#32
  ![v198.toNat, 896]
def k0_off17 (i : grid0.Coords) (k0_t1 : Fin (k0_t1_loop i).trips) : Fin 4 → Nat :=
  let c0_177 : Index := 0#32
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let v275 : Index := Scalar.indexCast v116
  let c0_178 : Index := 0#32
  let c0_179 : Index := 0#32
  ![0, v275.toNat, 0, 0]
def k0_off18 (i : grid0.Coords) (k0_t1 : Fin (k0_t1_loop i).trips) : Fin 4 → Nat :=
  let c0_187 : Index := 0#32
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let v287 : Index := Scalar.indexCast v116
  let c80 : Index := 80#32
  let c0_188 : Index := 0#32
  ![0, v287.toNat, 80, 0]
def k0_off19 (i : grid0.Coords) (k0_t1 : Fin (k0_t1_loop i).trips) : Fin 4 → Nat :=
  let c0_196 : Index := 0#32
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let v299 : Index := Scalar.indexCast v116
  let c160 : Index := 160#32
  let c0_197 : Index := 0#32
  ![0, v299.toNat, 160, 0]
def k0_off20 (i : grid0.Coords) (k0_t1 : Fin (k0_t1_loop i).trips) : Fin 4 → Nat :=
  let c0_205 : Index := 0#32
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let v311 : Index := Scalar.indexCast v116
  let c240 : Index := 240#32
  let c0_206 : Index := 0#32
  ![0, v311.toNat, 240, 0]
def k0_off21 (i : grid0.Coords) (k0_t1 : Fin (k0_t1_loop i).trips) : Fin 4 → Nat :=
  let c0_214 : Index := 0#32
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let v323 : Index := Scalar.indexCast v116
  let c320 : Index := 320#32
  let c0_215 : Index := 0#32
  ![0, v323.toNat, 320, 0]
def k0_off22 (i : grid0.Coords) (k0_t1 : Fin (k0_t1_loop i).trips) : Fin 4 → Nat :=
  let c0_223 : Index := 0#32
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let v335 : Index := Scalar.indexCast v116
  let c400 : Index := 400#32
  let c0_224 : Index := 0#32
  ![0, v335.toNat, 400, 0]
def k0_off23 (i : grid0.Coords) (k0_t1 : Fin (k0_t1_loop i).trips) : Fin 4 → Nat :=
  let c0_232 : Index := 0#32
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let v347 : Index := Scalar.indexCast v116
  let c480 : Index := 480#32
  let c0_233 : Index := 0#32
  ![0, v347.toNat, 480, 0]
def k0_off24 (i : grid0.Coords) (k0_t1 : Fin (k0_t1_loop i).trips) : Fin 4 → Nat :=
  let c0_241 : Index := 0#32
  let c2_i32_76 : BitVec 32 := 2#32
  let c0_i32_14 : BitVec 32 := 0#32
  let c1_i32_16 : BitVec 32 := 1#32
  let arg8 : BitVec 32 := Scf.iv c0_i32_14 c1_i32_16 k0_t1
  let v116 : BitVec 32 := Scalar.muli c2_i32_76 arg8
  let v359 : Index := Scalar.indexCast v116
  let c560 : Index := 560#32
  let c0_242 : Index := 0#32
  ![0, v359.toNat, 560, 0]
def k0_off25 (i : grid0.Coords) (k0_t1 : Fin (k0_t1_loop i).trips) : Fin 4 → Nat :=
  let c0_258 : Index := 0#32
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let v443 : Index := Scalar.indexCast v118
  let c0_259 : Index := 0#32
  let c0_260 : Index := 0#32
  ![0, v443.toNat, 0, 0]
def k0_off26 (i : grid0.Coords) (k0_t1 : Fin (k0_t1_loop i).trips) : Fin 4 → Nat :=
  let c0_268 : Index := 0#32
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let v455 : Index := Scalar.indexCast v118
  let c80_269 : Index := 80#32
  let c0_270 : Index := 0#32
  ![0, v455.toNat, 80, 0]
def k0_off27 (i : grid0.Coords) (k0_t1 : Fin (k0_t1_loop i).trips) : Fin 4 → Nat :=
  let c0_278 : Index := 0#32
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let v467 : Index := Scalar.indexCast v118
  let c160_279 : Index := 160#32
  let c0_280 : Index := 0#32
  ![0, v467.toNat, 160, 0]
def k0_off28 (i : grid0.Coords) (k0_t1 : Fin (k0_t1_loop i).trips) : Fin 4 → Nat :=
  let c0_288 : Index := 0#32
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let v479 : Index := Scalar.indexCast v118
  let c240_289 : Index := 240#32
  let c0_290 : Index := 0#32
  ![0, v479.toNat, 240, 0]
def k0_off29 (i : grid0.Coords) (k0_t1 : Fin (k0_t1_loop i).trips) : Fin 4 → Nat :=
  let c0_298 : Index := 0#32
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let v491 : Index := Scalar.indexCast v118
  let c320_299 : Index := 320#32
  let c0_300 : Index := 0#32
  ![0, v491.toNat, 320, 0]
def k0_off30 (i : grid0.Coords) (k0_t1 : Fin (k0_t1_loop i).trips) : Fin 4 → Nat :=
  let c0_308 : Index := 0#32
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let v503 : Index := Scalar.indexCast v118
  let c400_309 : Index := 400#32
  let c0_310 : Index := 0#32
  ![0, v503.toNat, 400, 0]
def k0_off31 (i : grid0.Coords) (k0_t1 : Fin (k0_t1_loop i).trips) : Fin 4 → Nat :=
  let c0_318 : Index := 0#32
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let v515 : Index := Scalar.indexCast v118
  let c480_319 : Index := 480#32
  let c0_320 : Index := 0#32
  ![0, v515.toNat, 480, 0]
def k0_off32 (i : grid0.Coords) (k0_t1 : Fin (k0_t1_loop i).trips) : Fin 4 → Nat :=
  let c0_328 : Index := 0#32
  let c2_i32_77 : BitVec 32 := 2#32
  let c0_i32_14 : BitVec 32 := 0#32
  let c1_i32_16 : BitVec 32 := 1#32
  let arg8 : BitVec 32 := Scf.iv c0_i32_14 c1_i32_16 k0_t1
  let v117 : BitVec 32 := Scalar.muli c2_i32_77 arg8
  let c1_i32_78 : BitVec 32 := 1#32
  let v118 : BitVec 32 := Scalar.addi v117 c1_i32_78
  let v527 : Index := Scalar.indexCast v118
  let c560_329 : Index := 560#32
  let c0_330 : Index := 0#32
  ![0, v527.toNat, 560, 0]
@[reducible] def k0_t2_loop (i : grid0.Coords) : Scf.Loop 32 :=
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let v32 : BitVec 32 := Scalar.addi c0_i32_14 v31
  let c1_i32_17 : BitVec 32 := 1#32
  ⟨v35, v32, c1_i32_17⟩
def k0_mult3 (i : grid0.Coords) (k0_t2 : Fin (k0_t2_loop i).trips) : BitVec 32 :=
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let c256_i32 : BitVec 32 := 256#32
  let v119 : BitVec 32 := Scalar.muli v116 c256_i32
  v119
def k0_off33 (i : grid0.Coords) (k0_t2 : Fin (k0_t2_loop i).trips) : Fin 2 → Nat :=
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let c256_i32 : BitVec 32 := 256#32
  let v119 : BitVec 32 := Scalar.muli v116 c256_i32
  let v120 : BitVec 32 := v119
  let v121 : Index := Scalar.indexCast v120
  let c0_79 : Index := 0#32
  ![v121.toNat, 0]
def k0_off34 (i : grid0.Coords) (k0_t2 : Fin (k0_t2_loop i).trips) : Fin 2 → Nat :=
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let c256_i32 : BitVec 32 := 256#32
  let v119 : BitVec 32 := Scalar.muli v116 c256_i32
  let v120 : BitVec 32 := v119
  let v126 : Index := Scalar.indexCast v120
  let c128 : Index := 128#32
  ![v126.toNat, 128]
def k0_off35 (i : grid0.Coords) (k0_t2 : Fin (k0_t2_loop i).trips) : Fin 2 → Nat :=
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let c256_i32 : BitVec 32 := 256#32
  let v119 : BitVec 32 := Scalar.muli v116 c256_i32
  let v120 : BitVec 32 := v119
  let v131 : Index := Scalar.indexCast v120
  let c256 : Index := 256#32
  ![v131.toNat, 256]
def k0_off36 (i : grid0.Coords) (k0_t2 : Fin (k0_t2_loop i).trips) : Fin 2 → Nat :=
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let c256_i32 : BitVec 32 := 256#32
  let v119 : BitVec 32 := Scalar.muli v116 c256_i32
  let v120 : BitVec 32 := v119
  let v136 : Index := Scalar.indexCast v120
  let c384 : Index := 384#32
  ![v136.toNat, 384]
def k0_off37 (i : grid0.Coords) (k0_t2 : Fin (k0_t2_loop i).trips) : Fin 2 → Nat :=
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let c256_i32 : BitVec 32 := 256#32
  let v119 : BitVec 32 := Scalar.muli v116 c256_i32
  let v120 : BitVec 32 := v119
  let v141 : Index := Scalar.indexCast v120
  let c512 : Index := 512#32
  ![v141.toNat, 512]
def k0_off38 (i : grid0.Coords) (k0_t2 : Fin (k0_t2_loop i).trips) : Fin 2 → Nat :=
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let c256_i32 : BitVec 32 := 256#32
  let v119 : BitVec 32 := Scalar.muli v116 c256_i32
  let v120 : BitVec 32 := v119
  let v146 : Index := Scalar.indexCast v120
  let c640 : Index := 640#32
  ![v146.toNat, 640]
def k0_off39 (i : grid0.Coords) (k0_t2 : Fin (k0_t2_loop i).trips) : Fin 2 → Nat :=
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let c256_i32 : BitVec 32 := 256#32
  let v119 : BitVec 32 := Scalar.muli v116 c256_i32
  let v120 : BitVec 32 := v119
  let v151 : Index := Scalar.indexCast v120
  let c768 : Index := 768#32
  ![v151.toNat, 768]
def k0_off40 (i : grid0.Coords) (k0_t2 : Fin (k0_t2_loop i).trips) : Fin 2 → Nat :=
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let c256_i32 : BitVec 32 := 256#32
  let v119 : BitVec 32 := Scalar.muli v116 c256_i32
  let v120 : BitVec 32 := v119
  let v156 : Index := Scalar.indexCast v120
  let c896 : Index := 896#32
  ![v156.toNat, 896]
def k0_mult4 (i : grid0.Coords) (k0_t2 : Fin (k0_t2_loop i).trips) : BitVec 32 :=
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  v161
def k0_off41 (i : grid0.Coords) (k0_t2 : Fin (k0_t2_loop i).trips) : Fin 2 → Nat :=
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v163 : Index := Scalar.indexCast v162
  let c0_121 : Index := 0#32
  ![v163.toNat, 0]
def k0_off42 (i : grid0.Coords) (k0_t2 : Fin (k0_t2_loop i).trips) : Fin 2 → Nat :=
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v168 : Index := Scalar.indexCast v162
  let c128_127 : Index := 128#32
  ![v168.toNat, 128]
def k0_off43 (i : grid0.Coords) (k0_t2 : Fin (k0_t2_loop i).trips) : Fin 2 → Nat :=
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v173 : Index := Scalar.indexCast v162
  let c256_133 : Index := 256#32
  ![v173.toNat, 256]
def k0_off44 (i : grid0.Coords) (k0_t2 : Fin (k0_t2_loop i).trips) : Fin 2 → Nat :=
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v178 : Index := Scalar.indexCast v162
  let c384_139 : Index := 384#32
  ![v178.toNat, 384]
def k0_off45 (i : grid0.Coords) (k0_t2 : Fin (k0_t2_loop i).trips) : Fin 2 → Nat :=
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v183 : Index := Scalar.indexCast v162
  let c512_145 : Index := 512#32
  ![v183.toNat, 512]
def k0_off46 (i : grid0.Coords) (k0_t2 : Fin (k0_t2_loop i).trips) : Fin 2 → Nat :=
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v188 : Index := Scalar.indexCast v162
  let c640_151 : Index := 640#32
  ![v188.toNat, 640]
def k0_off47 (i : grid0.Coords) (k0_t2 : Fin (k0_t2_loop i).trips) : Fin 2 → Nat :=
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v193 : Index := Scalar.indexCast v162
  let c768_157 : Index := 768#32
  ![v193.toNat, 768]
def k0_off48 (i : grid0.Coords) (k0_t2 : Fin (k0_t2_loop i).trips) : Fin 2 → Nat :=
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let c256_i32_120 : BitVec 32 := 256#32
  let v161 : BitVec 32 := Scalar.muli v118 c256_i32_120
  let v162 : BitVec 32 := v161
  let v198 : Index := Scalar.indexCast v162
  let c896_163 : Index := 896#32
  ![v198.toNat, 896]
def k0_off49 (i : grid0.Coords) (k0_t2 : Fin (k0_t2_loop i).trips) : Fin 4 → Nat :=
  let c0_177 : Index := 0#32
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let v275 : Index := Scalar.indexCast v116
  let c0_178 : Index := 0#32
  let c0_179 : Index := 0#32
  ![0, v275.toNat, 0, 0]
def k0_off50 (i : grid0.Coords) (k0_t2 : Fin (k0_t2_loop i).trips) : Fin 4 → Nat :=
  let c0_187 : Index := 0#32
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let v287 : Index := Scalar.indexCast v116
  let c80 : Index := 80#32
  let c0_188 : Index := 0#32
  ![0, v287.toNat, 80, 0]
def k0_off51 (i : grid0.Coords) (k0_t2 : Fin (k0_t2_loop i).trips) : Fin 4 → Nat :=
  let c0_196 : Index := 0#32
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let v299 : Index := Scalar.indexCast v116
  let c160 : Index := 160#32
  let c0_197 : Index := 0#32
  ![0, v299.toNat, 160, 0]
def k0_off52 (i : grid0.Coords) (k0_t2 : Fin (k0_t2_loop i).trips) : Fin 4 → Nat :=
  let c0_205 : Index := 0#32
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let v311 : Index := Scalar.indexCast v116
  let c240 : Index := 240#32
  let c0_206 : Index := 0#32
  ![0, v311.toNat, 240, 0]
def k0_off53 (i : grid0.Coords) (k0_t2 : Fin (k0_t2_loop i).trips) : Fin 4 → Nat :=
  let c0_214 : Index := 0#32
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let v323 : Index := Scalar.indexCast v116
  let c320 : Index := 320#32
  let c0_215 : Index := 0#32
  ![0, v323.toNat, 320, 0]
def k0_off54 (i : grid0.Coords) (k0_t2 : Fin (k0_t2_loop i).trips) : Fin 4 → Nat :=
  let c0_223 : Index := 0#32
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let v335 : Index := Scalar.indexCast v116
  let c400 : Index := 400#32
  let c0_224 : Index := 0#32
  ![0, v335.toNat, 400, 0]
def k0_off55 (i : grid0.Coords) (k0_t2 : Fin (k0_t2_loop i).trips) : Fin 4 → Nat :=
  let c0_232 : Index := 0#32
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let v347 : Index := Scalar.indexCast v116
  let c480 : Index := 480#32
  let c0_233 : Index := 0#32
  ![0, v347.toNat, 480, 0]
def k0_off56 (i : grid0.Coords) (k0_t2 : Fin (k0_t2_loop i).trips) : Fin 4 → Nat :=
  let c0_241 : Index := 0#32
  let c2_i32_76 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v116 : BitVec 32 := Scalar.muli c2_i32_76 arg8
  let v359 : Index := Scalar.indexCast v116
  let c560 : Index := 560#32
  let c0_242 : Index := 0#32
  ![0, v359.toNat, 560, 0]
def k0_off57 (i : grid0.Coords) (k0_t2 : Fin (k0_t2_loop i).trips) : Fin 4 → Nat :=
  let c0_258 : Index := 0#32
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let v443 : Index := Scalar.indexCast v118
  let c0_259 : Index := 0#32
  let c0_260 : Index := 0#32
  ![0, v443.toNat, 0, 0]
def k0_off58 (i : grid0.Coords) (k0_t2 : Fin (k0_t2_loop i).trips) : Fin 4 → Nat :=
  let c0_268 : Index := 0#32
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let v455 : Index := Scalar.indexCast v118
  let c80_269 : Index := 80#32
  let c0_270 : Index := 0#32
  ![0, v455.toNat, 80, 0]
def k0_off59 (i : grid0.Coords) (k0_t2 : Fin (k0_t2_loop i).trips) : Fin 4 → Nat :=
  let c0_278 : Index := 0#32
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let v467 : Index := Scalar.indexCast v118
  let c160_279 : Index := 160#32
  let c0_280 : Index := 0#32
  ![0, v467.toNat, 160, 0]
def k0_off60 (i : grid0.Coords) (k0_t2 : Fin (k0_t2_loop i).trips) : Fin 4 → Nat :=
  let c0_288 : Index := 0#32
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let v479 : Index := Scalar.indexCast v118
  let c240_289 : Index := 240#32
  let c0_290 : Index := 0#32
  ![0, v479.toNat, 240, 0]
def k0_off61 (i : grid0.Coords) (k0_t2 : Fin (k0_t2_loop i).trips) : Fin 4 → Nat :=
  let c0_298 : Index := 0#32
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let v491 : Index := Scalar.indexCast v118
  let c320_299 : Index := 320#32
  let c0_300 : Index := 0#32
  ![0, v491.toNat, 320, 0]
def k0_off62 (i : grid0.Coords) (k0_t2 : Fin (k0_t2_loop i).trips) : Fin 4 → Nat :=
  let c0_308 : Index := 0#32
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let v503 : Index := Scalar.indexCast v118
  let c400_309 : Index := 400#32
  let c0_310 : Index := 0#32
  ![0, v503.toNat, 400, 0]
def k0_off63 (i : grid0.Coords) (k0_t2 : Fin (k0_t2_loop i).trips) : Fin 4 → Nat :=
  let c0_318 : Index := 0#32
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let v515 : Index := Scalar.indexCast v118
  let c480_319 : Index := 480#32
  let c0_320 : Index := 0#32
  ![0, v515.toNat, 480, 0]
def k0_off64 (i : grid0.Coords) (k0_t2 : Fin (k0_t2_loop i).trips) : Fin 4 → Nat :=
  let c0_328 : Index := 0#32
  let c2_i32_77 : BitVec 32 := 2#32
  let c0_i32_14 : BitVec 32 := 0#32
  let arg2 : BitVec 32 := BitVec.ofNat 32 (i 2).val
  let c0_i32 : BitVec 32 := 0#32
  let v15 : BitVec 1 := Scalar.cmpi .sgt arg2 c0_i32
  let v16 : BitVec 32 := Scalar.extui v15
  let c0_i32_10 : BitVec 32 := 0#32
  let v17 : BitVec 1 := Scalar.cmpi .slt arg2 c0_i32_10
  let v18 : BitVec 32 := Scalar.extui v17
  let v19 : BitVec 32 := Scalar.subi v16 v18
  let c2_i32 : BitVec 32 := 2#32
  let c0_i32_11 : BitVec 32 := 0#32
  let v20 : BitVec 1 := Scalar.cmpi .sgt c2_i32 c0_i32_11
  let v21 : BitVec 32 := Scalar.extui v20
  let c0_i32_12 : BitVec 32 := 0#32
  let v22 : BitVec 1 := Scalar.cmpi .slt c2_i32 c0_i32_12
  let v23 : BitVec 32 := Scalar.extui v22
  let v24 : BitVec 32 := Scalar.subi v21 v23
  let v25 : BitVec 1 := Scalar.cmpi .ne v19 v24
  let v26 : BitVec 32 := Scalar.remsi arg2 c2_i32
  let c0_i32_13 : BitVec 32 := 0#32
  let v27 : BitVec 1 := Scalar.cmpi .ne v26 c0_i32_13
  let v28 : BitVec 1 := Scalar.andi v25 v27
  let v14 : BitVec 32 := Scalar.divsi arg2 c2_i32
  let c1_i32 : BitVec 32 := 1#32
  let v29 : BitVec 32 := Scalar.subi v14 c1_i32
  let v30 : BitVec 32 := Scalar.select v28 v29 v14
  let v31 : BitVec 32 := Scalar.subi v30 c0_i32_14
  let c1_i32_15 : BitVec 32 := 1#32
  let v33 : BitVec 32 := Scalar.divsi v31 c1_i32_15
  let v34 : BitVec 32 := Scalar.muli v33 c1_i32_15
  let v35 : BitVec 32 := Scalar.addi c0_i32_14 v34
  let c1_i32_17 : BitVec 32 := 1#32
  let arg8 : BitVec 32 := Scf.iv v35 c1_i32_17 k0_t2
  let v117 : BitVec 32 := Scalar.muli c2_i32_77 arg8
  let c1_i32_78 : BitVec 32 := 1#32
  let v118 : BitVec 32 := Scalar.addi v117 c1_i32_78
  let v527 : Index := Scalar.indexCast v118
  let c560_329 : Index := 560#32
  let c0_330 : Index := 0#32
  ![0, v527.toNat, 560, 0]
def k0_cond1 (i : grid0.Coords) : BitVec 1 :=
  let arg2 : BitVec 32 := BitVec.ofNat 32 (i 2).val
  let c2_i32_18 : BitVec 32 := 2#32
  let c0_i32_19 : BitVec 32 := 0#32
  let v38 : BitVec 1 := Scalar.cmpi .eq c2_i32_18 c0_i32_19
  let c1_i32_20 : BitVec 32 := 1#32
  let v39 : BitVec 32 := Scalar.select v38 c1_i32_20 c2_i32_18
  let v40 : BitVec 32 := Scalar.remsi arg2 v39
  let c0_i32_22 : BitVec 32 := 0#32
  let v42 : BitVec 1 := Scalar.cmpi .slt v40 c0_i32_22
  let c0_i32_23 : BitVec 32 := 0#32
  let v43 : BitVec 1 := Scalar.cmpi .slt v39 c0_i32_23
  let v44 : BitVec 1 := Scalar.xori v42 v43
  let c0_i32_21 : BitVec 32 := 0#32
  let v41 : BitVec 1 := Scalar.cmpi .ne v40 c0_i32_21
  let v45 : BitVec 1 := Scalar.andi v44 v41
  let v46 : BitVec 32 := Scalar.addi v40 v39
  let v47 : BitVec 32 := Scalar.select v45 v46 v40
  let c1_i32_24 : BitVec 32 := 1#32
  let v48 : BitVec 1 := Scalar.cmpi .eq v47 c1_i32_24
  let v49 : BitVec 32 := Scalar.extui v48
  let c0_i32_25 : BitVec 32 := 0#32
  let v50 : BitVec 1 := Scalar.cmpi .ne v49 c0_i32_25
  v50

def k0_mult5 (i : grid0.Coords) : BitVec 32 :=
  let arg2 : BitVec 32 := BitVec.ofNat 32 (i 2).val
  let c1_i32_76 : BitVec 32 := 1#32
  let v116 : BitVec 32 := Scalar.subi arg2 c1_i32_76
  let c256_i32 : BitVec 32 := 256#32
  let v117 : BitVec 32 := Scalar.muli v116 c256_i32
  v117
def k0_off65 (i : grid0.Coords) : Fin 2 → Nat :=
  let arg2 : BitVec 32 := BitVec.ofNat 32 (i 2).val
  let c1_i32_76 : BitVec 32 := 1#32
  let v116 : BitVec 32 := Scalar.subi arg2 c1_i32_76
  let c256_i32 : BitVec 32 := 256#32
  let v117 : BitVec 32 := Scalar.muli v116 c256_i32
  let v118 : BitVec 32 := v117
  let v119 : Index := Scalar.indexCast v118
  let c0_77 : Index := 0#32
  ![v119.toNat, 0]
def k0_off66 (i : grid0.Coords) : Fin 2 → Nat :=
  let arg2 : BitVec 32 := BitVec.ofNat 32 (i 2).val
  let c1_i32_76 : BitVec 32 := 1#32
  let v116 : BitVec 32 := Scalar.subi arg2 c1_i32_76
  let c256_i32 : BitVec 32 := 256#32
  let v117 : BitVec 32 := Scalar.muli v116 c256_i32
  let v118 : BitVec 32 := v117
  let v124 : Index := Scalar.indexCast v118
  let c128 : Index := 128#32
  ![v124.toNat, 128]
def k0_off67 (i : grid0.Coords) : Fin 2 → Nat :=
  let arg2 : BitVec 32 := BitVec.ofNat 32 (i 2).val
  let c1_i32_76 : BitVec 32 := 1#32
  let v116 : BitVec 32 := Scalar.subi arg2 c1_i32_76
  let c256_i32 : BitVec 32 := 256#32
  let v117 : BitVec 32 := Scalar.muli v116 c256_i32
  let v118 : BitVec 32 := v117
  let v129 : Index := Scalar.indexCast v118
  let c256 : Index := 256#32
  ![v129.toNat, 256]
def k0_off68 (i : grid0.Coords) : Fin 2 → Nat :=
  let arg2 : BitVec 32 := BitVec.ofNat 32 (i 2).val
  let c1_i32_76 : BitVec 32 := 1#32
  let v116 : BitVec 32 := Scalar.subi arg2 c1_i32_76
  let c256_i32 : BitVec 32 := 256#32
  let v117 : BitVec 32 := Scalar.muli v116 c256_i32
  let v118 : BitVec 32 := v117
  let v134 : Index := Scalar.indexCast v118
  let c384 : Index := 384#32
  ![v134.toNat, 384]
def k0_off69 (i : grid0.Coords) : Fin 2 → Nat :=
  let arg2 : BitVec 32 := BitVec.ofNat 32 (i 2).val
  let c1_i32_76 : BitVec 32 := 1#32
  let v116 : BitVec 32 := Scalar.subi arg2 c1_i32_76
  let c256_i32 : BitVec 32 := 256#32
  let v117 : BitVec 32 := Scalar.muli v116 c256_i32
  let v118 : BitVec 32 := v117
  let v139 : Index := Scalar.indexCast v118
  let c512 : Index := 512#32
  ![v139.toNat, 512]
def k0_off70 (i : grid0.Coords) : Fin 2 → Nat :=
  let arg2 : BitVec 32 := BitVec.ofNat 32 (i 2).val
  let c1_i32_76 : BitVec 32 := 1#32
  let v116 : BitVec 32 := Scalar.subi arg2 c1_i32_76
  let c256_i32 : BitVec 32 := 256#32
  let v117 : BitVec 32 := Scalar.muli v116 c256_i32
  let v118 : BitVec 32 := v117
  let v144 : Index := Scalar.indexCast v118
  let c640 : Index := 640#32
  ![v144.toNat, 640]
def k0_off71 (i : grid0.Coords) : Fin 2 → Nat :=
  let arg2 : BitVec 32 := BitVec.ofNat 32 (i 2).val
  let c1_i32_76 : BitVec 32 := 1#32
  let v116 : BitVec 32 := Scalar.subi arg2 c1_i32_76
  let c256_i32 : BitVec 32 := 256#32
  let v117 : BitVec 32 := Scalar.muli v116 c256_i32
  let v118 : BitVec 32 := v117
  let v149 : Index := Scalar.indexCast v118
  let c768 : Index := 768#32
  ![v149.toNat, 768]
def k0_off72 (i : grid0.Coords) : Fin 2 → Nat :=
  let arg2 : BitVec 32 := BitVec.ofNat 32 (i 2).val
  let c1_i32_76 : BitVec 32 := 1#32
  let v116 : BitVec 32 := Scalar.subi arg2 c1_i32_76
  let c256_i32 : BitVec 32 := 256#32
  let v117 : BitVec 32 := Scalar.muli v116 c256_i32
  let v118 : BitVec 32 := v117
  let v154 : Index := Scalar.indexCast v118
  let c896 : Index := 896#32
  ![v154.toNat, 896]
def k0_mult6 (i : grid0.Coords) : BitVec 32 :=
  let arg2 : BitVec 32 := BitVec.ofNat 32 (i 2).val
  let c256_i32_118 : BitVec 32 := 256#32
  let v159 : BitVec 32 := Scalar.muli arg2 c256_i32_118
  v159
def k0_off73 (i : grid0.Coords) : Fin 2 → Nat :=
  let arg2 : BitVec 32 := BitVec.ofNat 32 (i 2).val
  let c256_i32_118 : BitVec 32 := 256#32
  let v159 : BitVec 32 := Scalar.muli arg2 c256_i32_118
  let v160 : BitVec 32 := v159
  let v161 : Index := Scalar.indexCast v160
  let c0_119 : Index := 0#32
  ![v161.toNat, 0]
def k0_off74 (i : grid0.Coords) : Fin 2 → Nat :=
  let arg2 : BitVec 32 := BitVec.ofNat 32 (i 2).val
  let c256_i32_118 : BitVec 32 := 256#32
  let v159 : BitVec 32 := Scalar.muli arg2 c256_i32_118
  let v160 : BitVec 32 := v159
  let v166 : Index := Scalar.indexCast v160
  let c128_125 : Index := 128#32
  ![v166.toNat, 128]
def k0_off75 (i : grid0.Coords) : Fin 2 → Nat :=
  let arg2 : BitVec 32 := BitVec.ofNat 32 (i 2).val
  let c256_i32_118 : BitVec 32 := 256#32
  let v159 : BitVec 32 := Scalar.muli arg2 c256_i32_118
  let v160 : BitVec 32 := v159
  let v171 : Index := Scalar.indexCast v160
  let c256_131 : Index := 256#32
  ![v171.toNat, 256]
def k0_off76 (i : grid0.Coords) : Fin 2 → Nat :=
  let arg2 : BitVec 32 := BitVec.ofNat 32 (i 2).val
  let c256_i32_118 : BitVec 32 := 256#32
  let v159 : BitVec 32 := Scalar.muli arg2 c256_i32_118
  let v160 : BitVec 32 := v159
  let v176 : Index := Scalar.indexCast v160
  let c384_137 : Index := 384#32
  ![v176.toNat, 384]
def k0_off77 (i : grid0.Coords) : Fin 2 → Nat :=
  let arg2 : BitVec 32 := BitVec.ofNat 32 (i 2).val
  let c256_i32_118 : BitVec 32 := 256#32
  let v159 : BitVec 32 := Scalar.muli arg2 c256_i32_118
  let v160 : BitVec 32 := v159
  let v181 : Index := Scalar.indexCast v160
  let c512_143 : Index := 512#32
  ![v181.toNat, 512]
def k0_off78 (i : grid0.Coords) : Fin 2 → Nat :=
  let arg2 : BitVec 32 := BitVec.ofNat 32 (i 2).val
  let c256_i32_118 : BitVec 32 := 256#32
  let v159 : BitVec 32 := Scalar.muli arg2 c256_i32_118
  let v160 : BitVec 32 := v159
  let v186 : Index := Scalar.indexCast v160
  let c640_149 : Index := 640#32
  ![v186.toNat, 640]
def k0_off79 (i : grid0.Coords) : Fin 2 → Nat :=
  let arg2 : BitVec 32 := BitVec.ofNat 32 (i 2).val
  let c256_i32_118 : BitVec 32 := 256#32
  let v159 : BitVec 32 := Scalar.muli arg2 c256_i32_118
  let v160 : BitVec 32 := v159
  let v191 : Index := Scalar.indexCast v160
  let c768_155 : Index := 768#32
  ![v191.toNat, 768]
def k0_off80 (i : grid0.Coords) : Fin 2 → Nat :=
  let arg2 : BitVec 32 := BitVec.ofNat 32 (i 2).val
  let c256_i32_118 : BitVec 32 := 256#32
  let v159 : BitVec 32 := Scalar.muli arg2 c256_i32_118
  let v160 : BitVec 32 := v159
  let v196 : Index := Scalar.indexCast v160
  let c896_161 : Index := 896#32
  ![v196.toNat, 896]
def k0_off81 (i : grid0.Coords) : Fin 4 → Nat :=
  let c0_175 : Index := 0#32
  let arg2 : BitVec 32 := BitVec.ofNat 32 (i 2).val
  let c1_i32_76 : BitVec 32 := 1#32
  let v116 : BitVec 32 := Scalar.subi arg2 c1_i32_76
  let v273 : Index := Scalar.indexCast v116
  let c0_176 : Index := 0#32
  let c0_177 : Index := 0#32
  ![0, v273.toNat, 0, 0]
def k0_off82 (i : grid0.Coords) : Fin 4 → Nat :=
  let c0_185 : Index := 0#32
  let arg2 : BitVec 32 := BitVec.ofNat 32 (i 2).val
  let c1_i32_76 : BitVec 32 := 1#32
  let v116 : BitVec 32 := Scalar.subi arg2 c1_i32_76
  let v285 : Index := Scalar.indexCast v116
  let c80 : Index := 80#32
  let c0_186 : Index := 0#32
  ![0, v285.toNat, 80, 0]
def k0_off83 (i : grid0.Coords) : Fin 4 → Nat :=
  let c0_194 : Index := 0#32
  let arg2 : BitVec 32 := BitVec.ofNat 32 (i 2).val
  let c1_i32_76 : BitVec 32 := 1#32
  let v116 : BitVec 32 := Scalar.subi arg2 c1_i32_76
  let v297 : Index := Scalar.indexCast v116
  let c160 : Index := 160#32
  let c0_195 : Index := 0#32
  ![0, v297.toNat, 160, 0]
def k0_off84 (i : grid0.Coords) : Fin 4 → Nat :=
  let c0_203 : Index := 0#32
  let arg2 : BitVec 32 := BitVec.ofNat 32 (i 2).val
  let c1_i32_76 : BitVec 32 := 1#32
  let v116 : BitVec 32 := Scalar.subi arg2 c1_i32_76
  let v309 : Index := Scalar.indexCast v116
  let c240 : Index := 240#32
  let c0_204 : Index := 0#32
  ![0, v309.toNat, 240, 0]
def k0_off85 (i : grid0.Coords) : Fin 4 → Nat :=
  let c0_212 : Index := 0#32
  let arg2 : BitVec 32 := BitVec.ofNat 32 (i 2).val
  let c1_i32_76 : BitVec 32 := 1#32
  let v116 : BitVec 32 := Scalar.subi arg2 c1_i32_76
  let v321 : Index := Scalar.indexCast v116
  let c320 : Index := 320#32
  let c0_213 : Index := 0#32
  ![0, v321.toNat, 320, 0]
def k0_off86 (i : grid0.Coords) : Fin 4 → Nat :=
  let c0_221 : Index := 0#32
  let arg2 : BitVec 32 := BitVec.ofNat 32 (i 2).val
  let c1_i32_76 : BitVec 32 := 1#32
  let v116 : BitVec 32 := Scalar.subi arg2 c1_i32_76
  let v333 : Index := Scalar.indexCast v116
  let c400 : Index := 400#32
  let c0_222 : Index := 0#32
  ![0, v333.toNat, 400, 0]
def k0_off87 (i : grid0.Coords) : Fin 4 → Nat :=
  let c0_230 : Index := 0#32
  let arg2 : BitVec 32 := BitVec.ofNat 32 (i 2).val
  let c1_i32_76 : BitVec 32 := 1#32
  let v116 : BitVec 32 := Scalar.subi arg2 c1_i32_76
  let v345 : Index := Scalar.indexCast v116
  let c480 : Index := 480#32
  let c0_231 : Index := 0#32
  ![0, v345.toNat, 480, 0]
def k0_off88 (i : grid0.Coords) : Fin 4 → Nat :=
  let c0_239 : Index := 0#32
  let arg2 : BitVec 32 := BitVec.ofNat 32 (i 2).val
  let c1_i32_76 : BitVec 32 := 1#32
  let v116 : BitVec 32 := Scalar.subi arg2 c1_i32_76
  let v357 : Index := Scalar.indexCast v116
  let c560 : Index := 560#32
  let c0_240 : Index := 0#32
  ![0, v357.toNat, 560, 0]
def k0_off89 (i : grid0.Coords) : Fin 4 → Nat :=
  let c0_264 : Index := 0#32
  let arg2 : BitVec 32 := BitVec.ofNat 32 (i 2).val
  let v465 : Index := Scalar.indexCast arg2
  let c0_265 : Index := 0#32
  let c0_266 : Index := 0#32
  ![0, v465.toNat, 0, 0]
def k0_off90 (i : grid0.Coords) : Fin 4 → Nat :=
  let c0_274 : Index := 0#32
  let arg2 : BitVec 32 := BitVec.ofNat 32 (i 2).val
  let v477 : Index := Scalar.indexCast arg2
  let c80_275 : Index := 80#32
  let c0_276 : Index := 0#32
  ![0, v477.toNat, 80, 0]
def k0_off91 (i : grid0.Coords) : Fin 4 → Nat :=
  let c0_284 : Index := 0#32
  let arg2 : BitVec 32 := BitVec.ofNat 32 (i 2).val
  let v489 : Index := Scalar.indexCast arg2
  let c160_285 : Index := 160#32
  let c0_286 : Index := 0#32
  ![0, v489.toNat, 160, 0]
def k0_off92 (i : grid0.Coords) : Fin 4 → Nat :=
  let c0_294 : Index := 0#32
  let arg2 : BitVec 32 := BitVec.ofNat 32 (i 2).val
  let v501 : Index := Scalar.indexCast arg2
  let c240_295 : Index := 240#32
  let c0_296 : Index := 0#32
  ![0, v501.toNat, 240, 0]
def k0_off93 (i : grid0.Coords) : Fin 4 → Nat :=
  let c0_304 : Index := 0#32
  let arg2 : BitVec 32 := BitVec.ofNat 32 (i 2).val
  let v513 : Index := Scalar.indexCast arg2
  let c320_305 : Index := 320#32
  let c0_306 : Index := 0#32
  ![0, v513.toNat, 320, 0]
def k0_off94 (i : grid0.Coords) : Fin 4 → Nat :=
  let c0_314 : Index := 0#32
  let arg2 : BitVec 32 := BitVec.ofNat 32 (i 2).val
  let v525 : Index := Scalar.indexCast arg2
  let c400_315 : Index := 400#32
  let c0_316 : Index := 0#32
  ![0, v525.toNat, 400, 0]
def k0_off95 (i : grid0.Coords) : Fin 4 → Nat :=
  let c0_324 : Index := 0#32
  let arg2 : BitVec 32 := BitVec.ofNat 32 (i 2).val
  let v537 : Index := Scalar.indexCast arg2
  let c480_325 : Index := 480#32
  let c0_326 : Index := 0#32
  ![0, v537.toNat, 480, 0]
def k0_off96 (i : grid0.Coords) : Fin 4 → Nat :=
  let c0_334 : Index := 0#32
  let arg2 : BitVec 32 := BitVec.ofNat 32 (i 2).val
  let v549 : Index := Scalar.indexCast arg2
  let c560_335 : Index := 560#32
  let c0_336 : Index := 0#32
  ![0, v549.toNat, 560, 0]
def k0_cond2 (i : grid0.Coords) : BitVec 1 :=
  let arg2 : BitVec 32 := BitVec.ofNat 32 (i 2).val
  let c2_i32_26 : BitVec 32 := 2#32
  let c0_i32_27 : BitVec 32 := 0#32
  let v51 : BitVec 1 := Scalar.cmpi .eq c2_i32_26 c0_i32_27
  let c1_i32_28 : BitVec 32 := 1#32
  let v52 : BitVec 32 := Scalar.select v51 c1_i32_28 c2_i32_26
  let v53 : BitVec 32 := Scalar.remsi arg2 v52
  let c0_i32_30 : BitVec 32 := 0#32
  let v55 : BitVec 1 := Scalar.cmpi .slt v53 c0_i32_30
  let c0_i32_31 : BitVec 32 := 0#32
  let v56 : BitVec 1 := Scalar.cmpi .slt v52 c0_i32_31
  let v57 : BitVec 1 := Scalar.xori v55 v56
  let c0_i32_29 : BitVec 32 := 0#32
  let v54 : BitVec 1 := Scalar.cmpi .ne v53 c0_i32_29
  let v58 : BitVec 1 := Scalar.andi v57 v54
  let v59 : BitVec 32 := Scalar.addi v53 v52
  let v60 : BitVec 32 := Scalar.select v58 v59 v53
  let c0_i32_32 : BitVec 32 := 0#32
  let v61 : BitVec 1 := Scalar.cmpi .eq v60 c0_i32_32
  let v62 : BitVec 32 := Scalar.extui v61
  let c0_i32_33 : BitVec 32 := 0#32
  let v63 : BitVec 1 := Scalar.cmpi .ne v62 c0_i32_33
  v63

def k0_mult7 (i : grid0.Coords) : BitVec 32 :=
  let arg2 : BitVec 32 := BitVec.ofNat 32 (i 2).val
  let c256_i32 : BitVec 32 := 256#32
  let v116 : BitVec 32 := Scalar.muli arg2 c256_i32
  v116
def k0_off97 (i : grid0.Coords) : Fin 2 → Nat :=
  let arg2 : BitVec 32 := BitVec.ofNat 32 (i 2).val
  let c256_i32 : BitVec 32 := 256#32
  let v116 : BitVec 32 := Scalar.muli arg2 c256_i32
  let v117 : BitVec 32 := v116
  let v118 : Index := Scalar.indexCast v117
  let c0_76 : Index := 0#32
  ![v118.toNat, 0]
def k0_off98 (i : grid0.Coords) : Fin 2 → Nat :=
  let arg2 : BitVec 32 := BitVec.ofNat 32 (i 2).val
  let c256_i32 : BitVec 32 := 256#32
  let v116 : BitVec 32 := Scalar.muli arg2 c256_i32
  let v117 : BitVec 32 := v116
  let v123 : Index := Scalar.indexCast v117
  let c128 : Index := 128#32
  ![v123.toNat, 128]
def k0_off99 (i : grid0.Coords) : Fin 2 → Nat :=
  let arg2 : BitVec 32 := BitVec.ofNat 32 (i 2).val
  let c256_i32 : BitVec 32 := 256#32
  let v116 : BitVec 32 := Scalar.muli arg2 c256_i32
  let v117 : BitVec 32 := v116
  let v128 : Index := Scalar.indexCast v117
  let c256 : Index := 256#32
  ![v128.toNat, 256]
def k0_off100 (i : grid0.Coords) : Fin 2 → Nat :=
  let arg2 : BitVec 32 := BitVec.ofNat 32 (i 2).val
  let c256_i32 : BitVec 32 := 256#32
  let v116 : BitVec 32 := Scalar.muli arg2 c256_i32
  let v117 : BitVec 32 := v116
  let v133 : Index := Scalar.indexCast v117
  let c384 : Index := 384#32
  ![v133.toNat, 384]
def k0_off101 (i : grid0.Coords) : Fin 2 → Nat :=
  let arg2 : BitVec 32 := BitVec.ofNat 32 (i 2).val
  let c256_i32 : BitVec 32 := 256#32
  let v116 : BitVec 32 := Scalar.muli arg2 c256_i32
  let v117 : BitVec 32 := v116
  let v138 : Index := Scalar.indexCast v117
  let c512 : Index := 512#32
  ![v138.toNat, 512]
def k0_off102 (i : grid0.Coords) : Fin 2 → Nat :=
  let arg2 : BitVec 32 := BitVec.ofNat 32 (i 2).val
  let c256_i32 : BitVec 32 := 256#32
  let v116 : BitVec 32 := Scalar.muli arg2 c256_i32
  let v117 : BitVec 32 := v116
  let v143 : Index := Scalar.indexCast v117
  let c640 : Index := 640#32
  ![v143.toNat, 640]
def k0_off103 (i : grid0.Coords) : Fin 2 → Nat :=
  let arg2 : BitVec 32 := BitVec.ofNat 32 (i 2).val
  let c256_i32 : BitVec 32 := 256#32
  let v116 : BitVec 32 := Scalar.muli arg2 c256_i32
  let v117 : BitVec 32 := v116
  let v148 : Index := Scalar.indexCast v117
  let c768 : Index := 768#32
  ![v148.toNat, 768]
def k0_off104 (i : grid0.Coords) : Fin 2 → Nat :=
  let arg2 : BitVec 32 := BitVec.ofNat 32 (i 2).val
  let c256_i32 : BitVec 32 := 256#32
  let v116 : BitVec 32 := Scalar.muli arg2 c256_i32
  let v117 : BitVec 32 := v116
  let v153 : Index := Scalar.indexCast v117
  let c896 : Index := 896#32
  ![v153.toNat, 896]
def k0_off105 (i : grid0.Coords) : Fin 4 → Nat :=
  let c0_133 : Index := 0#32
  let arg2 : BitVec 32 := BitVec.ofNat 32 (i 2).val
  let v254 : Index := Scalar.indexCast arg2
  let c0_134 : Index := 0#32
  let c0_135 : Index := 0#32
  ![0, v254.toNat, 0, 0]
def k0_off106 (i : grid0.Coords) : Fin 4 → Nat :=
  let c0_143 : Index := 0#32
  let arg2 : BitVec 32 := BitVec.ofNat 32 (i 2).val
  let v266 : Index := Scalar.indexCast arg2
  let c80 : Index := 80#32
  let c0_144 : Index := 0#32
  ![0, v266.toNat, 80, 0]
def k0_off107 (i : grid0.Coords) : Fin 4 → Nat :=
  let c0_152 : Index := 0#32
  let arg2 : BitVec 32 := BitVec.ofNat 32 (i 2).val
  let v278 : Index := Scalar.indexCast arg2
  let c160 : Index := 160#32
  let c0_153 : Index := 0#32
  ![0, v278.toNat, 160, 0]
def k0_off108 (i : grid0.Coords) : Fin 4 → Nat :=
  let c0_161 : Index := 0#32
  let arg2 : BitVec 32 := BitVec.ofNat 32 (i 2).val
  let v290 : Index := Scalar.indexCast arg2
  let c240 : Index := 240#32
  let c0_162 : Index := 0#32
  ![0, v290.toNat, 240, 0]
def k0_off109 (i : grid0.Coords) : Fin 4 → Nat :=
  let c0_170 : Index := 0#32
  let arg2 : BitVec 32 := BitVec.ofNat 32 (i 2).val
  let v302 : Index := Scalar.indexCast arg2
  let c320 : Index := 320#32
  let c0_171 : Index := 0#32
  ![0, v302.toNat, 320, 0]
def k0_off110 (i : grid0.Coords) : Fin 4 → Nat :=
  let c0_179 : Index := 0#32
  let arg2 : BitVec 32 := BitVec.ofNat 32 (i 2).val
  let v314 : Index := Scalar.indexCast arg2
  let c400 : Index := 400#32
  let c0_180 : Index := 0#32
  ![0, v314.toNat, 400, 0]
def k0_off111 (i : grid0.Coords) : Fin 4 → Nat :=
  let c0_188 : Index := 0#32
  let arg2 : BitVec 32 := BitVec.ofNat 32 (i 2).val
  let v326 : Index := Scalar.indexCast arg2
  let c480 : Index := 480#32
  let c0_189 : Index := 0#32
  ![0, v326.toNat, 480, 0]
def k0_off112 (i : grid0.Coords) : Fin 4 → Nat :=
  let c0_197 : Index := 0#32
  let arg2 : BitVec 32 := BitVec.ofNat 32 (i 2).val
  let v338 : Index := Scalar.indexCast arg2
  let c560 : Index := 560#32
  let c0_198 : Index := 0#32
  ![0, v338.toNat, 560, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x8x1024x256 : Shape := ⟨4, ![8, 8, 1024, 256]⟩
abbrev S16384x1024 : Shape := ⟨2, ![16384, 1024]⟩
abbrev S8x8x640x256 : Shape := ⟨4, ![8, 8, 640, 256]⟩
abbrev S8x8x8x128x256 : Shape := ⟨5, ![8, 8, 8, 128, 256]⟩
abbrev S8x8x8x256x128 : Shape := ⟨5, ![8, 8, 8, 256, 128]⟩
abbrev S8x8x2048x128 : Shape := ⟨4, ![8, 8, 2048, 128]⟩
abbrev S8x2048x8x128 : Shape := ⟨4, ![8, 2048, 8, 128]⟩
abbrev S8x8x8x80x256 : Shape := ⟨5, ![8, 8, 8, 80, 256]⟩
abbrev S8x8x8x64x256 : Shape := ⟨5, ![8, 8, 8, 64, 256]⟩
abbrev S8x8x8x256x64 : Shape := ⟨5, ![8, 8, 8, 256, 64]⟩
abbrev S8x8x2048x64 : Shape := ⟨4, ![8, 8, 2048, 64]⟩
abbrev S8x8x2048x2048 : Shape := ⟨4, ![8, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩
abbrev S8x2048x8x64 : Shape := ⟨4, ![8, 2048, 8, 64]⟩
abbrev S16384x512 : Shape := ⟨2, ![16384, 512]⟩

abbrev nBuf : Space → Nat
  | .hbm => 50
  | .vmem => 0
  | .smem => 0
  | _ => 0

abbrev bufTy : (tb : Table) → Fin (tcTables nBuf tb) → BufTy
  | .hbm, ⟨0, _⟩ => ⟨S8x8x1024x256, .bf16⟩
  | .hbm, ⟨1, _⟩ => ⟨S16384x1024, .bf16⟩
  | .hbm, ⟨2, _⟩ => ⟨S8x8x640x256, .bf16⟩
  | .hbm, ⟨3, _⟩ => ⟨S8x8x1024x256, .f32⟩
  | .hbm, ⟨4, _⟩ => ⟨S8x8x8x128x256, .f32⟩
  | .hbm, ⟨5, _⟩ => ⟨S8x8x8x256x128, .f32⟩
  | .hbm, ⟨6, _⟩ => ⟨S8x8x2048x128, .f32⟩
  | .hbm, ⟨7, _⟩ => ⟨S16384x1024, .f32⟩
  | .hbm, ⟨8, _⟩ => ⟨S8x2048x8x128, .f32⟩
  | .hbm, ⟨9, _⟩ => ⟨S8x8x2048x128, .f32⟩
  | .hbm, ⟨10, _⟩ => ⟨S8x8x640x256, .f32⟩
  | .hbm, ⟨11, _⟩ => ⟨S8x8x8x80x256, .f32⟩
  | .hbm, ⟨12, _⟩ => ⟨S8x8x8x64x256, .f32⟩
  | .hbm, ⟨13, _⟩ => ⟨S8x8x8x256x64, .f32⟩
  | .hbm, ⟨14, _⟩ => ⟨S8x8x2048x64, .f32⟩
  | .hbm, ⟨15, _⟩ => ⟨S8x8x2048x2048, .f32⟩
  | .hbm, ⟨16, _⟩ => ⟨S_, .f32⟩
  | .hbm, ⟨17, _⟩ => ⟨S_, .f32⟩
  | .hbm, ⟨18, _⟩ => ⟨S8x8x2048x2048, .f32⟩
  | .hbm, ⟨19, _⟩ => ⟨S8x8x2048x2048, .f32⟩
  | .hbm, ⟨20, _⟩ => ⟨S2048, .i32⟩
  | .hbm, ⟨21, _⟩ => ⟨S2048x1, .i32⟩
  | .hbm, ⟨22, _⟩ => ⟨S2048, .i32⟩
  | .hbm, ⟨23, _⟩ => ⟨S1x2048, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S_, .f32⟩
  | .hbm, ⟨28, _⟩ => ⟨S_, .f32⟩
  | .hbm, ⟨29, _⟩ => ⟨S8x8x2048x2048, .i1⟩
  | .hbm, ⟨30, _⟩ => ⟨S8x8x2048x2048, .f32⟩
  | .hbm, ⟨31, _⟩ => ⟨S8x8x2048x2048, .f32⟩
  | .hbm, ⟨32, _⟩ => ⟨S_, .f32⟩
  | .hbm, ⟨33, _⟩ => ⟨S8x8x2048, .f32⟩
  | .hbm, ⟨34, _⟩ => ⟨S_, .f32⟩
  | .hbm, ⟨35, _⟩ => ⟨S8x8x2048, .f32⟩
  | .hbm, ⟨36, _⟩ => ⟨S8x8x2048, .f32⟩
  | .hbm, ⟨37, _⟩ => ⟨S8x8x2048x1, .f32⟩
  | .hbm, ⟨38, _⟩ => ⟨S8x8x2048x2048, .f32⟩
  | .hbm, ⟨39, _⟩ => ⟨S8x8x2048x2048, .f32⟩
  | .hbm, ⟨40, _⟩ => ⟨S8x8x2048x2048, .f32⟩
  | .hbm, ⟨41, _⟩ => ⟨S_, .f32⟩
  | .hbm, ⟨42, _⟩ => ⟨S8x8x2048, .f32⟩
  | .hbm, ⟨43, _⟩ => ⟨S8x8x2048x1, .f32⟩
  | .hbm, ⟨44, _⟩ => ⟨S8x8x2048x2048, .f32⟩
  | .hbm, ⟨45, _⟩ => ⟨S8x8x2048x2048, .f32⟩
  | .hbm, ⟨46, _⟩ => ⟨S8x8x64x2048, .f32⟩
  | .hbm, ⟨47, _⟩ => ⟨S8x2048x8x64, .f32⟩
  | .hbm, ⟨48, _⟩ => ⟨S16384x512, .f32⟩
  | .hbm, ⟨49, _⟩ => ⟨S16384x512, .bf16⟩
  | _, _ => ⟨S8x8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== FfnKernel.lean ====
abbrev S16384x1024 : Shape := ⟨2, ![16384, 1024]⟩
abbrev S1024x5632 : Shape := ⟨2, ![1024, 5632]⟩
abbrev S2816x1024 : Shape := ⟨2, ![2816, 1024]⟩
abbrev S36x1x1024 : Shape := ⟨3, ![36, 1, 1024]⟩
abbrev S512x1024 : Shape := ⟨2, ![512, 1024]⟩
abbrev S1x1x1024 : Shape := ⟨3, ![1, 1, 1024]⟩
abbrev S1024x2816 : Shape := ⟨2, ![1024, 2816]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S1024x768 : Shape := ⟨2, ![1024, 768]⟩
abbrev S512x768 : Shape := ⟨2, ![512, 768]⟩
abbrev S768x1024 : Shape := ⟨2, ![768, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S36x1x1024, .f32⟩
  | .hbm, ⟨4, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c20_i32 : BitVec 32 := 20#32
  let c0_i32 : BitVec 32 := 0#32
  let c0_i32_0 : BitVec 32 := 0#32
  let c0_i32_1 : BitVec 32 := 0#32
  ![c20_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c24_i32 : BitVec 32 := 24#32
  let c0_i32 : BitVec 32 := 0#32
  let c0_i32_0 : BitVec 32 := 0#32
  let c0_i32_1 : BitVec 32 := 0#32
  ![c24_i32.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S16384x1024 : Shape := ⟨2, ![16384, 1024]⟩
abbrev S1024x5632 : Shape := ⟨2, ![1024, 5632]⟩
abbrev S2816x1024 : Shape := ⟨2, ![2816, 1024]⟩
abbrev S36x1x1024 : Shape := ⟨3, ![36, 1, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .bf16⟩
  | .hbm, ⟨2, _⟩ => ⟨S2816x1024, .bf16⟩
  | .hbm, ⟨3, _⟩ => ⟨S36x1x1024, .f32⟩
  | .hbm, ⟨4, _⟩ => ⟨S1x1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S1024x5632, .f32⟩
  | .hbm, ⟨23, _⟩ => ⟨S16384x5632, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S_, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S2816x1024, .f32⟩
  | .hbm, ⟨37, _⟩ => ⟨S16384x1024, .f32⟩
  | .hbm, ⟨38, _⟩ => ⟨S1x1x1024, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩

abbrev nD : Nat := 1
abbrev τ : Topo := Topo.v7x

variable {F : FTy → Type} [FloatOps F]
-- ==== MemkvKernel.lean ====
abbrev S8x256x1024 : Shape := ⟨3, ![8, 256, 1024]⟩
abbrev S36x1x1024 : Shape := ⟨3, ![36, 1, 1024]⟩
abbrev S4x1024x2048 : Shape := ⟨3, ![4, 1024, 2048]⟩
abbrev S4x8x1024x256 : Shape := ⟨4, ![4, 8, 1024, 256]⟩
abbrev S4x8x256x1024 : Shape := ⟨4, ![4, 8, 256, 1024]⟩
abbrev S4x256x1024 : Shape := ⟨3, ![4, 256, 1024]⟩
abbrev S1x1x1024 : Shape := ⟨3, ![1, 1, 1024]⟩
abbrev S1x1024x2048 : Shape := ⟨3, ![1, 1024, 2048]⟩
abbrev S1x4x1024x256 : Shape := ⟨4, ![1, 4, 1024, 256]⟩
abbrev S1x4x256x1024 : Shape := ⟨4, ![1, 4, 256, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1x1024x1024 : Shape := ⟨3, ![1, 1024, 1024]⟩
abbrev S256x1024 : Shape := ⟨2, ![256, 1024]⟩
abbrev S1024x256 : Shape := ⟨2, ![1024, 256]⟩
abbrev S1x1x1024x256 : Shape := ⟨4, ![1, 1, 1024, 256]⟩
abbrev S1x1x256x1024 : Shape := ⟨4, ![1, 1, 256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x256x1024, .f32⟩
  | .hbm, ⟨1, _⟩ => ⟨S36x1x1024, .f32⟩
  | .hbm, ⟨2, _⟩ => ⟨S4x1024x2048, .f32⟩
  | .hbm, ⟨3, _⟩ => ⟨S4x8x1024x256, .bf16⟩
  | .hbm, ⟨4, _⟩ => ⟨S4x8x256x1024, .bf16⟩
  | .local _ .vmem, ⟨0, _⟩ => ⟨S4x256x1024, .f32⟩
  | .local _ .vmem, ⟨1, _⟩ => ⟨S4x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024x2048, .f32⟩
  | .local _ .vmem, ⟨5, _⟩ => ⟨S1x1024x2048, .f32⟩
  | .local _ .vmem, ⟨6, _⟩ => ⟨S1x4x1024x256, .bf16⟩
  | .local _ .vmem, ⟨7, _⟩ => ⟨S1x4x1024x256, .bf16⟩
  | .local _ .vmem, ⟨8, _⟩ => ⟨S1x4x256x1024, .bf16⟩
  | .local _ .vmem, ⟨9, _⟩ => ⟨S1x4x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MemkvReferenceIdeal.lean ====
abbrev S8x256x1024 : Shape := ⟨3, ![8, 256, 1024]⟩
abbrev S36x1x1024 : Shape := ⟨3, ![36, 1, 1024]⟩
abbrev S4x1024x2048 : Shape := ⟨3, ![4, 1024, 2048]⟩
abbrev S4x1x1024 : Shape := ⟨3, ![4, 1, 1024]⟩
abbrev S4x1024 : Shape := ⟨2, ![4, 1024]⟩
abbrev S4x1x1x1024 : Shape := ⟨4, ![4, 1, 1, 1024]⟩
abbrev S_ : Shape := ⟨0, ![]⟩
abbrev S8x256 : Shape := ⟨2, ![8, 256]⟩
abbrev S8x256x1 : Shape := ⟨3, ![8, 256, 1]⟩
abbrev S1x8x256x1024 : Shape := ⟨4, ![1, 8, 256, 1024]⟩
abbrev S4x8x256x1024 : Shape := ⟨4, ![4, 8, 256, 1024]⟩
abbrev S4x8x256x2048 : Shape := ⟨4, ![4, 8, 256, 2048]⟩
abbrev S4x8x1024x256 : Shape := ⟨4, ![4, 8, 1024, 256]⟩

abbrev nBuf : Space → Nat
  | .hbm => 29
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S36x1x1024, .f32⟩
  | .hbm, ⟨2, _⟩ => ⟨S4x1024x2048, .f32⟩
  | .hbm, ⟨3, _⟩ => ⟨S4x1x1024, .f32⟩
  | .hbm, ⟨4, _⟩ => ⟨S4x1024, .f32⟩
  | .hbm, ⟨5, _⟩ => ⟨S4x1x1x1024, .f32⟩
  | .hbm, ⟨6, _⟩ => ⟨S8x256x1024, .f32⟩
  | .hbm, ⟨7, _⟩ => ⟨S_, .f32⟩
  | .hbm, ⟨8, _⟩ => ⟨S8x256, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S_, .f32⟩
  | .hbm, ⟨14, _⟩ => ⟨S8x256x1, .f32⟩
  | .hbm, ⟨15, _⟩ => ⟨S8x256x1, .f32⟩
  | .hbm, ⟨16, _⟩ => ⟨S8x256x1, .f32⟩
  | .hbm, ⟨17, _⟩ => ⟨S8x256x1024, .f32⟩
  | .hbm, ⟨18, _⟩ => ⟨S8x256x1024, .f32⟩
  | .hbm, ⟨19, _⟩ => ⟨S1x8x256x1024, .f32⟩
  | .hbm, ⟨20, _⟩ => ⟨S4x8x256x1024, .f32⟩
  | .hbm, ⟨21, _⟩ => ⟨S4x8x256x1024, .f32⟩
  | .hbm, ⟨22, _⟩ => ⟨S4x8x256x1024, .f32⟩
  | .hbm, ⟨23, _⟩ => ⟨S4x8x256x2048, .f32⟩
  | .hbm, ⟨24, _⟩ => ⟨S4x8x256x1024, .f32⟩
  | .hbm, ⟨25, _⟩ => ⟨S4x8x256x1024, .f32⟩
  | .hbm, ⟨26, _⟩ => ⟨S4x8x1024x256, .f32⟩
  | .hbm, ⟨27, _⟩ => ⟨S4x8x1024x256, .bf16⟩
  | .hbm, ⟨28, _⟩ => ⟨S4x8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== EvenCrossKernel.lean ====
abbrev S16384x512 : Shape := ⟨2, ![16384, 512]⟩
abbrev S2x1024x1024 : Shape := ⟨3, ![2, 1024, 1024]⟩
abbrev S16384x1024 : Shape := ⟨2, ![16384, 1024]⟩
abbrev S36x1x1024 : Shape := ⟨3, ![36, 1, 1024]⟩
abbrev S4x1024x1024 : Shape := ⟨3, ![4, 1024, 1024]⟩
abbrev S4x8x1024x256 : Shape := ⟨4, ![4, 8, 1024, 256]⟩
abbrev S4x8x256x1024 : Shape := ⟨4, ![4, 8, 256, 1024]⟩
abbrev S4x1024x5632 : Shape := ⟨3, ![4, 1024, 5632]⟩
abbrev S4x2816x1024 : Shape := ⟨3, ![4, 2816, 1024]⟩
abbrev S1024x5632 : Shape := ⟨2, ![1024, 5632]⟩
abbrev S2816x1024 : Shape := ⟨2, ![2816, 1024]⟩
abbrev S1024x512 : Shape := ⟨2, ![1024, 512]⟩
abbrev S1x512x1024 : Shape := ⟨3, ![1, 512, 1024]⟩
abbrev S1024x1024 : Shape := ⟨2, ![1024, 1024]⟩
abbrev S1x1x1024 : Shape := ⟨3, ![1, 1, 1024]⟩
abbrev S1x1024x1024 : Shape := ⟨3, ![1, 1024, 1024]⟩
abbrev S1x1x1024x256 : Shape := ⟨4, ![1, 1, 1024, 256]⟩
abbrev S1x1x256x1024 : Shape := ⟨4, ![1, 1, 256, 1024]⟩
abbrev S1x64x5632 : Shape := ⟨3, ![1, 64, 5632]⟩
abbrev S1x176x1024 : Shape := ⟨3, ![1, 176, 1024]⟩
abbrev S64x5632 : Shape := ⟨2, ![64, 5632]⟩
abbrev S176x1024 : Shape := ⟨2, ![176, 1024]⟩
abbrev S256x512 : Shape := ⟨2, ![256, 512]⟩
abbrev S512x1024 : Shape := ⟨2, ![512, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x256 : Shape := ⟨2, ![256, 256]⟩
abbrev S1x1x256x256 : Shape := ⟨4, ![1, 1, 256, 256]⟩

abbrev nBuf : Space → Nat
  | .hbm => 14
  | .vmem => 27
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S2x1024x1024, .bf16⟩
  | .hbm, ⟨3, _⟩ => ⟨S16384x1024, .f32⟩
  | .hbm, ⟨4, _⟩ => ⟨S36x1x1024, .f32⟩
  | .hbm, ⟨5, _⟩ => ⟨S4x1024x1024, .bf16⟩
  | .hbm, ⟨6, _⟩ => ⟨S4x8x1024x256, .bf16⟩
  | .hbm, ⟨7, _⟩ => ⟨S4x8x256x1024, .bf16⟩
  | .hbm, ⟨8, _⟩ => ⟨S4x1024x1024, .bf16⟩
  | .hbm, ⟨9, _⟩ => ⟨S4x1024x5632, .f32⟩
  | .hbm, ⟨10, _⟩ => ⟨S4x2816x1024, .f32⟩
  | .hbm, ⟨11, _⟩ => ⟨S16384x1024, .f32⟩
  | .hbm, ⟨12, _⟩ => ⟨S1024x5632, .bf16⟩
  | .hbm, ⟨13, _⟩ => ⟨S2816x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1024x1024, .f32⟩
  | .local _ .vmem, ⟨7, _⟩ => ⟨S1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x1024, .bf16⟩
  | .local _ .vmem, ⟨11, _⟩ => ⟨S1x1x1024x256, .bf16⟩
  | .local _ .vmem, ⟨12, _⟩ => ⟨S1x1x1024x256, .bf16⟩
  | .local _ .vmem, ⟨13, _⟩ => ⟨S1x1x256x1024, .bf16⟩
  | .local _ .vmem, ⟨14, _⟩ => ⟨S1x1x256x1024, .bf16⟩
  | .local _ .vmem, ⟨15, _⟩ => ⟨S1x1024x1024, .bf16⟩
  | .local _ .vmem, ⟨16, _⟩ => ⟨S1x1x1024, .f32⟩
  | .local _ .vmem, ⟨17, _⟩ => ⟨S1x64x5632, .f32⟩
  | .local _ .vmem, ⟨18, _⟩ => ⟨S1x64x5632, .f32⟩
  | .local _ .vmem, ⟨19, _⟩ => ⟨S1x176x1024, .f32⟩
  | .local _ .vmem, ⟨20, _⟩ => ⟨S1x176x1024, .f32⟩
  | .local _ .vmem, ⟨21, _⟩ => ⟨S1024x1024, .f32⟩
  | .local _ .vmem, ⟨22, _⟩ => ⟨S1024x1024, .f32⟩
  | .local _ .vmem, ⟨23, _⟩ => ⟨S64x5632, .bf16⟩
  | .local _ .vmem, ⟨24, _⟩ => ⟨S64x5632, .bf16⟩
  | .local _ .vmem, ⟨25, _⟩ => ⟨S176x1024, .bf16⟩
  | .local _ .vmem, ⟨26, _⟩ => ⟨S176x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_6 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_9 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x64x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S176x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== EvenCrossReferenceIdeal.lean ====
abbrev S16384x512 : Shape := ⟨2, ![16384, 512]⟩
abbrev S2x1024x1024 : Shape := ⟨3, ![2, 1024, 1024]⟩
abbrev S16384x1024 : Shape := ⟨2, ![16384, 1024]⟩
abbrev S36x1x1024 : Shape := ⟨3, ![36, 1, 1024]⟩
abbrev S4x1024x1024 : Shape := ⟨3, ![4, 1024, 1024]⟩
abbrev S4x8x1024x256 : Shape := ⟨4, ![4, 8, 1024, 256]⟩
abbrev S4x8x256x1024 : Shape := ⟨4, ![4, 8, 256, 1024]⟩
abbrev S4x1024x5632 : Shape := ⟨3, ![4, 1024, 5632]⟩
abbrev S4x2816x1024 : Shape := ⟨3, ![4, 2816, 1024]⟩
abbrev S8x2048x1024 : Shape := ⟨3, ![8, 2048, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x2048x4x256 : Shape := ⟨4, ![8, 2048, 4, 256]⟩
abbrev S1x8x1024x256 : Shape := ⟨4, ![1, 8, 1024, 256]⟩
abbrev S8x1024x256 : Shape := ⟨3, ![8, 1024, 256]⟩
abbrev S8x4x256x256 : Shape := ⟨4, ![8, 4, 256, 256]⟩
abbrev S1x8x256x1024 : Shape := ⟨4, ![1, 8, 256, 1024]⟩
abbrev S8x256x1024 : Shape := ⟨3, ![8, 256, 1024]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩

abbrev nBuf : Space → Nat
  | .hbm => 119
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S2x1024x1024, .bf16⟩
  | .hbm, ⟨3, _⟩ => ⟨S16384x1024, .f32⟩
  | .hbm, ⟨4, _⟩ => ⟨S36x1x1024, .f32⟩
  | .hbm, ⟨5, _⟩ => ⟨S4x1024x1024, .bf16⟩
  | .hbm, ⟨6, _⟩ => ⟨S4x8x1024x256, .bf16⟩
  | .hbm, ⟨7, _⟩ => ⟨S4x8x256x1024, .bf16⟩
  | .hbm, ⟨8, _⟩ => ⟨S4x1024x1024, .bf16⟩
  | .hbm, ⟨9, _⟩ => ⟨S4x1024x5632, .f32⟩
  | .hbm, ⟨10, _⟩ => ⟨S4x2816x1024, .f32⟩
  | .hbm, ⟨11, _⟩ => ⟨S16384x1024, .bf16⟩
  | .hbm, ⟨12, _⟩ => ⟨S8x2048x1024, .bf16⟩
  | .hbm, ⟨13, _⟩ => ⟨S8x2048x1024, .f32⟩
  | .hbm, ⟨14, _⟩ => ⟨S1x1024x1024, .bf16⟩
  | .hbm, ⟨15, _⟩ => ⟨S1024x1024, .bf16⟩
  | .hbm, ⟨16, _⟩ => ⟨S1024x1024, .f32⟩
  | .hbm, ⟨17, _⟩ => ⟨S8x2048x1024, .f32⟩
  | .hbm, ⟨18, _⟩ => ⟨S16384x1024, .f32⟩
  | .hbm, ⟨19, _⟩ => ⟨S1x1x1024, .f32⟩
  | .hbm, ⟨20, _⟩ => ⟨S1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S1x1x1024, .f32⟩
  | .hbm, ⟨39, _⟩ => ⟨S1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1x1024x1024, .bf16⟩
  | .hbm, ⟨57, _⟩ => ⟨S1024x1024, .bf16⟩
  | .hbm, ⟨58, _⟩ => ⟨S1024x1024, .f32⟩
  | .hbm, ⟨59, _⟩ => ⟨S16384x1024, .f32⟩
  | .hbm, ⟨60, _⟩ => ⟨S8x2048x4x256, .f32⟩
  | .hbm, ⟨61, _⟩ => ⟨S1x8x1024x256, .bf16⟩
  | .hbm, ⟨62, _⟩ => ⟨S8x1024x256, .bf16⟩
  | .hbm, ⟨63, _⟩ => ⟨S8x1024x256, .f32⟩
  | .hbm, ⟨64, _⟩ => ⟨S8x4x256x256, .f32⟩
  | .hbm, ⟨65, _⟩ => ⟨S1x8x256x1024, .bf16⟩
  | .hbm, ⟨66, _⟩ => ⟨S8x256x1024, .bf16⟩
  | .hbm, ⟨67, _⟩ => ⟨S8x256x1024, .f32⟩
  | .hbm, ⟨68, _⟩ => ⟨S8x256x4x256, .f32⟩
  | .hbm, ⟨69, _⟩ => ⟨S8x4x2048x256, .f32⟩
  | .hbm, ⟨70, _⟩ => ⟨S_, .f32⟩
  | .hbm, ⟨71, _⟩ => ⟨S8x4x2048x256, .f32⟩
  | .hbm, ⟨72, _⟩ => ⟨S8x4x2048x256, .f32⟩
  | .hbm, ⟨73, _⟩ => ⟨S_, .f32⟩
  | .hbm, ⟨74, _⟩ => ⟨S8x4x2048, .f32⟩
  | .hbm, ⟨75, _⟩ => ⟨S_, .f32⟩
  | .hbm, ⟨76, _⟩ => ⟨S8x4x2048, .f32⟩
  | .hbm, ⟨77, _⟩ => ⟨S8x4x2048, .f32⟩
  | .hbm, ⟨78, _⟩ => ⟨S8x4x2048x1, .f32⟩
  | .hbm, ⟨79, _⟩ => ⟨S8x4x2048x256, .f32⟩
  | .hbm, ⟨80, _⟩ => ⟨S8x4x2048x256, .f32⟩
  | .hbm, ⟨81, _⟩ => ⟨S8x4x2048x256, .f32⟩
  | .hbm, ⟨82, _⟩ => ⟨S_, .f32⟩
  | .hbm, ⟨83, _⟩ => ⟨S8x4x2048, .f32⟩
  | .hbm, ⟨84, _⟩ => ⟨S8x4x2048x1, .f32⟩
  | .hbm, ⟨85, _⟩ => ⟨S8x4x2048x256, .f32⟩
  | .hbm, ⟨86, _⟩ => ⟨S8x4x2048x256, .f32⟩
  | .hbm, ⟨87, _⟩ => ⟨S8x4x256x2048, .f32⟩
  | .hbm, ⟨88, _⟩ => ⟨S8x2048x4x256, .f32⟩
  | .hbm, ⟨89, _⟩ => ⟨S16384x1024, .f32⟩
  | .hbm, ⟨90, _⟩ => ⟨S1x1024x1024, .bf16⟩
  | .hbm, ⟨91, _⟩ => ⟨S1024x1024, .bf16⟩
  | .hbm, ⟨92, _⟩ => ⟨S1024x1024, .f32⟩
  | .hbm, ⟨93, _⟩ => ⟨S16384x1024, .f32⟩
  | .hbm, ⟨94, _⟩ => ⟨S1x1x1024, .f32⟩
  | .hbm, ⟨95, _⟩ => ⟨S1024, .f32⟩
  | .hbm, ⟨96, _⟩ => ⟨S16384x1024, .f32⟩
  | .hbm, ⟨97, _⟩ => ⟨S_, .f32⟩
  | .hbm, ⟨98, _⟩ => ⟨S16384, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S_, .f32⟩
  | .hbm, ⟨104, _⟩ => ⟨S16384x1, .f32⟩
  | .hbm, ⟨105, _⟩ => ⟨S16384x1, .f32⟩
  | .hbm, ⟨106, _⟩ => ⟨S16384x1, .f32⟩
  | .hbm, ⟨107, _⟩ => ⟨S16384x1024, .f32⟩
  | .hbm, ⟨108, _⟩ => ⟨S16384x1024, .f32⟩
  | .hbm, ⟨109, _⟩ => ⟨S1x1024, .f32⟩
  | .hbm, ⟨110, _⟩ => ⟨S16384x1024, .f32⟩
  | .hbm, ⟨111, _⟩ => ⟨S16384x1024, .f32⟩
  | .hbm, ⟨112, _⟩ => ⟨S16384x1024, .f32⟩
  | .hbm, ⟨113, _⟩ => ⟨S1x1024x5632, .f32⟩
  | .hbm, ⟨114, _⟩ => ⟨S1024x5632, .f32⟩
  | .hbm, ⟨115, _⟩ => ⟨S1024x5632, .bf16⟩
  | .hbm, ⟨116, _⟩ => ⟨S1x2816x1024, .f32⟩
  | .hbm, ⟨117, _⟩ => ⟨S2816x1024, .f32⟩
  | .hbm, ⟨118, _⟩ => ⟨S2816x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_cst_6 : Ref sig .tc := ⟨.hbm, 73, rfl⟩
abbrev main_v55 : Ref sig .tc := ⟨.hbm, 74, rfl⟩
abbrev main_cst_7 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_8 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_9 : Ref sig .tc := ⟨.hbm, 97, rfl⟩
abbrev main_v76 : Ref sig .tc := ⟨.hbm, 98, rfl⟩
abbrev main_v77 : Ref sig .tc := ⟨.hbm, 99, rfl⟩
abbrev main_cst_10 : Ref sig .tc := ⟨.hbm, 100, rfl⟩
abbrev main_v78 : Ref sig .tc := ⟨.hbm, 101, rfl⟩
abbrev main_v79 : Ref sig .tc := ⟨.hbm, 102, rfl⟩
abbrev main_cst_11 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩

abbrev nD : Nat := 1
abbrev τ : Topo := Topo.v7x

variable {F : FTy → Type} [FloatOps F]
-- ==== OddCrossKernel.lean ====
abbrev S16384x1024 : Shape := ⟨2, ![16384, 1024]⟩
abbrev S2x1024x1024 : Shape := ⟨3, ![2, 1024, 1024]⟩
abbrev S36x1x1024 : Shape := ⟨3, ![36, 1, 1024]⟩
abbrev S4x1024x1024 : Shape := ⟨3, ![4, 1024, 1024]⟩
abbrev S4x8x1024x256 : Shape := ⟨4, ![4, 8, 1024, 256]⟩
abbrev S4x8x256x1024 : Shape := ⟨4, ![4, 8, 256, 1024]⟩
abbrev S4x1024x5632 : Shape := ⟨3, ![4, 1024, 5632]⟩
abbrev S4x2816x1024 : Shape := ⟨3, ![4, 2816, 1024]⟩
abbrev S1024x5632 : Shape := ⟨2, ![1024, 5632]⟩
abbrev S2816x1024 : Shape := ⟨2, ![2816, 1024]⟩
abbrev S1024x1024 : Shape := ⟨2, ![1024, 1024]⟩
abbrev S1x1024x1024 : Shape := ⟨3, ![1, 1024, 1024]⟩
abbrev S1x1x1024 : Shape := ⟨3, ![1, 1, 1024]⟩
abbrev S1x1x1024x256 : Shape := ⟨4, ![1, 1, 1024, 256]⟩
abbrev S1x1x256x1024 : Shape := ⟨4, ![1, 1, 256, 1024]⟩
abbrev S1x64x5632 : Shape := ⟨3, ![1, 64, 5632]⟩
abbrev S1x176x1024 : Shape := ⟨3, ![1, 176, 1024]⟩
abbrev S64x5632 : Shape := ⟨2, ![64, 5632]⟩
abbrev S176x1024 : Shape := ⟨2, ![176, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x256 : Shape := ⟨2, ![256, 256]⟩
abbrev S1x1x256x256 : Shape := ⟨4, ![1, 1, 256, 256]⟩

abbrev nBuf : Space → Nat
  | .hbm => 13
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S2x1024x1024, .bf16⟩
  | .hbm, ⟨2, _⟩ => ⟨S16384x1024, .f32⟩
  | .hbm, ⟨3, _⟩ => ⟨S36x1x1024, .f32⟩
  | .hbm, ⟨4, _⟩ => ⟨S4x1024x1024, .bf16⟩
  | .hbm, ⟨5, _⟩ => ⟨S4x8x1024x256, .bf16⟩
  | .hbm, ⟨6, _⟩ => ⟨S4x8x256x1024, .bf16⟩
  | .hbm, ⟨7, _⟩ => ⟨S4x1024x1024, .bf16⟩
  | .hbm, ⟨8, _⟩ => ⟨S4x1024x5632, .f32⟩
  | .hbm, ⟨9, _⟩ => ⟨S4x2816x1024, .f32⟩
  | .hbm, ⟨10, _⟩ => ⟨S16384x1024, .f32⟩
  | .hbm, ⟨11, _⟩ => ⟨S1024x5632, .bf16⟩
  | .hbm, ⟨12, _⟩ => ⟨S2816x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x1024, .bf16⟩
  | .local _ .vmem, ⟨8, _⟩ => ⟨S1x1x1024x256, .bf16⟩
  | .local _ .vmem, ⟨9, _⟩ => ⟨S1x1x1024x256, .bf16⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1024x1024, .bf16⟩
  | .local _ .vmem, ⟨13, _⟩ => ⟨S1x1x1024, .f32⟩
  | .local _ .vmem, ⟨14, _⟩ => ⟨S1x64x5632, .f32⟩
  | .local _ .vmem, ⟨15, _⟩ => ⟨S1x64x5632, .f32⟩
  | .local _ .vmem, ⟨16, _⟩ => ⟨S1x176x1024, .f32⟩
  | .local _ .vmem, ⟨17, _⟩ => ⟨S1x176x1024, .f32⟩
  | .local _ .vmem, ⟨18, _⟩ => ⟨S1024x1024, .f32⟩
  | .local _ .vmem, ⟨19, _⟩ => ⟨S1024x1024, .f32⟩
  | .local _ .vmem, ⟨20, _⟩ => ⟨S64x5632, .bf16⟩
  | .local _ .vmem, ⟨21, _⟩ => ⟨S64x5632, .bf16⟩
  | .local _ .vmem, ⟨22, _⟩ => ⟨S176x1024, .bf16⟩
  | .local _ .vmem, ⟨23, _⟩ => ⟨S176x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_4 (i : grid0.Coords) : Fin 3 → Nat :=
  let arg0 : BitVec 32 := BitVec.ofNat 32 (i 0).val
  let c9_i32 : BitVec 32 := 9#32
  let c0_i32 : BitVec 32 := 0#32
  let c0_i32_0 : BitVec 32 := 0#32
  let c0_i32_1 : BitVec 32 := 0#32
  ![c9_i32.toNat, c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_7 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![c1_i32_4.toNat, v16.toNat, c0_i32_5.toNat, c0_i32_6.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c17_i32 : BitVec 32 := 17#32
  let c0_i32 : BitVec 32 := 0#32
  let c0_i32_0 : BitVec 32 := 0#32
  let c0_i32_1 : BitVec 32 := 0#32
  ![c17_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x64x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S176x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OddCrossReferenceIdeal.lean ====
abbrev S16384x1024 : Shape := ⟨2, ![16384, 1024]⟩
abbrev S2x1024x1024 : Shape := ⟨3, ![2, 1024, 1024]⟩
abbrev S36x1x1024 : Shape := ⟨3, ![36, 1, 1024]⟩
abbrev S4x1024x1024 : Shape := ⟨3, ![4, 1024, 1024]⟩
abbrev S4x8x1024x256 : Shape := ⟨4, ![4, 8, 1024, 256]⟩
abbrev S4x8x256x1024 : Shape := ⟨4, ![4, 8, 256, 1024]⟩
abbrev S4x1024x5632 : Shape := ⟨3, ![4, 1024, 5632]⟩
abbrev S4x2816x1024 : Shape := ⟨3, ![4, 2816, 1024]⟩
abbrev S8x2048x1024 : Shape := ⟨3, ![8, 2048, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S8x2048x4x256 : Shape := ⟨4, ![8, 2048, 4, 256]⟩
abbrev S1x8x1024x256 : Shape := ⟨4, ![1, 8, 1024, 256]⟩
abbrev S8x1024x256 : Shape := ⟨3, ![8, 1024, 256]⟩
abbrev S8x4x256x256 : Shape := ⟨4, ![8, 4, 256, 256]⟩
abbrev S1x8x256x1024 : Shape := ⟨4, ![1, 8, 256, 1024]⟩
abbrev S8x256x1024 : Shape := ⟨3, ![8, 256, 1024]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩

abbrev nBuf : Space → Nat
  | .hbm => 117
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2x1024x1024, .bf16⟩
  | .hbm, ⟨2, _⟩ => ⟨S16384x1024, .f32⟩
  | .hbm, ⟨3, _⟩ => ⟨S36x1x1024, .f32⟩
  | .hbm, ⟨4, _⟩ => ⟨S4x1024x1024, .bf16⟩
  | .hbm, ⟨5, _⟩ => ⟨S4x8x1024x256, .bf16⟩
  | .hbm, ⟨6, _⟩ => ⟨S4x8x256x1024, .bf16⟩
  | .hbm, ⟨7, _⟩ => ⟨S4x1024x1024, .bf16⟩
  | .hbm, ⟨8, _⟩ => ⟨S4x1024x5632, .f32⟩
  | .hbm, ⟨9, _⟩ => ⟨S4x2816x1024, .f32⟩
  | .hbm, ⟨10, _⟩ => ⟨S8x2048x1024, .bf16⟩
  | .hbm, ⟨11, _⟩ => ⟨S8x2048x1024, .f32⟩
  | .hbm, ⟨12, _⟩ => ⟨S1x1024x1024, .bf16⟩
  | .hbm, ⟨13, _⟩ => ⟨S1024x1024, .bf16⟩
  | .hbm, ⟨14, _⟩ => ⟨S1024x1024, .f32⟩
  | .hbm, ⟨15, _⟩ => ⟨S8x2048x1024, .f32⟩
  | .hbm, ⟨16, _⟩ => ⟨S16384x1024, .f32⟩
  | .hbm, ⟨17, _⟩ => ⟨S1x1x1024, .f32⟩
  | .hbm, ⟨18, _⟩ => ⟨S1024, .f32⟩
  | .hbm, ⟨19, _⟩ => ⟨S16384x1024, .f32⟩
  | .hbm, ⟨20, _⟩ => ⟨S_, .f32⟩
  | .hbm, ⟨21, _⟩ => ⟨S16384, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1x1x1024, .f32⟩
  | .hbm, ⟨37, _⟩ => ⟨S1024, .f32⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S1x1024x1024, .bf16⟩
  | .hbm, ⟨55, _⟩ => ⟨S1024x1024, .bf16⟩
  | .hbm, ⟨56, _⟩ => ⟨S1024x1024, .f32⟩
  | .hbm, ⟨57, _⟩ => ⟨S16384x1024, .f32⟩
  | .hbm, ⟨58, _⟩ => ⟨S8x2048x4x256, .f32⟩
  | .hbm, ⟨59, _⟩ => ⟨S1x8x1024x256, .bf16⟩
  | .hbm, ⟨60, _⟩ => ⟨S8x1024x256, .bf16⟩
  | .hbm, ⟨61, _⟩ => ⟨S8x1024x256, .f32⟩
  | .hbm, ⟨62, _⟩ => ⟨S8x4x256x256, .f32⟩
  | .hbm, ⟨63, _⟩ => ⟨S1x8x256x1024, .bf16⟩
  | .hbm, ⟨64, _⟩ => ⟨S8x256x1024, .bf16⟩
  | .hbm, ⟨65, _⟩ => ⟨S8x256x1024, .f32⟩
  | .hbm, ⟨66, _⟩ => ⟨S8x256x4x256, .f32⟩
  | .hbm, ⟨67, _⟩ => ⟨S8x4x2048x256, .f32⟩
  | .hbm, ⟨68, _⟩ => ⟨S_, .f32⟩
  | .hbm, ⟨69, _⟩ => ⟨S8x4x2048x256, .f32⟩
  | .hbm, ⟨70, _⟩ => ⟨S8x4x2048x256, .f32⟩
  | .hbm, ⟨71, _⟩ => ⟨S_, .f32⟩
  | .hbm, ⟨72, _⟩ => ⟨S8x4x2048, .f32⟩
  | .hbm, ⟨73, _⟩ => ⟨S_, .f32⟩
  | .hbm, ⟨74, _⟩ => ⟨S8x4x2048, .f32⟩
  | .hbm, ⟨75, _⟩ => ⟨S8x4x2048, .f32⟩
  | .hbm, ⟨76, _⟩ => ⟨S8x4x2048x1, .f32⟩
  | .hbm, ⟨77, _⟩ => ⟨S8x4x2048x256, .f32⟩
  | .hbm, ⟨78, _⟩ => ⟨S8x4x2048x256, .f32⟩
  | .hbm, ⟨79, _⟩ => ⟨S8x4x2048x256, .f32⟩
  | .hbm, ⟨80, _⟩ => ⟨S_, .f32⟩
  | .hbm, ⟨81, _⟩ => ⟨S8x4x2048, .f32⟩
  | .hbm, ⟨82, _⟩ => ⟨S8x4x2048x1, .f32⟩
  | .hbm, ⟨83, _⟩ => ⟨S8x4x2048x256, .f32⟩
  | .hbm, ⟨84, _⟩ => ⟨S8x4x2048x256, .f32⟩
  | .hbm, ⟨85, _⟩ => ⟨S8x4x256x2048, .f32⟩
  | .hbm, ⟨86, _⟩ => ⟨S8x2048x4x256, .f32⟩
  | .hbm, ⟨87, _⟩ => ⟨S16384x1024, .f32⟩
  | .hbm, ⟨88, _⟩ => ⟨S1x1024x1024, .bf16⟩
  | .hbm, ⟨89, _⟩ => ⟨S1024x1024, .bf16⟩
  | .hbm, ⟨90, _⟩ => ⟨S1024x1024, .f32⟩
  | .hbm, ⟨91, _⟩ => ⟨S16384x1024, .f32⟩
  | .hbm, ⟨92, _⟩ => ⟨S1x1x1024, .f32⟩
  | .hbm, ⟨93, _⟩ => ⟨S1024, .f32⟩
  | .hbm, ⟨94, _⟩ => ⟨S16384x1024, .f32⟩
  | .hbm, ⟨95, _⟩ => ⟨S_, .f32⟩
  | .hbm, ⟨96, _⟩ => ⟨S16384, .f32⟩
  | .hbm, ⟨97, _⟩ => ⟨S16384x1, .f32⟩
  | .hbm, ⟨98, _⟩ => ⟨S_, .f32⟩
  | .hbm, ⟨99, _⟩ => ⟨S16384x1, .f32⟩
  | .hbm, ⟨100, _⟩ => ⟨S16384x1, .f32⟩
  | .hbm, ⟨101, _⟩ => ⟨S_, .f32⟩
  | .hbm, ⟨102, _⟩ => ⟨S16384x1, .f32⟩
  | .hbm, ⟨103, _⟩ => ⟨S16384x1, .f32⟩
  | .hbm, ⟨104, _⟩ => ⟨S16384x1, .f32⟩
  | .hbm, ⟨105, _⟩ => ⟨S16384x1024, .f32⟩
  | .hbm, ⟨106, _⟩ => ⟨S16384x1024, .f32⟩
  | .hbm, ⟨107, _⟩ => ⟨S1x1024, .f32⟩
  | .hbm, ⟨108, _⟩ => ⟨S16384x1024, .f32⟩
  | .hbm, ⟨109, _⟩ => ⟨S16384x1024, .f32⟩
  | .hbm, ⟨110, _⟩ => ⟨S16384x1024, .f32⟩
  | .hbm, ⟨111, _⟩ => ⟨S1x1024x5632, .f32⟩
  | .hbm, ⟨112, _⟩ => ⟨S1024x5632, .f32⟩
  | .hbm, ⟨113, _⟩ => ⟨S1024x5632, .bf16⟩
  | .hbm, ⟨114, _⟩ => ⟨S1x2816x1024, .f32⟩
  | .hbm, ⟨115, _⟩ => ⟨S2816x1024, .f32⟩
  | .hbm, ⟨116, _⟩ => ⟨S2816x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_5 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_9 : Ref sig .tc := ⟨.hbm, 95, rfl⟩
abbrev main_v75 : Ref sig .tc := ⟨.hbm, 96, rfl⟩
abbrev main_v76 : Ref sig .tc := ⟨.hbm, 97, rfl⟩
abbrev main_cst_10 : Ref sig .tc := ⟨.hbm, 98, rfl⟩
abbrev main_v77 : Ref sig .tc := ⟨.hbm, 99, rfl⟩
abbrev main_v78 : Ref sig .tc := ⟨.hbm, 100, rfl⟩
abbrev main_cst_11 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩

abbrev nD : Nat := 1
abbrev τ : Topo := Topo.v7x

variable {F : FTy → Type} [FloatOps F]
-- ==== Proof.FoxFacts.lean ====
/- The side conditions of the attention's precondition. -/
module

public import proofs.«01_k».proof.Pre_fox_pre
public import Idealize.ShloMosaic.Lib.Decide

@[expose] public section

namespace Cert.FoxFacts
open Idealize.ShloMosaic Cert.Pre_fox_pre

/-- The shapes the precondition's operations take fit. -/
instance facts : Cert.Pre_fox_pre.Facts where
  bitsLt_bf16_f32 := by decide
  shapeCasts_S8x8x640x256_S8x8x8x80x256 := by decide
  slices_S8x8x8x80x256_S8x8x8x1x256_0_0_0_64_0 := by decide
  shapeCasts_S8x8x8x1x256_S8x8x8x256 := by decide
  bcast_S_S8x8x8x256 := by decide
  bcast_S_S8x8x1024x256 := by decide
  reducesTo_S8x8x1024x256_S_d0_1_2_3 := by decide
  h_S_ := by decide
  bcast_S_S16384x1024 := by decide
  reducesTo_S16384x1024_S_d0_1 := by decide
  reducesTo_S8x8x8x256_S_d0_1_2_3 := by decide

end Cert.FoxFacts

end
-- ==== Proof.RowNorm.lean ====
/- The normalisation of one row of 1024 features, which the layer applies before and after each of its parts. -/
module

public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.RowNorm

/-- One row scaled by the reciprocal root of its mean square (plus the small constant) and by a gain per feature. -/
def rms (x g : Fin 1024 → EReal) (d : Fin 1024) : EReal :=
  x d * Ideal.rsqrt (Ideal.div (∑ k, x k * x k) (Ideal.ofBits .f32 0x44800000#32) + Ideal.ofBits .f32 0x358637BD#32) * g d

end Cert.RowNorm

end
-- ==== Proof.FfnValue.lean ====
/- The value of the feed-forward call. `FfnModel` states the block's mathematics on one row of the input; the kernel's
   payload is that function of its blocks (the product with the third weight is cut into three runs of hidden units), its
   result array is that function row by row, and the reference's composed term is the same function. -/
module

public import proofs.«01_k».proof.Proof.RowNorm
public import proofs.«01_k».proof.Proof.Gen.FfnKernelIdeal.Value
public import proofs.«01_k».proof.Proof.Gen.FfnReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.FfnModel

open Cert.RowNorm

/-- A hidden unit: the gate times its logistic, times the linear branch. -/
def unit (h wg wu : Fin 1024 → EReal) : EReal :=
  (∑ k, h k * wg k) * Ideal.logistic (∑ k, h k * wg k) * ∑ k, h k * wu k

/-- The sum over the hidden units, for output feature `d`. -/
def down (h : Fin 1024 → EReal) (wg wu : Fin 2816 → Fin 1024 → EReal) (wd : Fin 2816 → Fin 1024 → EReal) (d : Fin 1024) : EReal :=
  ∑ f, unit h (wg f) (wu f) * wd f d

/-- The block on one row: the row plus the normalised output of the hidden layer on the normalised row. -/
def row (x g₁ g₂ : Fin 1024 → EReal) (wg wu wd : Fin 2816 → Fin 1024 → EReal) (d : Fin 1024) : EReal :=
  x d + rms (down (rms x g₁) wg wu wd) g₂ d

/-- A sum over 2816 units is the sum of its runs of 1024, 1024 and 768 units. -/
theorem sum_runs (f : Fin 2816 → EReal) :
    ∑ k, f k = (∑ k : Fin 1024, f ⟨k.val, by omega⟩) + (∑ k : Fin 1024, f ⟨1024 + k.val, by omega⟩)
      + ∑ k : Fin 768, f ⟨2048 + k.val, by omega⟩ := by
  rw [Fin.sum_univ_two_halves 2048 768 rfl f, Fin.sum_univ_two_halves 1024 1024 rfl]

end Cert.FfnModel

namespace Cert.FfnKernelIdeal.RowValue

open Cert.FfnKernelIdeal Cert.FfnKernelIdeal.Gen Cert.FfnModel Cert.RowNorm

/-- The body's payload at an element of the block, from the contents of the six input blocks. -/
theorem pay_apply (x0 : FVec Ideal S512x1024 .f32) (x1 : FVec Ideal S1x1x1024 .f32) (x2 x3 : FVec Ideal S1024x2816 .bf16)
    (x4 : FVec Ideal S2816x1024 .bf16) (x5 : FVec Ideal S1x1x1024 .f32) (r : Fin 512) (d : Fin 1024) :
    k0_pay1 (F := Ideal) (k0_pay2 (View.ld x0 r0_0) (View.ld x1 r0_1)) (k0_pay3 (View.ld x0 r0_0) (View.ld x1 r0_1) (View.ld x2 r0_2) (View.ld x3 r0_2) (View.ld x4 r0_4)) (k0_pay4 (View.ld x0 r0_0) (View.ld x1 r0_1) (View.ld x2 r0_3) (View.ld x3 r0_3)) (View.ld x2 r0_5) (View.ld x3 r0_5) (View.ld x4 r0_6) (View.ld x4 r0_7) (View.ld x0 r0_0) (View.ld x5 r0_1) (ix2 r d)
      = row (fun k => x0 (ix2 r k)) (fun k => x1 (ix3 0 0 k)) (fun k => x5 (ix3 0 0 k)) (fun f k => x2 (ix2 k f))
          (fun f k => x3 (ix2 k f)) (fun f k => x4 (ix2 f k)) d := by
  simp only [row, rms, down, sum_runs, unit]
  pointwise [k0_pay1, k0_pay2, k0_pay3, k0_pay4, r0_0, r0_1, r0_2, r0_3, r0_4, r0_5, r0_6, r0_7]

/-- What the body leaves in the output block, at an element. -/
theorem out_apply (x0 : FVec Ideal S512x1024 .f32) (x1 : FVec Ideal S1x1x1024 .f32) (x2 x3 : FVec Ideal S1024x2816 .bf16)
    (x4 : FVec Ideal S2816x1024 .bf16) (x5 : FVec Ideal S1x1x1024 .f32) (r : Fin 512) (d : Fin 1024) :
    out0_6 (F := Ideal) x0 x1 x2 x3 x4 x5 (ix2 r d)
      = row (fun k => x0 (ix2 r k)) (fun k => x1 (ix3 0 0 k)) (fun k => x5 (ix3 0 0 k)) (fun f k => x2 (ix2 k f))
          (fun f k => x3 (ix2 k f)) (fun f k => x4 (ix2 f k)) d := by
  rw [← pay_apply]
  have hz : (![0, 0] : Fin 2 → Nat) = fun _ => 0 := funext fun a => by fin_cases a <;> rfl
  unfold out0_6
  exact congrFun (View.canon_unit_zero hz _ _) _

variable (m : (ℓ : Loc nD τ sig) → Buf (Elt Ideal) ℓ) (ρ : Dev nD → PrngReg)

/-- What the result array holds: the block's function of each row of the first argument. -/
def G (c : Dev nD) : Buf (Elt Ideal) ((c : Thread nD τ).loc main_v0) := fun i : S16384x1024.Idx =>
  row (fun k => m ((c : Thread nD τ).loc main_arg0) (ix2 (i 0) k)) (fun k => m ((c : Thread nD τ).loc main_arg3) (ix3 20 0 k))
    (fun k => m ((c : Thread nD τ).loc main_arg3) (ix3 24 0 k))
    (fun f k => m ((c : Thread nD τ).loc main_arg1) (ix2 k ⟨f.val, by omega⟩))
    (fun f k => m ((c : Thread nD τ).loc main_arg1) (ix2 k ⟨2816 + f.val, by omega⟩))
    (fun f k => m ((c : Thread nD τ).loc main_arg2) (ix2 f k)) (i 1)

/-- The windows' block indices over the grid. -/
theorem idx : ∀ t : Fin cfg0.N, win0_0.index t = ![t.val, 0] ∧ win0_1.index t = ![20, 0, 0] ∧ win0_2.index t = ![0, 0]
    ∧ win0_3.index t = ![0, 1] ∧ win0_4.index t = ![0, 0] ∧ win0_5.index t = ![24, 0, 0] ∧ win0_6.index t = ![t.val, 0] :=
  (by decide +kernel : ∀ t : Fin grid0.N, win0_0.index t = ![t.val, 0] ∧ win0_1.index t = ![20, 0, 0] ∧ win0_2.index t = ![0, 0]
    ∧ win0_3.index t = ![0, 1] ∧ win0_4.index t = ![0, 0] ∧ win0_5.index t = ![24, 0, 0] ∧ win0_6.index t = ![t.val, 0])

/-- The result array after the run. -/
theorem final (c : Dev nD) : (dats m 0 c).arrAt 6 cfg0.N = G m c := by
  refine (dats m 0 c).arrAt_eq_of_covers 6 _ (by decide +kernel) fun t hf y => ?_
  blk_simp
  rw [after0_6]
  idx_vars y
  rw [out_apply]
  unfold G
  blk_point [iblk, V, idx t]
end Cert.FfnKernelIdeal.RowValue

namespace Cert.FfnReferenceIdeal.RowValue
open Cert.FfnReferenceIdeal Cert.FfnReferenceIdeal.Gen Cert.FfnReferenceIdeal.Value Cert.FfnModel Cert.RowNorm

/-- The reference's composed term at an element: the same function of the arguments. -/
theorem ref_apply (m : (ℓ : Loc nD τ sig) → Buf (Elt Ideal) ℓ) (c : Dev nD) (r : Fin 16384) (d : Fin 1024) :
    res_main_v38 (F := Ideal) m c (ix2 r d) =
  row (fun k => m ((c.tc : Thread nD τ).loc main_arg0) (ix2 r k)) (fun k => m ((c.tc : Thread nD τ).loc main_arg3) (ix3 20 0 k))
    (fun k => m ((c.tc : Thread nD τ).loc main_arg3) (ix3 24 0 k))
    (fun f k => m ((c.tc : Thread nD τ).loc main_arg1) (ix2 k ⟨f.val, by omega⟩))
    (fun f k => m ((c.tc : Thread nD τ).loc main_arg1) (ix2 k ⟨2816 + f.val, by omega⟩))
    (fun f k => m ((c.tc : Thread nD τ).loc main_arg2) (ix2 f k)) d := by
  simp only [row, rms, down, unit, Ideal.logistic]
  pointwise [res_main_v38]

end Cert.FfnReferenceIdeal.RowValue

end
-- ==== Proof.MemkvValue.lean ====
/- The value of the memory's keys and values. `MemkvModel` states one projected feature of one memory row; the kernel's two
   result arrays and the reference's two composed terms are that function. -/
module

public import proofs.«01_k».proof.Proof.RowNorm
public import proofs.«01_k».proof.Proof.Gen.MemkvKernelIdeal.Value
public import proofs.«01_k».proof.Proof.Gen.MemkvReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.MemkvModel
open Cert.RowNorm

/-- One feature of the projection of a normalised row. -/
def proj (x g w : Fin 1024 → EReal) : EReal := ∑ d, rms x g d * w d

end Cert.MemkvModel

namespace Cert.MemkvKernelIdeal.RowValue
open Cert.MemkvKernelIdeal Cert.MemkvKernelIdeal.Gen Cert.MemkvKernelIdeal.Value Cert.MemkvModel Cert.RowNorm

/-- The key payload at an element, from the blocks. -/
theorem key_apply (x0 : FVec Ideal S4x256x1024 .f32) (x1 : FVec Ideal S1x1x1024 .f32) (x2 : FVec Ideal S1x1024x2048 .f32)
    (b : Fin 4) (r : Fin 256) (d : Fin 1024) :
    k0_pay3 (F := Ideal) (View.ld x0 r0_0) (View.ld x1 r0_1) (View.ld x2 r0_2) (ix2 ⟨b.val * 256 + r.val, by omega⟩ d)
      = proj (fun k => x0 (ix3 b r k)) (fun k => x1 (ix3 0 0 k)) (fun k => x2 (ix3 0 k ⟨d.val, by omega⟩)) := by
  simp only [proj, rms]
  pointwise [k0_pay3, k0_pay2, r0_0, r0_1, r0_2]

/-- The value payload at an element, from the blocks. -/
theorem val_apply (x0 : FVec Ideal S4x256x1024 .f32) (x1 : FVec Ideal S1x1x1024 .f32) (x2 : FVec Ideal S1x1024x2048 .f32)
    (b : Fin 4) (r : Fin 256) (d : Fin 1024) :
    k0_pay4 (F := Ideal) (View.ld x0 r0_0) (View.ld x1 r0_1) (View.ld x2 r0_3) (ix2 ⟨b.val * 256 + r.val, by omega⟩ d)
      = proj (fun k => x0 (ix3 b r k)) (fun k => x1 (ix3 0 0 k)) (fun k => x2 (ix3 0 k ⟨1024 + d.val, by omega⟩)) := by
  simp only [proj, rms]
  pointwise [k0_pay4, k0_pay2, r0_0, r0_1, r0_3]

/-- What the body leaves in the key block, at an element. -/
theorem out3_apply (x0 : FVec Ideal S4x256x1024 .f32) (x1 : FVec Ideal S1x1x1024 .f32) (x2 : FVec Ideal S1x1024x2048 .f32)
    (a : Fin 1) (b : Fin 4) (d : Fin 1024) (r : Fin 256) :
    out0_3 (F := Ideal) x0 x1 x2 (ix4 a b d r)
      = proj (fun k => x0 (ix3 b r k)) (fun k => x1 (ix3 0 0 k)) (fun k => x2 (ix3 0 k ⟨d.val, by omega⟩)) :=
  (canon3_eq _ _ _ _).trans (key_apply x0 x1 x2 b r d)

/-- What the body leaves in the value block, at an element. -/
theorem out4_apply (x0 : FVec Ideal S4x256x1024 .f32) (x1 : FVec Ideal S1x1x1024 .f32) (x2 : FVec Ideal S1x1024x2048 .f32)
    (a : Fin 1) (b : Fin 4) (r : Fin 256) (d : Fin 1024) :
    out0_4 (F := Ideal) x0 x1 x2 (ix4 a b r d)
      = proj (fun k => x0 (ix3 b r k)) (fun k => x1 (ix3 0 0 k)) (fun k => x2 (ix3 0 k ⟨1024 + d.val, by omega⟩)) :=
  (canon4_eq _ _ _ _).trans (val_apply x0 x1 x2 b r d)

variable (m : (ℓ : Loc nD τ sig) → Buf (Elt Ideal) ℓ) (ρ : Dev nD → PrngReg)

/-- What the key array holds: layer, batch, feature, memory row. -/
def G3 (c : Dev nD) : Buf (Elt Ideal) ((c : Thread nD τ).loc main_v0_0) := fun i : S4x8x1024x256.Idx =>
  proj (fun k => m ((c : Thread nD τ).loc main_arg0) (ix3 (i 1) (i 3) k))
    (fun k => m ((c : Thread nD τ).loc main_arg1) (ix3 ⟨12 + (i 0).val, by have : (i 0).val < 4 := (i 0).isLt; omega⟩ 0 k))
    (fun k => m ((c : Thread nD τ).loc main_arg2) (ix3 (i 0) k ⟨(i 2).val, by have : (i 2).val < 1024 := (i 2).isLt; omega⟩))

/-- What the value array holds: layer, batch, memory row, feature. -/
def G4 (c : Dev nD) : Buf (Elt Ideal) ((c : Thread nD τ).loc main_v0_1) := fun i : S4x8x256x1024.Idx =>
  proj (fun k => m ((c : Thread nD τ).loc main_arg0) (ix3 (i 1) (i 2) k))
    (fun k => m ((c : Thread nD τ).loc main_arg1) (ix3 ⟨12 + (i 0).val, by have : (i 0).val < 4 := (i 0).isLt; omega⟩ 0 k))
    (fun k => m ((c : Thread nD τ).loc main_arg2) (ix3 (i 0) k ⟨1024 + (i 3).val, by have : (i 3).val < 1024 := (i 3).isLt; omega⟩))

/-- The windows' block indices over the grid. -/
theorem idx : ∀ t : Fin cfg0.N, win0_0.index t = ![t.val % 2, 0, 0] ∧ win0_1.index t = ![12 + t.val / 2, 0, 0]
    ∧ win0_2.index t = ![t.val / 2, 0, 0] ∧ win0_3.index t = ![t.val / 2, t.val % 2, 0, 0]
    ∧ win0_4.index t = ![t.val / 2, t.val % 2, 0, 0] :=
  (by decide +kernel : ∀ t : Fin grid0.N, win0_0.index t = ![t.val % 2, 0, 0] ∧ win0_1.index t = ![12 + t.val / 2, 0, 0]
    ∧ win0_2.index t = ![t.val / 2, 0, 0] ∧ win0_3.index t = ![t.val / 2, t.val % 2, 0, 0]
    ∧ win0_4.index t = ![t.val / 2, t.val % 2, 0, 0])

/-- The key array after the run. -/
theorem final3 (c : Dev nD) : (dats m 0 c).arrAt 3 cfg0.N = G3 m c := by
  refine (dats m 0 c).arrAt_eq_of_covers 3 _ (by decide +kernel) fun t hf y => ?_
  blk_simp
  rw [after0_3]
  idx_vars y
  rw [out3_apply]
  unfold G3
  blk_point [iblk, V, idx t]

/-- The value array after the run. -/
theorem final4 (c : Dev nD) : (dats m 0 c).arrAt 4 cfg0.N = G4 m c := by
  refine (dats m 0 c).arrAt_eq_of_covers 4 _ (by decide +kernel) fun t hf y => ?_
  blk_simp
  rw [after0_4]
  idx_vars y
  rw [out4_apply]
  unfold G4
  blk_point [iblk, V, idx t]

end Cert.MemkvKernelIdeal.RowValue

namespace Cert.MemkvReferenceIdeal.RowValue
open Cert.MemkvReferenceIdeal Cert.MemkvReferenceIdeal.Gen Cert.MemkvReferenceIdeal.Value Cert.MemkvModel Cert.RowNorm

end Cert.MemkvReferenceIdeal.RowValue

end
-- ==== Proof.MemkvClaim.lean ====
/- The value claim of the memory's keys and values: the kernel's two results and the reference's are the same functions of
   the arguments. -/
module

public import proofs.«01_k».proof.Defs
public import proofs.«01_k».proof.Proof.MemkvValue
public import proofs.«01_k».proof.Proof.Gen.MemkvKernelIdeal
public import proofs.«01_k».proof.Proof.Gen.MemkvReferenceIdeal

@[expose] public section

set_option maxRecDepth 16384

noncomputable section

namespace Cert.MemkvClaim
open Idealize.ShloMosaic Idealize.ShloMosaic.TcCoe Idealize.SL.Sem Cert.MemkvModel Cert.RowNorm

/-- The kernel's two arrays and the reference's two terms hold the same values. -/
theorem algebraic : Cert.algebraic_MemkvKernelIdeal_MemkvReferenceIdeal := by
  intro m ρ m' ρ' _ hag
  refine ⟨fun c => Cert.MemkvKernelIdeal.RowValue.G3 m c, fun c => Cert.MemkvKernelIdeal.RowValue.G4 m c, ?_, ?_⟩
  · exact (θ_run Cert.MemkvKernelIdeal.defs _ _).mono
      (fun r h c => ⟨(h c).1.trans (Cert.MemkvKernelIdeal.RowValue.final3 m c),
        (h c).2.1.trans (Cert.MemkvKernelIdeal.RowValue.final4 m c), (h c).2.2⟩)
      (Cert.MemkvKernelIdeal.Value.run_blocks m ρ)
  · refine (θ_run Cert.MemkvReferenceIdeal.defs _ _).mono
      (fun r h c => ⟨(h c).1.trans ?_, (h c).2.1.trans ?_, (h c).2.2⟩) (Cert.MemkvReferenceIdeal.Value.run m' ρ')
    all_goals
      obtain ⟨h0, h1, h2⟩ := hag c
      rw [h0, h1, h2]
      funext i
      idx_vars i
      simp only [Cert.MemkvKernelIdeal.RowValue.G3, Cert.MemkvKernelIdeal.RowValue.G4, proj, rms]
      pointwise []

end Cert.MemkvClaim

end
-- ==== Proof.CrossModel.lean ====
/- One row of a cross-attention layer over the ideal values: the residual of the mixing product, the scaled queries, the four
   heads' weighted means of the memory's values, and the residual of their product. -/
module

public import proofs.«01_k».proof.Proof.RowNorm
public import Idealize.ShloMosaic.Lib.Pipeline.ValueKit
public import Idealize.ShloMosaic.Lib.Pointwise

@[expose] public section

noncomputable section

namespace Cert.CrossModel
open Idealize.ShloMosaic Cert.RowNorm

/-- A row times a matrix. -/
def join {n : ℕ} (a : Fin n → EReal) (w : Fin n → Fin 1024 → EReal) (c : Fin 1024) : EReal := ∑ k, a k * w k c

/-- Two rows, each times its matrix, added. -/
def join2 {n : ℕ} (a b : Fin n → EReal) (wa wb : Fin n → Fin 1024 → EReal) (c : Fin 1024) : EReal :=
  (∑ k, a k * wa k c) + ∑ k, b k * wb k c

/-- A row plus the normalised form of another. -/
def addNorm (y x g : Fin 1024 → EReal) (d : Fin 1024) : EReal := x d + rms y g d

/-- One feature of the scaled query of a row. -/
def query (h : Fin 1024 → EReal) (w : Fin 1024 → Fin 1024 → EReal) (f : Fin 1024) : EReal :=
  (∑ d, h d * w d f) * Ideal.ofBits .f32 0x3D800000#32

/-- The score of a query against one key of one head. -/
def score (q : Fin 1024 → EReal) (k : Fin 4 → Fin 256 → Fin 256 → EReal) (n : Fin 4) (j : Fin 256) : EReal :=
  ∑ e : Fin 256, q ⟨256 * n.val + e.val, by omega⟩ * k n e j

/-- The largest score. -/
def peak (s : Fin 256 → EReal) : EReal := Finset.univ.fold max (Ideal.ofBits .f32 0xFF800000#32) s

/-- The unnormalised weight of one key. -/
def weight (s : Fin 256 → EReal) (j : Fin 256) : EReal := Ideal.exp (s j - peak s)

/-- The weighted mean of the values. -/
def attend (s v : Fin 256 → EReal) : EReal := Ideal.div (∑ j, weight s j * v j) (∑ j, weight s j)

/-- One feature of the heads side by side. -/
def heads (q : Fin 1024 → EReal) (k v : Fin 4 → Fin 256 → Fin 256 → EReal) (f : Fin 1024) : EReal :=
  attend (score q k ⟨f.val / 256, by omega⟩) (fun j => v ⟨f.val / 256, by omega⟩ j ⟨f.val % 256, by omega⟩)

/-- One feature of the heads' product with the output matrix. -/
def mixed (q : Fin 1024 → EReal) (k v : Fin 4 → Fin 256 → Fin 256 → EReal) (wo : Fin 1024 → Fin 1024 → EReal)
    (d : Fin 1024) : EReal := ∑ f, heads q k v f * wo f d

/-- One feature of the layer's row. -/
def row (y x g1 g2 : Fin 1024 → EReal) (wq : Fin 1024 → Fin 1024 → EReal) (k v : Fin 4 → Fin 256 → Fin 256 → EReal)
    (wo : Fin 1024 → Fin 1024 → EReal) (g3 : Fin 1024 → EReal) (d : Fin 1024) : EReal :=
  addNorm (mixed (query (rms (addNorm y x g1) g2) wq) k v wo) (addNorm y x g1) g3 d

end Cert.CrossModel

end
-- ==== Proof.CrossTile.lean ====
/- One tile of 256 rows of the cross-attention kernels: its operations on a tile's loads, and what they compute at an
   element. Every tile of both programs is these operations on its own loads. -/
module

public import proofs.«01_k».proof.Proof.CrossModel
public import proofs.«01_k».proof.Proof.Gen.EvenCrossKernelIdeal.Value

@[expose] public section

set_option maxRecDepth 16384

noncomputable section

namespace Cert.CrossTile
open Idealize.ShloMosaic Idealize.ShloMosaic.TcCoe Idealize.SL.Sem Cert.CrossModel Cert.RowNorm
open Cert.EvenCrossKernelIdeal Cert.EvenCrossKernelIdeal.Gen

/-- The first residual of a tile. -/
def skip (y : FVec Ideal S256x1024 .f32) (x : Vec Ideal S256x1024 .f32) (g1 : Vec Ideal S1x1x1024 .f32) :
    FVec Ideal S256x1024 .f32 := k0_pay13 y x (k0_pay11 g1) (k0_pay12 y)

/-- The scaled queries of a tile. -/
def queries (y : FVec Ideal S256x1024 .f32) (x : Vec Ideal S256x1024 .f32) (g1 g2 : Vec Ideal S1x1x1024 .f32)
    (wq : Vec Ideal S1x1024x1024 .bf16) : FVec Ideal S256x1024 .bf16 :=
  k0_pay14 y x (k0_pay11 g1) (k0_pay12 y) g2 wq

/-- The heads' product with the output matrix. -/
def mix (q : FVec Ideal S256x1024 .bf16) (k0 k1 k2 k3 v0 v1 v2 v3 : Vec Ideal S1x1x256x256 .bf16)
    (wo : Vec Ideal S1x1024x1024 .bf16) : FVec Ideal S256x1024 .f32 :=
  k0_pay47 (k0_pay24 q k0 v0) (k0_pay30 q k1 v1) (k0_pay36 q k2 v2) (k0_pay42 q k3 v3) wo

/-- The tile's result. -/
def tile (y : FVec Ideal S256x1024 .f32) (x : Vec Ideal S256x1024 .f32) (g1 g2 : Vec Ideal S1x1x1024 .f32)
    (wq : Vec Ideal S1x1024x1024 .bf16) (k0 k1 k2 k3 v0 v1 v2 v3 : Vec Ideal S1x1x256x256 .bf16)
    (wo : Vec Ideal S1x1024x1024 .bf16) (g3 : Vec Ideal S1x1x1024 .f32) : FVec Ideal S256x1024 .f32 :=
  k0_pay53 (skip y x g1) (mix (queries y x g1 g2 wq) k0 k1 k2 k3 v0 v1 v2 v3 wo) g3

/-- Four blocks as one family. -/
def four (a b c d : Vec Ideal S1x1x256x256 .bf16) (n : Fin 4) (i j : Fin 256) : EReal :=
  (![a, b, c, d] n : Vec Ideal S1x1x256x256 .bf16) (ix4 0 0 i j)

/-- The first residual at an element. -/
theorem skip_apply (y x : FVec Ideal S256x1024 .f32) (g1 : FVec Ideal S1x1x1024 .f32) (r : Fin 256) (d : Fin 1024) :
    skip y x g1 (ix2 r d) = addNorm (fun c => y (ix2 r c)) (fun c => x (ix2 r c)) (fun c => g1 (ix3 0 0 c)) d := by
  simp only [addNorm, rms, skip]
  pointwise [k0_pay13, k0_pay11, k0_pay12]

/-- The second normalisation's queries at an element, over the first residual. -/
theorem queries_apply (y x : FVec Ideal S256x1024 .f32) (g1 g2 : FVec Ideal S1x1x1024 .f32)
    (wq : FVec Ideal S1x1024x1024 .bf16) (r : Fin 256) (f : Fin 1024) :
    queries y x g1 g2 wq (ix2 r f)
      = query (rms (addNorm (fun c => y (ix2 r c)) (fun c => x (ix2 r c)) (fun c => g1 (ix3 0 0 c)))
          (fun c => g2 (ix3 0 0 c))) (fun d f => wq (ix3 0 d f)) f := by
  rw [show addNorm (fun c => y (ix2 r c)) (fun c => x (ix2 r c)) (fun c => g1 (ix3 0 0 c)) = fun d => skip y x g1 (ix2 r d) from
    funext fun d => (skip_apply y x g1 r d).symm]
  have h : queries y x g1 g2 wq = k0_pay23 (skip y x g1) g2 wq := rfl
  rw [h]
  generalize skip y x g1 = z
  simp only [query, rms]
  pointwise [k0_pay23]

/-- Head 0 at an element. -/
theorem head0_apply (q : FVec Ideal S256x1024 .bf16) (k v : FVec Ideal S1x1x256x256 .bf16) (r e : Fin 256) :
    k0_pay24 (F := Ideal) q k v (ix2 r e)
      = attend (fun j => ∑ e : Fin 256, q (ix2 r ⟨e.val, by omega⟩) * k (ix4 0 0 e j)) (fun j => v (ix4 0 0 j e)) := by
  simp only [attend, weight, peak]
  pointwise [k0_pay24]

/-- Head 1 at an element. -/
theorem head1_apply (q : FVec Ideal S256x1024 .bf16) (k v : FVec Ideal S1x1x256x256 .bf16) (r e : Fin 256) :
    k0_pay30 (F := Ideal) q k v (ix2 r e)
      = attend (fun j => ∑ e : Fin 256, q (ix2 r ⟨256 + e.val, by omega⟩) * k (ix4 0 0 e j)) (fun j => v (ix4 0 0 j e)) := by
  simp only [attend, weight, peak]
  pointwise [k0_pay30]

/-- Head 2 at an element. -/
theorem head2_apply (q : FVec Ideal S256x1024 .bf16) (k v : FVec Ideal S1x1x256x256 .bf16) (r e : Fin 256) :
    k0_pay36 (F := Ideal) q k v (ix2 r e)
      = attend (fun j => ∑ e : Fin 256, q (ix2 r ⟨512 + e.val, by omega⟩) * k (ix4 0 0 e j)) (fun j => v (ix4 0 0 j e)) := by
  simp only [attend, weight, peak]
  pointwise [k0_pay36]

/-- Head 3 at an element. -/
theorem head3_apply (q : FVec Ideal S256x1024 .bf16) (k v : FVec Ideal S1x1x256x256 .bf16) (r e : Fin 256) :
    k0_pay42 (F := Ideal) q k v (ix2 r e)
      = attend (fun j => ∑ e : Fin 256, q (ix2 r ⟨768 + e.val, by omega⟩) * k (ix4 0 0 e j)) (fun j => v (ix4 0 0 j e)) := by
  simp only [attend, weight, peak]
  pointwise [k0_pay42]

/-- The product of the heads at an element, the heads named. -/
theorem product_apply (o0 o1 o2 o3 : FVec Ideal S256x256 .bf16) (wo : FVec Ideal S1x1024x1024 .bf16) (r : Fin 256) (d : Fin 1024)
    (H : Fin 1024 → EReal)
    (h0 : ∀ e : Fin 256, o0 (ix2 r e) = H ⟨e.val, by omega⟩) (h1 : ∀ e : Fin 256, o1 (ix2 r e) = H ⟨256 + e.val, by omega⟩)
    (h2 : ∀ e : Fin 256, o2 (ix2 r e) = H ⟨512 + e.val, by omega⟩) (h3 : ∀ e : Fin 256, o3 (ix2 r e) = H ⟨768 + e.val, by omega⟩) :
    k0_pay47 (F := Ideal) o0 o1 o2 o3 wo (ix2 r d) = ∑ f, H f * wo (ix3 0 f d) := by
  have hsum : k0_pay47 (F := Ideal) o0 o1 o2 o3 wo (ix2 r d) = ∑ f : Fin 1024,
      (if h : f.val < 256 then o0 (ix2 r ⟨f.val, h⟩) else if h : f.val - 256 < 256 then o1 (ix2 r ⟨f.val - 256, h⟩)
        else if h : f.val - 256 - 256 < 256 then o2 (ix2 r ⟨f.val - 256 - 256, h⟩)
        else o3 (ix2 r ⟨f.val - 256 - 256 - 256, by omega⟩)) * wo (ix3 0 f d) := by
    pointwise [k0_pay47]
  rw [hsum]
  refine Finset.sum_congr rfl fun f _ => ?_
  congr 1
  split_ifs with a b c
  · exact h0 _
  · refine (h1 _).trans (congrArg H (Fin.ext ?_)); show 256 + (f.val - 256) = f.val; omega
  · refine (h2 _).trans (congrArg H (Fin.ext ?_)); show 512 + (f.val - 256 - 256) = f.val; omega
  · refine (h3 _).trans (congrArg H (Fin.ext ?_)); show 768 + (f.val - 256 - 256 - 256) = f.val; omega

/-- The heads' product at an element, over the queries. -/
theorem mix_apply (q : FVec Ideal S256x1024 .bf16) (k0 k1 k2 k3 v0 v1 v2 v3 : FVec Ideal S1x1x256x256 .bf16)
    (wo : FVec Ideal S1x1024x1024 .bf16) (r : Fin 256) (d : Fin 1024) :
    mix q k0 k1 k2 k3 v0 v1 v2 v3 wo (ix2 r d)
      = mixed (fun f => q (ix2 r f)) (four k0 k1 k2 k3) (four v0 v1 v2 v3) (fun f d => wo (ix3 0 f d)) d := by
  refine product_apply _ _ _ _ wo r d (heads (fun f => q (ix2 r f)) (four k0 k1 k2 k3) (four v0 v1 v2 v3)) ?_ ?_ ?_ ?_
  · intro e
    have hd : (⟨e.val / 256, by omega⟩ : Fin 4) = 0 := Fin.ext (by show e.val / 256 = 0; omega)
    have hm : (⟨e.val % 256, by omega⟩ : Fin 256) = e := Fin.ext (by show e.val % 256 = e.val; omega)
    rw [head0_apply]
    simp only [heads, hd, hm]
    refine congrArg₂ attend (funext fun j => ?_) (funext fun j => ?_) <;> simp [score, four]
  · intro e
    have hd : (⟨(256 + e.val) / 256, by omega⟩ : Fin 4) = 1 := Fin.ext (by show (256 + e.val) / 256 = 1; omega)
    have hm : (⟨(256 + e.val) % 256, by omega⟩ : Fin 256) = e := Fin.ext (by show (256 + e.val) % 256 = e.val; omega)
    rw [head1_apply]
    simp only [heads, hd, hm]
    refine congrArg₂ attend (funext fun j => ?_) (funext fun j => ?_) <;> simp [score, four]
  · intro e
    have hd : (⟨(512 + e.val) / 256, by omega⟩ : Fin 4) = 2 := Fin.ext (by show (512 + e.val) / 256 = 2; omega)
    have hm : (⟨(512 + e.val) % 256, by omega⟩ : Fin 256) = e := Fin.ext (by show (512 + e.val) % 256 = e.val; omega)
    rw [head2_apply]
    simp only [heads, hd, hm]
    refine congrArg₂ attend (funext fun j => ?_) (funext fun j => ?_) <;> simp [score, four]
  · intro e
    have hd : (⟨(768 + e.val) / 256, by omega⟩ : Fin 4) = 3 := Fin.ext (by show (768 + e.val) / 256 = 3; omega)
    have hm : (⟨(768 + e.val) % 256, by omega⟩ : Fin 256) = e := Fin.ext (by show (768 + e.val) % 256 = e.val; omega)
    rw [head3_apply]
    simp only [heads, hd, hm]
    refine congrArg₂ attend (funext fun j => ?_) (funext fun j => ?_) <;> simp [score, four]

/-- The tile's result at an element. -/
theorem tile_apply (y : FVec Ideal S256x1024 .f32) (x : Vec Ideal S256x1024 .f32) (g1 g2 : Vec Ideal S1x1x1024 .f32) (wq : Vec Ideal S1x1024x1024 .bf16)
    (k0 k1 k2 k3 v0 v1 v2 v3 : Vec Ideal S1x1x256x256 .bf16) (wo : Vec Ideal S1x1024x1024 .bf16)
    (g3 : Vec Ideal S1x1x1024 .f32) (r : Fin 256) (d : Fin 1024) :
    tile y x g1 g2 wq k0 k1 k2 k3 v0 v1 v2 v3 wo g3 (ix2 r d)
      = row (fun c => y (ix2 r c)) (fun c => x (ix2 r c)) (fun c => g1 (ix3 0 0 c)) (fun c => g2 (ix3 0 0 c))
          (fun d f => wq (ix3 0 d f)) (four k0 k1 k2 k3) (four v0 v1 v2 v3) (fun f d => wo (ix3 0 f d))
          (fun c => g3 (ix3 0 0 c)) d := by
  unfold row
  rw [show query (rms (addNorm (fun c => y (ix2 r c)) (fun c => x (ix2 r c)) (fun c => g1 (ix3 0 0 c)))
        (fun c => g2 (ix3 0 0 c))) (fun d f => wq (ix3 0 d f)) = fun f => queries y x g1 g2 wq (ix2 r f) from
      funext fun f => (queries_apply y x g1 g2 wq r f).symm,
    show addNorm (fun c => y (ix2 r c)) (fun c => x (ix2 r c)) (fun c => g1 (ix3 0 0 c)) = fun d => skip y x g1 (ix2 r d) from
      funext fun d => (skip_apply y x g1 r d).symm,
    show mixed (fun f => queries y x g1 g2 wq (ix2 r f)) (four k0 k1 k2 k3) (four v0 v1 v2 v3) (fun f d => wo (ix3 0 f d))
        = fun d => mix (queries y x g1 g2 wq) k0 k1 k2 k3 v0 v1 v2 v3 wo (ix2 r d) from
      funext fun d => (mix_apply _ k0 k1 k2 k3 v0 v1 v2 v3 wo r d).symm]
  unfold tile
  generalize skip y x g1 = a
  generalize mix (queries y x g1 g2 wq) k0 k1 k2 k3 v0 v1 v2 v3 wo = b
  simp only [addNorm, rms]
  pointwise [k0_pay53]

end Cert.CrossTile

end
-- ==== Proof.EvenCrossValue.lean ====
/- The value of the cross-attention layer's first form: the kernel's three result arrays are the layer's rows and the two
   feed-forward matrices. -/
module

public import proofs.«01_k».proof.Proof.CrossTile
public import proofs.«01_k».proof.Proof.Gen.EvenCrossKernelIdeal.Value

@[expose] public section

set_option maxRecDepth 16384

noncomputable section

open Idealize.ShloMosaic Idealize.ShloMosaic.TcCoe Idealize.SL.Sem

namespace Cert.EvenCrossKernelIdeal.RowValue
open Cert.EvenCrossKernelIdeal Cert.EvenCrossKernelIdeal.Gen Cert.EvenCrossKernelIdeal.Value Cert.CrossModel Cert.CrossTile

section Block
variable (x0 x1 : FVec Ideal S1024x512 .bf16) (x2 x3 : FVec Ideal S1x512x1024 .bf16) (x4 : FVec Ideal S1024x1024 .f32)
  (x5 x6 : FVec Ideal S1x1x1024 .f32) (x7 : FVec Ideal S1x1024x1024 .bf16) (x8 : FVec Ideal S1x1x1024x256 .bf16)
  (x9 : FVec Ideal S1x1x256x1024 .bf16) (x10 : FVec Ideal S1x1024x1024 .bf16) (x11 : FVec Ideal S1x1x1024 .f32)

/-- The block's result: row and feature. -/
def blockRow (r : Fin 1024) (d : Fin 1024) : EReal :=
  row (join2 (fun k => x0 (ix2 r k)) (fun k => x1 (ix2 r k)) (fun k c => x2 (ix3 0 k c)) (fun k c => x3 (ix3 0 k c)))
    (fun c => x4 (ix2 r c)) (fun c => x5 (ix3 0 0 c)) (fun c => x6 (ix3 0 0 c)) (fun d f => x7 (ix3 0 d f))
    (fun n e j => x8 (ix4 0 0 ⟨256 * n.val + e.val, by omega⟩ j)) (fun n j e => x9 (ix4 0 0 j ⟨256 * n.val + e.val, by omega⟩))
    (fun f d => x10 (ix3 0 f d)) (fun c => x11 (ix3 0 0 c)) d

/-- The heads' key blocks are the rows of the key block. -/
theorem keys_eq : four (View.ld x8 r0_15) (View.ld x8 r0_17) (View.ld x8 r0_19) (View.ld x8 r0_21)
    = fun n e j => x8 (ix4 0 0 ⟨256 * n.val + e.val, by omega⟩ j) := by
  funext n e j
  fin_cases n <;> simp only [four] <;> pointwise [r0_15, r0_17, r0_19, r0_21]

/-- The heads' value blocks are the columns of the value block. -/
theorem values_eq : four (View.ld x9 r0_16) (View.ld x9 r0_18) (View.ld x9 r0_20) (View.ld x9 r0_22)
    = fun n j e => x9 (ix4 0 0 j ⟨256 * n.val + e.val, by omega⟩) := by
  funext n j e
  fin_cases n <;> simp only [four] <;> pointwise [r0_16, r0_18, r0_20, r0_22]

/-- Tile 0 at an element. -/
theorem tile0_apply (r : Fin 256) (d : Fin 1024) :
    tile (k0_pay5 (View.ld x0 r0_4) (View.ld x2 r0_5) (View.ld x1 r0_4) (View.ld x3 r0_5)) (View.ld x4 r0_9) (View.ld x5 r0_10) (View.ld x6 r0_10) (View.ld x7 r0_11)
      (View.ld x8 r0_15) (View.ld x8 r0_17) (View.ld x8 r0_19) (View.ld x8 r0_21)
      (View.ld x9 r0_16) (View.ld x9 r0_18) (View.ld x9 r0_20) (View.ld x9 r0_22)
      (View.ld x10 r0_11) (View.ld x11 r0_10) (ix2 r d)
      = blockRow x0 x1 x2 x3 x4 x5 x6 x7 x8 x9 x10 x11 ⟨r.val, by omega⟩ d := by
  rw [tile_apply, keys_eq, values_eq, blockRow]
  congr 1
  · funext c
    simp only [join2]
    pointwise [k0_pay5, r0_4, r0_5]
  · funext c
    pointwise [r0_9]
  · funext c
    pointwise [r0_10]
  · funext c
    pointwise [r0_10]
  · funext a b
    pointwise [r0_11]
  · funext a b
    pointwise [r0_11]
  · funext c
    pointwise [r0_10]

/-- Tile 1 at an element. -/
theorem tile1_apply (r : Fin 256) (d : Fin 1024) :
    tile (k0_pay5 (View.ld x0 r0_6) (View.ld x2 r0_5) (View.ld x1 r0_6) (View.ld x3 r0_5)) (View.ld x4 r0_12) (View.ld x5 r0_10) (View.ld x6 r0_10) (View.ld x7 r0_11)
      (View.ld x8 r0_15) (View.ld x8 r0_17) (View.ld x8 r0_19) (View.ld x8 r0_21)
      (View.ld x9 r0_16) (View.ld x9 r0_18) (View.ld x9 r0_20) (View.ld x9 r0_22)
      (View.ld x10 r0_11) (View.ld x11 r0_10) (ix2 r d)
      = blockRow x0 x1 x2 x3 x4 x5 x6 x7 x8 x9 x10 x11 ⟨256 + r.val, by omega⟩ d := by
  rw [tile_apply, keys_eq, values_eq, blockRow]
  congr 1
  · funext c
    simp only [join2]
    pointwise [k0_pay5, r0_6, r0_5]
  · funext c
    pointwise [r0_12]
  · funext c
    pointwise [r0_10]
  · funext c
    pointwise [r0_10]
  · funext a b
    pointwise [r0_11]
  · funext a b
    pointwise [r0_11]
  · funext c
    pointwise [r0_10]

/-- Tile 2 at an element. -/
theorem tile2_apply (r : Fin 256) (d : Fin 1024) :
    tile (k0_pay5 (View.ld x0 r0_7) (View.ld x2 r0_5) (View.ld x1 r0_7) (View.ld x3 r0_5)) (View.ld x4 r0_13) (View.ld x5 r0_10) (View.ld x6 r0_10) (View.ld x7 r0_11)
      (View.ld x8 r0_15) (View.ld x8 r0_17) (View.ld x8 r0_19) (View.ld x8 r0_21)
      (View.ld x9 r0_16) (View.ld x9 r0_18) (View.ld x9 r0_20) (View.ld x9 r0_22)
      (View.ld x10 r0_11) (View.ld x11 r0_10) (ix2 r d)
      = blockRow x0 x1 x2 x3 x4 x5 x6 x7 x8 x9 x10 x11 ⟨512 + r.val, by omega⟩ d := by
  rw [tile_apply, keys_eq, values_eq, blockRow]
  congr 1
  · funext c
    simp only [join2]
    pointwise [k0_pay5, r0_7, r0_5]
  · funext c
    pointwise [r0_13]
  · funext c
    pointwise [r0_10]
  · funext c
    pointwise [r0_10]
  · funext a b
    pointwise [r0_11]
  · funext a b
    pointwise [r0_11]
  · funext c
    pointwise [r0_10]

/-- Tile 3 at an element. -/
theorem tile3_apply (r : Fin 256) (d : Fin 1024) :
    tile (k0_pay5 (View.ld x0 r0_8) (View.ld x2 r0_5) (View.ld x1 r0_8) (View.ld x3 r0_5)) (View.ld x4 r0_14) (View.ld x5 r0_10) (View.ld x6 r0_10) (View.ld x7 r0_11)
      (View.ld x8 r0_15) (View.ld x8 r0_17) (View.ld x8 r0_19) (View.ld x8 r0_21)
      (View.ld x9 r0_16) (View.ld x9 r0_18) (View.ld x9 r0_20) (View.ld x9 r0_22)
      (View.ld x10 r0_11) (View.ld x11 r0_10) (ix2 r d)
      = blockRow x0 x1 x2 x3 x4 x5 x6 x7 x8 x9 x10 x11 ⟨768 + r.val, by omega⟩ d := by
  rw [tile_apply, keys_eq, values_eq, blockRow]
  congr 1
  · funext c
    simp only [join2]
    pointwise [k0_pay5, r0_8, r0_5]
  · funext c
    pointwise [r0_14]
  · funext c
    pointwise [r0_10]
  · funext c
    pointwise [r0_10]
  · funext a b
    pointwise [r0_11]
  · funext a b
    pointwise [r0_11]
  · funext c
    pointwise [r0_10]

variable (x12 : FVec Ideal S1x64x5632 .f32) (x13 : FVec Ideal S1x176x1024 .f32)

/-- What the body leaves in the block of rows, at an element. -/
theorem out_apply (r : Fin 1024) (d : Fin 1024) :
    out0_14 (F := Ideal) x0 x1 x2 x3 x4 x5 x6 x7 x8 x9 x10 x11 x12 x13 (ix2 r d) = blockRow x0 x1 x2 x3 x4 x5 x6 x7 x8 x9 x10 x11 r d := by
  unfold_out out0_14
  refine View.canon_apply_of_pieces (Val := Elt Ideal) (e := .f32) (fun y : S1024x1024.Idx => blockRow x0 x1 x2 x3 x4 x5 x6 x7 x8 x9 x10 x11 (y 0) (y 1)) _ ?_ (ix2 r d) (cover0_14 _ _ _ _ _)
  intro pc hpc
  rcases List.mem_cons.mp hpc with rfl | hpc
  · intro z
    obtain ⟨r, d, rfl⟩ : ∃ (r : Fin 256) (d : Fin 1024), z = ix2 r d := ⟨z 0, z 1, by funext a; fin_cases a <;> rfl⟩
    refine (tile3_apply x0 x1 x2 x3 x4 x5 x6 x7 x8 x9 x10 x11 r d).trans (congrArg₂ (blockRow x0 x1 x2 x3 x4 x5 x6 x7 x8 x9 x10 x11) (Fin.ext ?_) (Fin.ext ?_))
    · show 768 + r.val = 768 + 1 * r.val; omega
    · show d.val = 0 + 1 * d.val; omega
  rcases List.mem_cons.mp hpc with rfl | hpc
  · intro z
    obtain ⟨r, d, rfl⟩ : ∃ (r : Fin 256) (d : Fin 1024), z = ix2 r d := ⟨z 0, z 1, by funext a; fin_cases a <;> rfl⟩
    refine (tile2_apply x0 x1 x2 x3 x4 x5 x6 x7 x8 x9 x10 x11 r d).trans (congrArg₂ (blockRow x0 x1 x2 x3 x4 x5 x6 x7 x8 x9 x10 x11) (Fin.ext ?_) (Fin.ext ?_))
    · show 512 + r.val = 512 + 1 * r.val; omega
    · show d.val = 0 + 1 * d.val; omega
  rcases List.mem_cons.mp hpc with rfl | hpc
  · intro z
    obtain ⟨r, d, rfl⟩ : ∃ (r : Fin 256) (d : Fin 1024), z = ix2 r d := ⟨z 0, z 1, by funext a; fin_cases a <;> rfl⟩
    refine (tile1_apply x0 x1 x2 x3 x4 x5 x6 x7 x8 x9 x10 x11 r d).trans (congrArg₂ (blockRow x0 x1 x2 x3 x4 x5 x6 x7 x8 x9 x10 x11) (Fin.ext ?_) (Fin.ext ?_))
    · show 256 + r.val = 256 + 1 * r.val; omega
    · show d.val = 0 + 1 * d.val; omega
  rcases List.mem_cons.mp hpc with rfl | hpc
  · intro z
    obtain ⟨r, d, rfl⟩ : ∃ (r : Fin 256) (d : Fin 1024), z = ix2 r d := ⟨z 0, z 1, by funext a; fin_cases a <;> rfl⟩
    refine (tile0_apply x0 x1 x2 x3 x4 x5 x6 x7 x8 x9 x10 x11 r d).trans (congrArg₂ (blockRow x0 x1 x2 x3 x4 x5 x6 x7 x8 x9 x10 x11) (Fin.ext ?_) (Fin.ext ?_))
    · show r.val = 0 + 1 * r.val; omega
    · show d.val = 0 + 1 * d.val; omega
  nomatch hpc

end Block

variable (m : (ℓ : Loc nD τ sig) → Buf (Elt Ideal) ℓ) (ρ : Dev nD → PrngReg)

/-- What the array of rows holds. -/
def G0 (c₀ : Dev nD) : Buf (Elt Ideal) ((c₀ : Thread nD τ).loc main_v0_0) := fun i : S16384x1024.Idx =>
  row (join2 (fun k : Fin 512 => m ((c₀ : Thread nD τ).loc main_arg0) (ix2 (i 0) k))
      (fun k : Fin 512 => m ((c₀ : Thread nD τ).loc main_arg1) (ix2 (i 0) k))
      (fun (k : Fin 512) c => m ((c₀ : Thread nD τ).loc main_arg2) (ix3 0 ⟨k.val, by omega⟩ c))
      (fun (k : Fin 512) c => m ((c₀ : Thread nD τ).loc main_arg2) (ix3 0 ⟨512 + k.val, by omega⟩ c)))
    (fun c => m ((c₀ : Thread nD τ).loc main_arg3) (ix2 (i 0) c))
    (fun c => m ((c₀ : Thread nD τ).loc main_arg4) (ix3 4 0 c))
    (fun c => m ((c₀ : Thread nD τ).loc main_arg4) (ix3 8 0 c))
    (fun d f => m ((c₀ : Thread nD τ).loc main_arg5) (ix3 0 d f))
    (fun n e j => m ((c₀ : Thread nD τ).loc main_arg6)
      (ix4 0 ⟨(i 0).val / 2048, by have : (i 0).val < 16384 := (i 0).isLt; omega⟩ ⟨256 * n.val + e.val, by omega⟩ j))
    (fun n j e => m ((c₀ : Thread nD τ).loc main_arg7)
      (ix4 0 ⟨(i 0).val / 2048, by have : (i 0).val < 16384 := (i 0).isLt; omega⟩ j ⟨256 * n.val + e.val, by omega⟩))
    (fun f d => m ((c₀ : Thread nD τ).loc main_arg8) (ix3 0 f d))
    (fun c => m ((c₀ : Thread nD τ).loc main_arg4) (ix3 16 0 c)) (i 1)

/-- What the array of the first feed-forward matrix holds. -/
def G1 (c : Dev nD) : Buf (Elt Ideal) ((c : Thread nD τ).loc main_v0_1) := fun i : S1024x5632.Idx =>
  m ((c : Thread nD τ).loc main_arg9) (ix3 0 (i 0) (i 1))

/-- What the array of the second feed-forward matrix holds. -/
def G2 (c : Dev nD) : Buf (Elt Ideal) ((c : Thread nD τ).loc main_v0_2) := fun i : S2816x1024.Idx =>
  m ((c : Thread nD τ).loc main_arg10) (ix3 0 (i 0) (i 1))

/-- The windows' block indices over the grid. -/
theorem idx : ∀ t : Fin cfg0.N, win0_0.index t = ![t.val, 0] ∧ win0_1.index t = ![t.val, 0] ∧ win0_2.index t = ![0, 0, 0] ∧ win0_3.index t = ![0, 1, 0] ∧ win0_4.index t = ![t.val, 0] ∧ win0_5.index t = ![4, 0, 0] ∧ win0_6.index t = ![8, 0, 0] ∧ win0_7.index t = ![0, 0, 0] ∧ win0_8.index t = ![0, t.val / 2, 0, 0] ∧ win0_9.index t = ![0, t.val / 2, 0, 0] ∧ win0_10.index t = ![0, 0, 0] ∧ win0_11.index t = ![16, 0, 0] ∧ win0_12.index t = ![0, t.val, 0] ∧ win0_13.index t = ![0, t.val, 0] ∧ win0_14.index t = ![t.val, 0] ∧ win0_15.index t = ![t.val, 0] ∧ win0_16.index t = ![t.val, 0] :=
  (by decide +kernel : ∀ t : Fin grid0.N, win0_0.index t = ![t.val, 0] ∧ win0_1.index t = ![t.val, 0] ∧ win0_2.index t = ![0, 0, 0] ∧ win0_3.index t = ![0, 1, 0] ∧ win0_4.index t = ![t.val, 0] ∧ win0_5.index t = ![4, 0, 0] ∧ win0_6.index t = ![8, 0, 0] ∧ win0_7.index t = ![0, 0, 0] ∧ win0_8.index t = ![0, t.val / 2, 0, 0] ∧ win0_9.index t = ![0, t.val / 2, 0, 0] ∧ win0_10.index t = ![0, 0, 0] ∧ win0_11.index t = ![16, 0, 0] ∧ win0_12.index t = ![0, t.val, 0] ∧ win0_13.index t = ![0, t.val, 0] ∧ win0_14.index t = ![t.val, 0] ∧ win0_15.index t = ![t.val, 0] ∧ win0_16.index t = ![t.val, 0])

/-- The array of rows after the run. -/
theorem final0 (c : Dev nD) : (dats m 0 c).arrAt 14 cfg0.N = G0 m c := by
  refine (dats m 0 c).arrAt_eq_of_covers 14 _ (by decide +kernel) fun t hf y => ?_
  blk_simp
  rw [after0_14]
  idx_vars y
  rw [out_apply]
  unfold G0 blockRow
  congr 1
  · congr 1
    all_goals
      funext k
      try funext c
      blk_point [iblk, V, idx t]
  · funext c
    blk_point [iblk, V, idx t]
  · funext c
    blk_point [iblk, V, idx t]
  · funext c
    blk_point [iblk, V, idx t]
  · funext a b
    blk_point [iblk, V, idx t]
  · funext n a b
    blk_point [iblk, V, idx t]
  · funext n a b
    blk_point [iblk, V, idx t]
  · funext a b
    blk_point [iblk, V, idx t]
  · funext c
    blk_point [iblk, V, idx t]
  · refine Fin.ext ?_
    show y1.val = (((cfg0.win 14).blk t).view.emb (ix2 y0 y1) 1 : Fin 1024).val
    blk_simp
    simp [idx t]

/-- The array of the first feed-forward matrix after the run. -/
theorem final1 (c : Dev nD) : (dats m 0 c).arrAt 15 cfg0.N = G1 m c := by
  refine (dats m 0 c).arrAt_eq_of_covers 15 _ (by decide +kernel) fun t hf y => ?_
  blk_simp
  rw [after0_15]
  idx_vars y
  refine (canon15_eq _ _).trans ?_
  unfold G1
  blk_point [iblk, V, idx t]

/-- The array of the second feed-forward matrix after the run. -/
theorem final2 (c : Dev nD) : (dats m 0 c).arrAt 16 cfg0.N = G2 m c := by
  refine (dats m 0 c).arrAt_eq_of_covers 16 _ (by decide +kernel) fun t hf y => ?_
  blk_simp
  rw [after0_16]
  idx_vars y
  refine (canon16_eq _ _).trans ?_
  unfold G2
  blk_point [iblk, V, idx t]

end Cert.EvenCrossKernelIdeal.RowValue

end
-- ==== Proof.Finite.lean ====
/- Finite values: the extended reals that are real numbers, the operations that keep them, and the weighted mean over finite
   scores written the two ways a kernel and a reference write it. -/
module

public import Mathlib.Data.EReal.Operations
public import Idealize.ShloMosaic.Lib.IdealHost
public import Idealize.ShloMosaic.Lib.ReduceAll
public import proofs.«01_k».proof.Proof.RowNorm

@[expose] public section

noncomputable section

namespace Cert.Finite
open Idealize.ShloMosaic Cert.RowNorm

/-- A value that is a real number. -/
def IsReal (x : EReal) : Prop := ∃ r : ℝ, x = (r : EReal)

/-- A sum of two finite values is finite. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- A product of two finite values is finite. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A difference of two finite values is finite. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The sum of real numbers, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite values is finite. -/
theorem IsReal.sum {ι : Type} (s : Finset ι) {f : ι → EReal} (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self _ _)).add (ih fun i hi => hf i (Finset.mem_insert_of_mem hi))

/-- A value whose magnitude is below infinity is finite. -/
theorem isReal_of_abs {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hlt : max x (-x) < ⊤ := by
    by_contra hn
    simp [Ideal.cmp, hn] at h
  induction x with
  | bot => simp at hlt
  | top => simp at hlt
  | coe r => exact ⟨r, rfl⟩

/-- The pattern of minus infinity. -/
theorem neg_inf : Ideal.ofBits .f32 0xFF800000#32 = ⊥ := by simp [Ideal.ofBits, Ideal.ieee]

/-- The pattern of one thousand and twenty-four. -/
theorem width : Ideal.ofBits .f32 0x44800000#32 = ((1024 : ℝ) : EReal) := by
  simp [Ideal.ofBits, Ideal.ieee, -EReal.coe_mul]; norm_num

/-- The pattern added under the root is a positive real. -/
theorem eps : ∃ r : ℝ, 0 < r ∧ Ideal.ofBits .f32 0x358637BD#32 = (r : EReal) := by
  refine ⟨_, ?_, by simp [Ideal.ofBits, Ideal.ieee, -EReal.coe_mul]; rfl⟩
  norm_num

/-- The pattern of one sixteenth. -/
theorem sixteenth : Ideal.ofBits .f32 0x3D800000#32 = (((1 : ℝ) / 16 : ℝ) : EReal) := by
  simp [Ideal.ofBits, Ideal.ieee, -EReal.coe_mul]; norm_num

/-- A normalised row of finite values is finite. -/
theorem isReal_rms {x g : Fin 1024 → EReal} (hx : ∀ d, IsReal (x d)) (hg : ∀ d, IsReal (g d)) (d : Fin 1024) :
    IsReal (rms x g d) := by
  choose a ha using hx
  obtain ⟨ε, hε, he⟩ := eps
  have hm : Ideal.div (∑ k, x k * x k) (Ideal.ofBits .f32 0x44800000#32) + Ideal.ofBits .f32 0x358637BD#32
      = (((∑ k, a k * a k) * (1024 : ℝ)⁻¹ + ε : ℝ) : EReal) := by
    rw [width, he, Ideal.div, if_neg (by norm_num), EReal.coe_add, EReal.coe_mul, coe_sum, EReal.coe_inv]
    simp [ha]
  have hp : 0 < (∑ k, a k * a k) * (1024 : ℝ)⁻¹ + ε :=
    add_pos_of_nonneg_of_pos (mul_nonneg (Finset.sum_nonneg fun k _ => mul_self_nonneg _) (by norm_num)) hε
  refine (IsReal.mul ⟨a d, ha d⟩ ?_).mul (hg d)
  rw [hm]
  generalize (∑ k, a k * a k) * (1024 : ℝ)⁻¹ + ε = y at hp
  refine ⟨(Real.sqrt y)⁻¹, ?_⟩
  show (if y < 0 then (⊥ : EReal) else if y = 0 then ⊤ else (((Real.sqrt y)⁻¹ : ℝ) : EReal)) = _
  rw [if_neg (not_lt.mpr hp.le), if_neg hp.ne']

/-- A factor that is a real number not below zero goes into a sum. -/
theorem sum_mul {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- The fold of maxima is one of the values or the start. -/
theorem fold_max_isReal {ι : Type} (s : Finset ι) (f : ι → EReal) (hs : s.Nonempty) (hf : ∀ i, IsReal (f i)) :
    IsReal (s.fold max ⊥ f) := by
  classical
  induction hs using Finset.Nonempty.cons_induction with
  | singleton a => simpa using hf a
  | cons a s ha hs ih =>
    rw [Finset.fold_cons]
    rcases max_choice (f a) (s.fold max ⊥ f) with h | h <;> rw [h]
    · exact hf a
    · exact ih

/-- The exponential of a finite value is a positive real. -/
theorem exp_pos {x : EReal} (hx : IsReal x) : ∃ r : ℝ, 0 < r ∧ Ideal.exp x = (r : EReal) := by
  obtain ⟨a, rfl⟩ := hx; exact ⟨Real.exp a, Real.exp_pos a, rfl⟩

/-- A quotient of a weighted sum is the sum of the weights' quotients, the weights positive reals. -/
theorem mean_eq {ι : Type} [Fintype ι] [Nonempty ι] (w v : ι → EReal) (hw : ∀ i, ∃ r : ℝ, 0 < r ∧ w i = (r : EReal)) :
    Ideal.div (∑ i, w i * v i) (∑ i, w i) = ∑ i, v i * Ideal.div (w i) (∑ i, w i) := by
  choose a ha hwa using hw
  have hS : ∑ i, w i = ((∑ i, a i : ℝ) : EReal) := by rw [coe_sum]; exact Finset.sum_congr rfl fun i _ => hwa i
  have hpos : 0 < ∑ i, a i := Finset.sum_pos (fun i _ => ha i) Finset.univ_nonempty
  have hne : ((∑ i, a i : ℝ) : EReal) ≠ 0 := by exact_mod_cast hpos.ne'
  rw [hS]
  simp only [Ideal.div, if_neg hne]
  rw [← EReal.coe_inv, sum_mul _ _ (inv_nonneg.mpr hpos.le)]
  refine Finset.sum_congr rfl fun i _ => ?_
  rw [mul_comm (w i) (v i), mul_assoc]

end Cert.Finite

end
-- ==== Proof.CrossReal.lean ====
/- The cross-attention row the way plain mathematics writes it: the scores scaled after their sum, the weights normalised before
   they meet the values. It is the kernel's row where the scores are finite. -/
module

public import proofs.«01_k».proof.Proof.CrossModel
public import proofs.«01_k».proof.Proof.Finite

@[expose] public section

noncomputable section

namespace Cert.CrossReal
open Idealize.ShloMosaic Cert.RowNorm Cert.CrossModel Cert.Finite

/-- The score of a row against one key of one head, scaled after the sum. -/
def scoreR (h : Fin 1024 → EReal) (w : Fin 1024 → Fin 1024 → EReal) (k : Fin 4 → Fin 256 → Fin 256 → EReal) (n : Fin 4)
    (j : Fin 256) : EReal :=
  (∑ e : Fin 256, (∑ d, h d * w d ⟨256 * n.val + e.val, by omega⟩) * k n e j) * Ideal.ofBits .f32 0x3D800000#32

/-- The exponential of a score's distance from the largest. -/
def shiftR (s : Fin 256 → EReal) (j : Fin 256) : EReal :=
  Ideal.exp (s j - max (Ideal.ofBits .f32 0xFF800000#32) (peak s))

/-- The mean of the values under the normalised weights. -/
def attendR (s v : Fin 256 → EReal) : EReal := ∑ j, v j * Ideal.div (shiftR s j) (∑ i, shiftR s i)

/-- One feature of the heads side by side. -/
def headsR (h : Fin 1024 → EReal) (w : Fin 1024 → Fin 1024 → EReal) (k v : Fin 4 → Fin 256 → Fin 256 → EReal)
    (f : Fin 1024) : EReal :=
  attendR (scoreR h w k ⟨f.val / 256, by omega⟩) (fun j => v ⟨f.val / 256, by omega⟩ j ⟨f.val % 256, by omega⟩)

/-- One feature of the layer's row. -/
def rowR (y x g1 g2 : Fin 1024 → EReal) (wq : Fin 1024 → Fin 1024 → EReal) (k v : Fin 4 → Fin 256 → Fin 256 → EReal)
    (wo : Fin 1024 → Fin 1024 → EReal) (g3 : Fin 1024 → EReal) (d : Fin 1024) : EReal :=
  addNorm (fun c => ∑ f, headsR (rms (addNorm y x g1) g2) wq k v f * wo f c) (addNorm y x g1) g3 d

/-- Finite features and a finite matrix: scaling the query is scaling the score. -/
theorem score_eq {h : Fin 1024 → EReal} {w : Fin 1024 → Fin 1024 → EReal} {k : Fin 4 → Fin 256 → Fin 256 → EReal}
    (hh : ∀ d, IsReal (h d)) (hw : ∀ d f, IsReal (w d f)) (hk : ∀ n e j, IsReal (k n e j)) (n : Fin 4) (j : Fin 256) :
    score (query h w) k n j = scoreR h w k n j := by
  rw [score, scoreR, sixteenth, sum_mul _ _ (by norm_num)]
  refine Finset.sum_congr rfl fun e _ => ?_
  rw [query, sixteenth, mul_assoc, mul_assoc, mul_comm ((1 / 16 : ℝ) : EReal)]

/-- The scores are finite. -/
theorem isReal_scoreR {h : Fin 1024 → EReal} {w : Fin 1024 → Fin 1024 → EReal} {k : Fin 4 → Fin 256 → Fin 256 → EReal}
    (hh : ∀ d, IsReal (h d)) (hw : ∀ d f, IsReal (w d f)) (hk : ∀ n e j, IsReal (k n e j)) (n : Fin 4) (j : Fin 256) :
    IsReal (scoreR h w k n j) := by
  refine IsReal.mul (IsReal.sum _ fun e _ => IsReal.mul (IsReal.sum _ fun d _ => (hh d).mul (hw d _)) (hk n e j)) ?_
  rw [sixteenth]; exact ⟨_, rfl⟩

/-- The kernel's weighted mean is the reference's, over finite scores. -/
theorem attend_eq {s v : Fin 256 → EReal} (hs : ∀ j, IsReal (s j)) : attend s v = attendR s v := by
  have hp : IsReal (peak s) := by
    rw [peak, neg_inf]; exact fold_max_isReal _ _ Finset.univ_nonempty hs
  have hsh : ∀ j, shiftR s j = weight s j := fun j => by
    rw [shiftR, neg_inf, max_eq_right bot_le]; rfl
  rw [attend, attendR, mean_eq (weight s) v fun j => exp_pos ((hs j).sub hp)]
  simp only [hsh]

/-- The kernel's row is the reference's, for finite arguments ahead of the scores. -/
theorem row_eq {y x g1 g2 : Fin 1024 → EReal} {wq : Fin 1024 → Fin 1024 → EReal}
    {k v : Fin 4 → Fin 256 → Fin 256 → EReal} {wo : Fin 1024 → Fin 1024 → EReal} {g3 : Fin 1024 → EReal}
    (hy : ∀ d, IsReal (y d)) (hx : ∀ d, IsReal (x d)) (hg1 : ∀ d, IsReal (g1 d)) (hg2 : ∀ d, IsReal (g2 d))
    (hw : ∀ d f, IsReal (wq d f)) (hk : ∀ n e j, IsReal (k n e j)) :
    row y x g1 g2 wq k v wo g3 = rowR y x g1 g2 wq k v wo g3 := by
  have hh : ∀ d, IsReal (rms (addNorm y x g1) g2 d) :=
    isReal_rms (fun d => (hx d).add (isReal_rms hy hg1 d)) hg2
  have he : heads (query (rms (addNorm y x g1) g2) wq) k v = headsR (rms (addNorm y x g1) g2) wq k v := by
    funext f
    have hs : score (query (rms (addNorm y x g1) g2) wq) k ⟨f.val / 256, by omega⟩
        = scoreR (rms (addNorm y x g1) g2) wq k ⟨f.val / 256, by omega⟩ := funext fun j => score_eq hh hw hk _ j
    rw [heads, headsR, hs, attend_eq fun j => isReal_scoreR hh hw hk _ j]
  funext d
  rw [row, rowR, show mixed (query (rms (addNorm y x g1) g2) wq) k v wo
    = fun c => ∑ f, headsR (rms (addNorm y x g1) g2) wq k v f * wo f c from funext fun c => by rw [mixed, he]]

end Cert.CrossReal

end
-- ==== Proof.EvenCrossRead.lean ====
/- What the even cross-attention reference computes, read at an index: the residual of the mixing product, the scaled scores,
   their exponentials, and the heads' product, put together as the row of plain mathematics. -/
module

public import proofs.«01_k».proof.Defs
public import proofs.«01_k».proof.Proof.CrossReal
public import proofs.«01_k».proof.Proof.Gen.EvenCrossReferenceIdeal.Run
public import Idealize.ShloMosaic.Lib.Pointwise

@[expose] public section

set_option maxRecDepth 16384

noncomputable section

namespace Cert.EvenCrossReferenceIdeal.RowRead
open Idealize.ShloMosaic Idealize.ShloMosaic.TcCoe Idealize.ShloMosaic.StableHlo Cert.RowNorm Cert.CrossModel Cert.CrossReal
open Cert.EvenCrossReferenceIdeal Cert.EvenCrossReferenceIdeal.Gen Cert.EvenCrossReferenceIdeal.Value

/-- The mixing product at an index. -/
theorem product_apply (a : FVec Ideal S16384x1024 .bf16) (w : FVec Ideal S2x1024x1024 .bf16) (r : Fin 16384) (c : Fin 1024) :
    (shapeCast _ (Host.dotGeneral dot_S8x2048x1024_S1024x1024_S8x2048x1024_2_0_01_1_n_n none (extf .f32 (shapeCast _ a shapeCasts_S16384x1024_S8x2048x1024) bitsLt_bf16_f32) (extf .f32 (shapeCast _ (extractStridedSlice S1x1024x1024 ![0, 0, 0] w slices_S2x1024x1024_S1x1024x1024_0_0_0) shapeCasts_S1x1024x1024_S1024x1024) bitsLt_bf16_f32)) shapeCasts_S8x2048x1024_S16384x1024 : FVec Ideal S16384x1024 .f32) (ix2 r c) = ∑ k : Fin 1024, a (ix2 r k) * w (ix3 0 k c) := by
  pointwise []

/-- The two halves side by side, at an index. -/
theorem halves_apply (a : FVec Ideal S16384x512 .bf16) (b : FVec Ideal S16384x512 .bf16) (r : Fin 16384) (c : Fin 1024) :
    ((concatenate S16384x1024 1 [⟨S16384x512, a⟩, ⟨S16384x512, b⟩] concatenates_S16384x512_S16384x512_S16384x1024_d1) : FVec Ideal S16384x1024 .bf16) (ix2 r c)
      = if h : c.val < 512 then a (ix2 r ⟨c.val, h⟩) else b (ix2 r ⟨c.val - 512, by omega⟩) := by
  pointwise []

/-- The product of the halves side by side is the two halves' products added. -/
theorem product_halves (a : FVec Ideal S16384x512 .bf16) (b : FVec Ideal S16384x512 .bf16) (w : FVec Ideal S2x1024x1024 .bf16) (r : Fin 16384) (c : Fin 1024) :
    ∑ k : Fin 1024, ((concatenate S16384x1024 1 [⟨S16384x512, a⟩, ⟨S16384x512, b⟩] concatenates_S16384x512_S16384x512_S16384x1024_d1) : FVec Ideal S16384x1024 .bf16) (ix2 r k) * w (ix3 0 k c)
      = join2 (fun k : Fin 512 => a (ix2 r k)) (fun k : Fin 512 => b (ix2 r k))
          (fun (k : Fin 512) c => w (ix3 0 ⟨k.val, by omega⟩ c)) (fun (k : Fin 512) c => w (ix3 0 ⟨512 + k.val, by omega⟩ c)) c := by
  refine (Fin.sum_univ_add (a := 512) (b := 512) _).trans ?_
  rw [join2]
  congr 1
  · refine Finset.sum_congr rfl fun k _ => ?_
    rw [halves_apply, dif_pos (by simp)]
    rfl
  · refine Finset.sum_congr rfl fun k _ => ?_
    rw [halves_apply, dif_neg (by simp)]
    congr 2
    congr 1
    exact Fin.ext (by simp)

/-- The residual of the mixing product at an index. -/
theorem residual_apply (y : FVec Ideal S16384x1024 .f32) (x : FVec Ideal S16384x1024 .f32) (g : FVec Ideal S36x1x1024 .f32) (r : Fin 16384) (c : Fin 1024) :
    (addf x (mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![4, 0, 0] g slices_S36x1x1024_S1x1x1024_4_0_0) shapeCasts_S1x1x1024_S1024)))) : FVec Ideal S16384x1024 .f32) (ix2 r c)
      = addNorm (fun d => y (ix2 r d)) (fun d => x (ix2 r d)) (fun d => g (ix3 4 0 d)) c := by
  simp only [addNorm, rms]
  pointwise []

/-- The scaled scores at an index. -/
theorem scores_apply (z : FVec Ideal S16384x1024 .f32) (g : FVec Ideal S36x1x1024 .f32) (wq : FVec Ideal S4x1024x1024 .bf16) (k : FVec Ideal S4x8x1024x256 .bf16) (b : Fin 8) (n : Fin 4) (q : Fin 2048)
    (j : Fin 256) (r : Fin 16384) (hr : r.val = b.val * 2048 + q.val) :
    (mulf (Host.dotGeneral dot_S8x2048x4x256_S8x4x256x256_S8x4x2048x256_3_2_1_3_02_01 none (shapeCast _ (Host.dotGeneral dot_S16384x1024_S1024x1024_S16384x1024_1_0_0_1_n_n none (mulf (mulf z (broadcastInDim S16384x1024 ![0, 1] bcast_S16384x1_S16384x1024_0_1 (Host.rsqrt (addf (Host.divf (broadcastInDim S16384x1 ![0] bcast_S16384_S16384x1_0 (Host.reduceAdd (mulf z z) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![8, 0, 0] g slices_S36x1x1024_S1x1x1024_8_0_0) shapeCasts_S1x1x1024_S1024)))) (extf .f32 (shapeCast _ (extractStridedSlice S1x1024x1024 ![0, 0, 0] wq slices_S4x1024x1024_S1x1024x1024_0_0_0) shapeCasts_S1x1024x1024_S1024x1024) bitsLt_bf16_f32)) shapeCasts_S16384x1024_S8x2048x4x256) (shapeCast _ (extf .f32 (shapeCast _ (extractStridedSlice S1x8x1024x256 ![0, 0, 0, 0] k slices_S4x8x1024x256_S1x8x1024x256_0_0_0_0) shapeCasts_S1x8x1024x256_S8x1024x256) bitsLt_bf16_f32) shapeCasts_S8x1024x256_S8x4x256x256)) (broadcastInDim S8x4x2048x256 ![] bcast_S_S8x4x2048x256 (constant S_ .f32 0x3D800000#32)) : FVec Ideal S8x4x2048x256 .f32) (ix4 b n q j)
      = scoreR (rms (fun d => z (ix2 r d)) (fun d => g (ix3 8 0 d))) (fun d f => wq (ix3 0 d f))
          (fun n e j => k (ix4 0 b ⟨256 * n.val + e.val, by omega⟩ j)) n j := by
  rw [show r = ⟨b.val * 2048 + q.val, by omega⟩ from Fin.ext hr]
  have hf : ∀ e : Fin 256, (⟨256 * n.val + e.val, by omega⟩ : Fin 1024) = ⟨n.val * 256 + e.val, by omega⟩ := fun e =>
    Fin.ext (by simp [Nat.mul_comm])
  simp only [scoreR, rms, hf]
  pointwise []

/-- The largest score of a query. -/
theorem peak_apply (s : FVec Ideal S8x4x2048x256 .f32) (b : Fin 8) (n : Fin 4) (q : Fin 2048) :
    Host.reduce FloatOps.maximumf s (constant S_ .f32 0xFF800000#32) reducesTo_S8x4x2048x256_S8x4x2048_d3 h_S_ (ix3 b n q)
      = peak (fun x => s (ix4 b n q x)) := by
  simp only [peak]
  pointwise []

/-- The exponentials over any array of largest scores, at an index. -/
theorem exps_apply (s : FVec Ideal S8x4x2048x256 .f32) (u : FVec Ideal S8x4x2048 .f32) (b : Fin 8) (n : Fin 4) (q : Fin 2048)
    (j : Fin 256) :
    (Host.exp (subf s (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) u)))) : FVec Ideal S8x4x2048x256 .f32) (ix4 b n q j)
      = Ideal.exp (s (ix4 b n q j) - max (Ideal.ofBits .f32 0xFF800000#32) (u (ix3 b n q))) := by
  pointwise []

/-- The heads' product at an index. -/
theorem heads_apply (p : FVec Ideal S8x4x2048x256 .f32) (v : FVec Ideal S4x8x256x1024 .bf16) (wo : FVec Ideal S4x1024x1024 .bf16) (r : Fin 16384) (c : Fin 1024) :
    (Host.dotGeneral dot_S16384x1024_S1024x1024_S16384x1024_1_0_0_1_n_n none (shapeCast _ (transpose S8x2048x4x256 [0, 3, 1, 2] (Host.dotGeneral dot_S8x256x4x256_S8x4x2048x256_S8x4x256x2048_1_3_3_2_02_01 none (shapeCast _ (extf .f32 (shapeCast _ (extractStridedSlice S1x8x256x1024 ![0, 0, 0, 0] v slices_S4x8x256x1024_S1x8x256x1024_0_0_0_0) shapeCasts_S1x8x256x1024_S8x256x1024) bitsLt_bf16_f32) shapeCasts_S8x256x1024_S8x256x4x256) (Host.divf p (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd p (constant S_ .f32 0x00000000#32) reducesTo_S8x4x2048x256_S8x4x2048_d3 h_S_))))) transposes_S8x4x256x2048_S8x2048x4x256_0_3_1_2) shapeCasts_S8x2048x4x256_S16384x1024) (extf .f32 (shapeCast _ (extractStridedSlice S1x1024x1024 ![0, 0, 0] wo slices_S4x1024x1024_S1x1024x1024_0_0_0) shapeCasts_S1x1024x1024_S1024x1024) bitsLt_bf16_f32) : FVec Ideal S16384x1024 .f32) (ix2 r c)
      = ∑ f : Fin 1024, (∑ j : Fin 256, v (ix4 0 ⟨r.val / 2048, by omega⟩ j f)
          * Ideal.div (p (ix4 ⟨r.val / 2048, by omega⟩ ⟨f.val / 256, by omega⟩ ⟨r.val % 2048, by omega⟩ j))
            (∑ i : Fin 256, p (ix4 ⟨r.val / 2048, by omega⟩ ⟨f.val / 256, by omega⟩ ⟨r.val % 2048, by omega⟩ i)))
          * wo (ix3 0 f c) := by
  pointwise []

/-- The second residual at an index. -/
theorem result_apply (z o : FVec Ideal S16384x1024 .f32) (g : FVec Ideal S36x1x1024 .f32) (r : Fin 16384) (c : Fin 1024) :
    (addf z (mulf (mulf o (broadcastInDim S16384x1024 ![0, 1] bcast_S16384x1_S16384x1024_0_1 (Host.rsqrt (addf (Host.divf (broadcastInDim S16384x1 ![0] bcast_S16384_S16384x1_0 (Host.reduceAdd (mulf o o) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![16, 0, 0] g slices_S36x1x1024_S1x1x1024_16_0_0) shapeCasts_S1x1x1024_S1024)))) : FVec Ideal S16384x1024 .f32) (ix2 r c)
      = addNorm (fun d => o (ix2 r d)) (fun d => z (ix2 r d)) (fun d => g (ix3 16 0 d)) c := by
  simp only [addNorm, rms]
  pointwise []

/-- The first result, read at an index, is the plain row of the arguments. -/
theorem result (V0 : Valuation τ sig (Elt Ideal)) (a : FVec Ideal S16384x512 .bf16) (b : FVec Ideal S16384x512 .bf16) (w : FVec Ideal S2x1024x1024 .bf16) (x : FVec Ideal S16384x1024 .f32) (g : FVec Ideal S36x1x1024 .f32) (wq : FVec Ideal S4x1024x1024 .bf16) (k : FVec Ideal S4x8x1024x256 .bf16) (v : FVec Ideal S4x8x256x1024 .bf16) (wo : FVec Ideal S4x1024x1024 .bf16)
    (ha : V0 (Proc.devRef .tc main_arg0) = a)
    (hb : V0 (Proc.devRef .tc main_arg1) = b)
    (hw : V0 (Proc.devRef .tc main_arg2) = w)
    (hx : V0 (Proc.devRef .tc main_arg3) = x)
    (hg : V0 (Proc.devRef .tc main_arg4) = g)
    (hwq : V0 (Proc.devRef .tc main_arg5) = wq)
    (hk : V0 (Proc.devRef .tc main_arg6) = k)
    (hv : V0 (Proc.devRef .tc main_arg7) = v)
    (hwo : V0 (Proc.devRef .tc main_arg8) = wo)
    (r : Fin 16384) (c : Fin 1024) :
    (addf (res_main_v23 V0) (mulf (mulf (res_main_v72 V0) (broadcastInDim S16384x1024 ![0, 1] bcast_S16384x1_S16384x1024_0_1 (Host.rsqrt (addf (Host.divf (broadcastInDim S16384x1 ![0] bcast_S16384_S16384x1_0 (Host.reduceAdd (mulf (res_main_v72 V0) (res_main_v72 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![16, 0, 0] (V0 (Proc.devRef .tc main_arg4)) slices_S36x1x1024_S1x1x1024_16_0_0) shapeCasts_S1x1x1024_S1024)))) : FVec Ideal S16384x1024 .f32) (ix2 r c)
      = rowR (join2 (fun k : Fin 512 => a (ix2 r k)) (fun k : Fin 512 => b (ix2 r k))
        (fun (k : Fin 512) c => w (ix3 0 ⟨k.val, by omega⟩ c)) (fun (k : Fin 512) c => w (ix3 0 ⟨512 + k.val, by omega⟩ c)))
        (fun d => x (ix2 r d)) (fun d => g (ix3 4 0 d)) (fun d => g (ix3 8 0 d)) (fun d f => wq (ix3 0 d f))
        (fun n e j => k (ix4 0 ⟨r.val / 2048, by omega⟩ ⟨256 * n.val + e.val, by omega⟩ j))
        (fun n j e => v (ix4 0 ⟨r.val / 2048, by omega⟩ j ⟨256 * n.val + e.val, by omega⟩))
        (fun f d => wo (ix3 0 f d)) (fun d => g (ix3 16 0 d)) c := by
  obtain ⟨y, hy⟩ : ∃ y : FVec Ideal S16384x1024 .f32, res_main_v7 V0 = y := ⟨_, rfl⟩
  obtain ⟨z, hz⟩ : ∃ z : FVec Ideal S16384x1024 .f32, res_main_v23 V0 = z := ⟨_, rfl⟩
  obtain ⟨s, hs⟩ : ∃ s : FVec Ideal S8x4x2048x256 .f32, res_main_v54 V0 = s := ⟨_, rfl⟩
  obtain ⟨p, hp⟩ : ∃ p : FVec Ideal S8x4x2048x256 .f32, res_main_v61 V0 = p := ⟨_, rfl⟩
  obtain ⟨o, ho⟩ : ∃ o : FVec Ideal S16384x1024 .f32, res_main_v72 V0 = o := ⟨_, rfl⟩
  have ey : (fun d => y (ix2 r d)) = join2 (fun k : Fin 512 => a (ix2 r k)) (fun k : Fin 512 => b (ix2 r k))
        (fun (k : Fin 512) c => w (ix3 0 ⟨k.val, by omega⟩ c)) (fun (k : Fin 512) c => w (ix3 0 ⟨512 + k.val, by omega⟩ c)) := funext fun d => by
    rw [← hy]
    unfold res_main_v7
    rw [ha, hb, hw]
    exact (product_apply _ w r d).trans (product_halves a b w r d)
  have ez : (fun d => z (ix2 r d)) = addNorm (join2 (fun k : Fin 512 => a (ix2 r k)) (fun k : Fin 512 => b (ix2 r k))
        (fun (k : Fin 512) c => w (ix3 0 ⟨k.val, by omega⟩ c)) (fun (k : Fin 512) c => w (ix3 0 ⟨512 + k.val, by omega⟩ c)))
      (fun d => x (ix2 r d)) (fun d => g (ix3 4 0 d)) := funext fun d => by
    rw [← ey, ← hz]
    unfold res_main_v23
    rw [hy, hx, hg]
    exact residual_apply y x g r d
  have es : ∀ n, (fun j => s (ix4 ⟨r.val / 2048, by omega⟩ n ⟨r.val % 2048, by omega⟩ j))
      = scoreR (rms (fun d => z (ix2 r d)) (fun d => g (ix3 8 0 d))) (fun d f => wq (ix3 0 d f)) (fun n e j => k (ix4 0 ⟨r.val / 2048, by omega⟩ ⟨256 * n.val + e.val, by omega⟩ j)) n := fun n => funext fun j => by
    rw [← hs]
    unfold res_main_v54
    rw [hz, hg, hwq, hk]
    exact scores_apply z g wq k _ n _ j r (by simp only []; omega)
  have ep : ∀ n j, p (ix4 ⟨r.val / 2048, by omega⟩ n ⟨r.val % 2048, by omega⟩ j)
      = shiftR (scoreR (rms (fun d => z (ix2 r d)) (fun d => g (ix3 8 0 d))) (fun d f => wq (ix3 0 d f)) (fun n e j => k (ix4 0 ⟨r.val / 2048, by omega⟩ ⟨256 * n.val + e.val, by omega⟩ j)) n) j := fun n j => by
    rw [← es, shiftR, ← peak_apply s, ← hp]
    unfold res_main_v61
    rw [hs]
    exact exps_apply s _ _ n _ j
  have eo : (fun d => o (ix2 r d)) = fun d => ∑ f, headsR (rms (fun d => z (ix2 r d)) (fun d => g (ix3 8 0 d))) (fun d f => wq (ix3 0 d f))
      (fun n e j => k (ix4 0 ⟨r.val / 2048, by omega⟩ ⟨256 * n.val + e.val, by omega⟩ j))
      (fun n j e => v (ix4 0 ⟨r.val / 2048, by omega⟩ j ⟨256 * n.val + e.val, by omega⟩)) f * wo (ix3 0 f d) := funext fun d => by
    rw [← ho]
    unfold res_main_v72
    rw [hp, hv, hwo]
    refine (heads_apply p v wo r d).trans (Finset.sum_congr rfl fun f _ => ?_)
    simp only [ep]
    have hf : (⟨256 * (f.val / 256) + f.val % 256, by omega⟩ : Fin 1024) = f := Fin.ext (by simp only []; omega)
    simp only [headsR, attendR, hf]
  rw [hz, ho, hg]
  refine (result_apply z o g r c).trans ?_
  rw [eo, ez]
  rfl

/-- The second result at an index. -/
theorem gate_apply (gu : FVec Ideal S4x1024x5632 .f32) (r : Fin 1024) (c : Fin 5632) :
    (truncf .bf16 (shapeCast _ (extractStridedSlice S1x1024x5632 ![0, 0, 0] gu slices_S4x1024x5632_S1x1024x5632_0_0_0) shapeCasts_S1x1024x5632_S1024x5632) bitsLt_bf16_f32 : FVec Ideal S1024x5632 .bf16) (ix2 r c) = gu (ix3 0 r c) := by
  pointwise []

/-- The third result at an index. -/
theorem down_apply (dn : FVec Ideal S4x2816x1024 .f32) (r : Fin 2816) (c : Fin 1024) :
    (truncf .bf16 (shapeCast _ (extractStridedSlice S1x2816x1024 ![0, 0, 0] dn slices_S4x2816x1024_S1x2816x1024_0_0_0) shapeCasts_S1x2816x1024_S2816x1024) bitsLt_bf16_f32 : FVec Ideal S2816x1024 .bf16) (ix2 r c) = dn (ix3 0 r c) := by
  pointwise []

end Cert.EvenCrossReferenceIdeal.RowRead

end
-- ==== Proof.EvenCrossClaim.lean ====
/- The value claim of the even cross-attention layer: for finite arguments ahead of the scores, the kernel and the reference end
   with equal results. -/
module

public import proofs.«01_k».proof.Defs
public import proofs.«01_k».proof.Proof.EvenCrossValue
public import proofs.«01_k».proof.Proof.EvenCrossRead
public import proofs.«01_k».proof.Proof.Gen.EvenCrossKernelIdeal
public import proofs.«01_k».proof.Proof.Gen.Pre_even_pre

@[expose] public section

set_option maxRecDepth 16384

noncomputable section

namespace Cert.EvenCrossClaim
open Idealize.ShloMosaic Idealize.ShloMosaic.TcCoe Idealize.SL.Sem Idealize.ShloMosaic.StableHlo Cert.CrossModel Cert.CrossReal Cert.Finite

/-- What the precondition says: every element it names is finite. -/
theorem finite (a : FVec Ideal Cert.Pre_even_pre.S16384x512 .bf16) (b : FVec Ideal Cert.Pre_even_pre.S16384x512 .bf16) (w : FVec Ideal Cert.Pre_even_pre.S2x1024x1024 .bf16) (x : FVec Ideal Cert.Pre_even_pre.S16384x1024 .f32) (g : FVec Ideal Cert.Pre_even_pre.S36x1x1024 .f32) (wq : FVec Ideal Cert.Pre_even_pre.S4x1024x1024 .bf16) (k : FVec Ideal Cert.Pre_even_pre.S4x8x1024x256 .bf16) (v : FVec Ideal Cert.Pre_even_pre.S4x8x256x1024 .bf16) (wo : FVec Ideal Cert.Pre_even_pre.S4x1024x1024 .bf16) (gu : FVec Ideal Cert.Pre_even_pre.S4x1024x5632 .f32) (dn : FVec Ideal Cert.Pre_even_pre.S4x2816x1024 .f32)
    (h : Cert.Pre_even_pre.fn (F := Ideal) a b w x g wq k v wo gu dn = fun _ => 1#1) :
    (∀ i, IsReal (a i)) ∧ (∀ i, IsReal (b i)) ∧ (∀ i, IsReal (w i)) ∧ (∀ i, IsReal (x i)) ∧ (∀ i, IsReal (g i)) ∧ (∀ i, IsReal (wq i)) ∧ (∀ i, IsReal (k i)) := by
  have h0 := congrFun h (fun a => a.elim0)
  dsimp only [Cert.Pre_even_pre.fn, Cert.Pre_even_pre.fn_part1, Cert.Pre_even_pre.fn_part2, andi] at h0
  simp only [IntOp.andi_eq_one] at h0
  obtain ⟨⟨⟨⟨⟨⟨c0, c1⟩, c2⟩, c3⟩, c4⟩, c5⟩, c6⟩ := h0
  haveI : Subsingleton Cert.Pre_even_pre.S_.Idx := ⟨fun a b => funext fun d => d.elim0⟩
  refine ⟨fun i => isReal_of_abs (Host.reduce_andi_all _ _ _ _ _ c0 i), fun i => isReal_of_abs (Host.reduce_andi_all _ _ _ _ _ c1 i), fun i => isReal_of_abs (Host.reduce_andi_all _ _ _ _ _ c2 i), fun i => isReal_of_abs (Host.reduce_andi_all _ _ _ _ _ c3 i), fun i => isReal_of_abs (Host.reduce_andi_all _ _ _ _ _ c4 i), fun i => isReal_of_abs (Host.reduce_andi_all _ _ _ _ _ c5 i), fun i => isReal_of_abs (Host.reduce_andi_all _ _ _ _ _ c6 i)⟩

/-- The kernel and the reference end with equal results. -/
theorem algebraic : Cert.algebraic_EvenCrossKernelIdeal_EvenCrossReferenceIdeal_pre_even_pre := by
  intro m ρ m' ρ' hpre hag
  refine ⟨fun c => Cert.EvenCrossKernelIdeal.RowValue.G0 m c, fun c => Cert.EvenCrossKernelIdeal.RowValue.G1 m c, fun c => Cert.EvenCrossKernelIdeal.RowValue.G2 m c, ?_, ?_⟩
  · exact (θ_run Cert.EvenCrossKernelIdeal.defs _ _).mono
      (fun r h c => ⟨(h c).1.trans (Cert.EvenCrossKernelIdeal.RowValue.final0 m c), (h c).2.1.trans (Cert.EvenCrossKernelIdeal.RowValue.final1 m c),
        (h c).2.2.1.trans (Cert.EvenCrossKernelIdeal.RowValue.final2 m c), (h c).2.2.2⟩)
      (Cert.EvenCrossKernelIdeal.Value.run_blocks m ρ)
  · refine (θ_run Cert.EvenCrossReferenceIdeal.defs _ _).mono
      (fun r h c => ⟨(h c).1.trans ?_, (h c).2.1.trans ?_, (h c).2.2.1.trans ?_, (h c).2.2.2⟩) (Cert.EvenCrossReferenceIdeal.Value.run m' ρ')
    · obtain ⟨h0, h1, h2, h3, h4, h5, h6, h7, h8, h9, h10⟩ := hag c
      obtain ⟨f0, f1, f2, f3, f4, f5, f6⟩ := finite _ _ _ _ _ _ _ _ _ _ _ (hpre c)
      funext i
      obtain ⟨r, d, rfl⟩ : ∃ (r : Fin 16384) (d : Fin 1024), i = ix2 r d := ⟨i 0, i 1, by funext a; fin_cases a <;> rfl⟩
      refine (Cert.EvenCrossReferenceIdeal.RowRead.result (launchContents m' c) _ _ _ _ _ _ _ _ _ h0 h1 h2 h3 h4 h5 h6 h7 h8 r d).trans ?_
      refine (congrFun (row_eq ?_ ?_ ?_ ?_ ?_ ?_) d).symm
      · exact fun d => IsReal.add (IsReal.sum _ fun k _ => (f0 _).mul (f2 _)) (IsReal.sum _ fun k _ => (f1 _).mul (f2 _))
      · exact fun d => f3 _
      · exact fun d => f4 _
      · exact fun d => f4 _
      · exact fun d f => f5 _
      · exact fun n e j => f6 _
    · obtain ⟨h0, h1, h2, h3, h4, h5, h6, h7, h8, h9, h10⟩ := hag c
      funext i
      obtain ⟨r, d, rfl⟩ : ∃ (r : Fin 1024) (d : Fin 5632), i = ix2 r d := ⟨i 0, i 1, by funext a; fin_cases a <;> rfl⟩
      exact (Cert.EvenCrossReferenceIdeal.RowRead.gate_apply _ r d).trans (congrFun h9 _)
    · obtain ⟨h0, h1, h2, h3, h4, h5, h6, h7, h8, h9, h10⟩ := hag c
      funext i
      obtain ⟨r, d, rfl⟩ : ∃ (r : Fin 2816) (d : Fin 1024), i = ix2 r d := ⟨i 0, i 1, by funext a; fin_cases a <;> rfl⟩
      exact (Cert.EvenCrossReferenceIdeal.RowRead.down_apply _ r d).trans (congrFun h10 _)

end Cert.EvenCrossClaim

end
-- ==== Proof.OddCrossValue.lean ====
/- The value of the cross-attention layer's second form: the kernel's three result arrays are the layer's rows and the two
   feed-forward matrices. -/
module

public import proofs.«01_k».proof.Proof.CrossTile
public import proofs.«01_k».proof.Proof.Gen.OddCrossKernelIdeal.Value

@[expose] public section

set_option maxRecDepth 16384

noncomputable section

open Idealize.ShloMosaic Idealize.ShloMosaic.TcCoe Idealize.SL.Sem

namespace Cert.OddCrossKernelIdeal.RowValue
open Cert.OddCrossKernelIdeal Cert.OddCrossKernelIdeal.Gen Cert.OddCrossKernelIdeal.Value Cert.CrossModel Cert.CrossTile

section Block
variable (x0 : FVec Ideal S1024x1024 .bf16) (x1 : FVec Ideal S1x1024x1024 .bf16) (x2 : FVec Ideal S1024x1024 .f32)
  (x3 x4 : FVec Ideal S1x1x1024 .f32) (x5 : FVec Ideal S1x1024x1024 .bf16) (x6 : FVec Ideal S1x1x1024x256 .bf16)
  (x7 : FVec Ideal S1x1x256x1024 .bf16) (x8 : FVec Ideal S1x1024x1024 .bf16) (x9 : FVec Ideal S1x1x1024 .f32)

/-- The block's result: row and feature. -/
def blockRow (r : Fin 1024) (d : Fin 1024) : EReal :=
  row (join (fun k => x0 (ix2 r k)) (fun k c => x1 (ix3 0 k c)))
    (fun c => x2 (ix2 r c)) (fun c => x3 (ix3 0 0 c)) (fun c => x4 (ix3 0 0 c)) (fun d f => x5 (ix3 0 d f))
    (fun n e j => x6 (ix4 0 0 ⟨256 * n.val + e.val, by omega⟩ j)) (fun n j e => x7 (ix4 0 0 j ⟨256 * n.val + e.val, by omega⟩))
    (fun f d => x8 (ix3 0 f d)) (fun c => x9 (ix3 0 0 c)) d

/-- The heads' key blocks are the rows of the key block. -/
theorem keys_eq : four (View.ld x6 r0_10) (View.ld x6 r0_12) (View.ld x6 r0_14) (View.ld x6 r0_16)
    = fun n e j => x6 (ix4 0 0 ⟨256 * n.val + e.val, by omega⟩ j) := by
  funext n e j
  fin_cases n <;> simp only [four] <;> pointwise [r0_10, r0_12, r0_14, r0_16]

/-- The heads' value blocks are the columns of the value block. -/
theorem values_eq : four (View.ld x7 r0_11) (View.ld x7 r0_13) (View.ld x7 r0_15) (View.ld x7 r0_17)
    = fun n j e => x7 (ix4 0 0 j ⟨256 * n.val + e.val, by omega⟩) := by
  funext n j e
  fin_cases n <;> simp only [four] <;> pointwise [r0_11, r0_13, r0_15, r0_17]

/-- Tile 0 at an element. -/
theorem tile0_apply (r : Fin 256) (d : Fin 1024) :
    tile (k0_pay4 (View.ld x0 r0_4) (View.ld x1 r0_5)) (View.ld x2 r0_4) (View.ld x3 r0_9) (View.ld x4 r0_9) (View.ld x5 r0_5)
      (View.ld x6 r0_10) (View.ld x6 r0_12) (View.ld x6 r0_14) (View.ld x6 r0_16)
      (View.ld x7 r0_11) (View.ld x7 r0_13) (View.ld x7 r0_15) (View.ld x7 r0_17)
      (View.ld x8 r0_5) (View.ld x9 r0_9) (ix2 r d)
      = blockRow x0 x1 x2 x3 x4 x5 x6 x7 x8 x9 ⟨r.val, by omega⟩ d := by
  rw [tile_apply, keys_eq, values_eq, blockRow]
  congr 1
  · funext c
    simp only [join]
    pointwise [k0_pay4, r0_4, r0_5]
  · funext c
    pointwise [r0_4]
  · funext c
    pointwise [r0_9]
  · funext c
    pointwise [r0_9]
  · funext a b
    pointwise [r0_5]
  · funext a b
    pointwise [r0_5]
  · funext c
    pointwise [r0_9]

/-- Tile 1 at an element. -/
theorem tile1_apply (r : Fin 256) (d : Fin 1024) :
    tile (k0_pay4 (View.ld x0 r0_6) (View.ld x1 r0_5)) (View.ld x2 r0_6) (View.ld x3 r0_9) (View.ld x4 r0_9) (View.ld x5 r0_5)
      (View.ld x6 r0_10) (View.ld x6 r0_12) (View.ld x6 r0_14) (View.ld x6 r0_16)
      (View.ld x7 r0_11) (View.ld x7 r0_13) (View.ld x7 r0_15) (View.ld x7 r0_17)
      (View.ld x8 r0_5) (View.ld x9 r0_9) (ix2 r d)
      = blockRow x0 x1 x2 x3 x4 x5 x6 x7 x8 x9 ⟨256 + r.val, by omega⟩ d := by
  rw [tile_apply, keys_eq, values_eq, blockRow]
  congr 1
  · funext c
    simp only [join]
    pointwise [k0_pay4, r0_6, r0_5]
  · funext c
    pointwise [r0_6]
  · funext c
    pointwise [r0_9]
  · funext c
    pointwise [r0_9]
  · funext a b
    pointwise [r0_5]
  · funext a b
    pointwise [r0_5]
  · funext c
    pointwise [r0_9]

/-- Tile 2 at an element. -/
theorem tile2_apply (r : Fin 256) (d : Fin 1024) :
    tile (k0_pay4 (View.ld x0 r0_7) (View.ld x1 r0_5)) (View.ld x2 r0_7) (View.ld x3 r0_9) (View.ld x4 r0_9) (View.ld x5 r0_5)
      (View.ld x6 r0_10) (View.ld x6 r0_12) (View.ld x6 r0_14) (View.ld x6 r0_16)
      (View.ld x7 r0_11) (View.ld x7 r0_13) (View.ld x7 r0_15) (View.ld x7 r0_17)
      (View.ld x8 r0_5) (View.ld x9 r0_9) (ix2 r d)
      = blockRow x0 x1 x2 x3 x4 x5 x6 x7 x8 x9 ⟨512 + r.val, by omega⟩ d := by
  rw [tile_apply, keys_eq, values_eq, blockRow]
  congr 1
  · funext c
    simp only [join]
    pointwise [k0_pay4, r0_7, r0_5]
  · funext c
    pointwise [r0_7]
  · funext c
    pointwise [r0_9]
  · funext c
    pointwise [r0_9]
  · funext a b
    pointwise [r0_5]
  · funext a b
    pointwise [r0_5]
  · funext c
    pointwise [r0_9]

/-- Tile 3 at an element. -/
theorem tile3_apply (r : Fin 256) (d : Fin 1024) :
    tile (k0_pay4 (View.ld x0 r0_8) (View.ld x1 r0_5)) (View.ld x2 r0_8) (View.ld x3 r0_9) (View.ld x4 r0_9) (View.ld x5 r0_5)
      (View.ld x6 r0_10) (View.ld x6 r0_12) (View.ld x6 r0_14) (View.ld x6 r0_16)
      (View.ld x7 r0_11) (View.ld x7 r0_13) (View.ld x7 r0_15) (View.ld x7 r0_17)
      (View.ld x8 r0_5) (View.ld x9 r0_9) (ix2 r d)
      = blockRow x0 x1 x2 x3 x4 x5 x6 x7 x8 x9 ⟨768 + r.val, by omega⟩ d := by
  rw [tile_apply, keys_eq, values_eq, blockRow]
  congr 1
  · funext c
    simp only [join]
    pointwise [k0_pay4, r0_8, r0_5]
  · funext c
    pointwise [r0_8]
  · funext c
    pointwise [r0_9]
  · funext c
    pointwise [r0_9]
  · funext a b
    pointwise [r0_5]
  · funext a b
    pointwise [r0_5]
  · funext c
    pointwise [r0_9]

variable (x10 : FVec Ideal S1x64x5632 .f32) (x11 : FVec Ideal S1x176x1024 .f32)

/-- What the body leaves in the block of rows, at an element. -/
theorem out_apply (r : Fin 1024) (d : Fin 1024) :
    out0_12 (F := Ideal) x0 x1 x2 x3 x4 x5 x6 x7 x8 x9 x10 x11 (ix2 r d) = blockRow x0 x1 x2 x3 x4 x5 x6 x7 x8 x9 r d := by
  unfold_out out0_12
  refine View.canon_apply_of_pieces (Val := Elt Ideal) (e := .f32) (fun y : S1024x1024.Idx => blockRow x0 x1 x2 x3 x4 x5 x6 x7 x8 x9 (y 0) (y 1)) _ ?_ (ix2 r d) (cover0_12 _ _ _ _ _)
  intro pc hpc
  rcases List.mem_cons.mp hpc with rfl | hpc
  · intro z
    obtain ⟨r, d, rfl⟩ : ∃ (r : Fin 256) (d : Fin 1024), z = ix2 r d := ⟨z 0, z 1, by funext a; fin_cases a <;> rfl⟩
    refine (tile3_apply x0 x1 x2 x3 x4 x5 x6 x7 x8 x9 r d).trans (congrArg₂ (blockRow x0 x1 x2 x3 x4 x5 x6 x7 x8 x9) (Fin.ext ?_) (Fin.ext ?_))
    · show 768 + r.val = 768 + 1 * r.val; omega
    · show d.val = 0 + 1 * d.val; omega
  rcases List.mem_cons.mp hpc with rfl | hpc
  · intro z
    obtain ⟨r, d, rfl⟩ : ∃ (r : Fin 256) (d : Fin 1024), z = ix2 r d := ⟨z 0, z 1, by funext a; fin_cases a <;> rfl⟩
    refine (tile2_apply x0 x1 x2 x3 x4 x5 x6 x7 x8 x9 r d).trans (congrArg₂ (blockRow x0 x1 x2 x3 x4 x5 x6 x7 x8 x9) (Fin.ext ?_) (Fin.ext ?_))
    · show 512 + r.val = 512 + 1 * r.val; omega
    · show d.val = 0 + 1 * d.val; omega
  rcases List.mem_cons.mp hpc with rfl | hpc
  · intro z
    obtain ⟨r, d, rfl⟩ : ∃ (r : Fin 256) (d : Fin 1024), z = ix2 r d := ⟨z 0, z 1, by funext a; fin_cases a <;> rfl⟩
    refine (tile1_apply x0 x1 x2 x3 x4 x5 x6 x7 x8 x9 r d).trans (congrArg₂ (blockRow x0 x1 x2 x3 x4 x5 x6 x7 x8 x9) (Fin.ext ?_) (Fin.ext ?_))
    · show 256 + r.val = 256 + 1 * r.val; omega
    · show d.val = 0 + 1 * d.val; omega
  rcases List.mem_cons.mp hpc with rfl | hpc
  · intro z
    obtain ⟨r, d, rfl⟩ : ∃ (r : Fin 256) (d : Fin 1024), z = ix2 r d := ⟨z 0, z 1, by funext a; fin_cases a <;> rfl⟩
    refine (tile0_apply x0 x1 x2 x3 x4 x5 x6 x7 x8 x9 r d).trans (congrArg₂ (blockRow x0 x1 x2 x3 x4 x5 x6 x7 x8 x9) (Fin.ext ?_) (Fin.ext ?_))
    · show r.val = 0 + 1 * r.val; omega
    · show d.val = 0 + 1 * d.val; omega
  nomatch hpc

end Block

variable (m : (ℓ : Loc nD τ sig) → Buf (Elt Ideal) ℓ) (ρ : Dev nD → PrngReg)

/-- What the array of rows holds. -/
def G0 (c₀ : Dev nD) : Buf (Elt Ideal) ((c₀ : Thread nD τ).loc main_v0_0) := fun i : S16384x1024.Idx =>
  row (join (fun k : Fin 1024 => m ((c₀ : Thread nD τ).loc main_arg0) (ix2 (i 0) k))
      (fun (k : Fin 1024) c => m ((c₀ : Thread nD τ).loc main_arg1) (ix3 0 k c)))
    (fun c => m ((c₀ : Thread nD τ).loc main_arg2) (ix2 (i 0) c))
    (fun c => m ((c₀ : Thread nD τ).loc main_arg3) (ix3 5 0 c))
    (fun c => m ((c₀ : Thread nD τ).loc main_arg3) (ix3 9 0 c))
    (fun d f => m ((c₀ : Thread nD τ).loc main_arg4) (ix3 1 d f))
    (fun n e j => m ((c₀ : Thread nD τ).loc main_arg5)
      (ix4 1 ⟨(i 0).val / 2048, by have : (i 0).val < 16384 := (i 0).isLt; omega⟩ ⟨256 * n.val + e.val, by omega⟩ j))
    (fun n j e => m ((c₀ : Thread nD τ).loc main_arg6)
      (ix4 1 ⟨(i 0).val / 2048, by have : (i 0).val < 16384 := (i 0).isLt; omega⟩ j ⟨256 * n.val + e.val, by omega⟩))
    (fun f d => m ((c₀ : Thread nD τ).loc main_arg7) (ix3 1 f d))
    (fun c => m ((c₀ : Thread nD τ).loc main_arg3) (ix3 17 0 c)) (i 1)

/-- What the array of the first feed-forward matrix holds. -/
def G1 (c : Dev nD) : Buf (Elt Ideal) ((c : Thread nD τ).loc main_v0_1) := fun i : S1024x5632.Idx =>
  m ((c : Thread nD τ).loc main_arg8) (ix3 1 (i 0) (i 1))

/-- What the array of the second feed-forward matrix holds. -/
def G2 (c : Dev nD) : Buf (Elt Ideal) ((c : Thread nD τ).loc main_v0_2) := fun i : S2816x1024.Idx =>
  m ((c : Thread nD τ).loc main_arg9) (ix3 1 (i 0) (i 1))

/-- The windows' block indices over the grid. -/
theorem idx : ∀ t : Fin cfg0.N, win0_0.index t = ![t.val, 0] ∧ win0_1.index t = ![0, 0, 0] ∧ win0_2.index t = ![t.val, 0] ∧ win0_3.index t = ![5, 0, 0] ∧ win0_4.index t = ![9, 0, 0] ∧ win0_5.index t = ![1, 0, 0] ∧ win0_6.index t = ![1, t.val / 2, 0, 0] ∧ win0_7.index t = ![1, t.val / 2, 0, 0] ∧ win0_8.index t = ![1, 0, 0] ∧ win0_9.index t = ![17, 0, 0] ∧ win0_10.index t = ![1, t.val, 0] ∧ win0_11.index t = ![1, t.val, 0] ∧ win0_12.index t = ![t.val, 0] ∧ win0_13.index t = ![t.val, 0] ∧ win0_14.index t = ![t.val, 0] :=
  (by decide +kernel : ∀ t : Fin grid0.N, win0_0.index t = ![t.val, 0] ∧ win0_1.index t = ![0, 0, 0] ∧ win0_2.index t = ![t.val, 0] ∧ win0_3.index t = ![5, 0, 0] ∧ win0_4.index t = ![9, 0, 0] ∧ win0_5.index t = ![1, 0, 0] ∧ win0_6.index t = ![1, t.val / 2, 0, 0] ∧ win0_7.index t = ![1, t.val / 2, 0, 0] ∧ win0_8.index t = ![1, 0, 0] ∧ win0_9.index t = ![17, 0, 0] ∧ win0_10.index t = ![1, t.val, 0] ∧ win0_11.index t = ![1, t.val, 0] ∧ win0_12.index t = ![t.val, 0] ∧ win0_13.index t = ![t.val, 0] ∧ win0_14.index t = ![t.val, 0])

/-- The array of rows after the run. -/
theorem final0 (c : Dev nD) : (dats m 0 c).arrAt 12 cfg0.N = G0 m c := by
  refine (dats m 0 c).arrAt_eq_of_covers 12 _ (by decide +kernel) fun t hf y => ?_
  blk_simp
  rw [after0_12]
  idx_vars y
  rw [out_apply]
  unfold G0 blockRow
  congr 1
  · congr 1
    all_goals
      funext k
      try funext c
      blk_point [iblk, V, idx t]
  · funext c
    blk_point [iblk, V, idx t]
  · funext c
    blk_point [iblk, V, idx t]
  · funext c
    blk_point [iblk, V, idx t]
  · funext a b
    blk_point [iblk, V, idx t]
  · funext n a b
    blk_point [iblk, V, idx t]
  · funext n a b
    blk_point [iblk, V, idx t]
  · funext a b
    blk_point [iblk, V, idx t]
  · funext c
    blk_point [iblk, V, idx t]
  · refine Fin.ext ?_
    show y1.val = (((cfg0.win 12).blk t).view.emb (ix2 y0 y1) 1 : Fin 1024).val
    blk_simp
    simp [idx t]

/-- The array of the first feed-forward matrix after the run. -/
theorem final1 (c : Dev nD) : (dats m 0 c).arrAt 13 cfg0.N = G1 m c := by
  refine (dats m 0 c).arrAt_eq_of_covers 13 _ (by decide +kernel) fun t hf y => ?_
  blk_simp
  rw [after0_13]
  idx_vars y
  refine (canon13_eq _ _).trans ?_
  unfold G1
  blk_point [iblk, V, idx t]

/-- The array of the second feed-forward matrix after the run. -/
theorem final2 (c : Dev nD) : (dats m 0 c).arrAt 14 cfg0.N = G2 m c := by
  refine (dats m 0 c).arrAt_eq_of_covers 14 _ (by decide +kernel) fun t hf y => ?_
  blk_simp
  rw [after0_14]
  idx_vars y
  refine (canon14_eq _ _).trans ?_
  unfold G2
  blk_point [iblk, V, idx t]

end Cert.OddCrossKernelIdeal.RowValue

end
-- ==== Proof.OddCrossRead.lean ====
/- What the odd cross-attention reference computes, read at an index: the residual of the mixing product, the scaled scores,
   their exponentials, and the heads' product, put together as the row of plain mathematics. -/
module

public import proofs.«01_k».proof.Defs
public import proofs.«01_k».proof.Proof.CrossReal
public import proofs.«01_k».proof.Proof.Gen.OddCrossReferenceIdeal.Run
public import Idealize.ShloMosaic.Lib.Pointwise

@[expose] public section

set_option maxRecDepth 16384

noncomputable section

namespace Cert.OddCrossReferenceIdeal.RowRead
open Idealize.ShloMosaic Idealize.ShloMosaic.TcCoe Idealize.ShloMosaic.StableHlo Cert.RowNorm Cert.CrossModel Cert.CrossReal
open Cert.OddCrossReferenceIdeal Cert.OddCrossReferenceIdeal.Gen Cert.OddCrossReferenceIdeal.Value

/-- The mixing product at an index. -/
theorem product_apply (a : FVec Ideal S16384x1024 .bf16) (w : FVec Ideal S2x1024x1024 .bf16) (r : Fin 16384) (c : Fin 1024) :
    (shapeCast _ (Host.dotGeneral dot_S8x2048x1024_S1024x1024_S8x2048x1024_2_0_01_1_n_n none (extf .f32 (shapeCast _ a shapeCasts_S16384x1024_S8x2048x1024) bitsLt_bf16_f32) (extf .f32 (shapeCast _ (extractStridedSlice S1x1024x1024 ![0, 0, 0] w slices_S2x1024x1024_S1x1024x1024_0_0_0) shapeCasts_S1x1024x1024_S1024x1024) bitsLt_bf16_f32)) shapeCasts_S8x2048x1024_S16384x1024 : FVec Ideal S16384x1024 .f32) (ix2 r c) = ∑ k : Fin 1024, a (ix2 r k) * w (ix3 0 k c) := by
  pointwise []

/-- The residual of the mixing product at an index. -/
theorem residual_apply (y : FVec Ideal S16384x1024 .f32) (x : FVec Ideal S16384x1024 .f32) (g : FVec Ideal S36x1x1024 .f32) (r : Fin 16384) (c : Fin 1024) :
    (addf x (mulf (mulf y (broadcastInDim S16384x1024 ![0, 1] bcast_S16384x1_S16384x1024_0_1 (Host.rsqrt (addf (Host.divf (broadcastInDim S16384x1 ![0] bcast_S16384_S16384x1_0 (Host.reduceAdd (mulf y y) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![5, 0, 0] g slices_S36x1x1024_S1x1x1024_5_0_0) shapeCasts_S1x1x1024_S1024)))) : FVec Ideal S16384x1024 .f32) (ix2 r c)
      = addNorm (fun d => y (ix2 r d)) (fun d => x (ix2 r d)) (fun d => g (ix3 5 0 d)) c := by
  simp only [addNorm, rms]
  pointwise []

/-- The scaled scores at an index. -/
theorem scores_apply (z : FVec Ideal S16384x1024 .f32) (g : FVec Ideal S36x1x1024 .f32) (wq : FVec Ideal S4x1024x1024 .bf16) (k : FVec Ideal S4x8x1024x256 .bf16) (b : Fin 8) (n : Fin 4) (q : Fin 2048)
    (j : Fin 256) (r : Fin 16384) (hr : r.val = b.val * 2048 + q.val) :
    (mulf (Host.dotGeneral dot_S8x2048x4x256_S8x4x256x256_S8x4x2048x256_3_2_1_3_02_01 none (shapeCast _ (Host.dotGeneral dot_S16384x1024_S1024x1024_S16384x1024_1_0_0_1_n_n none (mulf (mulf z (broadcastInDim S16384x1024 ![0, 1] bcast_S16384x1_S16384x1024_0_1 (Host.rsqrt (addf (Host.divf (broadcastInDim S16384x1 ![0] bcast_S16384_S16384x1_0 (Host.reduceAdd (mulf z z) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![9, 0, 0] g slices_S36x1x1024_S1x1x1024_9_0_0) shapeCasts_S1x1x1024_S1024)))) (extf .f32 (shapeCast _ (extractStridedSlice S1x1024x1024 ![1, 0, 0] wq slices_S4x1024x1024_S1x1024x1024_1_0_0) shapeCasts_S1x1024x1024_S1024x1024) bitsLt_bf16_f32)) shapeCasts_S16384x1024_S8x2048x4x256) (shapeCast _ (extf .f32 (shapeCast _ (extractStridedSlice S1x8x1024x256 ![1, 0, 0, 0] k slices_S4x8x1024x256_S1x8x1024x256_1_0_0_0) shapeCasts_S1x8x1024x256_S8x1024x256) bitsLt_bf16_f32) shapeCasts_S8x1024x256_S8x4x256x256)) (broadcastInDim S8x4x2048x256 ![] bcast_S_S8x4x2048x256 (constant S_ .f32 0x3D800000#32)) : FVec Ideal S8x4x2048x256 .f32) (ix4 b n q j)
      = scoreR (rms (fun d => z (ix2 r d)) (fun d => g (ix3 9 0 d))) (fun d f => wq (ix3 1 d f))
          (fun n e j => k (ix4 1 b ⟨256 * n.val + e.val, by omega⟩ j)) n j := by
  rw [show r = ⟨b.val * 2048 + q.val, by omega⟩ from Fin.ext hr]
  have hf : ∀ e : Fin 256, (⟨256 * n.val + e.val, by omega⟩ : Fin 1024) = ⟨n.val * 256 + e.val, by omega⟩ := fun e =>
    Fin.ext (by simp [Nat.mul_comm])
  simp only [scoreR, rms, hf]
  pointwise []

/-- The largest score of a query. -/
theorem peak_apply (s : FVec Ideal S8x4x2048x256 .f32) (b : Fin 8) (n : Fin 4) (q : Fin 2048) :
    Host.reduce FloatOps.maximumf s (constant S_ .f32 0xFF800000#32) reducesTo_S8x4x2048x256_S8x4x2048_d3 h_S_ (ix3 b n q)
      = peak (fun x => s (ix4 b n q x)) := by
  simp only [peak]
  pointwise []

/-- The exponentials over any array of largest scores, at an index. -/
theorem exps_apply (s : FVec Ideal S8x4x2048x256 .f32) (u : FVec Ideal S8x4x2048 .f32) (b : Fin 8) (n : Fin 4) (q : Fin 2048)
    (j : Fin 256) :
    (Host.exp (subf s (broadcastInDim S8x4x2048x256 ![0, 1, 2, 3] bcast_S8x4x2048x1_S8x4x2048x256_0_1_2_3 (broadcastInDim S8x4x2048x1 ![0, 1, 2] bcast_S8x4x2048_S8x4x2048x1_0_1_2 (maximumf (broadcastInDim S8x4x2048 ![] bcast_S_S8x4x2048 (constant S_ .f32 0xFF800000#32)) u)))) : FVec Ideal S8x4x2048x256 .f32) (ix4 b n q j)
      = Ideal.exp (s (ix4 b n q j) - max (Ideal.ofBits .f32 0xFF800000#32) (u (ix3 b n q))) := by
  pointwise []

/-- The heads' product at an index. -/
theorem heads_apply (p : FVec Ideal S8x4x2048x256 .f32) (v : FVec Ideal S4x8x256x1024 .bf16) (wo : FVec Ideal S4x1024x1024 .bf16) (r : Fin 16384) (c : Fin 1024) :
    (Host.dotGeneral dot_S16384x1024_S1024x1024_S16384x1024_1_0_0_1_n_n none (shapeCast _ (transpose S8x2048x4x256 [0, 3, 1, 2] (Host.dotGeneral dot_S8x256x4x256_S8x4x2048x256_S8x4x256x2048_1_3_3_2_02_01 none (shapeCast _ (extf .f32 (shapeCast _ (extractStridedSlice S1x8x256x1024 ![1, 0, 0, 0] v slices_S4x8x256x1024_S1x8x256x1024_1_0_0_0) shapeCasts_S1x8x256x1024_S8x256x1024) bitsLt_bf16_f32) shapeCasts_S8x256x1024_S8x256x4x256) (Host.divf p (broadcastInDim S8x4x2048x256 ![0, 1, 2, 3] bcast_S8x4x2048x1_S8x4x2048x256_0_1_2_3 (broadcastInDim S8x4x2048x1 ![0, 1, 2] bcast_S8x4x2048_S8x4x2048x1_0_1_2 (Host.reduceAdd p (constant S_ .f32 0x00000000#32) reducesTo_S8x4x2048x256_S8x4x2048_d3 h_S_))))) transposes_S8x4x256x2048_S8x2048x4x256_0_3_1_2) shapeCasts_S8x2048x4x256_S16384x1024) (extf .f32 (shapeCast _ (extractStridedSlice S1x1024x1024 ![1, 0, 0] wo slices_S4x1024x1024_S1x1024x1024_1_0_0) shapeCasts_S1x1024x1024_S1024x1024) bitsLt_bf16_f32) : FVec Ideal S16384x1024 .f32) (ix2 r c)
      = ∑ f : Fin 1024, (∑ j : Fin 256, v (ix4 1 ⟨r.val / 2048, by omega⟩ j f)
          * Ideal.div (p (ix4 ⟨r.val / 2048, by omega⟩ ⟨f.val / 256, by omega⟩ ⟨r.val % 2048, by omega⟩ j))
            (∑ i : Fin 256, p (ix4 ⟨r.val / 2048, by omega⟩ ⟨f.val / 256, by omega⟩ ⟨r.val % 2048, by omega⟩ i)))
          * wo (ix3 1 f c) := by
  pointwise []

/-- The second residual at an index. -/
theorem result_apply (z o : FVec Ideal S16384x1024 .f32) (g : FVec Ideal S36x1x1024 .f32) (r : Fin 16384) (c : Fin 1024) :
    (addf z (mulf (mulf o (broadcastInDim S16384x1024 ![0, 1] bcast_S16384x1_S16384x1024_0_1 (Host.rsqrt (addf (Host.divf (broadcastInDim S16384x1 ![0] bcast_S16384_S16384x1_0 (Host.reduceAdd (mulf o o) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![17, 0, 0] g slices_S36x1x1024_S1x1x1024_17_0_0) shapeCasts_S1x1x1024_S1024)))) : FVec Ideal S16384x1024 .f32) (ix2 r c)
      = addNorm (fun d => o (ix2 r d)) (fun d => z (ix2 r d)) (fun d => g (ix3 17 0 d)) c := by
  simp only [addNorm, rms]
  pointwise []

/-- The first result, read at an index, is the plain row of the arguments. -/
theorem result (V0 : Valuation τ sig (Elt Ideal)) (a : FVec Ideal S16384x1024 .bf16) (w : FVec Ideal S2x1024x1024 .bf16) (x : FVec Ideal S16384x1024 .f32) (g : FVec Ideal S36x1x1024 .f32) (wq : FVec Ideal S4x1024x1024 .bf16) (k : FVec Ideal S4x8x1024x256 .bf16) (v : FVec Ideal S4x8x256x1024 .bf16) (wo : FVec Ideal S4x1024x1024 .bf16)
    (ha : V0 (Proc.devRef .tc main_arg0) = a)
    (hw : V0 (Proc.devRef .tc main_arg1) = w)
    (hx : V0 (Proc.devRef .tc main_arg2) = x)
    (hg : V0 (Proc.devRef .tc main_arg3) = g)
    (hwq : V0 (Proc.devRef .tc main_arg4) = wq)
    (hk : V0 (Proc.devRef .tc main_arg5) = k)
    (hv : V0 (Proc.devRef .tc main_arg6) = v)
    (hwo : V0 (Proc.devRef .tc main_arg7) = wo)
    (r : Fin 16384) (c : Fin 1024) :
    (addf (res_main_v22 V0) (mulf (mulf (res_main_v71 V0) (broadcastInDim S16384x1024 ![0, 1] bcast_S16384x1_S16384x1024_0_1 (Host.rsqrt (addf (Host.divf (broadcastInDim S16384x1 ![0] bcast_S16384_S16384x1_0 (Host.reduceAdd (mulf (res_main_v71 V0) (res_main_v71 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ (extractStridedSlice S1x1x1024 ![17, 0, 0] (V0 (Proc.devRef .tc main_arg3)) slices_S36x1x1024_S1x1x1024_17_0_0) shapeCasts_S1x1x1024_S1024)))) : FVec Ideal S16384x1024 .f32) (ix2 r c)
      = rowR (join (fun k : Fin 1024 => a (ix2 r k)) (fun (k : Fin 1024) c => w (ix3 0 k c)))
        (fun d => x (ix2 r d)) (fun d => g (ix3 5 0 d)) (fun d => g (ix3 9 0 d)) (fun d f => wq (ix3 1 d f))
        (fun n e j => k (ix4 1 ⟨r.val / 2048, by omega⟩ ⟨256 * n.val + e.val, by omega⟩ j))
        (fun n j e => v (ix4 1 ⟨r.val / 2048, by omega⟩ j ⟨256 * n.val + e.val, by omega⟩))
        (fun f d => wo (ix3 1 f d)) (fun d => g (ix3 17 0 d)) c := by
  obtain ⟨y, hy⟩ : ∃ y : FVec Ideal S16384x1024 .f32, res_main_v6 V0 = y := ⟨_, rfl⟩
  obtain ⟨z, hz⟩ : ∃ z : FVec Ideal S16384x1024 .f32, res_main_v22 V0 = z := ⟨_, rfl⟩
  obtain ⟨s, hs⟩ : ∃ s : FVec Ideal S8x4x2048x256 .f32, res_main_v53 V0 = s := ⟨_, rfl⟩
  obtain ⟨p, hp⟩ : ∃ p : FVec Ideal S8x4x2048x256 .f32, res_main_v60 V0 = p := ⟨_, rfl⟩
  obtain ⟨o, ho⟩ : ∃ o : FVec Ideal S16384x1024 .f32, res_main_v71 V0 = o := ⟨_, rfl⟩
  have ey : (fun d => y (ix2 r d)) = join (fun k : Fin 1024 => a (ix2 r k)) (fun (k : Fin 1024) c => w (ix3 0 k c)) := funext fun d => by
    rw [← hy]
    unfold res_main_v6
    rw [ha, hw]
    exact product_apply a w r d
  have ez : (fun d => z (ix2 r d)) = addNorm (join (fun k : Fin 1024 => a (ix2 r k)) (fun (k : Fin 1024) c => w (ix3 0 k c)))
      (fun d => x (ix2 r d)) (fun d => g (ix3 5 0 d)) := funext fun d => by
    rw [← ey, ← hz]
    unfold res_main_v22
    rw [hy, hx, hg]
    exact residual_apply y x g r d
  have es : ∀ n, (fun j => s (ix4 ⟨r.val / 2048, by omega⟩ n ⟨r.val % 2048, by omega⟩ j))
      = scoreR (rms (fun d => z (ix2 r d)) (fun d => g (ix3 9 0 d))) (fun d f => wq (ix3 1 d f)) (fun n e j => k (ix4 1 ⟨r.val / 2048, by omega⟩ ⟨256 * n.val + e.val, by omega⟩ j)) n := fun n => funext fun j => by
    rw [← hs]
    unfold res_main_v53
    rw [hz, hg, hwq, hk]
    exact scores_apply z g wq k _ n _ j r (by simp only []; omega)
  have ep : ∀ n j, p (ix4 ⟨r.val / 2048, by omega⟩ n ⟨r.val % 2048, by omega⟩ j)
      = shiftR (scoreR (rms (fun d => z (ix2 r d)) (fun d => g (ix3 9 0 d))) (fun d f => wq (ix3 1 d f)) (fun n e j => k (ix4 1 ⟨r.val / 2048, by omega⟩ ⟨256 * n.val + e.val, by omega⟩ j)) n) j := fun n j => by
    rw [← es, shiftR, ← peak_apply s, ← hp]
    unfold res_main_v60
    rw [hs]
    exact exps_apply s _ _ n _ j
  have eo : (fun d => o (ix2 r d)) = fun d => ∑ f, headsR (rms (fun d => z (ix2 r d)) (fun d => g (ix3 9 0 d))) (fun d f => wq (ix3 1 d f))
      (fun n e j => k (ix4 1 ⟨r.val / 2048, by omega⟩ ⟨256 * n.val + e.val, by omega⟩ j))
      (fun n j e => v (ix4 1 ⟨r.val / 2048, by omega⟩ j ⟨256 * n.val + e.val, by omega⟩)) f * wo (ix3 1 f d) := funext fun d => by
    rw [← ho]
    unfold res_main_v71
    rw [hp, hv, hwo]
    refine (heads_apply p v wo r d).trans (Finset.sum_congr rfl fun f _ => ?_)
    simp only [ep]
    have hf : (⟨256 * (f.val / 256) + f.val % 256, by omega⟩ : Fin 1024) = f := Fin.ext (by simp only []; omega)
    simp only [headsR, attendR, hf]
  rw [hz, ho, hg]
  refine (result_apply z o g r c).trans ?_
  rw [eo, ez]
  rfl

/-- The second result at an index. -/
theorem gate_apply (gu : FVec Ideal S4x1024x5632 .f32) (r : Fin 1024) (c : Fin 5632) :
    (truncf .bf16 (shapeCast _ (extractStridedSlice S1x1024x5632 ![1, 0, 0] gu slices_S4x1024x5632_S1x1024x5632_1_0_0) shapeCasts_S1x1024x5632_S1024x5632) bitsLt_bf16_f32 : FVec Ideal S1024x5632 .bf16) (ix2 r c) = gu (ix3 1 r c) := by
  pointwise []

/-- The third result at an index. -/
theorem down_apply (dn : FVec Ideal S4x2816x1024 .f32) (r : Fin 2816) (c : Fin 1024) :
    (truncf .bf16 (shapeCast _ (extractStridedSlice S1x2816x1024 ![1, 0, 0] dn slices_S4x2816x1024_S1x2816x1024_1_0_0) shapeCasts_S1x2816x1024_S2816x1024) bitsLt_bf16_f32 : FVec Ideal S2816x1024 .bf16) (ix2 r c) = dn (ix3 1 r c) := by
  pointwise []

end Cert.OddCrossReferenceIdeal.RowRead

end
-- ==== Proof.OddCrossClaim.lean ====
/- The value claim of the odd cross-attention layer: for finite arguments ahead of the scores, the kernel and the reference end
   with equal results. -/
module

public import proofs.«01_k».proof.Defs
public import proofs.«01_k».proof.Proof.OddCrossValue
public import proofs.«01_k».proof.Proof.OddCrossRead
public import proofs.«01_k».proof.Proof.Gen.OddCrossKernelIdeal
public import proofs.«01_k».proof.Proof.Gen.Pre_odd_pre

@[expose] public section

set_option maxRecDepth 16384

noncomputable section

namespace Cert.OddCrossClaim
open Idealize.ShloMosaic Idealize.ShloMosaic.TcCoe Idealize.SL.Sem Idealize.ShloMosaic.StableHlo Cert.CrossModel Cert.CrossReal Cert.Finite

/-- What the precondition says: every element it names is finite. -/
theorem finite (a : FVec Ideal Cert.Pre_odd_pre.S16384x1024 .bf16) (w : FVec Ideal Cert.Pre_odd_pre.S2x1024x1024 .bf16) (x : FVec Ideal Cert.Pre_odd_pre.S16384x1024 .f32) (g : FVec Ideal Cert.Pre_odd_pre.S36x1x1024 .f32) (wq : FVec Ideal Cert.Pre_odd_pre.S4x1024x1024 .bf16) (k : FVec Ideal Cert.Pre_odd_pre.S4x8x1024x256 .bf16) (v : FVec Ideal Cert.Pre_odd_pre.S4x8x256x1024 .bf16) (wo : FVec Ideal Cert.Pre_odd_pre.S4x1024x1024 .bf16) (gu : FVec Ideal Cert.Pre_odd_pre.S4x1024x5632 .f32) (dn : FVec Ideal Cert.Pre_odd_pre.S4x2816x1024 .f32)
    (h : Cert.Pre_odd_pre.fn (F := Ideal) a w x g wq k v wo gu dn = fun _ => 1#1) :
    (∀ i, IsReal (a i)) ∧ (∀ i, IsReal (w i)) ∧ (∀ i, IsReal (x i)) ∧ (∀ i, IsReal (g i)) ∧ (∀ i, IsReal (wq i)) ∧ (∀ i, IsReal (k i)) := by
  have h0 := congrFun h (fun a => a.elim0)
  dsimp only [Cert.Pre_odd_pre.fn, Cert.Pre_odd_pre.fn_part1, andi] at h0
  simp only [IntOp.andi_eq_one] at h0
  obtain ⟨⟨⟨⟨⟨c0, c1⟩, c2⟩, c3⟩, c4⟩, c5⟩ := h0
  haveI : Subsingleton Cert.Pre_odd_pre.S_.Idx := ⟨fun a b => funext fun d => d.elim0⟩
  refine ⟨fun i => isReal_of_abs (Host.reduce_andi_all _ _ _ _ _ c0 i), fun i => isReal_of_abs (Host.reduce_andi_all _ _ _ _ _ c1 i), fun i => isReal_of_abs (Host.reduce_andi_all _ _ _ _ _ c2 i), fun i => isReal_of_abs (Host.reduce_andi_all _ _ _ _ _ c3 i), fun i => isReal_of_abs (Host.reduce_andi_all _ _ _ _ _ c4 i), fun i => isReal_of_abs (Host.reduce_andi_all _ _ _ _ _ c5 i)⟩

/-- The kernel and the reference end with equal results. -/
theorem algebraic : Cert.algebraic_OddCrossKernelIdeal_OddCrossReferenceIdeal_pre_odd_pre := by
  intro m ρ m' ρ' hpre hag
  refine ⟨fun c => Cert.OddCrossKernelIdeal.RowValue.G0 m c, fun c => Cert.OddCrossKernelIdeal.RowValue.G1 m c, fun c => Cert.OddCrossKernelIdeal.RowValue.G2 m c, ?_, ?_⟩
  · exact (θ_run Cert.OddCrossKernelIdeal.defs _ _).mono
      (fun r h c => ⟨(h c).1.trans (Cert.OddCrossKernelIdeal.RowValue.final0 m c), (h c).2.1.trans (Cert.OddCrossKernelIdeal.RowValue.final1 m c),
        (h c).2.2.1.trans (Cert.OddCrossKernelIdeal.RowValue.final2 m c), (h c).2.2.2⟩)
      (Cert.OddCrossKernelIdeal.Value.run_blocks m ρ)
  · refine (θ_run Cert.OddCrossReferenceIdeal.defs _ _).mono
      (fun r h c => ⟨(h c).1.trans ?_, (h c).2.1.trans ?_, (h c).2.2.1.trans ?_, (h c).2.2.2⟩) (Cert.OddCrossReferenceIdeal.Value.run m' ρ')
    · obtain ⟨h0, h1, h2, h3, h4, h5, h6, h7, h8, h9⟩ := hag c
      obtain ⟨f0, f1, f2, f3, f4, f5⟩ := finite _ _ _ _ _ _ _ _ _ _ (hpre c)
      funext i
      obtain ⟨r, d, rfl⟩ : ∃ (r : Fin 16384) (d : Fin 1024), i = ix2 r d := ⟨i 0, i 1, by funext a; fin_cases a <;> rfl⟩
      refine (Cert.OddCrossReferenceIdeal.RowRead.result (launchContents m' c) _ _ _ _ _ _ _ _ h0 h1 h2 h3 h4 h5 h6 h7 r d).trans ?_
      refine (congrFun (row_eq ?_ ?_ ?_ ?_ ?_ ?_) d).symm
      · exact fun d => IsReal.sum _ fun k _ => (f0 _).mul (f1 _)
      · exact fun d => f2 _
      · exact fun d => f3 _
      · exact fun d => f3 _
      · exact fun d f => f4 _
      · exact fun n e j => f5 _
    · obtain ⟨h0, h1, h2, h3, h4, h5, h6, h7, h8, h9⟩ := hag c
      funext i
      obtain ⟨r, d, rfl⟩ : ∃ (r : Fin 1024) (d : Fin 5632), i = ix2 r d := ⟨i 0, i 1, by funext a; fin_cases a <;> rfl⟩
      exact (Cert.OddCrossReferenceIdeal.RowRead.gate_apply _ r d).trans (congrFun h8 _)
    · obtain ⟨h0, h1, h2, h3, h4, h5, h6, h7, h8, h9⟩ := hag c
      funext i
      obtain ⟨r, d, rfl⟩ : ∃ (r : Fin 2816) (d : Fin 1024), i = ix2 r d := ⟨i 0, i 1, by funext a; fin_cases a <;> rfl⟩
      exact (Cert.OddCrossReferenceIdeal.RowRead.down_apply _ r d).trans (congrFun h9 _)

end Cert.OddCrossClaim

end
-- ==== Proof.FoxTile.lean ====
/- One block of keys of the attention kernel, one head: its operations, and what they compute at an element. -/
module

public import proofs.«01_k».proof.Proof.Finite
public import proofs.«01_k».proof.Proof.Gen.KernelIdeal.Value
public import Idealize.ShloMosaic.Lib.WordCmp

@[expose] public section

set_option maxRecDepth 16384

noncomputable section

namespace Cert.FoxTile
open Idealize.ShloMosaic Idealize.ShloMosaic.TcCoe Idealize.SL.Sem
open Cert.KernelIdeal Cert.KernelIdeal.Gen

/-- A block's scores are the products of its keys with the queries. -/
theorem scores_apply (a : FVec Ideal S256x128 .bf16) (b : FVec Ideal S1x1x128x256 .bf16) (k q : Fin 256) :
    k0_pay2 (F := Ideal) a b (ix2 k q) = ∑ d : Fin 128, a (ix2 k d) * b (ix4 0 0 d q) := by
  pointwise [k0_pay2]

/-- The new maximum of a query is the greatest of the old one and the block's scores. -/
theorem peak_apply (m : FVec Ideal S1x256 .f32) (s : FVec Ideal S256x256 .f32) (q : Fin 256) :
    k0_pay18 (F := Ideal) m s (ix2 0 q) = max (m (ix2 0 q)) (Finset.univ.fold max ⊥ fun k : Fin 256 => s (ix2 k q)) := by
  rw [← Cert.Finite.neg_inf]
  pointwise [k0_pay18]

/-- The factor that carries the sums over to the new maximum. -/
theorem scale_apply (m : FVec Ideal S1x256 .f32) (s : FVec Ideal S256x256 .f32) (q : Fin 256) :
    k0_pay19 (F := Ideal) m s (ix2 0 q) = Ideal.exp2 (m (ix2 0 q) - k0_pay18 (F := Ideal) m s (ix2 0 q)) := by
  pointwise [k0_pay19]
  rfl

/-- A key's weight under the new maximum. -/
theorem weight_apply (m : FVec Ideal S1x256 .f32) (s : FVec Ideal S256x256 .f32) (k q : Fin 256) :
    k0_pay20 (F := Ideal) m s (ix2 k q) = Ideal.exp2 (s (ix2 k q) - k0_pay18 (F := Ideal) m s (ix2 0 q)) := by
  pointwise [k0_pay20]
  rfl

/-- The new sums: the old ones rescaled, and the block's values by its weights. -/
theorem sums_apply (a : FVec Ideal S1x256 .f32) (p : FVec Ideal S256x256 .bf16) (v : FVec Ideal S1x1x80x256 .bf16)
    (o : FVec Ideal S1x80x256 .f32) (r : Fin 80) (q : Fin 256) :
    k0_pay42 (F := Ideal) a p v o (ix3 0 r q)
      = a (ix2 0 q) * o (ix3 0 r q) + ∑ k : Fin 256, v (ix4 0 0 r k) * p (ix2 k q) := by
  pointwise [k0_pay42]

/-- The last block's scores: those of keys after the query are dropped. -/
theorem masked_apply (s : FVec Ideal S256x256 .f32) (k q : Fin 256) :
    k0_pay282 (F := Ideal) (iota .tc S256x256 32 [0] iota_S256x256_d0_w32) (iota .tc S256x256 32 [1] iota_S256x256_d1_w32) s (ix2 k q)
      = if k ≤ q then s (ix2 k q) else ⊥ := by
  pointwise [k0_pay282]
  have hk := k.isLt
  have hq := q.isLt
  show (if IntOp.cmpi .sge (BitVec.ofNat 32 q.val) (BitVec.ofNat 32 k.val) = 1#1 then s (ix2 k q) else _) = _
  refine if_congr ?_ rfl rfl
  rw [WordCmp.cmpi_sge_ofNat_eq_one_iff (lt_trans hq (by norm_num)) (lt_trans hk (by norm_num))]
  exact Iff.rfl

/-- The maxima start at minus infinity. -/
theorem start_apply (q : Fin 256) : k0_pay325 (F := Ideal) (ix2 0 q) = ⊥ := by
  pointwise [k0_pay325]
  rfl

/-- The sums start at zero. -/
theorem zero_apply (h : Fin 8) (r : Fin 80) (q : Fin 256) : k0_pay324 (F := Ideal) (ix3 h r q) = 0 := by
  pointwise [k0_pay324]

end Cert.FoxTile
end
-- ==== Proof.FoxRun.lean ====
/- The attention kernel's loop and tail as updates of eight heads: which loads a trip makes, and what it leaves of the
   running maxima and of the running sums. -/
module

public import proofs.«01_k».proof.Proof.FoxTile

@[expose] public section

set_option maxRecDepth 16384

noncomputable section

namespace Cert.FoxRun
open Idealize.ShloMosaic Idealize.ShloMosaic.TcCoe Idealize.SL.Sem Cert.FoxTile
open Cert.KernelIdeal Cert.KernelIdeal.Gen

/-- The eight heads' scores of one block of keys (`loopFst`). -/
def loopFstS (i : grid0.Coords) (arg3 : Memref sig .tc .vmem S1x1x1024x256 .bf16) (arg4 : Memref sig .tc .vmem S2048x1024 .bf16)
    (X3 : arg3.view.ty.Contents (Elt Ideal)) (X4 : arg4.view.ty.Contents (Elt Ideal)) (k : Fin (k0_t1_loop i).trips) : Fin 8 → FVec Ideal S256x256 .f32 :=
    ![k0_pay2 (arg4.view.readAt (Elt Ideal) (Rect.unit (s := S2048x1024) (k0_off1 i k) S256x128.size (k0_off1_inb i k)).toLoadRect X4) (arg3.view.readAt (Elt Ideal) (Rect.unit (s := S1x1x1024x256) ![0, 0, 0, 0] S1x1x128x256.size inb_S1x1x1024x256_S1x1x128x256_0_0_0_0).toLoadRect X3),
      k0_pay2 (arg4.view.readAt (Elt Ideal) (Rect.unit (s := S2048x1024) (k0_off2 i k) S256x128.size (k0_off2_inb i k)).toLoadRect X4) (arg3.view.readAt (Elt Ideal) (Rect.unit (s := S1x1x1024x256) ![0, 0, 128, 0] S1x1x128x256.size inb_S1x1x1024x256_S1x1x128x256_0_0_128_0).toLoadRect X3),
      k0_pay2 (arg4.view.readAt (Elt Ideal) (Rect.unit (s := S2048x1024) (k0_off3 i k) S256x128.size (k0_off3_inb i k)).toLoadRect X4) (arg3.view.readAt (Elt Ideal) (Rect.unit (s := S1x1x1024x256) ![0, 0, 256, 0] S1x1x128x256.size inb_S1x1x1024x256_S1x1x128x256_0_0_256_0).toLoadRect X3),
      k0_pay2 (arg4.view.readAt (Elt Ideal) (Rect.unit (s := S2048x1024) (k0_off4 i k) S256x128.size (k0_off4_inb i k)).toLoadRect X4) (arg3.view.readAt (Elt Ideal) (Rect.unit (s := S1x1x1024x256) ![0, 0, 384, 0] S1x1x128x256.size inb_S1x1x1024x256_S1x1x128x256_0_0_384_0).toLoadRect X3),
      k0_pay2 (arg4.view.readAt (Elt Ideal) (Rect.unit (s := S2048x1024) (k0_off5 i k) S256x128.size (k0_off5_inb i k)).toLoadRect X4) (arg3.view.readAt (Elt Ideal) (Rect.unit (s := S1x1x1024x256) ![0, 0, 512, 0] S1x1x128x256.size inb_S1x1x1024x256_S1x1x128x256_0_0_512_0).toLoadRect X3),
      k0_pay2 (arg4.view.readAt (Elt Ideal) (Rect.unit (s := S2048x1024) (k0_off6 i k) S256x128.size (k0_off6_inb i k)).toLoadRect X4) (arg3.view.readAt (Elt Ideal) (Rect.unit (s := S1x1x1024x256) ![0, 0, 640, 0] S1x1x128x256.size inb_S1x1x1024x256_S1x1x128x256_0_0_640_0).toLoadRect X3),
      k0_pay2 (arg4.view.readAt (Elt Ideal) (Rect.unit (s := S2048x1024) (k0_off7 i k) S256x128.size (k0_off7_inb i k)).toLoadRect X4) (arg3.view.readAt (Elt Ideal) (Rect.unit (s := S1x1x1024x256) ![0, 0, 768, 0] S1x1x128x256.size inb_S1x1x1024x256_S1x1x128x256_0_0_768_0).toLoadRect X3),
      k0_pay2 (arg4.view.readAt (Elt Ideal) (Rect.unit (s := S2048x1024) (k0_off8 i k) S256x128.size (k0_off8_inb i k)).toLoadRect X4) (arg3.view.readAt (Elt Ideal) (Rect.unit (s := S1x1x1024x256) ![0, 0, 896, 0] S1x1x128x256.size inb_S1x1x1024x256_S1x1x128x256_0_0_896_0).toLoadRect X3)]

/-- The eight heads' values of one block of keys (`loopFst`). -/
def loopFstV (i : grid0.Coords) (arg5 : Memref sig .tc .vmem S1x8x640x256 .bf16)
    (X5 : arg5.view.ty.Contents (Elt Ideal)) (k : Fin (k0_t1_loop i).trips) : Fin 8 → Vec Ideal S1x1x80x256 .bf16 :=
    ![(arg5.view.readAt (Elt Ideal) (Rect.unit (s := S1x8x640x256) (k0_off17 i k) S1x1x80x256.size (k0_off17_inb i k)).toLoadRect X5),
      (arg5.view.readAt (Elt Ideal) (Rect.unit (s := S1x8x640x256) (k0_off18 i k) S1x1x80x256.size (k0_off18_inb i k)).toLoadRect X5),
      (arg5.view.readAt (Elt Ideal) (Rect.unit (s := S1x8x640x256) (k0_off19 i k) S1x1x80x256.size (k0_off19_inb i k)).toLoadRect X5),
      (arg5.view.readAt (Elt Ideal) (Rect.unit (s := S1x8x640x256) (k0_off20 i k) S1x1x80x256.size (k0_off20_inb i k)).toLoadRect X5),
      (arg5.view.readAt (Elt Ideal) (Rect.unit (s := S1x8x640x256) (k0_off21 i k) S1x1x80x256.size (k0_off21_inb i k)).toLoadRect X5),
      (arg5.view.readAt (Elt Ideal) (Rect.unit (s := S1x8x640x256) (k0_off22 i k) S1x1x80x256.size (k0_off22_inb i k)).toLoadRect X5),
      (arg5.view.readAt (Elt Ideal) (Rect.unit (s := S1x8x640x256) (k0_off23 i k) S1x1x80x256.size (k0_off23_inb i k)).toLoadRect X5),
      (arg5.view.readAt (Elt Ideal) (Rect.unit (s := S1x8x640x256) (k0_off24 i k) S1x1x80x256.size (k0_off24_inb i k)).toLoadRect X5)]

/-- The eight heads' scores of one block of keys (`loopSnd`). -/
def loopSndS (i : grid0.Coords) (arg3 : Memref sig .tc .vmem S1x1x1024x256 .bf16) (arg4 : Memref sig .tc .vmem S2048x1024 .bf16)
    (X3 : arg3.view.ty.Contents (Elt Ideal)) (X4 : arg4.view.ty.Contents (Elt Ideal)) (k : Fin (k0_t1_loop i).trips) : Fin 8 → FVec Ideal S256x256 .f32 :=
    ![k0_pay2 (arg4.view.readAt (Elt Ideal) (Rect.unit (s := S2048x1024) (k0_off9 i k) S256x128.size (k0_off9_inb i k)).toLoadRect X4) (arg3.view.readAt (Elt Ideal) (Rect.unit (s := S1x1x1024x256) ![0, 0, 0, 0] S1x1x128x256.size inb_S1x1x1024x256_S1x1x128x256_0_0_0_0).toLoadRect X3),
      k0_pay2 (arg4.view.readAt (Elt Ideal) (Rect.unit (s := S2048x1024) (k0_off10 i k) S256x128.size (k0_off10_inb i k)).toLoadRect X4) (arg3.view.readAt (Elt Ideal) (Rect.unit (s := S1x1x1024x256) ![0, 0, 128, 0] S1x1x128x256.size inb_S1x1x1024x256_S1x1x128x256_0_0_128_0).toLoadRect X3),
      k0_pay2 (arg4.view.readAt (Elt Ideal) (Rect.unit (s := S2048x1024) (k0_off11 i k) S256x128.size (k0_off11_inb i k)).toLoadRect X4) (arg3.view.readAt (Elt Ideal) (Rect.unit (s := S1x1x1024x256) ![0, 0, 256, 0] S1x1x128x256.size inb_S1x1x1024x256_S1x1x128x256_0_0_256_0).toLoadRect X3),
      k0_pay2 (arg4.view.readAt (Elt Ideal) (Rect.unit (s := S2048x1024) (k0_off12 i k) S256x128.size (k0_off12_inb i k)).toLoadRect X4) (arg3.view.readAt (Elt Ideal) (Rect.unit (s := S1x1x1024x256) ![0, 0, 384, 0] S1x1x128x256.size inb_S1x1x1024x256_S1x1x128x256_0_0_384_0).toLoadRect X3),
      k0_pay2 (arg4.view.readAt (Elt Ideal) (Rect.unit (s := S2048x1024) (k0_off13 i k) S256x128.size (k0_off13_inb i k)).toLoadRect X4) (arg3.view.readAt (Elt Ideal) (Rect.unit (s := S1x1x1024x256) ![0, 0, 512, 0] S1x1x128x256.size inb_S1x1x1024x256_S1x1x128x256_0_0_512_0).toLoadRect X3),
      k0_pay2 (arg4.view.readAt (Elt Ideal) (Rect.unit (s := S2048x1024) (k0_off14 i k) S256x128.size (k0_off14_inb i k)).toLoadRect X4) (arg3.view.readAt (Elt Ideal) (Rect.unit (s := S1x1x1024x256) ![0, 0, 640, 0] S1x1x128x256.size inb_S1x1x1024x256_S1x1x128x256_0_0_640_0).toLoadRect X3),
      k0_pay2 (arg4.view.readAt (Elt Ideal) (Rect.unit (s := S2048x1024) (k0_off15 i k) S256x128.size (k0_off15_inb i k)).toLoadRect X4) (arg3.view.readAt (Elt Ideal) (Rect.unit (s := S1x1x1024x256) ![0, 0, 768, 0] S1x1x128x256.size inb_S1x1x1024x256_S1x1x128x256_0_0_768_0).toLoadRect X3),
      k0_pay2 (arg4.view.readAt (Elt Ideal) (Rect.unit (s := S2048x1024) (k0_off16 i k) S256x128.size (k0_off16_inb i k)).toLoadRect X4) (arg3.view.readAt (Elt Ideal) (Rect.unit (s := S1x1x1024x256) ![0, 0, 896, 0] S1x1x128x256.size inb_S1x1x1024x256_S1x1x128x256_0_0_896_0).toLoadRect X3)]

/-- The eight heads' values of one block of keys (`loopSnd`). -/
def loopSndV (i : grid0.Coords) (arg5 : Memref sig .tc .vmem S1x8x640x256 .bf16)
    (X5 : arg5.view.ty.Contents (Elt Ideal)) (k : Fin (k0_t1_loop i).trips) : Fin 8 → Vec Ideal S1x1x80x256 .bf16 :=
    ![(arg5.view.readAt (Elt Ideal) (Rect.unit (s := S1x8x640x256) (k0_off25 i k) S1x1x80x256.size (k0_off25_inb i k)).toLoadRect X5),
      (arg5.view.readAt (Elt Ideal) (Rect.unit (s := S1x8x640x256) (k0_off26 i k) S1x1x80x256.size (k0_off26_inb i k)).toLoadRect X5),
      (arg5.view.readAt (Elt Ideal) (Rect.unit (s := S1x8x640x256) (k0_off27 i k) S1x1x80x256.size (k0_off27_inb i k)).toLoadRect X5),
      (arg5.view.readAt (Elt Ideal) (Rect.unit (s := S1x8x640x256) (k0_off28 i k) S1x1x80x256.size (k0_off28_inb i k)).toLoadRect X5),
      (arg5.view.readAt (Elt Ideal) (Rect.unit (s := S1x8x640x256) (k0_off29 i k) S1x1x80x256.size (k0_off29_inb i k)).toLoadRect X5),
      (arg5.view.readAt (Elt Ideal) (Rect.unit (s := S1x8x640x256) (k0_off30 i k) S1x1x80x256.size (k0_off30_inb i k)).toLoadRect X5),
      (arg5.view.readAt (Elt Ideal) (Rect.unit (s := S1x8x640x256) (k0_off31 i k) S1x1x80x256.size (k0_off31_inb i k)).toLoadRect X5),
      (arg5.view.readAt (Elt Ideal) (Rect.unit (s := S1x8x640x256) (k0_off32 i k) S1x1x80x256.size (k0_off32_inb i k)).toLoadRect X5)]

/-- The eight heads' scores of one block of keys (`oddFst`). -/
def oddFstS (i : grid0.Coords) (arg3 : Memref sig .tc .vmem S1x1x1024x256 .bf16) (arg4 : Memref sig .tc .vmem S2048x1024 .bf16)
    (X3 : arg3.view.ty.Contents (Elt Ideal)) (X4 : arg4.view.ty.Contents (Elt Ideal)) (hc : cond0_0 i) : Fin 8 → FVec Ideal S256x256 .f32 :=
    ![k0_pay2 (arg4.view.readAt (Elt Ideal) (Rect.unit (s := S2048x1024) (k0_off65 i) S256x128.size (k0_off65_inb i hc)).toLoadRect X4) (arg3.view.readAt (Elt Ideal) (Rect.unit (s := S1x1x1024x256) ![0, 0, 0, 0] S1x1x128x256.size inb_S1x1x1024x256_S1x1x128x256_0_0_0_0).toLoadRect X3),
      k0_pay2 (arg4.view.readAt (Elt Ideal) (Rect.unit (s := S2048x1024) (k0_off66 i) S256x128.size (k0_off66_inb i hc)).toLoadRect X4) (arg3.view.readAt (Elt Ideal) (Rect.unit (s := S1x1x1024x256) ![0, 0, 128, 0] S1x1x128x256.size inb_S1x1x1024x256_S1x1x128x256_0_0_128_0).toLoadRect X3),
      k0_pay2 (arg4.view.readAt (Elt Ideal) (Rect.unit (s := S2048x1024) (k0_off67 i) S256x128.size (k0_off67_inb i hc)).toLoadRect X4) (arg3.view.readAt (Elt Ideal) (Rect.unit (s := S1x1x1024x256) ![0, 0, 256, 0] S1x1x128x256.size inb_S1x1x1024x256_S1x1x128x256_0_0_256_0).toLoadRect X3),
      k0_pay2 (arg4.view.readAt (Elt Ideal) (Rect.unit (s := S2048x1024) (k0_off68 i) S256x128.size (k0_off68_inb i hc)).toLoadRect X4) (arg3.view.readAt (Elt Ideal) (Rect.unit (s := S1x1x1024x256) ![0, 0, 384, 0] S1x1x128x256.size inb_S1x1x1024x256_S1x1x128x256_0_0_384_0).toLoadRect X3),
      k0_pay2 (arg4.view.readAt (Elt Ideal) (Rect.unit (s := S2048x1024) (k0_off69 i) S256x128.size (k0_off69_inb i hc)).toLoadRect X4) (arg3.view.readAt (Elt Ideal) (Rect.unit (s := S1x1x1024x256) ![0, 0, 512, 0] S1x1x128x256.size inb_S1x1x1024x256_S1x1x128x256_0_0_512_0).toLoadRect X3),
      k0_pay2 (arg4.view.readAt (Elt Ideal) (Rect.unit (s := S2048x1024) (k0_off70 i) S256x128.size (k0_off70_inb i hc)).toLoadRect X4) (arg3.view.readAt (Elt Ideal) (Rect.unit (s := S1x1x1024x256) ![0, 0, 640, 0] S1x1x128x256.size inb_S1x1x1024x256_S1x1x128x256_0_0_640_0).toLoadRect X3),
      k0_pay2 (arg4.view.readAt (Elt Ideal) (Rect.unit (s := S2048x1024) (k0_off71 i) S256x128.size (k0_off71_inb i hc)).toLoadRect X4) (arg3.view.readAt (Elt Ideal) (Rect.unit (s := S1x1x1024x256) ![0, 0, 768, 0] S1x1x128x256.size inb_S1x1x1024x256_S1x1x128x256_0_0_768_0).toLoadRect X3),
      k0_pay2 (arg4.view.readAt (Elt Ideal) (Rect.unit (s := S2048x1024) (k0_off72 i) S256x128.size (k0_off72_inb i hc)).toLoadRect X4) (arg3.view.readAt (Elt Ideal) (Rect.unit (s := S1x1x1024x256) ![0, 0, 896, 0] S1x1x128x256.size inb_S1x1x1024x256_S1x1x128x256_0_0_896_0).toLoadRect X3)]

/-- The eight heads' values of one block of keys (`oddFst`). -/
def oddFstV (i : grid0.Coords) (arg5 : Memref sig .tc .vmem S1x8x640x256 .bf16)
    (X5 : arg5.view.ty.Contents (Elt Ideal)) (hc : cond0_0 i) : Fin 8 → Vec Ideal S1x1x80x256 .bf16 :=
    ![(arg5.view.readAt (Elt Ideal) (Rect.unit (s := S1x8x640x256) (k0_off81 i) S1x1x80x256.size (k0_off81_inb i hc)).toLoadRect X5),
      (arg5.view.readAt (Elt Ideal) (Rect.unit (s := S1x8x640x256) (k0_off82 i) S1x1x80x256.size (k0_off82_inb i hc)).toLoadRect X5),
      (arg5.view.readAt (Elt Ideal) (Rect.unit (s := S1x8x640x256) (k0_off83 i) S1x1x80x256.size (k0_off83_inb i hc)).toLoadRect X5),
      (arg5.view.readAt (Elt Ideal) (Rect.unit (s := S1x8x640x256) (k0_off84 i) S1x1x80x256.size (k0_off84_inb i hc)).toLoadRect X5),
      (arg5.view.readAt (Elt Ideal) (Rect.unit (s := S1x8x640x256) (k0_off85 i) S1x1x80x256.size (k0_off85_inb i hc)).toLoadRect X5),
      (arg5.view.readAt (Elt Ideal) (Rect.unit (s := S1x8x640x256) (k0_off86 i) S1x1x80x256.size (k0_off86_inb i hc)).toLoadRect X5),
      (arg5.view.readAt (Elt Ideal) (Rect.unit (s := S1x8x640x256) (k0_off87 i) S1x1x80x256.size (k0_off87_inb i hc)).toLoadRect X5),
      (arg5.view.readAt (Elt Ideal) (Rect.unit (s := S1x8x640x256) (k0_off88 i) S1x1x80x256.size (k0_off88_inb i hc)).toLoadRect X5)]

/-- The eight heads' scores of one block of keys (`oddSnd`). -/
def oddSndS (i : grid0.Coords) (arg3 : Memref sig .tc .vmem S1x1x1024x256 .bf16) (arg4 : Memref sig .tc .vmem S2048x1024 .bf16)
    (X3 : arg3.view.ty.Contents (Elt Ideal)) (X4 : arg4.view.ty.Contents (Elt Ideal)) (hc : cond0_0 i) : Fin 8 → FVec Ideal S256x256 .f32 :=
    ![k0_pay2 (arg4.view.readAt (Elt Ideal) (Rect.unit (s := S2048x1024) (k0_off73 i) S256x128.size (k0_off73_inb i hc)).toLoadRect X4) (arg3.view.readAt (Elt Ideal) (Rect.unit (s := S1x1x1024x256) ![0, 0, 0, 0] S1x1x128x256.size inb_S1x1x1024x256_S1x1x128x256_0_0_0_0).toLoadRect X3),
      k0_pay2 (arg4.view.readAt (Elt Ideal) (Rect.unit (s := S2048x1024) (k0_off74 i) S256x128.size (k0_off74_inb i hc)).toLoadRect X4) (arg3.view.readAt (Elt Ideal) (Rect.unit (s := S1x1x1024x256) ![0, 0, 128, 0] S1x1x128x256.size inb_S1x1x1024x256_S1x1x128x256_0_0_128_0).toLoadRect X3),
      k0_pay2 (arg4.view.readAt (Elt Ideal) (Rect.unit (s := S2048x1024) (k0_off75 i) S256x128.size (k0_off75_inb i hc)).toLoadRect X4) (arg3.view.readAt (Elt Ideal) (Rect.unit (s := S1x1x1024x256) ![0, 0, 256, 0] S1x1x128x256.size inb_S1x1x1024x256_S1x1x128x256_0_0_256_0).toLoadRect X3),
      k0_pay2 (arg4.view.readAt (Elt Ideal) (Rect.unit (s := S2048x1024) (k0_off76 i) S256x128.size (k0_off76_inb i hc)).toLoadRect X4) (arg3.view.readAt (Elt Ideal) (Rect.unit (s := S1x1x1024x256) ![0, 0, 384, 0] S1x1x128x256.size inb_S1x1x1024x256_S1x1x128x256_0_0_384_0).toLoadRect X3),
      k0_pay2 (arg4.view.readAt (Elt Ideal) (Rect.unit (s := S2048x1024) (k0_off77 i) S256x128.size (k0_off77_inb i hc)).toLoadRect X4) (arg3.view.readAt (Elt Ideal) (Rect.unit (s := S1x1x1024x256) ![0, 0, 512, 0] S1x1x128x256.size inb_S1x1x1024x256_S1x1x128x256_0_0_512_0).toLoadRect X3),
      k0_pay2 (arg4.view.readAt (Elt Ideal) (Rect.unit (s := S2048x1024) (k0_off78 i) S256x128.size (k0_off78_inb i hc)).toLoadRect X4) (arg3.view.readAt (Elt Ideal) (Rect.unit (s := S1x1x1024x256) ![0, 0, 640, 0] S1x1x128x256.size inb_S1x1x1024x256_S1x1x128x256_0_0_640_0).toLoadRect X3),
      k0_pay2 (arg4.view.readAt (Elt Ideal) (Rect.unit (s := S2048x1024) (k0_off79 i) S256x128.size (k0_off79_inb i hc)).toLoadRect X4) (arg3.view.readAt (Elt Ideal) (Rect.unit (s := S1x1x1024x256) ![0, 0, 768, 0] S1x1x128x256.size inb_S1x1x1024x256_S1x1x128x256_0_0_768_0).toLoadRect X3),
      k0_pay2 (arg4.view.readAt (Elt Ideal) (Rect.unit (s := S2048x1024) (k0_off80 i) S256x128.size (k0_off80_inb i hc)).toLoadRect X4) (arg3.view.readAt (Elt Ideal) (Rect.unit (s := S1x1x1024x256) ![0, 0, 896, 0] S1x1x128x256.size inb_S1x1x1024x256_S1x1x128x256_0_0_896_0).toLoadRect X3)]

/-- The eight heads' values of one block of keys (`oddSnd`). -/
def oddSndV (i : grid0.Coords) (arg5 : Memref sig .tc .vmem S1x8x640x256 .bf16)
    (X5 : arg5.view.ty.Contents (Elt Ideal)) (hc : cond0_0 i) : Fin 8 → Vec Ideal S1x1x80x256 .bf16 :=
    ![(arg5.view.readAt (Elt Ideal) (Rect.unit (s := S1x8x640x256) (k0_off89 i) S1x1x80x256.size (k0_off89_inb i hc)).toLoadRect X5),
      (arg5.view.readAt (Elt Ideal) (Rect.unit (s := S1x8x640x256) (k0_off90 i) S1x1x80x256.size (k0_off90_inb i hc)).toLoadRect X5),
      (arg5.view.readAt (Elt Ideal) (Rect.unit (s := S1x8x640x256) (k0_off91 i) S1x1x80x256.size (k0_off91_inb i hc)).toLoadRect X5),
      (arg5.view.readAt (Elt Ideal) (Rect.unit (s := S1x8x640x256) (k0_off92 i) S1x1x80x256.size (k0_off92_inb i hc)).toLoadRect X5),
      (arg5.view.readAt (Elt Ideal) (Rect.unit (s := S1x8x640x256) (k0_off93 i) S1x1x80x256.size (k0_off93_inb i hc)).toLoadRect X5),
      (arg5.view.readAt (Elt Ideal) (Rect.unit (s := S1x8x640x256) (k0_off94 i) S1x1x80x256.size (k0_off94_inb i hc)).toLoadRect X5),
      (arg5.view.readAt (Elt Ideal) (Rect.unit (s := S1x8x640x256) (k0_off95 i) S1x1x80x256.size (k0_off95_inb i hc)).toLoadRect X5),
      (arg5.view.readAt (Elt Ideal) (Rect.unit (s := S1x8x640x256) (k0_off96 i) S1x1x80x256.size (k0_off96_inb i hc)).toLoadRect X5)]

/-- The eight heads' scores of one block of keys (`evenLast`). -/
def evenLastS (i : grid0.Coords) (arg3 : Memref sig .tc .vmem S1x1x1024x256 .bf16) (arg4 : Memref sig .tc .vmem S2048x1024 .bf16)
    (X3 : arg3.view.ty.Contents (Elt Ideal)) (X4 : arg4.view.ty.Contents (Elt Ideal)) (hc : cond0_1 i) : Fin 8 → FVec Ideal S256x256 .f32 :=
    ![k0_pay2 (arg4.view.readAt (Elt Ideal) (Rect.unit (s := S2048x1024) (k0_off97 i) S256x128.size (k0_off97_inb i hc)).toLoadRect X4) (arg3.view.readAt (Elt Ideal) (Rect.unit (s := S1x1x1024x256) ![0, 0, 0, 0] S1x1x128x256.size inb_S1x1x1024x256_S1x1x128x256_0_0_0_0).toLoadRect X3),
      k0_pay2 (arg4.view.readAt (Elt Ideal) (Rect.unit (s := S2048x1024) (k0_off98 i) S256x128.size (k0_off98_inb i hc)).toLoadRect X4) (arg3.view.readAt (Elt Ideal) (Rect.unit (s := S1x1x1024x256) ![0, 0, 128, 0] S1x1x128x256.size inb_S1x1x1024x256_S1x1x128x256_0_0_128_0).toLoadRect X3),
      k0_pay2 (arg4.view.readAt (Elt Ideal) (Rect.unit (s := S2048x1024) (k0_off99 i) S256x128.size (k0_off99_inb i hc)).toLoadRect X4) (arg3.view.readAt (Elt Ideal) (Rect.unit (s := S1x1x1024x256) ![0, 0, 256, 0] S1x1x128x256.size inb_S1x1x1024x256_S1x1x128x256_0_0_256_0).toLoadRect X3),
      k0_pay2 (arg4.view.readAt (Elt Ideal) (Rect.unit (s := S2048x1024) (k0_off100 i) S256x128.size (k0_off100_inb i hc)).toLoadRect X4) (arg3.view.readAt (Elt Ideal) (Rect.unit (s := S1x1x1024x256) ![0, 0, 384, 0] S1x1x128x256.size inb_S1x1x1024x256_S1x1x128x256_0_0_384_0).toLoadRect X3),
      k0_pay2 (arg4.view.readAt (Elt Ideal) (Rect.unit (s := S2048x1024) (k0_off101 i) S256x128.size (k0_off101_inb i hc)).toLoadRect X4) (arg3.view.readAt (Elt Ideal) (Rect.unit (s := S1x1x1024x256) ![0, 0, 512, 0] S1x1x128x256.size inb_S1x1x1024x256_S1x1x128x256_0_0_512_0).toLoadRect X3),
      k0_pay2 (arg4.view.readAt (Elt Ideal) (Rect.unit (s := S2048x1024) (k0_off102 i) S256x128.size (k0_off102_inb i hc)).toLoadRect X4) (arg3.view.readAt (Elt Ideal) (Rect.unit (s := S1x1x1024x256) ![0, 0, 640, 0] S1x1x128x256.size inb_S1x1x1024x256_S1x1x128x256_0_0_640_0).toLoadRect X3),
      k0_pay2 (arg4.view.readAt (Elt Ideal) (Rect.unit (s := S2048x1024) (k0_off103 i) S256x128.size (k0_off103_inb i hc)).toLoadRect X4) (arg3.view.readAt (Elt Ideal) (Rect.unit (s := S1x1x1024x256) ![0, 0, 768, 0] S1x1x128x256.size inb_S1x1x1024x256_S1x1x128x256_0_0_768_0).toLoadRect X3),
      k0_pay2 (arg4.view.readAt (Elt Ideal) (Rect.unit (s := S2048x1024) (k0_off104 i) S256x128.size (k0_off104_inb i hc)).toLoadRect X4) (arg3.view.readAt (Elt Ideal) (Rect.unit (s := S1x1x1024x256) ![0, 0, 896, 0] S1x1x128x256.size inb_S1x1x1024x256_S1x1x128x256_0_0_896_0).toLoadRect X3)]

/-- The eight heads' values of one block of keys (`evenLast`). -/
def evenLastV (i : grid0.Coords) (arg5 : Memref sig .tc .vmem S1x8x640x256 .bf16)
    (X5 : arg5.view.ty.Contents (Elt Ideal)) (hc : cond0_1 i) : Fin 8 → Vec Ideal S1x1x80x256 .bf16 :=
    ![(arg5.view.readAt (Elt Ideal) (Rect.unit (s := S1x8x640x256) (k0_off105 i) S1x1x80x256.size (k0_off105_inb i hc)).toLoadRect X5),
      (arg5.view.readAt (Elt Ideal) (Rect.unit (s := S1x8x640x256) (k0_off106 i) S1x1x80x256.size (k0_off106_inb i hc)).toLoadRect X5),
      (arg5.view.readAt (Elt Ideal) (Rect.unit (s := S1x8x640x256) (k0_off107 i) S1x1x80x256.size (k0_off107_inb i hc)).toLoadRect X5),
      (arg5.view.readAt (Elt Ideal) (Rect.unit (s := S1x8x640x256) (k0_off108 i) S1x1x80x256.size (k0_off108_inb i hc)).toLoadRect X5),
      (arg5.view.readAt (Elt Ideal) (Rect.unit (s := S1x8x640x256) (k0_off109 i) S1x1x80x256.size (k0_off109_inb i hc)).toLoadRect X5),
      (arg5.view.readAt (Elt Ideal) (Rect.unit (s := S1x8x640x256) (k0_off110 i) S1x1x80x256.size (k0_off110_inb i hc)).toLoadRect X5),
      (arg5.view.readAt (Elt Ideal) (Rect.unit (s := S1x8x640x256) (k0_off111 i) S1x1x80x256.size (k0_off111_inb i hc)).toLoadRect X5),
      (arg5.view.readAt (Elt Ideal) (Rect.unit (s := S1x8x640x256) (k0_off112 i) S1x1x80x256.size (k0_off112_inb i hc)).toLoadRect X5)]

/-- The eight heads' carried maxima as a family. -/
def family (a : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) :
    Fin 8 → FVec Ideal S1x256 .f32 :=
  ![a.1, a.2.1, a.2.2.1, a.2.2.2.1, a.2.2.2.2.1, a.2.2.2.2.2.1, a.2.2.2.2.2.2.1, a.2.2.2.2.2.2.2]

/-- One head's sums after a block. -/
def sums (m : FVec Ideal S1x256 .f32) (s : FVec Ideal S256x256 .f32) (v : Vec Ideal S1x1x80x256 .bf16) (o : Vec Ideal S1x80x256 .f32) :
    FVec Ideal S1x80x256 .f32 := k0_pay42 (k0_pay19 m s) (k0_pay20 m s) v o

/-- The rows of head `n` in the scratch. -/
def rect (n : ℕ) : Rect S8x80x256 :=
  Rect.unit ![n % 8, 0, 0] S1x80x256.size (by
    have h : n % 8 < 8 := Nat.mod_lt _ (by norm_num)
    intro a; fin_cases a <;> simp <;> omega)

/-- The stores of the first `n` heads. -/
def puts (w : Fin 8 → FVec Ideal S1x80x256 .f32) : ℕ → List (View.Piece (Elt Ideal) S8x80x256 .f32)
  | 0 => []
  | n + 1 => ⟨rect n, w (Fin.ofNat 8 n)⟩ :: puts w n

/-- The stores of the first `n` heads, each over what the writes before it left of the head. -/
def covs (v : View sig .tc .vmem S8x80x256 .f32) (G : Fin 8 → Vec Ideal S1x80x256 .f32 → FVec Ideal S1x80x256 .f32)
    (L : List (View.Piece (Elt Ideal) S8x80x256 .f32)) : ℕ → List (View.Piece (Elt Ideal) S8x80x256 .f32)
  | 0 => L
  | n + 1 => ⟨rect n, G (Fin.ofNat 8 n) (v.readCov (covs v G L n) (rect n).toLoadRect)⟩ :: covs v G L n

/-- One trip's maxima: two blocks taken into each head's maximum. -/
theorem trip_maxima (𝒱 : Variants) (c : Dev nD) (bd : Option 𝒱.V) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (arg2 : BitVec 32) (v0 v1 : IVec S256x256 32) (v6 v7 v8 v9 v10 v11 v12 v13 : FVec Ideal S1x256 .f32) (c0 v34 : BitVec 32) (X3 : arg3.view.ty.Contents (Elt Ideal)) (X4 : arg4.view.ty.Contents (Elt Ideal)) (X5 : arg5.view.ty.Contents (Elt Ideal)) (k : Fin (k0_t1_loop i).trips)
    (acc : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) (f7 : arg7.view.ty.Contents (Elt Ideal)) (h : Fin 8) :
    family (tripR_k0_t1 (F := Ideal) 𝒱 c bd i arg3 harg3 arg4 harg4 arg5 harg5 arg6 harg6 arg7 harg7 arg2 v0 v1 v6 v7 v8 v9 v10 v11 v12 v13 c0 v34 X3 X4 X5 k acc f7) h
      = k0_pay18 (k0_pay18 (family acc h) (loopFstS i arg3 arg4 X3 X4 k h)) (loopSndS i arg3 arg4 X3 X4 k h) := by
  unfold tripR_k0_t1 trip_k0_t1
  fin_cases h <;> rfl

/-- The first block's stores of a trip. -/
theorem stores_fst (i : grid0.Coords) (arg3 : Memref sig .tc .vmem S1x1x1024x256 .bf16) (arg4 : Memref sig .tc .vmem S2048x1024 .bf16) (arg5 : Memref sig .tc .vmem S1x8x640x256 .bf16) (arg7 : Memref sig .tc .vmem S8x80x256 .f32) (X3 : arg3.view.ty.Contents (Elt Ideal)) (X4 : arg4.view.ty.Contents (Elt Ideal)) (X5 : arg5.view.ty.Contents (Elt Ideal)) (k : Fin (k0_t1_loop i).trips)
    (acc : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) (f7 : arg7.view.ty.Contents (Elt Ideal)) :
    trip_k0_t1.sl.HW_arg7_8 (F := Ideal) i arg3 arg4 arg5 arg7 X3 X4 X5 k acc f7 = puts (fun h => sums (family acc h) (loopFstS i arg3 arg4 X3 X4 k h) (loopFstV i arg5 X5 k h) (arg7.view.readAt (Elt Ideal) (rect h).toLoadRect f7)) 8 := by
  simp only [puts]
  rfl

/-- The second block's stores of a trip up to head 0. -/
theorem stores_1 (i : grid0.Coords) (arg3 : Memref sig .tc .vmem S1x1x1024x256 .bf16) (arg4 : Memref sig .tc .vmem S2048x1024 .bf16) (arg5 : Memref sig .tc .vmem S1x8x640x256 .bf16) (arg7 : Memref sig .tc .vmem S8x80x256 .f32) (X3 : arg3.view.ty.Contents (Elt Ideal)) (X4 : arg4.view.ty.Contents (Elt Ideal)) (X5 : arg5.view.ty.Contents (Elt Ideal)) (k : Fin (k0_t1_loop i).trips)
    (acc : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) (f7 : arg7.view.ty.Contents (Elt Ideal)) :
    trip_k0_t1.sl.HW_arg7_9 (F := Ideal) i arg3 arg4 arg5 arg7 X3 X4 X5 k acc f7 = covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 1 := by
  have e := stores_fst i arg3 arg4 arg5 arg7 X3 X4 X5 k acc f7
  rw [covs]
  rw [show covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 0 = trip_k0_t1.sl.HW_arg7_8 (F := Ideal) i arg3 arg4 arg5 arg7 X3 X4 X5 k acc f7 from e.symm]
  rfl

/-- The second block's stores of a trip up to head 1. -/
theorem stores_2 (i : grid0.Coords) (arg3 : Memref sig .tc .vmem S1x1x1024x256 .bf16) (arg4 : Memref sig .tc .vmem S2048x1024 .bf16) (arg5 : Memref sig .tc .vmem S1x8x640x256 .bf16) (arg7 : Memref sig .tc .vmem S8x80x256 .f32) (X3 : arg3.view.ty.Contents (Elt Ideal)) (X4 : arg4.view.ty.Contents (Elt Ideal)) (X5 : arg5.view.ty.Contents (Elt Ideal)) (k : Fin (k0_t1_loop i).trips)
    (acc : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) (f7 : arg7.view.ty.Contents (Elt Ideal)) :
    trip_k0_t1.sl.HW_arg7_10 (F := Ideal) i arg3 arg4 arg5 arg7 X3 X4 X5 k acc f7 = covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 2 := by
  have e := stores_1 i arg3 arg4 arg5 arg7 X3 X4 X5 k acc f7
  rw [covs]
  rw [show covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 1 = trip_k0_t1.sl.HW_arg7_9 (F := Ideal) i arg3 arg4 arg5 arg7 X3 X4 X5 k acc f7 from e.symm]
  rfl

/-- The second block's stores of a trip up to head 2. -/
theorem stores_3 (i : grid0.Coords) (arg3 : Memref sig .tc .vmem S1x1x1024x256 .bf16) (arg4 : Memref sig .tc .vmem S2048x1024 .bf16) (arg5 : Memref sig .tc .vmem S1x8x640x256 .bf16) (arg7 : Memref sig .tc .vmem S8x80x256 .f32) (X3 : arg3.view.ty.Contents (Elt Ideal)) (X4 : arg4.view.ty.Contents (Elt Ideal)) (X5 : arg5.view.ty.Contents (Elt Ideal)) (k : Fin (k0_t1_loop i).trips)
    (acc : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) (f7 : arg7.view.ty.Contents (Elt Ideal)) :
    trip_k0_t1.sl.HW_arg7_11 (F := Ideal) i arg3 arg4 arg5 arg7 X3 X4 X5 k acc f7 = covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 3 := by
  have e := stores_2 i arg3 arg4 arg5 arg7 X3 X4 X5 k acc f7
  rw [covs]
  rw [show covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 2 = trip_k0_t1.sl.HW_arg7_10 (F := Ideal) i arg3 arg4 arg5 arg7 X3 X4 X5 k acc f7 from e.symm]
  rfl

/-- The second block's stores of a trip up to head 3. -/
theorem stores_4 (i : grid0.Coords) (arg3 : Memref sig .tc .vmem S1x1x1024x256 .bf16) (arg4 : Memref sig .tc .vmem S2048x1024 .bf16) (arg5 : Memref sig .tc .vmem S1x8x640x256 .bf16) (arg7 : Memref sig .tc .vmem S8x80x256 .f32) (X3 : arg3.view.ty.Contents (Elt Ideal)) (X4 : arg4.view.ty.Contents (Elt Ideal)) (X5 : arg5.view.ty.Contents (Elt Ideal)) (k : Fin (k0_t1_loop i).trips)
    (acc : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) (f7 : arg7.view.ty.Contents (Elt Ideal)) :
    trip_k0_t1.sl.HW_arg7_12 (F := Ideal) i arg3 arg4 arg5 arg7 X3 X4 X5 k acc f7 = covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 4 := by
  have e := stores_3 i arg3 arg4 arg5 arg7 X3 X4 X5 k acc f7
  rw [covs]
  rw [show covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 3 = trip_k0_t1.sl.HW_arg7_11 (F := Ideal) i arg3 arg4 arg5 arg7 X3 X4 X5 k acc f7 from e.symm]
  rfl

/-- The second block's stores of a trip up to head 4. -/
theorem stores_5 (i : grid0.Coords) (arg3 : Memref sig .tc .vmem S1x1x1024x256 .bf16) (arg4 : Memref sig .tc .vmem S2048x1024 .bf16) (arg5 : Memref sig .tc .vmem S1x8x640x256 .bf16) (arg7 : Memref sig .tc .vmem S8x80x256 .f32) (X3 : arg3.view.ty.Contents (Elt Ideal)) (X4 : arg4.view.ty.Contents (Elt Ideal)) (X5 : arg5.view.ty.Contents (Elt Ideal)) (k : Fin (k0_t1_loop i).trips)
    (acc : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) (f7 : arg7.view.ty.Contents (Elt Ideal)) :
    trip_k0_t1.sl.HW_arg7_13 (F := Ideal) i arg3 arg4 arg5 arg7 X3 X4 X5 k acc f7 = covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 5 := by
  have e := stores_4 i arg3 arg4 arg5 arg7 X3 X4 X5 k acc f7
  rw [covs]
  rw [show covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 4 = trip_k0_t1.sl.HW_arg7_12 (F := Ideal) i arg3 arg4 arg5 arg7 X3 X4 X5 k acc f7 from e.symm]
  rfl

/-- The second block's stores of a trip up to head 5. -/
theorem stores_6 (i : grid0.Coords) (arg3 : Memref sig .tc .vmem S1x1x1024x256 .bf16) (arg4 : Memref sig .tc .vmem S2048x1024 .bf16) (arg5 : Memref sig .tc .vmem S1x8x640x256 .bf16) (arg7 : Memref sig .tc .vmem S8x80x256 .f32) (X3 : arg3.view.ty.Contents (Elt Ideal)) (X4 : arg4.view.ty.Contents (Elt Ideal)) (X5 : arg5.view.ty.Contents (Elt Ideal)) (k : Fin (k0_t1_loop i).trips)
    (acc : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) (f7 : arg7.view.ty.Contents (Elt Ideal)) :
    trip_k0_t1.sl.HW_arg7_14 (F := Ideal) i arg3 arg4 arg5 arg7 X3 X4 X5 k acc f7 = covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 6 := by
  have e := stores_5 i arg3 arg4 arg5 arg7 X3 X4 X5 k acc f7
  rw [covs]
  rw [show covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 5 = trip_k0_t1.sl.HW_arg7_13 (F := Ideal) i arg3 arg4 arg5 arg7 X3 X4 X5 k acc f7 from e.symm]
  rfl

/-- The second block's stores of a trip up to head 6. -/
theorem stores_7 (i : grid0.Coords) (arg3 : Memref sig .tc .vmem S1x1x1024x256 .bf16) (arg4 : Memref sig .tc .vmem S2048x1024 .bf16) (arg5 : Memref sig .tc .vmem S1x8x640x256 .bf16) (arg7 : Memref sig .tc .vmem S8x80x256 .f32) (X3 : arg3.view.ty.Contents (Elt Ideal)) (X4 : arg4.view.ty.Contents (Elt Ideal)) (X5 : arg5.view.ty.Contents (Elt Ideal)) (k : Fin (k0_t1_loop i).trips)
    (acc : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) (f7 : arg7.view.ty.Contents (Elt Ideal)) :
    trip_k0_t1.sl.HW_arg7_15 (F := Ideal) i arg3 arg4 arg5 arg7 X3 X4 X5 k acc f7 = covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 7 := by
  have e := stores_6 i arg3 arg4 arg5 arg7 X3 X4 X5 k acc f7
  rw [covs]
  rw [show covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 6 = trip_k0_t1.sl.HW_arg7_14 (F := Ideal) i arg3 arg4 arg5 arg7 X3 X4 X5 k acc f7 from e.symm]
  rfl

/-- One trip's stores: two blocks taken into each head's sums. -/
theorem trip_stores (𝒱 : Variants) (c : Dev nD) (bd : Option 𝒱.V) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (arg2 : BitVec 32) (v0 v1 : IVec S256x256 32) (v6 v7 v8 v9 v10 v11 v12 v13 : FVec Ideal S1x256 .f32) (c0 v34 : BitVec 32) (X3 : arg3.view.ty.Contents (Elt Ideal)) (X4 : arg4.view.ty.Contents (Elt Ideal)) (X5 : arg5.view.ty.Contents (Elt Ideal)) (k : Fin (k0_t1_loop i).trips)
    (acc : FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) (f7 : arg7.view.ty.Contents (Elt Ideal)) :
    tripL_k0_t1 (F := Ideal) 𝒱 c bd i arg3 harg3 arg4 harg4 arg5 harg5 arg6 harg6 arg7 harg7 arg2 v0 v1 v6 v7 v8 v9 v10 v11 v12 v13 c0 v34 X3 X4 X5 k acc f7
      = covs arg7.view (fun h => sums (k0_pay18 (family acc h) (loopFstS i arg3 arg4 X3 X4 k h)) (loopSndS i arg3 arg4 X3 X4 k h) (loopSndV i arg5 X5 k h)) (puts (fun h => sums (family acc h) (loopFstS i arg3 arg4 X3 X4 k h) (loopFstV i arg5 X5 k h) (arg7.view.readAt (Elt Ideal) (rect h).toLoadRect f7)) 8) 8 := by
  have e := stores_7 i arg3 arg4 arg5 arg7 X3 X4 X5 k acc f7
  unfold tripL_k0_t1 trip_k0_t1
  rw [covs]
  rw [← e]
  rfl

/-- The zeroing of the scratch. -/
def zeroed : List (View.Piece (Elt Ideal) S8x80x256 .f32) := [⟨Rect.unit ![0, 0, 0] S8x80x256.size inb_S8x80x256_S8x80x256_0_0_0, k0_pay324 (F := Ideal)⟩]

/-- The loop's maxima and stores before trip `n`. -/
def looped (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (x0 : Vec Ideal S1x1x1024x256 .bf16) (x1 : Vec Ideal S2048x1024 .bf16) (x2 : Vec Ideal S1x8x640x256 .bf16) (n : ℕ) :
    (FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) × List (View.Piece (Elt Ideal) S8x80x256 .f32) :=
  st_k0_t1 (F := Ideal) Variants.none c none i arg3 harg3 arg4 harg4 arg5 harg5 arg6 harg6 arg7 harg7 (BitVec.ofNat 32 (i 2).val) (iota .tc S256x256 32 [0] iota_S256x256_d0_w32) (iota .tc S256x256 32 [1] iota_S256x256_d1_w32) k0_pay325 k0_pay326 k0_pay327 k0_pay328 k0_pay329 k0_pay330 k0_pay331 k0_pay332 0#32
    (kernelRun0_A.sl.v34 i) (harg3.unread x0) (harg4.unread x1) (harg5.unread x2) (arg7.view.writes (Elt Ideal) arg7.view.junk zeroed)
    (k0_pay325, k0_pay326, k0_pay327, k0_pay328, k0_pay329, k0_pay330, k0_pay331, k0_pay332) n

/-- The maxima and stores after both of the printed loops; the second makes no trip. -/
def ended (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (x0 : Vec Ideal S1x1x1024x256 .bf16) (x1 : Vec Ideal S2048x1024 .bf16) (x2 : Vec Ideal S1x8x640x256 .bf16) :
    (FVec Ideal S1x256 .f32 × FVec Ideal S1x256 .f32 × FVec Ideal S1x256 .f32 × FVec Ideal S1x256 .f32 × FVec Ideal S1x256 .f32 × FVec Ideal S1x256 .f32 × FVec Ideal S1x256 .f32 × FVec Ideal S1x256 .f32) × List (View.Piece (Elt Ideal) S8x80x256 .f32) :=
  st_k0_t2 (F := Ideal) Variants.none c none i arg3 harg3 arg4 harg4 arg5 harg5 arg6 harg6 arg7 harg7 (BitVec.ofNat 32 (i 2).val) (iota .tc S256x256 32 [0] iota_S256x256_d0_w32) (iota .tc S256x256 32 [1] iota_S256x256_d1_w32) k0_pay325 k0_pay326 k0_pay327 k0_pay328 k0_pay329 k0_pay330 k0_pay331 k0_pay332 0#32
    (kernelRun0_A.sl.v34 i) (kernelRun0_A.sl.v35 i) (harg3.unread x0) (harg4.unread x1) (harg5.unread x2)
    (arg7.view.writes (Elt Ideal) arg7.view.junk ((looped c i arg3 harg3 arg4 harg4 arg5 harg5 arg6 harg6 arg7 harg7 x0 x1 x2 (k0_t1_loop i).trips).2 ++ zeroed))
    ((looped c i arg3 harg3 arg4 harg4 arg5 harg5 arg6 harg6 arg7 harg7 x0 x1 x2 (k0_t1_loop i).trips).1.1, (looped c i arg3 harg3 arg4 harg4 arg5 harg5 arg6 harg6 arg7 harg7 x0 x1 x2 (k0_t1_loop i).trips).1.2.1, (looped c i arg3 harg3 arg4 harg4 arg5 harg5 arg6 harg6 arg7 harg7 x0 x1 x2 (k0_t1_loop i).trips).1.2.2.1, (looped c i arg3 harg3 arg4 harg4 arg5 harg5 arg6 harg6 arg7 harg7 x0 x1 x2 (k0_t1_loop i).trips).1.2.2.2.1, (looped c i arg3 harg3 arg4 harg4 arg5 harg5 arg6 harg6 arg7 harg7 x0 x1 x2 (k0_t1_loop i).trips).1.2.2.2.2.1, (looped c i arg3 harg3 arg4 harg4 arg5 harg5 arg6 harg6 arg7 harg7 x0 x1 x2 (k0_t1_loop i).trips).1.2.2.2.2.2.1, (looped c i arg3 harg3 arg4 harg4 arg5 harg5 arg6 harg6 arg7 harg7 x0 x1 x2 (k0_t1_loop i).trips).1.2.2.2.2.2.2.1, (looped c i arg3 harg3 arg4 harg4 arg5 harg5 arg6 harg6 arg7 harg7 x0 x1 x2 (k0_t1_loop i).trips).1.2.2.2.2.2.2.2) (k0_t2_loop i).trips

attribute [local irreducible] st_k0_t1 st_k0_t2

/-- A block's scores with the keys after each query dropped. -/
def masked (s : FVec Ideal S256x256 .f32) : FVec Ideal S256x256 .f32 := k0_pay282 (iota .tc S256x256 32 [0] iota_S256x256_d0_w32) (iota .tc S256x256 32 [1] iota_S256x256_d1_w32) s

/-- The stores before the last block or pair of blocks. -/
def before (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (x0 : Vec Ideal S1x1x1024x256 .bf16) (x1 : Vec Ideal S2048x1024 .bf16) (x2 : Vec Ideal S1x8x640x256 .bf16) :
    List (View.Piece (Elt Ideal) S8x80x256 .f32) :=
  (ended c i arg3 harg3 arg4 harg4 arg5 harg5 arg6 harg6 arg7 harg7 x0 x1 x2).2 ++ ((looped c i arg3 harg3 arg4 harg4 arg5 harg5 arg6 harg6 arg7 harg7 x0 x1 x2 (k0_t1_loop i).trips).2 ++ zeroed)

/-- The stores of the last block of an even chunk up to head 0. -/
theorem even_1 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_1 i) (x0 : Vec Ideal S1x1x1024x256 .bf16) (x1 : Vec Ideal S2048x1024 .bf16) (x2 : Vec Ideal S1x8x640x256 .bf16) :
    kernelRun0_A.sl.HS0_1_1 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (masked (evenLastS i arg3 arg4 (harg3.unread x0) (harg4.unread x1) hc h)) (evenLastV i arg5 (harg5.unread x2) hc h)) (before c i arg3 harg3 arg4 harg4 arg5 harg5 arg6 harg6 arg7 harg7 x0 x1 x2) 1 := by
  rw [covs]
  rw [covs]
  rfl

/-- The stores of the last block of an even chunk up to head 1. -/
theorem even_2 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_1 i) (x0 : Vec Ideal S1x1x1024x256 .bf16) (x1 : Vec Ideal S2048x1024 .bf16) (x2 : Vec Ideal S1x8x640x256 .bf16) :
    kernelRun0_A.sl.HS0_2 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (masked (evenLastS i arg3 arg4 (harg3.unread x0) (harg4.unread x1) hc h)) (evenLastV i arg5 (harg5.unread x2) hc h)) (before c i arg3 harg3 arg4 harg4 arg5 harg5 arg6 harg6 arg7 harg7 x0 x1 x2) 2 := by
  rw [covs]
  rw [← even_1 c i arg3 harg3 arg4 harg4 arg5 harg5 arg6 harg6 arg7 harg7 hc x0 x1 x2]
  rfl

/-- The stores of the last block of an even chunk up to head 2. -/
theorem even_3 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_1 i) (x0 : Vec Ideal S1x1x1024x256 .bf16) (x1 : Vec Ideal S2048x1024 .bf16) (x2 : Vec Ideal S1x8x640x256 .bf16) :
    kernelRun0_A.sl.HS0_3 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (masked (evenLastS i arg3 arg4 (harg3.unread x0) (harg4.unread x1) hc h)) (evenLastV i arg5 (harg5.unread x2) hc h)) (before c i arg3 harg3 arg4 harg4 arg5 harg5 arg6 harg6 arg7 harg7 x0 x1 x2) 3 := by
  rw [covs]
  rw [← even_2 c i arg3 harg3 arg4 harg4 arg5 harg5 arg6 harg6 arg7 harg7 hc x0 x1 x2]
  rfl

/-- The stores of the last block of an even chunk up to head 3. -/
theorem even_4 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_1 i) (x0 : Vec Ideal S1x1x1024x256 .bf16) (x1 : Vec Ideal S2048x1024 .bf16) (x2 : Vec Ideal S1x8x640x256 .bf16) :
    kernelRun0_A.sl.HS0_4 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (masked (evenLastS i arg3 arg4 (harg3.unread x0) (harg4.unread x1) hc h)) (evenLastV i arg5 (harg5.unread x2) hc h)) (before c i arg3 harg3 arg4 harg4 arg5 harg5 arg6 harg6 arg7 harg7 x0 x1 x2) 4 := by
  rw [covs]
  rw [← even_3 c i arg3 harg3 arg4 harg4 arg5 harg5 arg6 harg6 arg7 harg7 hc x0 x1 x2]
  rfl

/-- The stores of the last block of an even chunk up to head 4. -/
theorem even_5 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_1 i) (x0 : Vec Ideal S1x1x1024x256 .bf16) (x1 : Vec Ideal S2048x1024 .bf16) (x2 : Vec Ideal S1x8x640x256 .bf16) :
    kernelRun0_A.sl.HS0_5 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (masked (evenLastS i arg3 arg4 (harg3.unread x0) (harg4.unread x1) hc h)) (evenLastV i arg5 (harg5.unread x2) hc h)) (before c i arg3 harg3 arg4 harg4 arg5 harg5 arg6 harg6 arg7 harg7 x0 x1 x2) 5 := by
  rw [covs]
  rw [← even_4 c i arg3 harg3 arg4 harg4 arg5 harg5 arg6 harg6 arg7 harg7 hc x0 x1 x2]
  rfl

/-- The stores of the last block of an even chunk up to head 5. -/
theorem even_6 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_1 i) (x0 : Vec Ideal S1x1x1024x256 .bf16) (x1 : Vec Ideal S2048x1024 .bf16) (x2 : Vec Ideal S1x8x640x256 .bf16) :
    kernelRun0_A.sl.HS0_6 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (masked (evenLastS i arg3 arg4 (harg3.unread x0) (harg4.unread x1) hc h)) (evenLastV i arg5 (harg5.unread x2) hc h)) (before c i arg3 harg3 arg4 harg4 arg5 harg5 arg6 harg6 arg7 harg7 x0 x1 x2) 6 := by
  rw [covs]
  rw [← even_5 c i arg3 harg3 arg4 harg4 arg5 harg5 arg6 harg6 arg7 harg7 hc x0 x1 x2]
  rfl

/-- The stores of the last block of an even chunk up to head 6. -/
theorem even_7 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_1 i) (x0 : Vec Ideal S1x1x1024x256 .bf16) (x1 : Vec Ideal S2048x1024 .bf16) (x2 : Vec Ideal S1x8x640x256 .bf16) :
    kernelRun0_A.sl.HS0_7 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (masked (evenLastS i arg3 arg4 (harg3.unread x0) (harg4.unread x1) hc h)) (evenLastV i arg5 (harg5.unread x2) hc h)) (before c i arg3 harg3 arg4 harg4 arg5 harg5 arg6 harg6 arg7 harg7 x0 x1 x2) 7 := by
  rw [covs]
  rw [← even_6 c i arg3 harg3 arg4 harg4 arg5 harg5 arg6 harg6 arg7 harg7 hc x0 x1 x2]
  rfl

/-- The stores of the last block of an even chunk up to head 7. -/
theorem even_8 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_1 i) (x0 : Vec Ideal S1x1x1024x256 .bf16) (x1 : Vec Ideal S2048x1024 .bf16) (x2 : Vec Ideal S1x8x640x256 .bf16) :
    kernelRun0_A.sl.HS0_8 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (masked (evenLastS i arg3 arg4 (harg3.unread x0) (harg4.unread x1) hc h)) (evenLastV i arg5 (harg5.unread x2) hc h)) (before c i arg3 harg3 arg4 harg4 arg5 harg5 arg6 harg6 arg7 harg7 x0 x1 x2) 8 := by
  rw [covs]
  rw [← even_7 c i arg3 harg3 arg4 harg4 arg5 harg5 arg6 harg6 arg7 harg7 hc x0 x1 x2]
  rfl

/-- The stores of the first of the last two blocks of an odd chunk up to head 0. -/
theorem oddFst_1 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_1_1 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 1 := by
  rw [covs]
  rw [covs]
  rfl

/-- The stores of the first of the last two blocks of an odd chunk up to head 1. -/
theorem oddFst_2 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_2 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 2 := by
  rw [covs]
  rw [← oddFst_1 c i arg3 harg3 arg4 harg4 arg5 harg5 arg6 harg6 arg7 harg7 hc x0 x1 x2]
  rfl

/-- The stores of the first of the last two blocks of an odd chunk up to head 2. -/
theorem oddFst_3 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_3 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 3 := by
  rw [covs]
  rw [← oddFst_2 c i arg3 harg3 arg4 harg4 arg5 harg5 arg6 harg6 arg7 harg7 hc x0 x1 x2]
  rfl

/-- The stores of the first of the last two blocks of an odd chunk up to head 3. -/
theorem oddFst_4 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_4 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 4 := by
  rw [covs]
  rw [← oddFst_3 c i arg3 harg3 arg4 harg4 arg5 harg5 arg6 harg6 arg7 harg7 hc x0 x1 x2]
  rfl

/-- The stores of the first of the last two blocks of an odd chunk up to head 4. -/
theorem oddFst_5 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_5 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 5 := by
  rw [covs]
  rw [← oddFst_4 c i arg3 harg3 arg4 harg4 arg5 harg5 arg6 harg6 arg7 harg7 hc x0 x1 x2]
  rfl

/-- The stores of the first of the last two blocks of an odd chunk up to head 5. -/
theorem oddFst_6 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_6 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 6 := by
  rw [covs]
  rw [← oddFst_5 c i arg3 harg3 arg4 harg4 arg5 harg5 arg6 harg6 arg7 harg7 hc x0 x1 x2]
  rfl

/-- The stores of the first of the last two blocks of an odd chunk up to head 6. -/
theorem oddFst_7 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_7 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 7 := by
  rw [covs]
  rw [← oddFst_6 c i arg3 harg3 arg4 harg4 arg5 harg5 arg6 harg6 arg7 harg7 hc x0 x1 x2]
  rfl

/-- The stores of the first of the last two blocks of an odd chunk up to head 7. -/
theorem oddFst_8 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_8 (F := Ideal) c i arg3 harg3 arg4 harg4 arg5 harg5 arg6 harg6 arg7 harg7 hc x0 x1 x2 = covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 8 := by
  rw [covs]
  rw [← oddFst_7 c i arg3 harg3 arg4 harg4 arg5 harg5 arg6 harg6 arg7 harg7 hc x0 x1 x2]
  rfl

/-- The stores of the second of the last two blocks of an odd chunk up to head 0. -/
theorem oddSnd_1 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_9 (F := Ideal) c i arg3 harg3 arg4 harg4 arg5 harg5 arg6 harg6 arg7 harg7 hc x0 x1 x2 = covs arg7.view (fun h => sums (k0_pay18 (family (ended c i arg3 harg3 arg4 harg4 arg5 harg5 arg6 harg6 arg7 harg7 x0 x1 x2).1 h) (oddFstS i arg3 arg4 (harg3.unread x0) (harg4.unread x1) hc h)) (masked (oddSndS i arg3 arg4 (harg3.unread x0) (harg4.unread x1) hc h)) (oddSndV i arg5 (harg5.unread x2) hc h)) (covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 8) 1 := by
  rw [covs]
  rw [covs, ← oddFst_8 c i arg3 harg3 arg4 harg4 arg5 harg5 arg6 harg6 arg7 harg7 hc x0 x1 x2]
  rfl

/-- The stores of the second of the last two blocks of an odd chunk up to head 1. -/
theorem oddSnd_2 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_10 (F := Ideal) c i arg3 harg3 arg4 harg4 arg5 harg5 arg6 harg6 arg7 harg7 hc x0 x1 x2 = covs arg7.view (fun h => sums (k0_pay18 (family (ended c i arg3 harg3 arg4 harg4 arg5 harg5 arg6 harg6 arg7 harg7 x0 x1 x2).1 h) (oddFstS i arg3 arg4 (harg3.unread x0) (harg4.unread x1) hc h)) (masked (oddSndS i arg3 arg4 (harg3.unread x0) (harg4.unread x1) hc h)) (oddSndV i arg5 (harg5.unread x2) hc h)) (covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 8) 2 := by
  rw [covs]
  rw [← oddSnd_1 c i arg3 harg3 arg4 harg4 arg5 harg5 arg6 harg6 arg7 harg7 hc x0 x1 x2]
  rfl

/-- The stores of the second of the last two blocks of an odd chunk up to head 2. -/
theorem oddSnd_3 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_11 (F := Ideal) c i arg3 harg3 arg4 harg4 arg5 harg5 arg6 harg6 arg7 harg7 hc x0 x1 x2 = covs arg7.view (fun h => sums (k0_pay18 (family (ended c i arg3 harg3 arg4 harg4 arg5 harg5 arg6 harg6 arg7 harg7 x0 x1 x2).1 h) (oddFstS i arg3 arg4 (harg3.unread x0) (harg4.unread x1) hc h)) (masked (oddSndS i arg3 arg4 (harg3.unread x0) (harg4.unread x1) hc h)) (oddSndV i arg5 (harg5.unread x2) hc h)) (covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 8) 3 := by
  rw [covs]
  rw [← oddSnd_2 c i arg3 harg3 arg4 harg4 arg5 harg5 arg6 harg6 arg7 harg7 hc x0 x1 x2]
  rfl

/-- The stores of the second of the last two blocks of an odd chunk up to head 3. -/
theorem oddSnd_4 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_12 (F := Ideal) c i arg3 harg3 arg4 harg4 arg5 harg5 arg6 harg6 arg7 harg7 hc x0 x1 x2 = covs arg7.view (fun h => sums (k0_pay18 (family (ended c i arg3 harg3 arg4 harg4 arg5 harg5 arg6 harg6 arg7 harg7 x0 x1 x2).1 h) (oddFstS i arg3 arg4 (harg3.unread x0) (harg4.unread x1) hc h)) (masked (oddSndS i arg3 arg4 (harg3.unread x0) (harg4.unread x1) hc h)) (oddSndV i arg5 (harg5.unread x2) hc h)) (covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 8) 4 := by
  rw [covs]
  rw [← oddSnd_3 c i arg3 harg3 arg4 harg4 arg5 harg5 arg6 harg6 arg7 harg7 hc x0 x1 x2]
  rfl

/-- The stores of the second of the last two blocks of an odd chunk up to head 4. -/
theorem oddSnd_5 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_13 (F := Ideal) c i arg3 harg3 arg4 harg4 arg5 harg5 arg6 harg6 arg7 harg7 hc x0 x1 x2 = covs arg7.view (fun h => sums (k0_pay18 (family (ended c i arg3 harg3 arg4 harg4 arg5 harg5 arg6 harg6 arg7 harg7 x0 x1 x2).1 h) (oddFstS i arg3 arg4 (harg3.unread x0) (harg4.unread x1) hc h)) (masked (oddSndS i arg3 arg4 (harg3.unread x0) (harg4.unread x1) hc h)) (oddSndV i arg5 (harg5.unread x2) hc h)) (covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 8) 5 := by
  rw [covs]
  rw [← oddSnd_4 c i arg3 harg3 arg4 harg4 arg5 harg5 arg6 harg6 arg7 harg7 hc x0 x1 x2]
  rfl

/-- The stores of the second of the last two blocks of an odd chunk up to head 5. -/
theorem oddSnd_6 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_14 (F := Ideal) c i arg3 harg3 arg4 harg4 arg5 harg5 arg6 harg6 arg7 harg7 hc x0 x1 x2 = covs arg7.view (fun h => sums (k0_pay18 (family (ended c i arg3 harg3 arg4 harg4 arg5 harg5 arg6 harg6 arg7 harg7 x0 x1 x2).1 h) (oddFstS i arg3 arg4 (harg3.unread x0) (harg4.unread x1) hc h)) (masked (oddSndS i arg3 arg4 (harg3.unread x0) (harg4.unread x1) hc h)) (oddSndV i arg5 (harg5.unread x2) hc h)) (covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 8) 6 := by
  rw [covs]
  rw [← oddSnd_5 c i arg3 harg3 arg4 harg4 arg5 harg5 arg6 harg6 arg7 harg7 hc x0 x1 x2]
  rfl

/-- The stores of the second of the last two blocks of an odd chunk up to head 6. -/
theorem oddSnd_7 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_15 (F := Ideal) c i arg3 harg3 arg4 harg4 arg5 harg5 arg6 harg6 arg7 harg7 hc x0 x1 x2 = covs arg7.view (fun h => sums (k0_pay18 (family (ended c i arg3 harg3 arg4 harg4 arg5 harg5 arg6 harg6 arg7 harg7 x0 x1 x2).1 h) (oddFstS i arg3 arg4 (harg3.unread x0) (harg4.unread x1) hc h)) (masked (oddSndS i arg3 arg4 (harg3.unread x0) (harg4.unread x1) hc h)) (oddSndV i arg5 (harg5.unread x2) hc h)) (covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 8) 7 := by
  rw [covs]
  rw [← oddSnd_6 c i arg3 harg3 arg4 harg4 arg5 harg5 arg6 harg6 arg7 harg7 hc x0 x1 x2]
  rfl

/-- The stores of the second of the last two blocks of an odd chunk up to head 7. -/
theorem oddSnd_8 (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole) (hc : cond0_0 i) (x0 : Vec Ideal S1x1x1024x256 .bf16) (x1 : Vec Ideal S2048x1024 .bf16) (x2 : Vec Ideal S1x8x640x256 .bf16) :
    kernelRun0_B.sl.HS0_16 (F := Ideal) c i arg3 harg3 arg4 harg4 arg5 harg5 arg6 harg6 arg7 harg7 hc x0 x1 x2 = covs arg7.view (fun h => sums (k0_pay18 (family (ended c i arg3 harg3 arg4 harg4 arg5 harg5 arg6 harg6 arg7 harg7 x0 x1 x2).1 h) (oddFstS i arg3 arg4 (harg3.unread x0) (harg4.unread x1) hc h)) (masked (oddSndS i arg3 arg4 (harg3.unread x0) (harg4.unread x1) hc h)) (oddSndV i arg5 (harg5.unread x2) hc h)) (covs arg7.view (fun h => sums (family (ended c i arg3 harg3 arg4 harg4 arg5 harg5 arg6 harg6 arg7 harg7 x0 x1 x2).1 h) (oddFstS i arg3 arg4 (harg3.unread x0) (harg4.unread x1) hc h) (oddFstV i arg5 (harg5.unread x2) hc h)) (before c i arg3 harg3 arg4 harg4 arg5 harg5 arg6 harg6 arg7 harg7 x0 x1 x2) 8) 8 := by
  rw [covs]
  rw [← oddSnd_7 c i arg3 harg3 arg4 harg4 arg5 harg5 arg6 harg6 arg7 harg7 hc x0 x1 x2]
  rfl

end Cert.FoxRun
end
-- ==== Proof.FoxReads.lean ====
/- The attention kernel's loads as scores and values of numbered keys, and the scratch after the stores of the eight heads. -/
module
public import proofs.«01_k».proof.Proof.FoxRun
public import Idealize.ShloMosaic.Lib.WritesUnit
@[expose] public section
set_option maxRecDepth 16384
noncomputable section
namespace Cert.FoxReads
open Idealize.ShloMosaic Idealize.ShloMosaic.TcCoe Idealize.SL.Sem Cert.FoxTile Cert.FoxRun
open Cert.KernelIdeal Cert.KernelIdeal.Gen

/-- The load of a head's rows out of the writes is what the writes left of them. -/
theorem cov_at (v : View sig .tc .vmem S8x80x256 .f32) (f : v.ty.Contents (Elt Ideal)) (h : Fin 8) (r : Fin 80) (q : Fin 256) :
    v.readAt (Elt Ideal) (rect h.val).toLoadRect f (ix3 0 r q) = v.read (Elt Ideal) f (ix3 h r q) := by
  have h8 := Nat.mod_eq_of_lt h.isLt
  refine congrArg (v.read (Elt Ideal) f) ?_
  funext a
  fin_cases a <;> refine Fin.ext ?_
  · show h.val % 8 + 1 * 0 = h.val
    omega
  · show 0 + 1 * r.val = r.val
    omega
  · show 0 + 1 * q.val = q.val
    omega

/-- A store to a head's rows, read at the head. -/
theorem put_same (v : View sig .tc .vmem S8x80x256 .f32) (f : v.ty.Contents (Elt Ideal)) (w : FVec Ideal S1x80x256 .f32)
    (L : List (View.Piece (Elt Ideal) S8x80x256 .f32)) (h : Fin 8) (r : Fin 80) (q : Fin 256) :
    v.read (Elt Ideal) (v.writes (Elt Ideal) f (⟨rect h.val, w⟩ :: L)) (ix3 h r q) = w (ix3 0 r q) := by
  have h8 := Nat.mod_eq_of_lt h.isLt
  refine View.read_writes_cons_unit_of_mem v f _ w L (ix3 h r q) (ix3 0 r q) rfl fun a => ?_
  fin_cases a
  · show h.val = h.val % 8 + 0
    omega
  · show r.val = 0 + r.val
    omega
  · show q.val = 0 + q.val
    omega

/-- A store to a head's rows, read at another head. -/
theorem put_other (v : View sig .tc .vmem S8x80x256 .f32) (f : v.ty.Contents (Elt Ideal)) (w : FVec Ideal S1x80x256 .f32)
    (L : List (View.Piece (Elt Ideal) S8x80x256 .f32)) (n : ℕ) (hn : n < 8) (h : Fin 8) (hne : h.val ≠ n) (r : Fin 80) (q : Fin 256) :
    v.read (Elt Ideal) (v.writes (Elt Ideal) f (⟨rect n, w⟩ :: L)) (ix3 h r q) = v.read (Elt Ideal) (v.writes (Elt Ideal) f L) (ix3 h r q) := by
  have h8 := Nat.mod_eq_of_lt hn
  refine View.read_writes_cons_unit_of_not_mem v f _ w L (ix3 h r q) rfl 0 ?_
  show h.val < n % 8 ∨ n % 8 + 1 ≤ h.val
  omega

/-- After the stores of some heads, each over what was there, each of these heads holds its update and the others what they held. -/
theorem covs_read (v : View sig .tc .vmem S8x80x256 .f32) (G : Fin 8 → Vec Ideal S1x80x256 .f32 → FVec Ideal S1x80x256 .f32)
    (L : List (View.Piece (Elt Ideal) S8x80x256 .f32)) (n : ℕ) (hn : n ≤ 8) (f : v.ty.Contents (Elt Ideal)) (h : Fin 8) (r : Fin 80) (q : Fin 256) :
    v.read (Elt Ideal) (v.writes (Elt Ideal) f (covs v G L n)) (ix3 h r q)
      = if h.val < n then G h (v.readCov L (rect h.val).toLoadRect) (ix3 0 r q) else v.read (Elt Ideal) (v.writes (Elt Ideal) f L) (ix3 h r q) := by
  induction n generalizing f h r q with
  | zero => rw [covs, if_neg (Nat.not_lt_zero _)]
  | succ n ih =>
    rw [covs]
    by_cases e : h.val = n
    · subst e
      rw [put_same, if_pos (Nat.lt_succ_self _)]
      have e1 : Fin.ofNat 8 h.val = h := Fin.ext (Nat.mod_eq_of_lt h.isLt)
      have e2 : v.readCov (covs v G L h.val) (rect h.val).toLoadRect = v.readCov L (rect h.val).toLoadRect := by
        funext x
        obtain ⟨r', q', rfl⟩ : ∃ (r' : Fin 80) (q' : Fin 256), x = (ix3 (0 : Fin 1) r' q' : S1x80x256.Idx) :=
          ⟨x 1, x 2, by
            funext a
            fin_cases a
            · exact Subsingleton.elim (α := Fin 1) _ _
            · rfl
            · rfl⟩
        refine (cov_at v _ h r' q').trans (Eq.trans ?_ (cov_at v _ h r' q').symm)
        rw [ih (by omega), if_neg (lt_irrefl _)]
      rw [e1, e2]
    · rw [put_other v f _ _ n (by omega) h e, ih (by omega)]
      exact if_congr (by omega) rfl rfl

/-- After the stores of all heads each holds its store. -/
theorem puts_read (v : View sig .tc .vmem S8x80x256 .f32) (w : Fin 8 → FVec Ideal S1x80x256 .f32) (n : ℕ) (hn : n ≤ 8)
    (f : v.ty.Contents (Elt Ideal)) (h : Fin 8) (hh : h.val < n) (r : Fin 80) (q : Fin 256) :
    v.read (Elt Ideal) (v.writes (Elt Ideal) f (puts w n)) (ix3 h r q) = w h (ix3 0 r q) := by
  induction n with
  | zero => omega
  | succ n ih =>
    rw [puts]
    by_cases e : h.val = n
    · subst e
      rw [put_same, show Fin.ofNat 8 h.val = h from Fin.ext (Nat.mod_eq_of_lt h.isLt)]
    · rw [put_other v f _ _ n (by omega) h e]
      exact ih (by omega) (by omega)

/-- The key matrix's entry. -/
def keyAt (x1 : Vec Ideal S2048x1024 .bf16) (j c : ℕ) : EReal := x1 (ix2 (Fin.ofNat 2048 j) (Fin.ofNat 1024 c))
/-- The query tile's entry. -/
def queryAt (x0 : Vec Ideal S1x1x1024x256 .bf16) (c : ℕ) (q : Fin 256) : EReal := x0 (ix4 0 0 (Fin.ofNat 1024 c) q)
/-- The score of head `h` between key `j` and the query in column `q`. -/
def score (x0 : Vec Ideal S1x1x1024x256 .bf16) (x1 : Vec Ideal S2048x1024 .bf16) (h : Fin 8) (q : Fin 256) (j : ℕ) : EReal :=
  ∑ d : Fin 128, keyAt x1 j (128 * h.val + d.val) * queryAt x0 (128 * h.val + d.val) q
/-- Row `r` of head `h`'s values at key `j`. -/
def value (x2 : Vec Ideal S1x8x640x256 .bf16) (h : Fin 8) (r : Fin 80) (j : ℕ) : EReal :=
  x2 (ix4 0 (Fin.ofNat 8 (j / 256)) (Fin.ofNat 640 (80 * h.val + r.val)) (Fin.ofNat 256 j))

/-- One block's scores of a head out of the loads. -/
theorem score_read (arg3 : Memref sig .tc .vmem S1x1x1024x256 .bf16) (harg3 : arg3.IsWhole) (arg4 : Memref sig .tc .vmem S2048x1024 .bf16) (harg4 : arg4.IsWhole)
    (x0 : Vec Ideal S1x1x1024x256 .bf16) (x1 : Vec Ideal S2048x1024 .bf16) (h : Fin 8) (n : ℕ)
    {off : Fin 2 → ℕ} {off' : Fin 4 → ℕ} (e : off = ![256 * n, 128 * h.val]) (e' : off' = ![0, 0, 128 * h.val, 0])
    (hb : ∀ a, off a + S256x128.size a ≤ S2048x1024.size a) (hb' : ∀ a, off' a + S1x1x128x256.size a ≤ S1x1x1024x256.size a) (k q : Fin 256) :
    k0_pay2 (F := Ideal) (arg4.view.readAt (Elt Ideal) (Rect.unit (s := S2048x1024) off S256x128.size hb).toLoadRect (harg4.unread x1))
      (arg3.view.readAt (Elt Ideal) (Rect.unit (s := S1x1x1024x256) off' S1x1x128x256.size hb').toLoadRect (harg3.unread x0)) (ix2 k q)
      = score x0 x1 h q (256 * n + k.val) := by
  subst e
  subst e'
  rw [scores_apply]
  refine Finset.sum_congr rfl fun d _ => ?_
  have hn : 256 * n + 256 ≤ 2048 := hb 0
  have hk := k.isLt
  have hd := d.isLt
  have hh := h.isLt
  rw [View.readAt_apply, View.readAt_apply, harg4.read_unread, harg3.read_unread]
  refine congrArg₂ (· * ·) (congrArg x1 ?_) (congrArg x0 ?_)
  · funext a
    fin_cases a <;> refine Fin.ext ?_
    · show 256 * n + 1 * k.val = (256 * n + k.val) % 2048
      omega
    · show 128 * h.val + 1 * d.val = (128 * h.val + d.val) % 1024
      omega
  · funext a
    fin_cases a <;> refine Fin.ext ?_
    · rfl
    · rfl
    · show 128 * h.val + 1 * d.val = (128 * h.val + d.val) % 1024
      omega
    · show 0 + 1 * q.val = q.val
      omega

/-- One block's values of a head out of the load. -/
theorem value_read (arg5 : Memref sig .tc .vmem S1x8x640x256 .bf16) (harg5 : arg5.IsWhole)
    (x2 : Vec Ideal S1x8x640x256 .bf16) (h : Fin 8) (n : ℕ)
    {off : Fin 4 → ℕ} (e : off = ![0, n, 80 * h.val, 0])
    (hb : ∀ a, off a + S1x1x80x256.size a ≤ S1x8x640x256.size a) (r : Fin 80) (k : Fin 256) :
    (arg5.view.readAt (Elt Ideal) (Rect.unit (s := S1x8x640x256) off S1x1x80x256.size hb).toLoadRect (harg5.unread x2)) (ix4 0 0 r k)
      = value x2 h r (256 * n + k.val) := by
  subst e
  have hn : n + 1 ≤ 8 := hb 1
  have hk := k.isLt
  have hr := r.isLt
  have hh := h.isLt
  rw [View.readAt_apply, harg5.read_unread]
  refine congrArg x2 ?_
  funext a
  fin_cases a <;> refine Fin.ext ?_
  · rfl
  · show n + 1 * 0 = (256 * n + k.val) / 256 % 8
    omega
  · show 80 * h.val + 1 * r.val = (80 * h.val + r.val) % 640
    omega
  · show 0 + 1 * k.val = (256 * n + k.val) % 256
    omega

/-- The first key row of a trip's first block. -/
theorem iv_fst (t : ℕ) (h : t < 4) : (Scalar.indexCast (Scalar.muli (Scalar.muli 2#32 (Scf.iv 0#32 1#32 t)) 256#32)).toNat = 512 * t := by
  interval_cases t <;> rfl
/-- The first key row of a trip's second block. -/
theorem iv_snd (t : ℕ) (h : t < 4) : (Scalar.indexCast (Scalar.muli (Scalar.addi (Scalar.muli 2#32 (Scf.iv 0#32 1#32 t)) 1#32) 256#32)).toNat = 512 * t + 256 := by
  interval_cases t <;> rfl
/-- The trips of the loop over pairs of blocks. -/
theorem trips1 (i : grid0.Coords) : (k0_t1_loop i).trips = (i 2).val / 2 := by
  have h : ∀ a : Fin 8, ∀ i : grid0.Coords, i 2 = a → (k0_t1_loop i).trips = a.val / 2 := by
    intro a i hi
    simp only [k0_t1_loop, hi]
    clear hi i
    revert a
    decide
  exact h _ i rfl

/-- The second printed loop makes no trip. -/
theorem trips2 (i : grid0.Coords) : (k0_t2_loop i).trips = 0 := by
  have h : ∀ a : Fin 8, ∀ i : grid0.Coords, i 2 = a → (k0_t2_loop i).trips = 0 := by
    intro a i hi
    simp only [k0_t2_loop, hi]
    clear hi i
    revert a
    decide
  exact h _ i rfl

/-- There are at most four trips. -/
theorem k4 (i : grid0.Coords) (k : Fin (k0_t1_loop i).trips) : k.val < 4 := by
  have h := k.isLt.trans_eq (trips1 i)
  have : (i 2).val < 8 := (i 2).isLt
  omega

/-- A trip's first block. -/
theorem blk_fst (t : ℕ) (h : t < 4) : (Scalar.indexCast (Scalar.muli 2#32 (Scf.iv 0#32 1#32 t))).toNat = 2 * t := by
  interval_cases t <;> rfl

/-- A trip's second block. -/
theorem blk_snd (t : ℕ) (h : t < 4) : (Scalar.indexCast (Scalar.addi (Scalar.muli 2#32 (Scf.iv 0#32 1#32 t)) 1#32)).toNat = 2 * t + 1 := by
  interval_cases t <;> rfl

/-- The scores a trip's first block takes. -/
theorem loopFstS_apply (i : grid0.Coords) (arg3 : Memref sig .tc .vmem S1x1x1024x256 .bf16) (harg3 : arg3.IsWhole) (arg4 : Memref sig .tc .vmem S2048x1024 .bf16) (harg4 : arg4.IsWhole)
    (x0 : Vec Ideal S1x1x1024x256 .bf16) (x1 : Vec Ideal S2048x1024 .bf16) (k : Fin (k0_t1_loop i).trips) (h : Fin 8) (p q : Fin 256) :
    loopFstS i arg3 arg4 (harg3.unread x0) (harg4.unread x1) k h (ix2 p q) = score x0 x1 h q (256 * (2 * k.val) + p.val) := by
  have e0 := iv_fst k.val (k4 i k)
  rw [show 512 * k.val = 256 * (2 * k.val) by ring] at e0
  fin_cases h
  · exact score_read arg3 harg3 arg4 harg4 x0 x1 0 (2 * k.val) (off := k0_off1 i k) (by rw [← e0]; rfl) rfl _ _ p q
  · exact score_read arg3 harg3 arg4 harg4 x0 x1 1 (2 * k.val) (off := k0_off2 i k) (by rw [← e0]; rfl) rfl _ _ p q
  · exact score_read arg3 harg3 arg4 harg4 x0 x1 2 (2 * k.val) (off := k0_off3 i k) (by rw [← e0]; rfl) rfl _ _ p q
  · exact score_read arg3 harg3 arg4 harg4 x0 x1 3 (2 * k.val) (off := k0_off4 i k) (by rw [← e0]; rfl) rfl _ _ p q
  · exact score_read arg3 harg3 arg4 harg4 x0 x1 4 (2 * k.val) (off := k0_off5 i k) (by rw [← e0]; rfl) rfl _ _ p q
  · exact score_read arg3 harg3 arg4 harg4 x0 x1 5 (2 * k.val) (off := k0_off6 i k) (by rw [← e0]; rfl) rfl _ _ p q
  · exact score_read arg3 harg3 arg4 harg4 x0 x1 6 (2 * k.val) (off := k0_off7 i k) (by rw [← e0]; rfl) rfl _ _ p q
  · exact score_read arg3 harg3 arg4 harg4 x0 x1 7 (2 * k.val) (off := k0_off8 i k) (by rw [← e0]; rfl) rfl _ _ p q

/-- The scores a trip's second block takes. -/
theorem loopSndS_apply (i : grid0.Coords) (arg3 : Memref sig .tc .vmem S1x1x1024x256 .bf16) (harg3 : arg3.IsWhole) (arg4 : Memref sig .tc .vmem S2048x1024 .bf16) (harg4 : arg4.IsWhole)
    (x0 : Vec Ideal S1x1x1024x256 .bf16) (x1 : Vec Ideal S2048x1024 .bf16) (k : Fin (k0_t1_loop i).trips) (h : Fin 8) (p q : Fin 256) :
    loopSndS i arg3 arg4 (harg3.unread x0) (harg4.unread x1) k h (ix2 p q) = score x0 x1 h q (256 * (2 * k.val + 1) + p.val) := by
  have e0 := iv_snd k.val (k4 i k)
  rw [show 512 * k.val + 256 = 256 * (2 * k.val + 1) by ring] at e0
  fin_cases h
  · exact score_read arg3 harg3 arg4 harg4 x0 x1 0 (2 * k.val + 1) (off := k0_off9 i k) (by rw [← e0]; rfl) rfl _ _ p q
  · exact score_read arg3 harg3 arg4 harg4 x0 x1 1 (2 * k.val + 1) (off := k0_off10 i k) (by rw [← e0]; rfl) rfl _ _ p q
  · exact score_read arg3 harg3 arg4 harg4 x0 x1 2 (2 * k.val + 1) (off := k0_off11 i k) (by rw [← e0]; rfl) rfl _ _ p q
  · exact score_read arg3 harg3 arg4 harg4 x0 x1 3 (2 * k.val + 1) (off := k0_off12 i k) (by rw [← e0]; rfl) rfl _ _ p q
  · exact score_read arg3 harg3 arg4 harg4 x0 x1 4 (2 * k.val + 1) (off := k0_off13 i k) (by rw [← e0]; rfl) rfl _ _ p q
  · exact score_read arg3 harg3 arg4 harg4 x0 x1 5 (2 * k.val + 1) (off := k0_off14 i k) (by rw [← e0]; rfl) rfl _ _ p q
  · exact score_read arg3 harg3 arg4 harg4 x0 x1 6 (2 * k.val + 1) (off := k0_off15 i k) (by rw [← e0]; rfl) rfl _ _ p q
  · exact score_read arg3 harg3 arg4 harg4 x0 x1 7 (2 * k.val + 1) (off := k0_off16 i k) (by rw [← e0]; rfl) rfl _ _ p q

/-- The values a trip's first block takes. -/
theorem loopFstV_apply (i : grid0.Coords) (arg5 : Memref sig .tc .vmem S1x8x640x256 .bf16) (harg5 : arg5.IsWhole)
    (x2 : Vec Ideal S1x8x640x256 .bf16) (k : Fin (k0_t1_loop i).trips) (h : Fin 8) (r : Fin 80) (p : Fin 256) :
    loopFstV i arg5 (harg5.unread x2) k h (ix4 0 0 r p) = value x2 h r (256 * (2 * k.val) + p.val) := by
  have e0 := blk_fst k.val (k4 i k)
  fin_cases h
  · exact value_read arg5 harg5 x2 0 (2 * k.val) (off := k0_off17 i k) (by rw [← e0]; rfl) _ r p
  · exact value_read arg5 harg5 x2 1 (2 * k.val) (off := k0_off18 i k) (by rw [← e0]; rfl) _ r p
  · exact value_read arg5 harg5 x2 2 (2 * k.val) (off := k0_off19 i k) (by rw [← e0]; rfl) _ r p
  · exact value_read arg5 harg5 x2 3 (2 * k.val) (off := k0_off20 i k) (by rw [← e0]; rfl) _ r p
  · exact value_read arg5 harg5 x2 4 (2 * k.val) (off := k0_off21 i k) (by rw [← e0]; rfl) _ r p
  · exact value_read arg5 harg5 x2 5 (2 * k.val) (off := k0_off22 i k) (by rw [← e0]; rfl) _ r p
  · exact value_read arg5 harg5 x2 6 (2 * k.val) (off := k0_off23 i k) (by rw [← e0]; rfl) _ r p
  · exact value_read arg5 harg5 x2 7 (2 * k.val) (off := k0_off24 i k) (by rw [← e0]; rfl) _ r p

/-- The values a trip's second block takes. -/
theorem loopSndV_apply (i : grid0.Coords) (arg5 : Memref sig .tc .vmem S1x8x640x256 .bf16) (harg5 : arg5.IsWhole)
    (x2 : Vec Ideal S1x8x640x256 .bf16) (k : Fin (k0_t1_loop i).trips) (h : Fin 8) (r : Fin 80) (p : Fin 256) :
    loopSndV i arg5 (harg5.unread x2) k h (ix4 0 0 r p) = value x2 h r (256 * (2 * k.val + 1) + p.val) := by
  have e0 := blk_snd k.val (k4 i k)
  fin_cases h
  · exact value_read arg5 harg5 x2 0 (2 * k.val + 1) (off := k0_off25 i k) (by rw [← e0]; rfl) _ r p
  · exact value_read arg5 harg5 x2 1 (2 * k.val + 1) (off := k0_off26 i k) (by rw [← e0]; rfl) _ r p
  · exact value_read arg5 harg5 x2 2 (2 * k.val + 1) (off := k0_off27 i k) (by rw [← e0]; rfl) _ r p
  · exact value_read arg5 harg5 x2 3 (2 * k.val + 1) (off := k0_off28 i k) (by rw [← e0]; rfl) _ r p
  · exact value_read arg5 harg5 x2 4 (2 * k.val + 1) (off := k0_off29 i k) (by rw [← e0]; rfl) _ r p
  · exact value_read arg5 harg5 x2 5 (2 * k.val + 1) (off := k0_off30 i k) (by rw [← e0]; rfl) _ r p
  · exact value_read arg5 harg5 x2 6 (2 * k.val + 1) (off := k0_off31 i k) (by rw [← e0]; rfl) _ r p
  · exact value_read arg5 harg5 x2 7 (2 * k.val + 1) (off := k0_off32 i k) (by rw [← e0]; rfl) _ r p

/-- An odd chunk is at least the second. -/
theorem odd_pos (i : grid0.Coords) (hc : cond0_0 i) : (i 2).val % 2 = 1 := by
  have h : ∀ a : Fin 8, ∀ i : grid0.Coords, i 2 = a → k0_cond1 i = 1#1 → a.val % 2 = 1 := by
    intro a i hi
    simp only [k0_cond1, hi]
    clear hi hc i
    revert a
    decide
  exact h _ i rfl hc

/-- An even chunk. -/
theorem even_pos (i : grid0.Coords) (hc : cond0_1 i) : (i 2).val % 2 = 0 := by
  have h : ∀ a : Fin 8, ∀ i : grid0.Coords, i 2 = a → k0_cond2 i = 1#1 → a.val % 2 = 0 := by
    intro a i hi
    simp only [k0_cond2, hi]
    clear hi hc i
    revert a
    decide
  exact h _ i rfl hc

/-- The scores a last block takes. -/
theorem oddFstS_apply (i : grid0.Coords) (arg3 : Memref sig .tc .vmem S1x1x1024x256 .bf16) (harg3 : arg3.IsWhole) (arg4 : Memref sig .tc .vmem S2048x1024 .bf16) (harg4 : arg4.IsWhole)
    (x0 : Vec Ideal S1x1x1024x256 .bf16) (x1 : Vec Ideal S2048x1024 .bf16) (hc : cond0_0 i) (h : Fin 8) (p q : Fin 256) :
    oddFstS i arg3 arg4 (harg3.unread x0) (harg4.unread x1) hc h (ix2 p q) = score x0 x1 h q (256 * ((i 2).val - 1) + p.val) := by
  have h8 : (i 2).val < 8 := (i 2).isLt
  have ho := odd_pos i hc
  have hp : 1 ≤ (i 2).val := by omega
  fin_cases h
  · refine score_read arg3 harg3 arg4 harg4 x0 x1 0 ((i 2).val - 1) (off := k0_off65 i) ?_ rfl _ _ p q
    unfold k0_off65
    dsimp only
    generalize (i 2).val = n at *
    interval_cases n <;> rfl
  · refine score_read arg3 harg3 arg4 harg4 x0 x1 1 ((i 2).val - 1) (off := k0_off66 i) ?_ rfl _ _ p q
    unfold k0_off66
    dsimp only
    generalize (i 2).val = n at *
    interval_cases n <;> rfl
  · refine score_read arg3 harg3 arg4 harg4 x0 x1 2 ((i 2).val - 1) (off := k0_off67 i) ?_ rfl _ _ p q
    unfold k0_off67
    dsimp only
    generalize (i 2).val = n at *
    interval_cases n <;> rfl
  · refine score_read arg3 harg3 arg4 harg4 x0 x1 3 ((i 2).val - 1) (off := k0_off68 i) ?_ rfl _ _ p q
    unfold k0_off68
    dsimp only
    generalize (i 2).val = n at *
    interval_cases n <;> rfl
  · refine score_read arg3 harg3 arg4 harg4 x0 x1 4 ((i 2).val - 1) (off := k0_off69 i) ?_ rfl _ _ p q
    unfold k0_off69
    dsimp only
    generalize (i 2).val = n at *
    interval_cases n <;> rfl
  · refine score_read arg3 harg3 arg4 harg4 x0 x1 5 ((i 2).val - 1) (off := k0_off70 i) ?_ rfl _ _ p q
    unfold k0_off70
    dsimp only
    generalize (i 2).val = n at *
    interval_cases n <;> rfl
  · refine score_read arg3 harg3 arg4 harg4 x0 x1 6 ((i 2).val - 1) (off := k0_off71 i) ?_ rfl _ _ p q
    unfold k0_off71
    dsimp only
    generalize (i 2).val = n at *
    interval_cases n <;> rfl
  · refine score_read arg3 harg3 arg4 harg4 x0 x1 7 ((i 2).val - 1) (off := k0_off72 i) ?_ rfl _ _ p q
    unfold k0_off72
    dsimp only
    generalize (i 2).val = n at *
    interval_cases n <;> rfl

/-- The scores a last block takes. -/
theorem oddSndS_apply (i : grid0.Coords) (arg3 : Memref sig .tc .vmem S1x1x1024x256 .bf16) (harg3 : arg3.IsWhole) (arg4 : Memref sig .tc .vmem S2048x1024 .bf16) (harg4 : arg4.IsWhole)
    (x0 : Vec Ideal S1x1x1024x256 .bf16) (x1 : Vec Ideal S2048x1024 .bf16) (hc : cond0_0 i) (h : Fin 8) (p q : Fin 256) :
    oddSndS i arg3 arg4 (harg3.unread x0) (harg4.unread x1) hc h (ix2 p q) = score x0 x1 h q (256 * (i 2).val + p.val) := by
  have h8 : (i 2).val < 8 := (i 2).isLt
  fin_cases h
  · refine score_read arg3 harg3 arg4 harg4 x0 x1 0 (i 2).val (off := k0_off73 i) ?_ rfl _ _ p q
    unfold k0_off73
    dsimp only
    generalize (i 2).val = n at *
    interval_cases n <;> rfl
  · refine score_read arg3 harg3 arg4 harg4 x0 x1 1 (i 2).val (off := k0_off74 i) ?_ rfl _ _ p q
    unfold k0_off74
    dsimp only
    generalize (i 2).val = n at *
    interval_cases n <;> rfl
  · refine score_read arg3 harg3 arg4 harg4 x0 x1 2 (i 2).val (off := k0_off75 i) ?_ rfl _ _ p q
    unfold k0_off75
    dsimp only
    generalize (i 2).val = n at *
    interval_cases n <;> rfl
  · refine score_read arg3 harg3 arg4 harg4 x0 x1 3 (i 2).val (off := k0_off76 i) ?_ rfl _ _ p q
    unfold k0_off76
    dsimp only
    generalize (i 2).val = n at *
    interval_cases n <;> rfl
  · refine score_read arg3 harg3 arg4 harg4 x0 x1 4 (i 2).val (off := k0_off77 i) ?_ rfl _ _ p q
    unfold k0_off77
    dsimp only
    generalize (i 2).val = n at *
    interval_cases n <;> rfl
  · refine score_read arg3 harg3 arg4 harg4 x0 x1 5 (i 2).val (off := k0_off78 i) ?_ rfl _ _ p q
    unfold k0_off78
    dsimp only
    generalize (i 2).val = n at *
    interval_cases n <;> rfl
  · refine score_read arg3 harg3 arg4 harg4 x0 x1 6 (i 2).val (off := k0_off79 i) ?_ rfl _ _ p q
    unfold k0_off79
    dsimp only
    generalize (i 2).val = n at *
    interval_cases n <;> rfl
  · refine score_read arg3 harg3 arg4 harg4 x0 x1 7 (i 2).val (off := k0_off80 i) ?_ rfl _ _ p q
    unfold k0_off80
    dsimp only
    generalize (i 2).val = n at *
    interval_cases n <;> rfl

/-- The values a last block takes. -/
theorem oddFstV_apply (i : grid0.Coords) (arg5 : Memref sig .tc .vmem S1x8x640x256 .bf16) (harg5 : arg5.IsWhole)
    (x2 : Vec Ideal S1x8x640x256 .bf16) (hc : cond0_0 i) (h : Fin 8) (r : Fin 80) (p : Fin 256) :
    oddFstV i arg5 (harg5.unread x2) hc h (ix4 0 0 r p) = value x2 h r (256 * ((i 2).val - 1) + p.val) := by
  have h8 : (i 2).val < 8 := (i 2).isLt
  have ho := odd_pos i hc
  have hp : 1 ≤ (i 2).val := by omega
  fin_cases h
  · refine value_read arg5 harg5 x2 0 ((i 2).val - 1) (off := k0_off81 i) ?_ _ r p
    unfold k0_off81
    dsimp only
    generalize (i 2).val = n at *
    interval_cases n <;> rfl
  · refine value_read arg5 harg5 x2 1 ((i 2).val - 1) (off := k0_off82 i) ?_ _ r p
    unfold k0_off82
    dsimp only
    generalize (i 2).val = n at *
    interval_cases n <;> rfl
  · refine value_read arg5 harg5 x2 2 ((i 2).val - 1) (off := k0_off83 i) ?_ _ r p
    unfold k0_off83
    dsimp only
    generalize (i 2).val = n at *
    interval_cases n <;> rfl
  · refine value_read arg5 harg5 x2 3 ((i 2).val - 1) (off := k0_off84 i) ?_ _ r p
    unfold k0_off84
    dsimp only
    generalize (i 2).val = n at *
    interval_cases n <;> rfl
  · refine value_read arg5 harg5 x2 4 ((i 2).val - 1) (off := k0_off85 i) ?_ _ r p
    unfold k0_off85
    dsimp only
    generalize (i 2).val = n at *
    interval_cases n <;> rfl
  · refine value_read arg5 harg5 x2 5 ((i 2).val - 1) (off := k0_off86 i) ?_ _ r p
    unfold k0_off86
    dsimp only
    generalize (i 2).val = n at *
    interval_cases n <;> rfl
  · refine value_read arg5 harg5 x2 6 ((i 2).val - 1) (off := k0_off87 i) ?_ _ r p
    unfold k0_off87
    dsimp only
    generalize (i 2).val = n at *
    interval_cases n <;> rfl
  · refine value_read arg5 harg5 x2 7 ((i 2).val - 1) (off := k0_off88 i) ?_ _ r p
    unfold k0_off88
    dsimp only
    generalize (i 2).val = n at *
    interval_cases n <;> rfl

/-- The values a last block takes. -/
theorem oddSndV_apply (i : grid0.Coords) (arg5 : Memref sig .tc .vmem S1x8x640x256 .bf16) (harg5 : arg5.IsWhole)
    (x2 : Vec Ideal S1x8x640x256 .bf16) (hc : cond0_0 i) (h : Fin 8) (r : Fin 80) (p : Fin 256) :
    oddSndV i arg5 (harg5.unread x2) hc h (ix4 0 0 r p) = value x2 h r (256 * (i 2).val + p.val) := by
  have h8 : (i 2).val < 8 := (i 2).isLt
  fin_cases h
  · refine value_read arg5 harg5 x2 0 (i 2).val (off := k0_off89 i) ?_ _ r p
    unfold k0_off89
    dsimp only
    generalize (i 2).val = n at *
    interval_cases n <;> rfl
  · refine value_read arg5 harg5 x2 1 (i 2).val (off := k0_off90 i) ?_ _ r p
    unfold k0_off90
    dsimp only
    generalize (i 2).val = n at *
    interval_cases n <;> rfl
  · refine value_read arg5 harg5 x2 2 (i 2).val (off := k0_off91 i) ?_ _ r p
    unfold k0_off91
    dsimp only
    generalize (i 2).val = n at *
    interval_cases n <;> rfl
  · refine value_read arg5 harg5 x2 3 (i 2).val (off := k0_off92 i) ?_ _ r p
    unfold k0_off92
    dsimp only
    generalize (i 2).val = n at *
    interval_cases n <;> rfl
  · refine value_read arg5 harg5 x2 4 (i 2).val (off := k0_off93 i) ?_ _ r p
    unfold k0_off93
    dsimp only
    generalize (i 2).val = n at *
    interval_cases n <;> rfl
  · refine value_read arg5 harg5 x2 5 (i 2).val (off := k0_off94 i) ?_ _ r p
    unfold k0_off94
    dsimp only
    generalize (i 2).val = n at *
    interval_cases n <;> rfl
  · refine value_read arg5 harg5 x2 6 (i 2).val (off := k0_off95 i) ?_ _ r p
    unfold k0_off95
    dsimp only
    generalize (i 2).val = n at *
    interval_cases n <;> rfl
  · refine value_read arg5 harg5 x2 7 (i 2).val (off := k0_off96 i) ?_ _ r p
    unfold k0_off96
    dsimp only
    generalize (i 2).val = n at *
    interval_cases n <;> rfl

/-- The scores a last block takes. -/
theorem evenLastS_apply (i : grid0.Coords) (arg3 : Memref sig .tc .vmem S1x1x1024x256 .bf16) (harg3 : arg3.IsWhole) (arg4 : Memref sig .tc .vmem S2048x1024 .bf16) (harg4 : arg4.IsWhole)
    (x0 : Vec Ideal S1x1x1024x256 .bf16) (x1 : Vec Ideal S2048x1024 .bf16) (hc : cond0_1 i) (h : Fin 8) (p q : Fin 256) :
    evenLastS i arg3 arg4 (harg3.unread x0) (harg4.unread x1) hc h (ix2 p q) = score x0 x1 h q (256 * (i 2).val + p.val) := by
  have h8 : (i 2).val < 8 := (i 2).isLt
  fin_cases h
  · refine score_read arg3 harg3 arg4 harg4 x0 x1 0 (i 2).val (off := k0_off97 i) ?_ rfl _ _ p q
    unfold k0_off97
    dsimp only
    generalize (i 2).val = n at *
    interval_cases n <;> rfl
  · refine score_read arg3 harg3 arg4 harg4 x0 x1 1 (i 2).val (off := k0_off98 i) ?_ rfl _ _ p q
    unfold k0_off98
    dsimp only
    generalize (i 2).val = n at *
    interval_cases n <;> rfl
  · refine score_read arg3 harg3 arg4 harg4 x0 x1 2 (i 2).val (off := k0_off99 i) ?_ rfl _ _ p q
    unfold k0_off99
    dsimp only
    generalize (i 2).val = n at *
    interval_cases n <;> rfl
  · refine score_read arg3 harg3 arg4 harg4 x0 x1 3 (i 2).val (off := k0_off100 i) ?_ rfl _ _ p q
    unfold k0_off100
    dsimp only
    generalize (i 2).val = n at *
    interval_cases n <;> rfl
  · refine score_read arg3 harg3 arg4 harg4 x0 x1 4 (i 2).val (off := k0_off101 i) ?_ rfl _ _ p q
    unfold k0_off101
    dsimp only
    generalize (i 2).val = n at *
    interval_cases n <;> rfl
  · refine score_read arg3 harg3 arg4 harg4 x0 x1 5 (i 2).val (off := k0_off102 i) ?_ rfl _ _ p q
    unfold k0_off102
    dsimp only
    generalize (i 2).val = n at *
    interval_cases n <;> rfl
  · refine score_read arg3 harg3 arg4 harg4 x0 x1 6 (i 2).val (off := k0_off103 i) ?_ rfl _ _ p q
    unfold k0_off103
    dsimp only
    generalize (i 2).val = n at *
    interval_cases n <;> rfl
  · refine score_read arg3 harg3 arg4 harg4 x0 x1 7 (i 2).val (off := k0_off104 i) ?_ rfl _ _ p q
    unfold k0_off104
    dsimp only
    generalize (i 2).val = n at *
    interval_cases n <;> rfl

/-- The values a last block takes. -/
theorem evenLastV_apply (i : grid0.Coords) (arg5 : Memref sig .tc .vmem S1x8x640x256 .bf16) (harg5 : arg5.IsWhole)
    (x2 : Vec Ideal S1x8x640x256 .bf16) (hc : cond0_1 i) (h : Fin 8) (r : Fin 80) (p : Fin 256) :
    evenLastV i arg5 (harg5.unread x2) hc h (ix4 0 0 r p) = value x2 h r (256 * (i 2).val + p.val) := by
  have h8 : (i 2).val < 8 := (i 2).isLt
  fin_cases h
  · refine value_read arg5 harg5 x2 0 (i 2).val (off := k0_off105 i) ?_ _ r p
    unfold k0_off105
    dsimp only
    generalize (i 2).val = n at *
    interval_cases n <;> rfl
  · refine value_read arg5 harg5 x2 1 (i 2).val (off := k0_off106 i) ?_ _ r p
    unfold k0_off106
    dsimp only
    generalize (i 2).val = n at *
    interval_cases n <;> rfl
  · refine value_read arg5 harg5 x2 2 (i 2).val (off := k0_off107 i) ?_ _ r p
    unfold k0_off107
    dsimp only
    generalize (i 2).val = n at *
    interval_cases n <;> rfl
  · refine value_read arg5 harg5 x2 3 (i 2).val (off := k0_off108 i) ?_ _ r p
    unfold k0_off108
    dsimp only
    generalize (i 2).val = n at *
    interval_cases n <;> rfl
  · refine value_read arg5 harg5 x2 4 (i 2).val (off := k0_off109 i) ?_ _ r p
    unfold k0_off109
    dsimp only
    generalize (i 2).val = n at *
    interval_cases n <;> rfl
  · refine value_read arg5 harg5 x2 5 (i 2).val (off := k0_off110 i) ?_ _ r p
    unfold k0_off110
    dsimp only
    generalize (i 2).val = n at *
    interval_cases n <;> rfl
  · refine value_read arg5 harg5 x2 6 (i 2).val (off := k0_off111 i) ?_ _ r p
    unfold k0_off111
    dsimp only
    generalize (i 2).val = n at *
    interval_cases n <;> rfl
  · refine value_read arg5 harg5 x2 7 (i 2).val (off := k0_off112 i) ?_ _ r p
    unfold k0_off112
    dsimp only
    generalize (i 2).val = n at *
    interval_cases n <;> rfl

end Cert.FoxReads
end
-- ==== Proof.FoxModel.lean ====
/- Attention by blocks of keys with a running maximum, over the extended reals: the rescaled sums after the last block,
   divided by the sum of the weights, are the softmax's mean of the values. -/
module

public import proofs.«01_k».proof.Proof.Finite

@[expose] public section

noncomputable section

namespace Cert.FoxModel
open Idealize.ShloMosaic Cert.Finite

/-- The greatest score of the first `n` blocks of 256 keys, block by block. -/
def peakTo (s : ℕ → EReal) : ℕ → EReal
  | 0 => ⊥
  | n + 1 => max (peakTo s n) (Finset.univ.fold max ⊥ fun k : Fin 256 => s (256 * n + k.val))

/-- The weighted sum of the first `n` blocks, rescaled at each block to the maximum so far. -/
def sumTo (s v : ℕ → EReal) : ℕ → EReal
  | 0 => 0
  | n + 1 => Ideal.exp2 (peakTo s n - peakTo s (n + 1)) * sumTo s v n
      + ∑ k : Fin 256, v (256 * n + k.val) * Ideal.exp2 (s (256 * n + k.val) - peakTo s (n + 1))

/-- A real or a dropped score. -/
def Low (x : EReal) : Prop := x = ⊥ ∨ IsReal x

/-- The block-by-block maximum is the greatest of all the scores. -/
theorem peakTo_eq (s : ℕ → EReal) (n : ℕ) : peakTo s n = (Finset.range (256 * n)).sup s := by
  induction n with
  | zero => simp [peakTo]
  | succ n ih =>
    have e : (Finset.univ.fold max ⊥ fun k : Fin 256 => s (256 * n + k.val)) = Finset.univ.sup fun k : Fin 256 => s (256 * n + k.val) := rfl
    rw [peakTo, ih, e]
    refine le_antisymm (max_le ?_ ?_) ?_
    · exact Finset.sup_mono fun i hi => Finset.mem_range.mpr (by have := Finset.mem_range.mp hi; omega)
    · exact Finset.sup_le fun k _ => Finset.le_sup (f := s) (Finset.mem_range.mpr (by have := k.isLt; omega))
    · refine Finset.sup_le fun j hj => ?_
      have hj' := Finset.mem_range.mp hj
      by_cases h : j < 256 * n
      · exact le_max_of_le_left (Finset.le_sup (f := s) (Finset.mem_range.mpr h))
      · refine le_max_of_le_right ?_
        have hk : j - 256 * n < 256 := by omega
        have := Finset.le_sup (f := fun k : Fin 256 => s (256 * n + k.val)) (Finset.mem_univ (⟨j - 256 * n, hk⟩ : Fin 256))
        have hj2 : 256 * n + (j - 256 * n) = j := by omega
        simpa only [hj2] using this

/-- After a block the maximum is a score, and a real number. -/
theorem peakTo_real {s : ℕ → EReal} (hs : ∀ j, Low (s j)) (h0 : IsReal (s 0)) {n : ℕ} (hn : 1 ≤ n) :
    ∃ i < 256 * n, peakTo s n = s i ∧ IsReal (s i) := by
  obtain ⟨i, hi, e⟩ := Finset.exists_mem_eq_sup (Finset.range (256 * n)) ⟨0, Finset.mem_range.mpr (by omega)⟩ s
  refine ⟨i, Finset.mem_range.mp hi, (peakTo_eq s n).trans e, ?_⟩
  rcases hs i with h | h
  · have h1 : s 0 ≤ (Finset.range (256 * n)).sup s := Finset.le_sup (f := s) (Finset.mem_range.mpr (by omega))
    rw [e, h, le_bot_iff] at h1
    obtain ⟨r, hr⟩ := h0
    rw [hr] at h1
    exact absurd h1 (EReal.coe_ne_bot r)
  · exact h

/-- A weight under a real maximum, as a real number. -/
theorem weight_real {x : EReal} (hx : Low x) (μ : ℝ) :
    ∃ a : ℝ, 0 ≤ a ∧ Ideal.exp2 (x - (μ : EReal)) = (a : EReal) := by
  rcases hx with rfl | ⟨r, rfl⟩
  · exact ⟨0, le_rfl, by rw [EReal.bot_sub]; rfl⟩
  · exact ⟨Real.rpow 2 (r - μ), (Real.rpow_pos_of_pos two_pos _).le, by rw [← EReal.coe_sub]; rfl⟩

/-- Rescaling a weight to a new maximum. -/
theorem weight_mul {x : EReal} (hx : Low x) (μ ν : ℝ) :
    Ideal.exp2 ((μ : EReal) - (ν : EReal)) * Ideal.exp2 (x - (μ : EReal)) = Ideal.exp2 (x - (ν : EReal)) := by
  rcases hx with rfl | ⟨r, rfl⟩
  · rw [EReal.bot_sub, EReal.bot_sub]
    show _ * (0 : EReal) = 0
    rw [mul_zero]
  · rw [← EReal.coe_sub, ← EReal.coe_sub, ← EReal.coe_sub]
    show ((Real.rpow 2 (μ - ν) : ℝ) : EReal) * ((Real.rpow 2 (r - μ) : ℝ) : EReal) = ((Real.rpow 2 (r - ν) : ℝ) : EReal)
    rw [← EReal.coe_mul]
    congr 1
    have := Real.rpow_add (two_pos : (0 : ℝ) < 2) (μ - ν) (r - μ)
    rw [show μ - ν + (r - μ) = r - ν by ring] at this
    exact this.symm

/-- After a block the rescaled sum is the sum over all keys so far under the maximum so far. -/
theorem sumTo_eq {s : ℕ → EReal} (hs : ∀ j, Low (s j)) (h0 : IsReal (s 0)) (v : ℕ → EReal) (n : ℕ) :
    sumTo s v (n + 1) = ∑ j ∈ Finset.range (256 * (n + 1)), v j * Ideal.exp2 (s j - peakTo s (n + 1)) := by
  have tail : ∀ n (μ : EReal), (∑ k : Fin 256, v (256 * n + k.val) * Ideal.exp2 (s (256 * n + k.val) - μ))
      = ∑ x ∈ Finset.range 256, v (256 * n + x) * Ideal.exp2 (s (256 * n + x) - μ) := fun n μ =>
    (Finset.sum_range fun x => v (256 * n + x) * Ideal.exp2 (s (256 * n + x) - μ)).symm
  induction n with
  | zero =>
    rw [sumTo, sumTo, mul_zero, zero_add, tail]
    simp
  | succ n ih =>
    obtain ⟨i, -, ei, μ, hμ⟩ := peakTo_real hs h0 (n := n + 1) (by omega)
    obtain ⟨i', -, ei', ν, hν⟩ := peakTo_real hs h0 (n := n + 1 + 1) (by omega)
    rw [sumTo, ih, tail, ei, ei', hμ, hν, show 256 * (n + 1 + 1) = 256 * (n + 1) + 256 by ring, Finset.sum_range_add]
    congr 1
    rw [← EReal.coe_sub]
    show ((Real.rpow 2 (μ - ν) : ℝ) : EReal) * _ = _
    have hp : (0 : ℝ) ≤ Real.rpow 2 (μ - ν) := (Real.rpow_pos_of_pos two_pos _).le
    rw [mul_comm, sum_mul _ _ hp]
    refine Finset.sum_congr rfl fun j _ => ?_
    rw [mul_assoc, mul_comm (Ideal.exp2 _)]
    congr 1
    have := weight_mul (hs j) μ ν
    rw [← EReal.coe_sub μ ν] at this
    exact this

/-- A quotient of a weighted sum is the sum of the weights' quotients, the weights not negative and one positive. -/
theorem mean_eq {ι : Type} [Fintype ι] (w v : ι → EReal) (hw : ∀ i, ∃ r : ℝ, 0 ≤ r ∧ w i = (r : EReal)) (hp : ∃ i, 0 < w i) :
    Ideal.div (∑ i, v i * w i) (∑ i, w i) = ∑ i, v i * Ideal.div (w i) (∑ i, w i) := by
  choose a ha hwa using hw
  obtain ⟨i₀, hi₀⟩ := hp
  have hS : ∑ i, w i = ((∑ i, a i : ℝ) : EReal) := by rw [coe_sum]; exact Finset.sum_congr rfl fun i _ => hwa i
  have hpos : 0 < ∑ i, a i := Finset.sum_pos' (fun i _ => ha i) ⟨i₀, Finset.mem_univ _, by rw [hwa] at hi₀; exact_mod_cast hi₀⟩
  have hne : ((∑ i, a i : ℝ) : EReal) ≠ 0 := by exact_mod_cast hpos.ne'
  rw [hS]
  simp only [Ideal.div, if_neg hne]
  rw [← EReal.coe_inv, sum_mul _ _ (inv_nonneg.mpr hpos.le)]
  exact Finset.sum_congr rfl fun i _ => mul_assoc _ _ _

/-- A softmax weight of scores in units of log 2 is the power of two. -/
theorem exp_eq {x : EReal} (hx : Low x) (μ : ℝ) :
    Ideal.exp (x * ((Real.log 2 : ℝ) : EReal) - (μ : EReal) * ((Real.log 2 : ℝ) : EReal)) = Ideal.exp2 (x - (μ : EReal)) := by
  have hl : 0 < Real.log 2 := Real.log_pos (by norm_num)
  rcases hx with rfl | ⟨r, rfl⟩
  · rw [EReal.bot_mul_coe_of_pos hl, ← EReal.coe_mul, EReal.bot_sub, EReal.bot_sub]
    rfl
  · rw [← EReal.coe_mul, ← EReal.coe_mul, ← EReal.coe_sub, ← EReal.coe_sub]
    show ((Real.exp _ : ℝ) : EReal) = ((Real.rpow 2 _ : ℝ) : EReal)
    congr 1
    have := Real.rpow_def_of_pos (two_pos : (0 : ℝ) < 2) (r - μ)
    refine Eq.trans ?_ this.symm
    congr 1
    ring

/-- The scaled scores' maximum. -/
theorem scaled_peak {s : ℕ → EReal} (hs : ∀ j, Low (s j)) (h0 : IsReal (s 0)) {n : ℕ} (hn : 1 ≤ n) (h8 : n ≤ 8)
    (htop : ∀ j, 256 * n ≤ j → s j = ⊥) :
    (Finset.univ.fold max ⊥ fun j : Fin 2048 => s j.val * ((Real.log 2 : ℝ) : EReal)) = peakTo s n * ((Real.log 2 : ℝ) : EReal) := by
  have hl : 0 < Real.log 2 := Real.log_pos (by norm_num)
  have e : (Finset.univ.fold max ⊥ fun j : Fin 2048 => s j.val * ((Real.log 2 : ℝ) : EReal))
      = Finset.univ.sup fun j : Fin 2048 => s j.val * ((Real.log 2 : ℝ) : EReal) := rfl
  obtain ⟨i, hi, ei, -⟩ := peakTo_real hs h0 hn
  rw [e]
  refine le_antisymm (Finset.sup_le fun j _ => ?_) ?_
  · refine mul_le_mul_of_nonneg_right ?_ (by exact_mod_cast hl.le)
    by_cases h : j.val < 256 * n
    · rw [peakTo_eq]; exact Finset.le_sup (f := s) (Finset.mem_range.mpr h)
    · rw [htop _ (not_lt.mp h)]; exact bot_le
  · rw [ei]
    exact Finset.le_sup (f := fun j : Fin 2048 => s j.val * ((Real.log 2 : ℝ) : EReal)) (Finset.mem_univ (⟨i, by omega⟩ : Fin 2048))

/-- The rescaled sums' quotient after the last block is the softmax's mean. -/
theorem result {s : ℕ → EReal} (hs : ∀ j, Low (s j)) (h0 : IsReal (s 0)) (v u : ℕ → EReal) (hu : ∀ j, u j = 1) {n : ℕ} (h8 : n + 1 ≤ 8)
    (htop : ∀ j, 256 * (n + 1) ≤ j → s j = ⊥) :
    Ideal.div (sumTo s v (n + 1)) (sumTo s u (n + 1))
      = ∑ j : Fin 2048, v j.val * Ideal.div
          (Ideal.exp (s j.val * ((Real.log 2 : ℝ) : EReal) - Finset.univ.fold max ⊥ fun j : Fin 2048 => s j.val * ((Real.log 2 : ℝ) : EReal)))
          (∑ j : Fin 2048, Ideal.exp (s j.val * ((Real.log 2 : ℝ) : EReal) - Finset.univ.fold max ⊥ fun j : Fin 2048 => s j.val * ((Real.log 2 : ℝ) : EReal))) := by
  obtain ⟨i, hi, ei, μ, hμ⟩ := peakTo_real hs h0 (n := n + 1) (by omega)
  rw [scaled_peak hs h0 (by omega) h8 htop, sumTo_eq hs h0, sumTo_eq hs h0, ei, hμ]
  have all : ∀ f : ℕ → EReal, (∑ j ∈ Finset.range (256 * (n + 1)), f j * Ideal.exp2 (s j - (μ : EReal)))
      = ∑ j : Fin 2048, f j.val * Ideal.exp2 (s j.val - (μ : EReal)) := by
    intro f
    rw [← Finset.sum_range (n := 2048) fun j => f j * Ideal.exp2 (s j - (μ : EReal))]
    refine Finset.sum_subset (fun j hj => Finset.mem_range.mpr (by have := Finset.mem_range.mp hj; omega)) fun j _ hj => ?_
    rw [htop j (not_lt.mp fun h => hj (Finset.mem_range.mpr h)), EReal.bot_sub]
    exact mul_zero _
  rw [all, all]
  simp only [hu, one_mul]
  rw [mean_eq (fun j : Fin 2048 => Ideal.exp2 (s j.val - (μ : EReal))) (fun j => v j.val) (fun j => weight_real (hs j.val) μ)
    ⟨⟨i, by omega⟩, by
      show 0 < Ideal.exp2 (s i - (μ : EReal))
      rw [hμ, ← EReal.coe_sub]
      show ((0 : ℝ) : EReal) < ((Real.rpow 2 _ : ℝ) : EReal)
      exact_mod_cast Real.rpow_pos_of_pos two_pos _⟩]
  simp only [exp_eq (hs _) μ]

end Cert.FoxModel

end
-- ==== Proof.FoxLoop.lean ====
/- The attention kernel's running maxima and sums: after the loop and the last blocks each head holds the block-by-block maximum
   and sums of its scores and values. -/
module
public import proofs.«01_k».proof.Proof.FoxReads
public import proofs.«01_k».proof.Proof.FoxModel
@[expose] public section
set_option maxRecDepth 16384
noncomputable section
namespace Cert.FoxLoop
open Idealize.ShloMosaic Idealize.ShloMosaic.TcCoe Idealize.SL.Sem Cert.FoxTile Cert.FoxRun Cert.FoxReads Cert.FoxModel
open Cert.KernelIdeal Cert.KernelIdeal.Gen

/-- One block taken into a maximum. -/
theorem peak_step {s : ℕ → EReal} {n : ℕ} {q : Fin 256} (m : FVec Ideal S1x256 .f32) (S : FVec Ideal S256x256 .f32)
    (hm : m (ix2 0 q) = peakTo s n) (hS : ∀ k, S (ix2 k q) = s (256 * n + k.val)) : k0_pay18 (F := Ideal) m S (ix2 0 q) = peakTo s (n + 1) := by
  rw [peak_apply, hm, peakTo]
  simp only [hS]

/-- One block taken into a sum. -/
theorem sums_step {s v : ℕ → EReal} {n : ℕ} {r : Fin 80} {q : Fin 256} (m : FVec Ideal S1x256 .f32) (S : FVec Ideal S256x256 .f32)
    (V : Vec Ideal S1x1x80x256 .bf16) (o : Vec Ideal S1x80x256 .f32)
    (hm : m (ix2 0 q) = peakTo s n) (hS : ∀ k, S (ix2 k q) = s (256 * n + k.val))
    (hV : ∀ k, V (ix4 0 0 r k) = v (256 * n + k.val)) (ho : o (ix3 0 r q) = sumTo s v n) :
    sums m S V o (ix3 0 r q) = sumTo s v (n + 1) := by
  have hp := peak_step m S hm hS
  unfold sums
  refine (sums_apply _ _ V o r q).trans ?_
  rw [sumTo, ho, scale_apply, hp, hm]
  refine congrArg₂ (· + ·) rfl (Finset.sum_congr rfl fun k _ => ?_)
  rw [hV, weight_apply, hp, hS]

variable (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole)
  (x0 : Vec Ideal S1x1x1024x256 .bf16) (x1 : Vec Ideal S2048x1024 .bf16) (x2 : Vec Ideal S1x8x640x256 .bf16)

/-- The maxima before the first block. -/
theorem start_all (h : Fin 8) (q : Fin 256) :
    family (k0_pay325 (F := Ideal), k0_pay326 (F := Ideal), k0_pay327 (F := Ideal), k0_pay328 (F := Ideal), k0_pay329 (F := Ideal), k0_pay330 (F := Ideal), k0_pay331 (F := Ideal), k0_pay332 (F := Ideal)) h (ix2 0 q) = ⊥ := by
  fin_cases h <;> exact start_apply q

/-- The scratch before the first block. -/
theorem zero_all (f : arg7.view.ty.Contents (Elt Ideal)) (h : Fin 8) (r : Fin 80) (q : Fin 256) :
    arg7.view.read (Elt Ideal) (arg7.view.writes (Elt Ideal) f zeroed) (ix3 h r q) = 0 := by
  unfold zeroed
  refine Eq.trans (View.read_writes_cons_unit_of_mem arg7.view f _ _ [] (ix3 h r q) (ix3 h r q) rfl fun a => ?_) (zero_apply h r q)
  fin_cases a
  · exact (Nat.zero_add _).symm
  · exact (Nat.zero_add _).symm
  · exact (Nat.zero_add _).symm

/-- Before trip `n` each head holds the maximum and the sums of its first `2n` blocks. -/
theorem looped_spec (n : ℕ) (hn : n ≤ (k0_t1_loop i).trips) (h : Fin 8) (q : Fin 256) :
    family (looped c i arg3 harg3 arg4 harg4 arg5 harg5 arg6 harg6 arg7 harg7 x0 x1 x2 n).1 h (ix2 0 q) = peakTo (score x0 x1 h q) (2 * n)
    ∧ ∀ r, arg7.view.read (Elt Ideal) (arg7.view.writes (Elt Ideal) (arg7.view.writes (Elt Ideal) arg7.view.junk zeroed) (looped c i arg3 harg3 arg4 harg4 arg5 harg5 arg6 harg6 arg7 harg7 x0 x1 x2 n).2) (ix3 h r q)
      = sumTo (score x0 x1 h q) (value x2 h r) (2 * n) := by
  induction n generalizing h q with
  | zero => exact ⟨start_all h q, fun r => zero_all arg7 _ h r q⟩
  | succ n ih =>
    have ih := fun h q => ih (by omega) h q
    have e := st_k0_t1_succ (F := Ideal) Variants.none c none i arg3 harg3 arg4 harg4 arg5 harg5 arg6 harg6 arg7 harg7 (BitVec.ofNat 32 (i 2).val) (iota .tc S256x256 32 [0] iota_S256x256_d0_w32) (iota .tc S256x256 32 [1] iota_S256x256_d1_w32) k0_pay325 k0_pay326 k0_pay327 k0_pay328 k0_pay329 k0_pay330 k0_pay331 k0_pay332 0#32
      (kernelRun0_A.sl.v34 i) (harg3.unread x0) (harg4.unread x1) (harg5.unread x2) (arg7.view.writes (Elt Ideal) arg7.view.junk zeroed)
      (k0_pay325, k0_pay326, k0_pay327, k0_pay328, k0_pay329, k0_pay330, k0_pay331, k0_pay332) ⟨n, by omega⟩
    have e1 := fun h => (congrFun (congrArg family (congrArg Prod.fst e)) h).trans (trip_maxima _ _ _ _ _ _ _ _ _ _ _ _ _ _ _ _ _ _ _ _ _ _ _ _ _ _ _ _ _ _ _ _ _ h)
    have e2 := (congrArg Prod.snd e).trans (congrArg (· ++ _) (trip_stores _ _ _ _ _ _ _ _ _ _ _ _ _ _ _ _ _ _ _ _ _ _ _ _ _ _ _ _ _ _ _ _ _))
    have p1 : k0_pay18 (family (looped c i arg3 harg3 arg4 harg4 arg5 harg5 arg6 harg6 arg7 harg7 x0 x1 x2 n).1 h) (loopFstS i arg3 arg4 (harg3.unread x0) (harg4.unread x1) ⟨n, by omega⟩ h) (ix2 0 q)
        = peakTo (score x0 x1 h q) (2 * n + 1) :=
      peak_step _ _ (ih h q).1 fun k => loopFstS_apply i arg3 harg3 arg4 harg4 x0 x1 ⟨n, by omega⟩ h k q
    refine ⟨?_, fun r => ?_⟩
    · refine (congrFun (e1 h) (ix2 0 q)).trans ?_
      exact peak_step _ _ p1 fun k => loopSndS_apply i arg3 harg3 arg4 harg4 x0 x1 ⟨n, by omega⟩ h k q
    · refine (congrArg (fun L => arg7.view.read (Elt Ideal) (arg7.view.writes (Elt Ideal) (arg7.view.writes (Elt Ideal) arg7.view.junk zeroed) L) (ix3 h r q)) e2).trans ?_
      dsimp only
      rw [View.writes_append, covs_read _ _ _ 8 le_rfl, if_pos h.isLt]
      refine sums_step _ _ _ _ p1 (fun k => loopSndS_apply i arg3 harg3 arg4 harg4 x0 x1 ⟨n, by omega⟩ h k q)
        (fun k => loopSndV_apply i arg5 harg5 x2 ⟨n, by omega⟩ h r k) ?_
      refine (cov_at arg7.view _ h r q).trans ?_
      rw [puts_read _ _ 8 le_rfl _ h h.isLt]
      refine sums_step _ _ _ _ (ih h q).1 (fun k => loopFstS_apply i arg3 harg3 arg4 harg4 x0 x1 ⟨n, by omega⟩ h k q)
        (fun k => loopFstV_apply i arg5 harg5 x2 ⟨n, by omega⟩ h r k) ?_
      exact (cov_at arg7.view _ h r q).trans ((ih h q).2 r)

/-- The state after both loops is the loop's last. -/
theorem ended_eq : ended c i arg3 harg3 arg4 harg4 arg5 harg5 arg6 harg6 arg7 harg7 x0 x1 x2
    = ((looped c i arg3 harg3 arg4 harg4 arg5 harg5 arg6 harg6 arg7 harg7 x0 x1 x2 (k0_t1_loop i).trips).1, []) := by
  unfold ended
  rw [trips2, st_k0_t2.eq_1]

/-- After both loops each head holds the maximum of the blocks before the last block or pair. -/
theorem ended_peak (h : Fin 8) (q : Fin 256) :
    family (ended c i arg3 harg3 arg4 harg4 arg5 harg5 arg6 harg6 arg7 harg7 x0 x1 x2).1 h (ix2 0 q) = peakTo (score x0 x1 h q) (2 * ((i 2).val / 2)) := by
  rw [ended_eq, ← trips1]
  exact (looped_spec c i arg3 harg3 arg4 harg4 arg5 harg5 arg6 harg6 arg7 harg7 x0 x1 x2 _ le_rfl h q).1

/-- After both loops each head holds the sums of the blocks before the last block or pair. -/
theorem before_sum (h : Fin 8) (r : Fin 80) (q : Fin 256) :
    arg7.view.readCov (before c i arg3 harg3 arg4 harg4 arg5 harg5 arg6 harg6 arg7 harg7 x0 x1 x2) (rect h.val).toLoadRect (ix3 0 r q)
      = sumTo (score x0 x1 h q) (value x2 h r) (2 * ((i 2).val / 2)) := by
  refine (cov_at arg7.view _ h r q).trans ?_
  unfold before
  rw [ended_eq, List.nil_append, View.writes_append, ← trips1]
  exact (looped_spec c i arg3 harg3 arg4 harg4 arg5 harg5 arg6 harg6 arg7 harg7 x0 x1 x2 _ le_rfl h q).2 r

/-- The scores of the query `256 t + q`, those of later keys dropped. -/
def causal (s : ℕ → EReal) (Q : ℕ) (j : ℕ) : EReal := if j ≤ Q then s j else ⊥

/-- Before the query's own block no score is dropped: the maximum. -/
theorem causal_peak (s : ℕ → EReal) (Q n : ℕ) (hn : 256 * n ≤ Q + 1) : peakTo s n = peakTo (causal s Q) n := by
  rw [peakTo_eq, peakTo_eq]
  refine Finset.sup_congr rfl fun j hj => ?_
  rw [causal, if_pos (by have := Finset.mem_range.mp hj; omega)]

/-- Before the query's own block no score is dropped: the sum. -/
theorem causal_sum (s v : ℕ → EReal) (Q n : ℕ) (hn : 256 * n ≤ Q + 1) : sumTo s v n = sumTo (causal s Q) v n := by
  induction n with
  | zero => rfl
  | succ n ih =>
    rw [sumTo, sumTo, ih (by omega), causal_peak s Q n (by omega), causal_peak s Q (n + 1) hn]
    congr 1
    refine Finset.sum_congr rfl fun k _ => ?_
    have := k.isLt
    rw [causal, if_pos (by omega)]

/-- The masked block's scores are the causal ones. -/
theorem masked_step (S : FVec Ideal S256x256 .f32) (s : ℕ → EReal) (n : ℕ) (q : Fin 256) (hS : ∀ k : Fin 256, S (ix2 k q) = s (256 * n + k.val)) (k : Fin 256) :
    masked S (ix2 k q) = causal s (256 * n + q.val) (256 * n + k.val) := by
  unfold masked causal
  rw [masked_apply, hS]
  exact if_congr (by rw [Fin.le_def]; omega) rfl rfl

/-- In an even chunk the scratch ends with the sums of the query's causal scores. -/
theorem even_sum (hc : cond0_1 i) (f : arg7.view.ty.Contents (Elt Ideal)) (h : Fin 8) (r : Fin 80) (q : Fin 256) :
    arg7.view.read (Elt Ideal) (arg7.view.writes (Elt Ideal) f (kernelRun0_A.sl.HS0_8 (F := Ideal) c i arg3 harg3 arg4 harg4 arg5 harg5 arg6 harg6 arg7 harg7 hc x0 x1 x2)) (ix3 h r q)
      = sumTo (causal (score x0 x1 h q) (256 * (i 2).val + q.val)) (value x2 h r) ((i 2).val + 1) := by
  rw [even_8, covs_read _ _ _ 8 le_rfl, if_pos h.isLt]
  have hev := even_pos i hc
  have e : 2 * ((i 2).val / 2) = (i 2).val := by omega
  refine sums_step _ _ _ _ ?_ (fun k => masked_step _ _ _ q (fun k => evenLastS_apply i arg3 harg3 arg4 harg4 x0 x1 hc h k q) k)
    (fun k => evenLastV_apply i arg5 harg5 x2 hc h r k) ?_
  · rw [ended_peak, e]
    exact causal_peak _ _ _ (by omega)
  · rw [before_sum, e]
    exact causal_sum _ _ _ _ (by omega)

/-- In an odd chunk the scratch ends with the sums of the query's causal scores. -/
theorem odd_sum (hc : cond0_0 i) (f : arg7.view.ty.Contents (Elt Ideal)) (h : Fin 8) (r : Fin 80) (q : Fin 256) :
    arg7.view.read (Elt Ideal) (arg7.view.writes (Elt Ideal) f (kernelRun0_B.sl.HS0_16 (F := Ideal) c i arg3 harg3 arg4 harg4 arg5 harg5 arg6 harg6 arg7 harg7 hc x0 x1 x2)) (ix3 h r q)
      = sumTo (causal (score x0 x1 h q) (256 * (i 2).val + q.val)) (value x2 h r) ((i 2).val + 1) := by
  rw [oddSnd_8, covs_read _ _ _ 8 le_rfl, if_pos h.isLt]
  have hod := odd_pos i hc
  have e : 2 * ((i 2).val / 2) = (i 2).val - 1 := by omega
  have e' : (i 2).val - 1 + 1 = (i 2).val := by omega
  have p1 := peak_step (s := score x0 x1 h q) (n := (i 2).val - 1) _ _ ((ended_peak c i arg3 harg3 arg4 harg4 arg5 harg5 arg6 harg6 arg7 harg7 x0 x1 x2 h q).trans (by rw [e]))
    fun k => oddFstS_apply i arg3 harg3 arg4 harg4 x0 x1 hc h k q
  rw [e'] at p1
  refine sums_step _ _ _ _ (p1.trans (causal_peak _ _ _ (by omega))) (fun k => masked_step _ _ _ q (fun k => oddSndS_apply i arg3 harg3 arg4 harg4 x0 x1 hc h k q) k)
    (fun k => oddSndV_apply i arg5 harg5 x2 hc h r k) ?_
  refine (cov_at arg7.view _ h r q).trans ?_
  rw [covs_read _ _ _ 8 le_rfl, if_pos h.isLt, ← causal_sum _ _ _ _ (by omega)]
  have := sums_step (s := score x0 x1 h q) (v := value x2 h r) (n := (i 2).val - 1) (r := r) (q := q) _ _ (oddFstV i arg5 (harg5.unread x2) hc h) _ ((ended_peak c i arg3 harg3 arg4 harg4 arg5 harg5 arg6 harg6 arg7 harg7 x0 x1 x2 h q).trans (by rw [e]))
    (fun k => oddFstS_apply i arg3 harg3 arg4 harg4 x0 x1 hc h k q) (fun k => oddFstV_apply i arg5 harg5 x2 hc h r k)
    ((before_sum c i arg3 harg3 arg4 harg4 arg5 harg5 arg6 harg6 arg7 harg7 x0 x1 x2 h r q).trans (by rw [e]))
  rw [e'] at this
  exact this

end Cert.FoxLoop
end
-- ==== Proof.FoxOut.lean ====
/- What the attention kernel writes back at a grid point: each element is the quotient of two sums of the causal scores. -/
module

public import proofs.«01_k».proof.Proof.FoxLoop
@[expose] public section
set_option maxRecDepth 16384
noncomputable section
namespace Cert.FoxOut
open Idealize.ShloMosaic Idealize.ShloMosaic.TcCoe Idealize.SL.Sem Cert.FoxTile Cert.FoxRun Cert.FoxReads Cert.FoxModel Cert.FoxLoop
open Cert.KernelIdeal Cert.KernelIdeal.Gen

/-- Eight tiles one above the other: row 0 of tiles. -/
theorem stack_0 (a0 a1 a2 a3 a4 a5 a6 a7 : FVec Ideal S64x256 .f32) (d : Fin 64) (q : Fin 256) (c : Fin 512) (hc : c.val = 64 * 0 + d.val) :
    concatenate S512x256 0 [⟨S64x256, a0⟩, ⟨S64x256, a1⟩, ⟨S64x256, a2⟩, ⟨S64x256, a3⟩, ⟨S64x256, a4⟩, ⟨S64x256, a5⟩, ⟨S64x256, a6⟩, ⟨S64x256, a7⟩] concatenates_S64x256_S64x256_S64x256_S64x256_S64x256_S64x256_S64x256_S64x256_S512x256_d0 (ix2 c q) = a0 (ix2 d q) := by
  pointwise []
  rw [dif_pos (by omega)]
  refine congrArg (fun e => a0 (ix2 e q)) (Fin.ext ?_)
  show _ = d.val
  dsimp only
  omega

/-- Eight tiles one above the other: row 1 of tiles. -/
theorem stack_1 (a0 a1 a2 a3 a4 a5 a6 a7 : FVec Ideal S64x256 .f32) (d : Fin 64) (q : Fin 256) (c : Fin 512) (hc : c.val = 64 * 1 + d.val) :
    concatenate S512x256 0 [⟨S64x256, a0⟩, ⟨S64x256, a1⟩, ⟨S64x256, a2⟩, ⟨S64x256, a3⟩, ⟨S64x256, a4⟩, ⟨S64x256, a5⟩, ⟨S64x256, a6⟩, ⟨S64x256, a7⟩] concatenates_S64x256_S64x256_S64x256_S64x256_S64x256_S64x256_S64x256_S64x256_S512x256_d0 (ix2 c q) = a1 (ix2 d q) := by
  pointwise []
  rw [dif_neg (by omega)]
  rw [dif_pos (by omega)]
  refine congrArg (fun e => a1 (ix2 e q)) (Fin.ext ?_)
  show _ = d.val
  dsimp only
  omega

/-- Eight tiles one above the other: row 2 of tiles. -/
theorem stack_2 (a0 a1 a2 a3 a4 a5 a6 a7 : FVec Ideal S64x256 .f32) (d : Fin 64) (q : Fin 256) (c : Fin 512) (hc : c.val = 64 * 2 + d.val) :
    concatenate S512x256 0 [⟨S64x256, a0⟩, ⟨S64x256, a1⟩, ⟨S64x256, a2⟩, ⟨S64x256, a3⟩, ⟨S64x256, a4⟩, ⟨S64x256, a5⟩, ⟨S64x256, a6⟩, ⟨S64x256, a7⟩] concatenates_S64x256_S64x256_S64x256_S64x256_S64x256_S64x256_S64x256_S64x256_S512x256_d0 (ix2 c q) = a2 (ix2 d q) := by
  pointwise []
  rw [dif_neg (by omega)]
  rw [dif_neg (by omega)]
  rw [dif_pos (by omega)]
  refine congrArg (fun e => a2 (ix2 e q)) (Fin.ext ?_)
  show _ = d.val
  dsimp only
  omega

/-- Eight tiles one above the other: row 3 of tiles. -/
theorem stack_3 (a0 a1 a2 a3 a4 a5 a6 a7 : FVec Ideal S64x256 .f32) (d : Fin 64) (q : Fin 256) (c : Fin 512) (hc : c.val = 64 * 3 + d.val) :
    concatenate S512x256 0 [⟨S64x256, a0⟩, ⟨S64x256, a1⟩, ⟨S64x256, a2⟩, ⟨S64x256, a3⟩, ⟨S64x256, a4⟩, ⟨S64x256, a5⟩, ⟨S64x256, a6⟩, ⟨S64x256, a7⟩] concatenates_S64x256_S64x256_S64x256_S64x256_S64x256_S64x256_S64x256_S64x256_S512x256_d0 (ix2 c q) = a3 (ix2 d q) := by
  pointwise []
  rw [dif_neg (by omega)]
  rw [dif_neg (by omega)]
  rw [dif_neg (by omega)]
  rw [dif_pos (by omega)]
  refine congrArg (fun e => a3 (ix2 e q)) (Fin.ext ?_)
  show _ = d.val
  dsimp only
  omega

/-- Eight tiles one above the other: row 4 of tiles. -/
theorem stack_4 (a0 a1 a2 a3 a4 a5 a6 a7 : FVec Ideal S64x256 .f32) (d : Fin 64) (q : Fin 256) (c : Fin 512) (hc : c.val = 64 * 4 + d.val) :
    concatenate S512x256 0 [⟨S64x256, a0⟩, ⟨S64x256, a1⟩, ⟨S64x256, a2⟩, ⟨S64x256, a3⟩, ⟨S64x256, a4⟩, ⟨S64x256, a5⟩, ⟨S64x256, a6⟩, ⟨S64x256, a7⟩] concatenates_S64x256_S64x256_S64x256_S64x256_S64x256_S64x256_S64x256_S64x256_S512x256_d0 (ix2 c q) = a4 (ix2 d q) := by
  pointwise []
  rw [dif_neg (by omega)]
  rw [dif_neg (by omega)]
  rw [dif_neg (by omega)]
  rw [dif_neg (by omega)]
  rw [dif_pos (by omega)]
  refine congrArg (fun e => a4 (ix2 e q)) (Fin.ext ?_)
  show _ = d.val
  dsimp only
  omega

/-- Eight tiles one above the other: row 5 of tiles. -/
theorem stack_5 (a0 a1 a2 a3 a4 a5 a6 a7 : FVec Ideal S64x256 .f32) (d : Fin 64) (q : Fin 256) (c : Fin 512) (hc : c.val = 64 * 5 + d.val) :
    concatenate S512x256 0 [⟨S64x256, a0⟩, ⟨S64x256, a1⟩, ⟨S64x256, a2⟩, ⟨S64x256, a3⟩, ⟨S64x256, a4⟩, ⟨S64x256, a5⟩, ⟨S64x256, a6⟩, ⟨S64x256, a7⟩] concatenates_S64x256_S64x256_S64x256_S64x256_S64x256_S64x256_S64x256_S64x256_S512x256_d0 (ix2 c q) = a5 (ix2 d q) := by
  pointwise []
  rw [dif_neg (by omega)]
  rw [dif_neg (by omega)]
  rw [dif_neg (by omega)]
  rw [dif_neg (by omega)]
  rw [dif_neg (by omega)]
  rw [dif_pos (by omega)]
  refine congrArg (fun e => a5 (ix2 e q)) (Fin.ext ?_)
  show _ = d.val
  dsimp only
  omega

/-- Eight tiles one above the other: row 6 of tiles. -/
theorem stack_6 (a0 a1 a2 a3 a4 a5 a6 a7 : FVec Ideal S64x256 .f32) (d : Fin 64) (q : Fin 256) (c : Fin 512) (hc : c.val = 64 * 6 + d.val) :
    concatenate S512x256 0 [⟨S64x256, a0⟩, ⟨S64x256, a1⟩, ⟨S64x256, a2⟩, ⟨S64x256, a3⟩, ⟨S64x256, a4⟩, ⟨S64x256, a5⟩, ⟨S64x256, a6⟩, ⟨S64x256, a7⟩] concatenates_S64x256_S64x256_S64x256_S64x256_S64x256_S64x256_S64x256_S64x256_S512x256_d0 (ix2 c q) = a6 (ix2 d q) := by
  pointwise []
  rw [dif_neg (by omega)]
  rw [dif_neg (by omega)]
  rw [dif_neg (by omega)]
  rw [dif_neg (by omega)]
  rw [dif_neg (by omega)]
  rw [dif_neg (by omega)]
  rw [dif_pos (by omega)]
  refine congrArg (fun e => a6 (ix2 e q)) (Fin.ext ?_)
  show _ = d.val
  dsimp only
  omega

/-- Eight tiles one above the other: row 7 of tiles. -/
theorem stack_7 (a0 a1 a2 a3 a4 a5 a6 a7 : FVec Ideal S64x256 .f32) (d : Fin 64) (q : Fin 256) (c : Fin 512) (hc : c.val = 64 * 7 + d.val) :
    concatenate S512x256 0 [⟨S64x256, a0⟩, ⟨S64x256, a1⟩, ⟨S64x256, a2⟩, ⟨S64x256, a3⟩, ⟨S64x256, a4⟩, ⟨S64x256, a5⟩, ⟨S64x256, a6⟩, ⟨S64x256, a7⟩] concatenates_S64x256_S64x256_S64x256_S64x256_S64x256_S64x256_S64x256_S64x256_S512x256_d0 (ix2 c q) = a7 (ix2 d q) := by
  pointwise []
  rw [dif_neg (by omega)]
  rw [dif_neg (by omega)]
  rw [dif_neg (by omega)]
  rw [dif_neg (by omega)]
  rw [dif_neg (by omega)]
  rw [dif_neg (by omega)]
  rw [dif_neg (by omega)]
  refine congrArg (fun e => a7 (ix2 e q)) (Fin.ext ?_)
  show _ = d.val
  dsimp only
  omega

/-- One head's quotient at an element. -/
theorem ratio_apply (n : Vec Ideal S1x64x256 .f32) (w : Vec Ideal S1x1x256 .f32) (d : Fin 64) (q : Fin 256) :
    k0_pay341 (F := Ideal) n w (ix2 d q) = Ideal.div (n (ix3 0 d q)) (w (ix3 0 0 q)) := by
  pointwise [k0_pay341]
/-- The transposed and rounded stack at an element. -/
theorem out_z (z : FVec Ideal S512x256 .f32) (q : Fin 256) (c : Fin 512) :
    truncf .bf16 (transpose S256x512 [1, 0] z transposes_S512x256_p1_0_S256x512) bitsLt_bf16_f32 (ix2 q c) = z (ix2 c q) := by
  pointwise []

/-- The result tile is the transposed stack of the eight quotients. -/
theorem tile_eq (a0 a1 a2 a3 a4 a5 a6 a7 : Vec Ideal S1x64x256 .f32) (b0 b1 b2 b3 b4 b5 b6 b7 : Vec Ideal S1x1x256 .f32) (q : Fin 256) (c : Fin 512) :
    k0_pay1 (F := Ideal) (k0_pay340 (k0_pay338 a0) (k0_pay339 b0)) (k0_pay341 a1 b1) (k0_pay342 a2 b2) (k0_pay343 a3 b3) (k0_pay344 a4 b4) (k0_pay345 a5) (k0_pay346 b5) a6 b6 a7 b7 (ix2 q c)
      = concatenate S512x256 0 [⟨S64x256, k0_pay341 (F := Ideal) a0 b0⟩, ⟨S64x256, k0_pay341 (F := Ideal) a1 b1⟩, ⟨S64x256, k0_pay341 (F := Ideal) a2 b2⟩, ⟨S64x256, k0_pay341 (F := Ideal) a3 b3⟩, ⟨S64x256, k0_pay341 (F := Ideal) a4 b4⟩, ⟨S64x256, k0_pay341 (F := Ideal) a5 b5⟩, ⟨S64x256, k0_pay341 (F := Ideal) a6 b6⟩, ⟨S64x256, k0_pay341 (F := Ideal) a7 b7⟩] concatenates_S64x256_S64x256_S64x256_S64x256_S64x256_S64x256_S64x256_S64x256_S512x256_d0
        (ix2 c q) := by
  exact out_z _ q c
/-- The result tile at an element: one head's quotient. -/
theorem tile_apply (a : Fin 8 → Vec Ideal S1x64x256 .f32) (b : Fin 8 → Vec Ideal S1x1x256 .f32) (q : Fin 256) (c : Fin 512) (h : Fin 8) (d : Fin 64) (hc : c.val = 64 * h.val + d.val) :
    k0_pay1 (F := Ideal) (k0_pay340 (k0_pay338 (a 0)) (k0_pay339 (b 0))) (k0_pay341 (a 1) (b 1)) (k0_pay342 (a 2) (b 2)) (k0_pay343 (a 3) (b 3)) (k0_pay344 (a 4) (b 4)) (k0_pay345 (a 5)) (k0_pay346 (b 5)) (a 6) (b 6) (a 7) (b 7) (ix2 q c)
      = Ideal.div (a h (ix3 0 d q)) (b h (ix3 0 0 q)) := by
  refine (tile_eq _ _ _ _ _ _ _ _ _ _ _ _ _ _ _ _ q c).trans (Eq.trans ?_ (ratio_apply (a h) (b h) d q))
  fin_cases h
  · exact stack_0 _ _ _ _ _ _ _ _ d q c hc
  · exact stack_1 _ _ _ _ _ _ _ _ d q c hc
  · exact stack_2 _ _ _ _ _ _ _ _ d q c hc
  · exact stack_3 _ _ _ _ _ _ _ _ d q c hc
  · exact stack_4 _ _ _ _ _ _ _ _ d q c hc
  · exact stack_5 _ _ _ _ _ _ _ _ d q c hc
  · exact stack_6 _ _ _ _ _ _ _ _ d q c hc
  · exact stack_7 _ _ _ _ _ _ _ _ d q c hc

/-- A head's weighted sums in the scratch. -/
def sumRect (h : Fin 8) : Rect S8x80x256 :=
  Rect.unit ![h.val, 0, 0] S1x64x256.size (by
    have := h.isLt
    intro a
    fin_cases a
    · show h.val + 1 ≤ 8
      omega
    · show 0 + 64 ≤ 80
      omega
    · show 0 + 256 ≤ 256
      omega)

/-- A head's sum of weights in the scratch. -/
def massRect (h : Fin 8) : Rect S8x80x256 :=
  Rect.unit ![h.val, 64, 0] S1x1x256.size (by
    have := h.isLt
    intro a
    fin_cases a
    · show h.val + 1 ≤ 8
      omega
    · show 64 + 1 ≤ 80
      omega
    · show 0 + 256 ≤ 256
      omega)

/-- Reading a head's weighted sums reads the scratch. -/
theorem sum_at (v : View sig .tc .vmem S8x80x256 .f32) (L : List (View.Piece (Elt Ideal) S8x80x256 .f32)) (h : Fin 8) (d : Fin 64) (q : Fin 256) :
    v.readCov L (sumRect h).toLoadRect (ix3 0 d q) = v.read (Elt Ideal) (v.writes (Elt Ideal) v.junk L) (ix3 h ⟨d.val, by omega⟩ q) := by
  refine congrArg (v.read (Elt Ideal) _) ?_
  funext a
  fin_cases a <;> refine Fin.ext ?_
  · show h.val + 1 * 0 = h.val
    omega
  · show 0 + 1 * d.val = d.val
    omega
  · show 0 + 1 * q.val = q.val
    omega

/-- Reading a head's sum of weights reads the scratch. -/
theorem mass_at (v : View sig .tc .vmem S8x80x256 .f32) (L : List (View.Piece (Elt Ideal) S8x80x256 .f32)) (h : Fin 8) (q : Fin 256) :
    v.readCov L (massRect h).toLoadRect (ix3 0 0 q) = v.read (Elt Ideal) (v.writes (Elt Ideal) v.junk L) (ix3 h 64 q) := by
  refine congrArg (v.read (Elt Ideal) _) ?_
  funext a
  fin_cases a <;> refine Fin.ext ?_
  · show h.val + 1 * 0 = h.val
    omega
  · show 64 + 1 * 0 = 64
    omega
  · show 0 + 1 * q.val = q.val
    omega

variable (c : Dev nD) (i : grid0.Coords) (arg3 : Memref sig .tc .vmem S1x1x1024x256 .bf16) (harg3 : arg3.IsWhole) (arg4 : Memref sig .tc .vmem S2048x1024 .bf16) (harg4 : arg4.IsWhole) (arg5 : Memref sig .tc .vmem S1x8x640x256 .bf16) (harg5 : arg5.IsWhole) (arg6 : Memref sig .tc .vmem S256x512 .bf16) (harg6 : arg6.IsWhole) (arg7 : Memref sig .tc .vmem S8x80x256 .f32) (harg7 : arg7.IsWhole)
  (x0 : Vec Ideal S1x1x1024x256 .bf16) (x1 : Vec Ideal S2048x1024 .bf16) (x2 : Vec Ideal S1x8x640x256 .bf16)

/-- What an even chunk writes back: the quotient of the sums of the query's causal scores. -/
theorem even_out (hc0 : ¬cond0_0 i) (hc1 : cond0_1 i) (q : Fin 256) (f : Fin 512) (h : Fin 8) (d : Fin 64) (hf : f.val = 64 * h.val + d.val) :
    out0_A_3 (F := Ideal) c i arg3 harg3 arg4 harg4 arg5 harg5 arg6 harg6 arg7 harg7 hc0 hc1 x0 x1 x2 (ix2 q f)
      = Ideal.div (sumTo (causal (score x0 x1 h q) (256 * (i 2).val + q.val)) (value x2 h ⟨d.val, by omega⟩) ((i 2).val + 1))
          (sumTo (causal (score x0 x1 h q) (256 * (i 2).val + q.val)) (value x2 h 64) ((i 2).val + 1)) := by
  unfold out0_A_3
  refine (View.read_writes_cons_unit_of_mem VO0_3 _ _ _ [] (ix2 q f) (ix2 q f) rfl fun a => ?_).trans ?_
  · fin_cases a
    · exact (Nat.zero_add _).symm
    · exact (Nat.zero_add _).symm
  refine (tile_apply (fun h => arg7.view.readCov (kernelRun0_A.sl.HS0_8 (F := Ideal) c i arg3 harg3 arg4 harg4 arg5 harg5 arg6 harg6 arg7 harg7 hc1 x0 x1 x2) (sumRect h).toLoadRect)
    (fun h => arg7.view.readCov (kernelRun0_A.sl.HS0_8 (F := Ideal) c i arg3 harg3 arg4 harg4 arg5 harg5 arg6 harg6 arg7 harg7 hc1 x0 x1 x2) (massRect h).toLoadRect) q f h d hf).trans ?_
  exact congrArg₂ Ideal.div ((sum_at _ _ h d q).trans (even_sum c i arg3 harg3 arg4 harg4 arg5 harg5 arg6 harg6 arg7 harg7 x0 x1 x2 hc1 _ h _ q))
    ((mass_at _ _ h q).trans (even_sum c i arg3 harg3 arg4 harg4 arg5 harg5 arg6 harg6 arg7 harg7 x0 x1 x2 hc1 _ h 64 q))

/-- What an odd chunk writes back: the quotient of the sums of the query's causal scores. -/
theorem odd_out (hc0 : cond0_0 i) (hc1 : ¬cond0_1 i) (q : Fin 256) (f : Fin 512) (h : Fin 8) (d : Fin 64) (hf : f.val = 64 * h.val + d.val) :
    out0_B_3 (F := Ideal) c i arg3 harg3 arg4 harg4 arg5 harg5 arg6 harg6 arg7 harg7 hc0 hc1 x0 x1 x2 (ix2 q f)
      = Ideal.div (sumTo (causal (score x0 x1 h q) (256 * (i 2).val + q.val)) (value x2 h ⟨d.val, by omega⟩) ((i 2).val + 1))
          (sumTo (causal (score x0 x1 h q) (256 * (i 2).val + q.val)) (value x2 h 64) ((i 2).val + 1)) := by
  unfold out0_B_3
  refine (View.read_writes_cons_unit_of_mem VO0_3 _ _ _ [] (ix2 q f) (ix2 q f) rfl fun a => ?_).trans ?_
  · fin_cases a
    · exact (Nat.zero_add _).symm
    · exact (Nat.zero_add _).symm
  refine (tile_apply (fun h => arg7.view.readCov (kernelRun0_B.sl.HS0_16 (F := Ideal) c i arg3 harg3 arg4 harg4 arg5 harg5 arg6 harg6 arg7 harg7 hc0 x0 x1 x2) (sumRect h).toLoadRect)
    (fun h => arg7.view.readCov (kernelRun0_B.sl.HS0_16 (F := Ideal) c i arg3 harg3 arg4 harg4 arg5 harg5 arg6 harg6 arg7 harg7 hc0 x0 x1 x2) (massRect h).toLoadRect) q f h d hf).trans ?_
  exact congrArg₂ Ideal.div ((sum_at _ _ h d q).trans (odd_sum c i arg3 harg3 arg4 harg4 arg5 harg5 arg6 harg6 arg7 harg7 x0 x1 x2 hc0 _ h _ q))
    ((mass_at _ _ h q).trans (odd_sum c i arg3 harg3 arg4 harg4 arg5 harg5 arg6 harg6 arg7 harg7 x0 x1 x2 hc0 _ h 64 q))

end Cert.FoxOut
end
-- ==== Proof.FoxPlain.lean ====
/- The attention of one query in plain mathematics: its scores against the keys of its batch, the values, and the quotient of the
   two sums the kernel keeps. -/
module

public import proofs.«01_k».proof.Proof.FoxModel
public import Idealize.ShloMosaic.Lib.Pointwise

@[expose] public section

noncomputable section

namespace Cert.FoxPlain
open Idealize.ShloMosaic Cert.FoxModel

/-- The score of key `j` of batch `b` for query `q` of chunk `t`, for a head. -/
def score (a0 : FVec Ideal ⟨4, ![8, 8, 1024, 256]⟩ .bf16) (a1 : FVec Ideal ⟨2, ![16384, 1024]⟩ .bf16) (b t h : Fin 8) (q : Fin 256) (j : ℕ) : EReal :=
  ∑ d : Fin 128, a1 (ix2 ⟨2048 * b.val + j % 2048, by omega⟩ ⟨128 * h.val + d.val, by omega⟩) * a0 (ix4 b t ⟨128 * h.val + d.val, by omega⟩ q)

/-- Row `r` of a head's values at key `j` of batch `b`. -/
def value (a2 : FVec Ideal ⟨4, ![8, 8, 640, 256]⟩ .bf16) (b h : Fin 8) (r : Fin 80) (j : ℕ) : EReal :=
  a2 (ix4 b ⟨j / 256 % 8, by omega⟩ ⟨80 * h.val + r.val, by omega⟩ ⟨j % 256, by omega⟩)

/-- The scores of the keys up to the query; minus infinity beyond. -/
def causal (s : ℕ → EReal) (Q j : ℕ) : EReal := if j ≤ Q then s j else ⊥

/-- The quotient of the two sums at a row and feature of the result. -/
def quotient (a0 : FVec Ideal ⟨4, ![8, 8, 1024, 256]⟩ .bf16) (a1 : FVec Ideal ⟨2, ![16384, 1024]⟩ .bf16) (a2 : FVec Ideal ⟨4, ![8, 8, 640, 256]⟩ .bf16)
    (b t h : Fin 8) (q : Fin 256) (d : Fin 64) : EReal :=
  Ideal.div (sumTo (causal (score a0 a1 b t h q) (256 * t.val + q.val)) (value a2 b h ⟨d.val, by omega⟩) (t.val + 1))
    (sumTo (causal (score a0 a1 b t h q) (256 * t.val + q.val)) (value a2 b h 64) (t.val + 1))

end Cert.FoxPlain

end
-- ==== Proof.FoxValue.lean ====
/- What the attention kernel's result array holds after the run. -/
module

public import proofs.«01_k».proof.Proof.FoxOut
public import proofs.«01_k».proof.Proof.FoxPlain

@[expose] public section

set_option maxRecDepth 16384

noncomputable section

namespace Cert.FoxValue
open Idealize.ShloMosaic Idealize.ShloMosaic.TcCoe Idealize.SL.Sem Cert.FoxModel
open Cert.KernelIdeal Cert.KernelIdeal.Gen Cert.KernelIdeal.Value

variable (m : (ℓ : Loc nD τ sig) → Buf (Elt Ideal) ℓ) (c : Dev nD)

/-- What the result array holds. -/
def G : Buf (Elt Ideal) ((c : Thread nD τ).loc main_v0) := fun i : S16384x512.Idx =>
  FoxPlain.quotient (m ((c : Thread nD τ).loc main_arg0)) (m ((c : Thread nD τ).loc main_arg1)) (m ((c : Thread nD τ).loc main_arg2))
    ⟨(i 0).val / 2048, Nat.div_lt_of_lt_mul (i 0).isLt⟩ ⟨(i 0).val % 2048 / 256, by omega⟩ ⟨(i 1).val / 64, Nat.div_lt_of_lt_mul (i 1).isLt⟩ ⟨(i 0).val % 256, by omega⟩ ⟨(i 1).val % 64, by omega⟩

/-- The windows' block indices over the grid. -/
theorem idx : ∀ t : Fin cfg0.N, win0_0.index t = ![t.val / 8, t.val % 8, 0, 0] ∧ win0_1.index t = ![t.val / 8, 0] ∧ win0_2.index t = ![t.val / 8, 0, 0, 0] ∧ win0_3.index t = ![t.val, 0] ∧ (grid0.coords t 2).val = t.val % 8 :=
  (by decide +kernel : ∀ t : Fin grid0.N, win0_0.index t = ![t.val / 8, t.val % 8, 0, 0] ∧ win0_1.index t = ![t.val / 8, 0] ∧ win0_2.index t = ![t.val / 8, 0, 0, 0] ∧ win0_3.index t = ![t.val, 0] ∧ (grid0.coords t 2).val = t.val % 8)

/-- The queries' block. -/
theorem block0 (t : Fin cfg0.N) (d : Fin 1024) (q : Fin 256) :
    (iblk m c 0 t : Vec Ideal S1x1x1024x256 .bf16) (ix4 0 0 d q) = (m ((c : Thread nD τ).loc main_arg0) : FVec Ideal S8x8x1024x256 .bf16) (ix4 ⟨t.val / 8, Nat.div_lt_of_lt_mul t.isLt⟩ ⟨t.val % 8, by omega⟩ d q) := by
  blk_point [iblk, V, idx t]

/-- The keys' block. -/
theorem block1 (t : Fin cfg0.N) (j : Fin 2048) (d : Fin 1024) :
    (iblk m c 1 t : Vec Ideal S2048x1024 .bf16) (ix2 j d) = (m ((c : Thread nD τ).loc main_arg1) : FVec Ideal S16384x1024 .bf16) (ix2 ⟨2048 * (t.val / 8) + j.val, by have := t.isLt; have : cfg0.N = 64 := rfl; omega⟩ d) := by
  rw [show (⟨2048 * (t.val / 8) + j.val, by have := t.isLt; have : cfg0.N = 64 := rfl; omega⟩ : Fin 16384) = ⟨t.val / 8 * 2048 + j.val, by have := t.isLt; have : cfg0.N = 64 := rfl; omega⟩ from Fin.ext (by simp [Nat.mul_comm])]
  blk_point [iblk, V, idx t]

/-- The values' block. -/
theorem block2 (t : Fin cfg0.N) (n : Fin 8) (r : Fin 640) (k : Fin 256) :
    (iblk m c 2 t : Vec Ideal S1x8x640x256 .bf16) (ix4 0 n r k) = (m ((c : Thread nD τ).loc main_arg2) : FVec Ideal S8x8x640x256 .bf16) (ix4 ⟨t.val / 8, Nat.div_lt_of_lt_mul t.isLt⟩ n r k) := by
  blk_point [iblk, V, idx t]

/-- The block's scores are the plain ones. -/
theorem score_eq (t : Fin cfg0.N) (h : Fin 8) (q : Fin 256) :
    FoxReads.score (iblk m c 0 t) (iblk m c 1 t) h q
      = FoxPlain.score (m ((c : Thread nD τ).loc main_arg0)) (m ((c : Thread nD τ).loc main_arg1)) ⟨t.val / 8, Nat.div_lt_of_lt_mul t.isLt⟩ ⟨t.val % 8, by omega⟩ h q := by
  funext j
  refine Finset.sum_congr rfl fun d _ => ?_
  have e : Fin.ofNat 1024 (128 * h.val + d.val) = ⟨128 * h.val + d.val, by omega⟩ := Fin.ext (Nat.mod_eq_of_lt (by omega))
  unfold FoxReads.keyAt FoxReads.queryAt
  rw [e]
  exact congrArg₂ (· * ·) (block1 m c t _ _) (block0 m c t _ q)

/-- The block's values are the plain ones. -/
theorem value_eq (t : Fin cfg0.N) (h : Fin 8) (r : Fin 80) :
    FoxReads.value (iblk m c 2 t) h r = FoxPlain.value (m ((c : Thread nD τ).loc main_arg2)) ⟨t.val / 8, Nat.div_lt_of_lt_mul t.isLt⟩ h r := by
  funext j
  have e : Fin.ofNat 640 (80 * h.val + r.val) = ⟨80 * h.val + r.val, by omega⟩ := Fin.ext (Nat.mod_eq_of_lt (by omega))
  unfold FoxReads.value
  rw [e]
  exact block2 m c t _ _ _

/-- The result array after the run. -/
theorem final : (dats m 0 c).arrAt 3 cfg0.N = G m c := by
  refine (dats m 0 c).arrAt_eq_of_covers 3 _ (by decide +kernel) fun t hf y => ?_
  have ht : t.val < 64 := t.isLt
  have key : ∀ (q : Fin 256) (f : Fin 512), (dats m 0 c).flushed 3 t (ix2 q f)
      = FoxPlain.quotient (m ((c : Thread nD τ).loc main_arg0)) (m ((c : Thread nD τ).loc main_arg1)) (m ((c : Thread nD τ).loc main_arg2))
        ⟨t.val / 8, Nat.div_lt_of_lt_mul t.isLt⟩ ⟨t.val % 8, by omega⟩ ⟨f.val / 64, by omega⟩ q ⟨f.val % 64, by omega⟩ := fun q f => by
    have e2 := (idx t).2.2.2.2
    unfold FoxPlain.quotient
    rw [← score_eq m c t, ← value_eq m c t, ← value_eq m c t]
    by_cases h1 : t.val % 2 = 1
    · rw [flushed3_B m c t h1 (by omega)]
      refine (FoxOut.odd_out _ _ _ _ _ _ _ _ _ _ _ _ _ _ _ _ _ q f ⟨f.val / 64, by omega⟩ ⟨f.val % 64, by omega⟩ (by dsimp only; omega)).trans ?_
      rw [e2]
      rfl
    · rw [flushed3_A m c t h1 (by omega)]
      refine (FoxOut.even_out _ _ _ _ _ _ _ _ _ _ _ _ _ _ _ _ _ q f ⟨f.val / 64, by omega⟩ ⟨f.val % 64, by omega⟩ (by dsimp only; omega)).trans ?_
      rw [e2]
      rfl
  idx_vars y
  refine (key y0 y1).trans ?_
  have e0 : ∀ i : S16384x512.Idx, (i 0).val = t.val * 256 + y0.val → (i 1).val = y1.val → FoxPlain.quotient (m ((c : Thread nD τ).loc main_arg0)) (m ((c : Thread nD τ).loc main_arg1)) (m ((c : Thread nD τ).loc main_arg2))
        ⟨t.val / 8, Nat.div_lt_of_lt_mul t.isLt⟩ ⟨t.val % 8, by omega⟩ ⟨y1.val / 64, by omega⟩ y0 ⟨y1.val % 64, by omega⟩ = G m c i := fun i hi0 hi1 => by
    have h0 := y0.isLt
    unfold G
    congr 1 <;> refine Fin.ext ?_ <;> simp only [hi0, hi1] <;> omega
  refine e0 _ ?_ ?_
  · show (((cfg0.win 3).blk t).view.emb (ix2 y0 y1) 0 : Fin 16384).val = _
    blk_simp
    simp [idx t]
  · show (((cfg0.win 3).blk t).view.emb (ix2 y0 y1) 1 : Fin 512).val = _
    blk_simp
    simp [idx t]

end Cert.FoxValue

end
-- ==== Proof.FoxRead.lean ====
/- What the attention reference computes, read at an index: the scaled and masked scores, their exponentials, and the weighted
   values. -/
module

public import proofs.«01_k».proof.Defs
public import proofs.«01_k».proof.Proof.Gen.ReferenceIdeal.Run
public import proofs.«01_k».proof.Proof.Finite
public import proofs.«01_k».proof.Proof.FoxPlain
public import Idealize.ShloMosaic.Lib.Pointwise
public import Idealize.ShloMosaic.Lib.WordCmp

@[expose] public section

set_option maxRecDepth 16384

noncomputable section

namespace Cert.FoxRead
open Idealize.ShloMosaic Idealize.ShloMosaic.TcCoe Idealize.ShloMosaic.StableHlo
open Cert.ReferenceIdeal Cert.ReferenceIdeal.Gen Cert.ReferenceIdeal.Value

/-- The queries at an element. -/
theorem queries_apply (a : FVec Ideal S8x8x1024x256 .bf16) (b h : Fin 8) (Q : Fin 2048) (d : Fin 128) :
    (shapeCast _ (transpose S8x8x8x256x128 [0, 2, 1, 4, 3] (shapeCast _ (extf .f32 a bitsLt_bf16_f32) shapeCasts_S8x8x1024x256_S8x8x8x128x256) transposes_S8x8x8x128x256_S8x8x8x256x128_0_2_1_4_3) shapeCasts_S8x8x8x256x128_S8x8x2048x128 : FVec Ideal S8x8x2048x128 .f32) (ix4 b h Q d)
      = a (ix4 b ⟨Q.val / 256, by omega⟩ ⟨128 * h.val + d.val, by omega⟩ ⟨Q.val % 256, by omega⟩) := by
  rw [show (⟨128 * h.val + d.val, by omega⟩ : Fin 1024) = ⟨h.val * 128 + d.val, by omega⟩ from Fin.ext (by simp [Nat.mul_comm])]
  pointwise []

/-- The keys at an element. -/
theorem keys_apply (a : FVec Ideal S16384x1024 .bf16) (b h : Fin 8) (j : Fin 2048) (d : Fin 128) :
    (transpose S8x8x2048x128 [0, 2, 1, 3] (shapeCast _ (extf .f32 a bitsLt_bf16_f32) shapeCasts_S16384x1024_S8x2048x8x128) transposes_S8x2048x8x128_S8x8x2048x128_0_2_1_3 : FVec Ideal S8x8x2048x128 .f32) (ix4 b h j d)
      = a (ix2 ⟨2048 * b.val + j.val, by omega⟩ ⟨128 * h.val + d.val, by omega⟩) := by
  rw [show (⟨128 * h.val + d.val, by omega⟩ : Fin 1024) = ⟨h.val * 128 + d.val, by omega⟩ from Fin.ext (by simp [Nat.mul_comm]),
    show (⟨2048 * b.val + j.val, by omega⟩ : Fin 16384) = ⟨b.val * 2048 + j.val, by omega⟩ from Fin.ext (by simp [Nat.mul_comm])]
  pointwise []

/-- The values at an element. -/
theorem values_apply (a : FVec Ideal S8x8x640x256 .bf16) (b h : Fin 8) (j : Fin 2048) (d : Fin 64) :
    (shapeCast _ (transpose S8x8x8x256x64 [0, 2, 1, 4, 3] (extractStridedSlice S8x8x8x64x256 ![0, 0, 0, 0, 0] (shapeCast _ (extf .f32 a bitsLt_bf16_f32) shapeCasts_S8x8x640x256_S8x8x8x80x256) slices_S8x8x8x80x256_S8x8x8x64x256_0_0_0_0_0) transposes_S8x8x8x64x256_S8x8x8x256x64_0_2_1_4_3) shapeCasts_S8x8x8x256x64_S8x8x2048x64 : FVec Ideal S8x8x2048x64 .f32) (ix4 b h j d)
      = a (ix4 b ⟨j.val / 256, by omega⟩ ⟨80 * h.val + d.val, by omega⟩ ⟨j.val % 256, by omega⟩) := by
  rw [show (⟨80 * h.val + d.val, by omega⟩ : Fin 640) = ⟨h.val * 80 + d.val, by omega⟩ from Fin.ext (by simp [Nat.mul_comm])]
  pointwise []

/-- The product of queries and keys, times the logarithm of two, at an element. -/
theorem scaled_apply (a k : FVec Ideal S8x8x2048x128 .f32) (b h : Fin 8) (Q j : Fin 2048) :
    (mulf (Host.dotGeneral dot_S8x8x2048x128_S8x8x2048x128_S8x8x2048x2048_3_3_2_2_01_01 none a k) (broadcastInDim S8x8x2048x2048 ![] bcast_S_S8x8x2048x2048 (Host.log (constant S_ .f32 0x40000000#32))) : FVec Ideal S8x8x2048x2048 .f32) (ix4 b h Q j)
      = (∑ d : Fin 128, a (ix4 b h Q d) * k (ix4 b h j d)) * Ideal.log (Ideal.ofBits .f32 0x40000000#32) := by
  pointwise []

/-- The masked array at an element. -/
theorem masked_apply (x : FVec Ideal S8x8x2048x2048 .f32) (b h : Fin 8) (Q j : Fin 2048) :
    (select (broadcastInDim S8x8x2048x2048 ![2, 3] bcast_S2048x2048_S8x8x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) x (broadcastInDim S8x8x2048x2048 ![] bcast_S_S8x8x2048x2048 (id (constant S_ .f32 0xFF800000#32))) : FVec Ideal S8x8x2048x2048 .f32) (ix4 b h Q j)
      = if j.val ≤ Q.val then x (ix4 b h Q j) else Ideal.ofBits .f32 0xFF800000#32 := by
  pointwise []
  have hj := j.isLt
  have hq := Q.isLt
  show (if IntOp.cmpi .sge (BitVec.ofNat 32 Q.val) (BitVec.ofNat 32 j.val) = 1#1 then x (ix4 b h Q j) else _) = _
  refine if_congr ?_ rfl rfl
  rw [WordCmp.cmpi_sge_ofNat_eq_one_iff (lt_trans hq (by norm_num)) (lt_trans hj (by norm_num))]

/-- The pattern of two. -/
theorem two : Ideal.ofBits .f32 0x40000000#32 = ((2 : ℝ) : EReal) := by
  simp [Ideal.ofBits, Ideal.ieee, -EReal.coe_mul]; norm_num

/-- The constant two's logarithm. -/
theorem log_two : Ideal.log (Ideal.ofBits .f32 0x40000000#32) = ((Real.log 2 : ℝ) : EReal) := by
  rw [two]
  show (if (2 : ℝ) ≤ 0 then (⊥ : EReal) else ((Real.log 2 : ℝ) : EReal)) = _
  rw [if_neg (by norm_num)]

/-- The largest score of a query. -/
theorem peak_apply (s : FVec Ideal S8x8x2048x2048 .f32) (b h : Fin 8) (q : Fin 2048) :
    Host.reduce FloatOps.maximumf s (constant S_ .f32 0xFF800000#32) reducesTo_S8x8x2048x2048_S8x8x2048_d3 h_S_ (ix3 b h q)
      = Finset.univ.fold max ⊥ (fun x : Fin 2048 => s (ix4 b h q x)) := by
  rw [← Cert.Finite.neg_inf]
  pointwise []

/-- The exponentials over any array of largest scores, at an element. -/
theorem exps_apply (s : FVec Ideal S8x8x2048x2048 .f32) (u : FVec Ideal S8x8x2048 .f32) (b h : Fin 8) (q j : Fin 2048) :
    (Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) u)))) : FVec Ideal S8x8x2048x2048 .f32) (ix4 b h q j)
      = Ideal.exp (s (ix4 b h q j) - max (Ideal.ofBits .f32 0xFF800000#32) (u (ix3 b h q))) := by
  pointwise []

/-- The result at an element, over any weights and values. -/
theorem out_apply (v : FVec Ideal S8x8x2048x64 .f32) (p : FVec Ideal S8x8x2048x2048 .f32) (r : Fin 16384) (c : Fin 512) :
    (truncf .bf16 (shapeCast _ (transpose S8x2048x8x64 [0, 3, 1, 2] (Host.dotGeneral dot_S8x8x2048x64_S8x8x2048x2048_S8x8x64x2048_2_3_3_2_01_01 none v (Host.divf p (broadcastInDim S8x8x2048x2048 ![0, 1, 2, 3] bcast_S8x8x2048x1_S8x8x2048x2048_0_1_2_3 (broadcastInDim S8x8x2048x1 ![0, 1, 2] bcast_S8x8x2048_S8x8x2048x1_0_1_2 (Host.reduceAdd p (constant S_ .f32 0x00000000#32) reducesTo_S8x8x2048x2048_S8x8x2048_d3 h_S_))))) transposes_S8x8x64x2048_S8x2048x8x64_0_3_1_2) shapeCasts_S8x2048x8x64_S16384x512) bitsLt_bf16_f32 : FVec Ideal S16384x512 .bf16) (ix2 r c)
      = ∑ j : Fin 2048, v (ix4 ⟨r.val / 2048, by omega⟩ ⟨c.val / 64, by omega⟩ j ⟨c.val % 64, by omega⟩)
          * Ideal.div (p (ix4 ⟨r.val / 2048, by omega⟩ ⟨c.val / 64, by omega⟩ ⟨r.val % 2048, by omega⟩ j))
            (∑ i : Fin 2048, p (ix4 ⟨r.val / 2048, by omega⟩ ⟨c.val / 64, by omega⟩ ⟨r.val % 2048, by omega⟩ i)) := by
  pointwise []

/-- The scaled and masked scores at an element. -/
theorem scores_apply (a0 : FVec Ideal S8x8x1024x256 .bf16) (a1 : FVec Ideal S16384x1024 .bf16) (b h : Fin 8) (Q j : Fin 2048) :
    (select (broadcastInDim S8x8x2048x2048 ![2, 3] bcast_S2048x2048_S8x8x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (mulf (Host.dotGeneral dot_S8x8x2048x128_S8x8x2048x128_S8x8x2048x2048_3_3_2_2_01_01 none (shapeCast _ (transpose S8x8x8x256x128 [0, 2, 1, 4, 3] (shapeCast _ (extf .f32 a0 bitsLt_bf16_f32) shapeCasts_S8x8x1024x256_S8x8x8x128x256) transposes_S8x8x8x128x256_S8x8x8x256x128_0_2_1_4_3) shapeCasts_S8x8x8x256x128_S8x8x2048x128) (transpose S8x8x2048x128 [0, 2, 1, 3] (shapeCast _ (extf .f32 a1 bitsLt_bf16_f32) shapeCasts_S16384x1024_S8x2048x8x128) transposes_S8x2048x8x128_S8x8x2048x128_0_2_1_3)) (broadcastInDim S8x8x2048x2048 ![] bcast_S_S8x8x2048x2048 (Host.log (constant S_ .f32 0x40000000#32)))) (broadcastInDim S8x8x2048x2048 ![] bcast_S_S8x8x2048x2048 (id (constant S_ .f32 0xFF800000#32))) : FVec Ideal S8x8x2048x2048 .f32) (ix4 b h Q j)
      = FoxPlain.causal (FoxPlain.score a0 a1 b ⟨Q.val / 256, by omega⟩ h ⟨Q.val % 256, by omega⟩) Q.val j.val * ((Real.log 2 : ℝ) : EReal) := by
  refine (masked_apply _ b h Q j).trans ?_
  unfold FoxPlain.causal
  split_ifs with hj
  · refine (scaled_apply _ _ b h Q j).trans ?_
    rw [log_two]
    refine congrArg (· * _) (Finset.sum_congr rfl fun d _ => ?_)
    rw [queries_apply, keys_apply, mul_comm]
    refine congrArg (· * _) (congrArg (fun e => a1 (ix2 e _)) (Fin.ext ?_))
    show _ = 2048 * b.val + j.val % 2048
    rw [Nat.mod_eq_of_lt j.isLt]
  · rw [Finite.neg_inf, EReal.bot_mul_coe_of_pos (Real.log_pos (by norm_num))]

/-- The exponentials at an element. -/
theorem weights_apply (s : FVec Ideal S8x8x2048x2048 .f32) (T : Fin 2048 → EReal) (b h : Fin 8) (q : Fin 2048) (hs : ∀ j, s (ix4 b h q j) = T j) (j : Fin 2048) :
    (Host.exp (subf s (broadcastInDim S8x8x2048x2048 ![0, 1, 2, 3] bcast_S8x8x2048x1_S8x8x2048x2048_0_1_2_3 (broadcastInDim S8x8x2048x1 ![0, 1, 2] bcast_S8x8x2048_S8x8x2048x1_0_1_2 (maximumf (broadcastInDim S8x8x2048 ![] bcast_S_S8x8x2048 (constant S_ .f32 0xFF800000#32)) (Host.reduce FloatOps.maximumf s (constant S_ .f32 0xFF800000#32) reducesTo_S8x8x2048x2048_S8x8x2048_d3 h_S_))))) : FVec Ideal S8x8x2048x2048 .f32) (ix4 b h q j)
      = Ideal.exp (T j - Finset.univ.fold max ⊥ T) := by
  refine (exps_apply s _ b h q j).trans ?_
  rw [Finite.neg_inf, max_eq_right bot_le, peak_apply, hs, show (fun x => s (ix4 b h q x)) = T from funext hs]

/-- The reference's result at a row and feature. -/
theorem result (m : (ℓ : Loc nD τ sig) → Buf (Elt Ideal) ℓ) (c : Dev nD) (a0 : FVec Ideal S8x8x1024x256 .bf16) (a1 : FVec Ideal S16384x1024 .bf16) (a2 : FVec Ideal S8x8x640x256 .bf16)
    (h0 : m ((c.tc : Thread nD τ).loc main_arg0) = a0) (h1 : m ((c.tc : Thread nD τ).loc main_arg1) = a1) (h2 : m ((c.tc : Thread nD τ).loc main_arg2) = a2)
    (r : Fin 16384) (f : Fin 512) (T : ℕ → EReal) (hT : T = fun j => FoxPlain.causal (FoxPlain.score a0 a1 ⟨r.val / 2048, by omega⟩ ⟨r.val % 2048 / 256, by omega⟩ ⟨f.val / 64, by omega⟩ ⟨r.val % 2048 % 256, by omega⟩) (r.val % 2048) j * ((Real.log 2 : ℝ) : EReal)) :
    (res_main_v38 m c : FVec Ideal S16384x512 .bf16) (ix2 r f)
      = ∑ j : Fin 2048, FoxPlain.value a2 ⟨r.val / 2048, by omega⟩ ⟨f.val / 64, by omega⟩ ⟨f.val % 64, by omega⟩ j.val
          * Ideal.div (Ideal.exp (T j.val - Finset.univ.fold max ⊥ fun j : Fin 2048 => T j.val))
              (∑ j : Fin 2048, Ideal.exp (T j.val - Finset.univ.fold max ⊥ fun j : Fin 2048 => T j.val)) := by
  unfold res_main_v38
  rw [h0, h1, h2]
  refine (out_apply _ _ r f).trans (Finset.sum_congr rfl fun j _ => ?_)
  have hw := weights_apply _ (fun j : Fin 2048 => T j.val) ⟨r.val / 2048, by omega⟩ ⟨f.val / 64, by omega⟩ ⟨r.val % 2048, by omega⟩
    fun j => (scores_apply a0 a1 _ _ _ j).trans (congrFun hT j.val).symm
  refine congrArg₂ (· * ·) ((values_apply a2 _ _ j _).trans ?_) (congrArg₂ Ideal.div (hw j) (Finset.sum_congr rfl fun i _ => hw i))
  refine congrArg (fun e => a2 (ix4 _ e _ _)) (Fin.ext ?_)
  show j.val / 256 = j.val / 256 % 8
  omega

end Cert.FoxRead

end
-- ==== Proof.FoxClaim.lean ====
/- The value claim of the attention: for finite queries and keys and a row of ones under each head's values, the kernel and the
   reference end with equal results. -/
module

public import proofs.«01_k».proof.Defs
public import proofs.«01_k».proof.Proof.FoxValue
public import proofs.«01_k».proof.Proof.FoxRead
public import proofs.«01_k».proof.Proof.FoxFacts
public import proofs.«01_k».proof.Proof.Gen.KernelIdeal
public import Idealize.ShloMosaic.Lib.Pointwise

@[expose] public section

set_option maxRecDepth 16384

noncomputable section

namespace Cert.FoxClaim
open Idealize.ShloMosaic Idealize.ShloMosaic.TcCoe Idealize.SL.Sem Idealize.ShloMosaic.StableHlo Cert.FoxModel Cert.Finite

section Precondition
open Cert.Pre_fox_pre Cert.Pre_fox_pre.Facts

/-- The comparison of the rows under the heads' values with one, at an element. -/
theorem ones_apply (a2 : FVec Ideal S8x8x640x256 .bf16) (b n h : Fin 8) (k : Fin 256) :
    (cmpf .oeq (shapeCast S8x8x8x256 (extractStridedSlice S8x8x8x1x256 ![0, 0, 0, 64, 0] (shapeCast S8x8x8x80x256 (extf .f32 a2 bitsLt_bf16_f32) shapeCasts_S8x8x640x256_S8x8x8x80x256) slices_S8x8x8x80x256_S8x8x8x1x256_0_0_0_64_0) shapeCasts_S8x8x8x1x256_S8x8x8x256) (broadcastInDim S8x8x8x256 ![] bcast_S_S8x8x8x256 (constant S_ .f32 0x3F800000#32)) : IVec S8x8x8x256 1) (ix4 b n h k)
      = Ideal.cmp .oeq (a2 (ix4 b n ⟨h.val * 80 + 64, by omega⟩ k)) (Ideal.ofBits .f32 0x3F800000#32) := by
  pointwise []

/-- The pattern of one. -/
theorem one : Ideal.ofBits .f32 0x3F800000#32 = ((1 : ℝ) : EReal) := by
  simp [Ideal.ofBits, Ideal.ieee, -EReal.coe_mul]; norm_num

/-- What the precondition says: queries and keys are finite, and row 64 of each head's values is one. -/
theorem given (a0 : FVec Ideal S8x8x1024x256 .bf16) (a1 : FVec Ideal S16384x1024 .bf16) (a2 : FVec Ideal S8x8x640x256 .bf16)
    (h : Cert.Pre_fox_pre.fn (F := Ideal) a0 a1 a2 = fun _ => 1#1) :
    (∀ i, IsReal (a0 i)) ∧ (∀ i, IsReal (a1 i)) ∧ ∀ (b n h : Fin 8) (k : Fin 256), a2 (ix4 b n ⟨80 * h.val + 64, by omega⟩ k) = 1 := by
  have h0 := congrFun h (fun a => a.elim0)
  dsimp only [Cert.Pre_fox_pre.fn, Cert.Pre_fox_pre.fn_part1, andi] at h0
  simp only [IntOp.andi_eq_one] at h0
  obtain ⟨⟨c0, c1⟩, c2⟩ := h0
  haveI : Subsingleton S_.Idx := ⟨fun a b => funext fun d => d.elim0⟩
  refine ⟨fun i => isReal_of_abs (Host.reduce_andi_all _ _ _ _ _ c0 i), fun i => isReal_of_abs (Host.reduce_andi_all _ _ _ _ _ c1 i), fun b n h k => ?_⟩
  have e := (ones_apply a2 b n h k).symm.trans (Host.reduce_andi_all _ _ _ _ _ c2 (ix4 b n h k))
  rw [one] at e
  rw [show (⟨80 * h.val + 64, by omega⟩ : Fin 640) = ⟨h.val * 80 + 64, by omega⟩ from Fin.ext (by simp [Nat.mul_comm])]
  by_contra hn
  simp [Ideal.cmp, hn] at e

end Precondition

/-- The kernel's quotient is the query's attention. -/
theorem quotient_eq (a0 : FVec Ideal ⟨4, ![8, 8, 1024, 256]⟩ .bf16) (a1 : FVec Ideal ⟨2, ![16384, 1024]⟩ .bf16) (a2 : FVec Ideal ⟨4, ![8, 8, 640, 256]⟩ .bf16)
    (r0 : ∀ i, IsReal (a0 i)) (r1 : ∀ i, IsReal (a1 i)) (ones : ∀ (b n h : Fin 8) (k : Fin 256), a2 (ix4 b n ⟨80 * h.val + 64, by omega⟩ k) = 1)
    (b t h : Fin 8) (q : Fin 256) (d : Fin 64) (T : ℕ → EReal)
    (hT : T = fun j => FoxPlain.causal (FoxPlain.score a0 a1 b t h q) (256 * t.val + q.val) j * ((Real.log 2 : ℝ) : EReal)) :
    FoxPlain.quotient a0 a1 a2 b t h q d
      = ∑ j : Fin 2048, FoxPlain.value a2 b h ⟨d.val, by omega⟩ j.val
          * Ideal.div (Ideal.exp (T j.val - Finset.univ.fold max ⊥ fun j : Fin 2048 => T j.val))
              (∑ j : Fin 2048, Ideal.exp (T j.val - Finset.univ.fold max ⊥ fun j : Fin 2048 => T j.val)) := by
  subst hT
  have hr : ∀ j, IsReal (FoxPlain.score a0 a1 b t h q j) := fun j => IsReal.sum _ fun d _ => (r1 _).mul (r0 _)
  refine FoxModel.result (fun j => ?_) ?_ _ _ (fun j => ones _ _ _ _) (by omega) fun j hj => ?_
  · unfold FoxPlain.causal
    split_ifs
    · exact Or.inr (hr j)
    · exact Or.inl rfl
  · unfold FoxPlain.causal
    rw [if_pos (Nat.zero_le _)]
    exact hr 0
  · unfold FoxPlain.causal
    rw [if_neg (by omega)]

/-- The kernel and the reference end with equal results. -/
theorem algebraic : Cert.algebraic_KernelIdeal_ReferenceIdeal_pre_fox_pre := by
  intro m ρ m' ρ' hpre hag
  refine ⟨fun c => Cert.FoxValue.G m c, ?_, ?_⟩
  · exact (θ_run Cert.KernelIdeal.defs _ _).mono
      (fun r h c => ⟨(h c).1.trans (Cert.FoxValue.final m c), (h c).2⟩) (Cert.KernelIdeal.Value.run_blocks m ρ)
  · refine (θ_run Cert.ReferenceIdeal.defs _ _).mono
      (fun r h c => ⟨(h c).1.trans ?_, (h c).2⟩) (Cert.ReferenceIdeal.Value.run m' ρ')
    obtain ⟨h0, h1, h2⟩ := hag c
    obtain ⟨f0, f1, f2⟩ := given _ _ _ (hpre c)
    funext i
    obtain ⟨r, f, rfl⟩ : ∃ (r : Fin 16384) (f : Fin 512), i = ix2 r f := ⟨i 0, i 1, by funext a; fin_cases a <;> rfl⟩
    refine (Cert.FoxRead.result m' c _ _ _ h0 h1 h2 r f _ rfl).trans ?_
    have e : (⟨r.val % 256, by omega⟩ : Fin 256) = ⟨r.val % 2048 % 256, by omega⟩ := Fin.ext (by dsimp only; omega)
    refine Eq.trans ?_ (quotient_eq _ _ _ f0 f1 f2 ⟨r.val / 2048, by omega⟩ ⟨r.val % 2048 / 256, by omega⟩ ⟨f.val / 64, by omega⟩ ⟨r.val % 256, by omega⟩ ⟨f.val % 64, by omega⟩ _ rfl).symm
    dsimp only
    rw [e, show 256 * (r.val % 2048 / 256) + r.val % 256 = r.val % 2048 by omega]

end Cert.FoxClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.MemkvKernel
public import proofs.«01_k».proof.Proof.Gen.MemkvKernel.Skeleton
public import proofs.«01_k».proof.Proof.Gen.MemkvKernel.Launch
public import proofs.«01_k».proof.Proof.Gen.MemkvKernel.Points
public import proofs.«01_k».proof.Proof.Gen.MemkvKernel.Frame
public import proofs.«01_k».proof.Proof.Gen.MemkvKernelIdeal
public import proofs.«01_k».proof.Proof.Gen.MemkvKernelIdeal.Skeleton
public import proofs.«01_k».proof.Proof.Gen.MemkvKernelIdeal.Launch
public import proofs.«01_k».proof.Proof.Gen.MemkvKernelIdeal.Points
public import proofs.«01_k».proof.Proof.Gen.MemkvKernelIdeal.Frame
public import proofs.«01_k».proof.Proof.Gen.MemkvKernelIdeal.Value
public import proofs.«01_k».proof.Proof.Gen.MemkvReferenceIdeal
public import proofs.«01_k».proof.Proof.Gen.MemkvReferenceIdeal.Run
public import proofs.«01_k».proof.Proof.Gen.EvenCrossKernel
public import proofs.«01_k».proof.Proof.Gen.EvenCrossKernel.Skeleton
public import proofs.«01_k».proof.Proof.Gen.EvenCrossKernel.Launch
public import proofs.«01_k».proof.Proof.Gen.EvenCrossKernel.Points
public import proofs.«01_k».proof.Proof.Gen.EvenCrossKernel.Frame
public import proofs.«01_k».proof.Proof.Gen.EvenCrossKernelIdeal
public import proofs.«01_k».proof.Proof.Gen.EvenCrossKernelIdeal.Skeleton
public import proofs.«01_k».proof.Proof.Gen.EvenCrossKernelIdeal.Launch
public import proofs.«01_k».proof.Proof.Gen.EvenCrossKernelIdeal.Points
public import proofs.«01_k».proof.Proof.Gen.EvenCrossKernelIdeal.Frame
public import proofs.«01_k».proof.Proof.Gen.EvenCrossKernelIdeal.Value
public import proofs.«01_k».proof.Proof.Gen.EvenCrossReferenceIdeal
public import proofs.«01_k».proof.Proof.Gen.EvenCrossReferenceIdeal.Run
public import proofs.«01_k».proof.Proof.Gen.OddCrossKernel
public import proofs.«01_k».proof.Proof.Gen.OddCrossKernel.Skeleton
public import proofs.«01_k».proof.Proof.Gen.OddCrossKernel.Launch
public import proofs.«01_k».proof.Proof.Gen.OddCrossKernel.Points
public import proofs.«01_k».proof.Proof.Gen.OddCrossKernel.Frame
public import proofs.«01_k».proof.Proof.Gen.OddCrossKernelIdeal
public import proofs.«01_k».proof.Proof.Gen.OddCrossKernelIdeal.Skeleton
public import proofs.«01_k».proof.Proof.Gen.OddCrossKernelIdeal.Launch
public import proofs.«01_k».proof.Proof.Gen.OddCrossKernelIdeal.Points
public import proofs.«01_k».proof.Proof.Gen.OddCrossKernelIdeal.Frame
public import proofs.«01_k».proof.Proof.Gen.OddCrossKernelIdeal.Value
public import proofs.«01_k».proof.Proof.Gen.OddCrossReferenceIdeal
public import proofs.«01_k».proof.Proof.Gen.OddCrossReferenceIdeal.Run
public import proofs.«01_k».proof.Proof.FoxFacts
public import proofs.«01_k».proof.Proof.Gen.Pre_even_pre
public import proofs.«01_k».proof.Proof.Gen.Pre_odd_pre
public import proofs.«01_k».proof.Proof.FfnValue
public import proofs.«01_k».proof.Proof.MemkvClaim
public import proofs.«01_k».proof.Proof.EvenCrossClaim
public import proofs.«01_k».proof.Proof.OddCrossClaim
public import proofs.«01_k».proof.Proof.FoxClaim
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The frame of the attention reference: its run read at the arguments; it has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The frame of the feed-forward reference: its run read at the arguments; it has no semaphore. -/
theorem frame_ffn_reference : Cert.quiescent_FfnReferenceIdeal := fun m ρ _ =>
  (θ_run Cert.FfnReferenceIdeal.defs _ _).mono
    (fun r h => ⟨fun c => (h c).2, sem_eq_zero_of_no_sems (by decide) r.2⟩)
    (Cert.FfnReferenceIdeal.Value.run (F := Ideal) m ρ)

/-- The frame of the memory reference: its run read at the arguments; it has no semaphore. -/
theorem frame_memkv_reference : Cert.quiescent_MemkvReferenceIdeal := fun m ρ _ =>
  (θ_run Cert.MemkvReferenceIdeal.defs _ _).mono
    (fun r h => ⟨fun c => (h c).2.2, sem_eq_zero_of_no_sems (by decide) r.2⟩)
    (Cert.MemkvReferenceIdeal.Value.run (F := Ideal) m ρ)

/-- The frame of the even cross-attention reference: its run read at the arguments; it has no semaphore. -/
theorem frame_evencross_reference : Cert.quiescent_EvenCrossReferenceIdeal := fun m ρ _ =>
  (θ_run Cert.EvenCrossReferenceIdeal.defs _ _).mono
    (fun r h => ⟨fun c => (h c).2.2.2, sem_eq_zero_of_no_sems (by decide) r.2⟩)
    (Cert.EvenCrossReferenceIdeal.Value.run (F := Ideal) m ρ)

/-- The frame of the odd cross-attention reference: its run read at the arguments; it has no semaphore. -/
theorem frame_oddcross_reference : Cert.quiescent_OddCrossReferenceIdeal := fun m ρ _ =>
  (θ_run Cert.OddCrossReferenceIdeal.defs _ _).mono
    (fun r h => ⟨fun c => (h c).2.2.2, sem_eq_zero_of_no_sems (by decide) r.2⟩)
    (Cert.OddCrossReferenceIdeal.Value.run (F := Ideal) m ρ)

/-- The one rewrite of the attention: the masked logit's word names minus infinity. -/
theorem preserves_fox : Cert.preserves_Kernel_KernelIdeal :=
  IdealRules.named_const.statement Cert.KernelIdeal.κ "mask" .f32 0xF149F2CA#32 ⊥ rfl

/-- The feed-forward kernel and its reference end with the same result array. -/
theorem algebraic_ffn : Cert.algebraic_FfnKernelIdeal_FfnReferenceIdeal := by
  intro m ρ m' ρ' _ hag
  refine ⟨fun c => Cert.FfnKernelIdeal.RowValue.G m c, ?_, ?_⟩
  · exact (θ_run Cert.FfnKernelIdeal.defs _ _).mono
      (fun r h c => ⟨(h c).1.trans (Cert.FfnKernelIdeal.RowValue.final m c), (h c).2⟩)
      (Cert.FfnKernelIdeal.Value.run_blocks m ρ)
  · refine (θ_run Cert.FfnReferenceIdeal.defs _ _).mono (fun r h c => ⟨(h c).1.trans ?_, (h c).2⟩)
      (Cert.FfnReferenceIdeal.Value.run m' ρ')
    obtain ⟨h0, h1, h2, h3⟩ := hag c
    funext i
    idx_vars i
    rw [Cert.FfnReferenceIdeal.RowValue.ref_apply, h0, h1, h2, h3]
    rfl

/-- Everything claimed. -/
theorem claim : Cert.Claim := ⟨Cert.Kernel.Gen.facts, Cert.KernelIdeal.Gen.facts, Cert.ReferenceIdeal.Gen.facts, Cert.FfnKernel.Gen.facts,
  Cert.FfnKernelIdeal.Gen.facts, Cert.FfnReferenceIdeal.Gen.facts, Cert.MemkvKernel.Gen.facts, Cert.MemkvKernelIdeal.Gen.facts,
  Cert.MemkvReferenceIdeal.Gen.facts, Cert.EvenCrossKernel.Gen.facts, Cert.EvenCrossKernelIdeal.Gen.facts, Cert.EvenCrossReferenceIdeal.Gen.facts,
  Cert.OddCrossKernel.Gen.facts, Cert.OddCrossKernelIdeal.Gen.facts, Cert.OddCrossReferenceIdeal.Gen.facts, Cert.FoxFacts.facts,
  Cert.Pre_even_pre.Gen.facts, Cert.Pre_odd_pre.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.FfnKernel.Gen.frame m ρ,
  fun m ρ _ => Cert.FfnKernelIdeal.Gen.frame m ρ,
  frame_ffn_reference,
  fun m ρ _ => Cert.MemkvKernel.Gen.frame m ρ,
  fun m ρ _ => Cert.MemkvKernelIdeal.Gen.frame m ρ,
  frame_memkv_reference,
  fun m ρ _ => Cert.EvenCrossKernel.Gen.frame m ρ,
  fun m ρ _ => Cert.EvenCrossKernelIdeal.Gen.frame m ρ,
  fun m ρ _ => Cert.EvenCrossKernelIdeal.Gen.frame m ρ,
  frame_evencross_reference,
  fun m ρ _ => frame_evencross_reference m ρ trivial,
  fun m ρ _ => Cert.OddCrossKernel.Gen.frame m ρ,
  fun m ρ _ => Cert.OddCrossKernelIdeal.Gen.frame m ρ,
  fun m ρ _ => Cert.OddCrossKernelIdeal.Gen.frame m ρ,
  frame_oddcross_reference,
  fun m ρ _ => frame_oddcross_reference m ρ trivial,
  preserves_fox,
  Cert.FoxClaim.algebraic,
  trivial,
  algebraic_ffn,
  trivial,
  Cert.MemkvClaim.algebraic,
  trivial,
  Cert.EvenCrossClaim.algebraic,
  trivial,
  Cert.OddCrossClaim.algebraic⟩

end Cert.Proof

end
